-- ==== Defs.lean ====
def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13)
      ∧ r.2.mem ((c.tc : Thread Cert.Prompt.nD Cert.Prompt.τ).loc Cert.Prompt.main_arg14) = m ((c.tc : Thread Cert.Prompt.nD Cert.Prompt.τ).loc Cert.Prompt.main_arg14)
      ∧ r.2.mem ((c.tc : Thread Cert.Prompt.nD Cert.Prompt.τ).loc Cert.Prompt.main_arg15) = m ((c.tc : Thread Cert.Prompt.nD Cert.Prompt.τ).loc Cert.Prompt.main_arg15)
      ∧ r.2.mem ((c.tc : Thread Cert.Prompt.nD Cert.Prompt.τ).loc Cert.Prompt.main_arg16) = m ((c.tc : Thread Cert.Prompt.nD Cert.Prompt.τ).loc Cert.Prompt.main_arg16))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
      ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15)
      ∧ r.2.mem ((c.tc : Thread Cert.PromptIdeal.nD Cert.PromptIdeal.τ).loc Cert.PromptIdeal.main_arg16) = m ((c.tc : Thread Cert.PromptIdeal.nD Cert.PromptIdeal.τ).loc Cert.PromptIdeal.main_arg16))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11)
      ∧ r.2.mem ((c.tc : Thread Cert.PromptReferenceIdeal.nD Cert.PromptReferenceIdeal.τ).loc Cert.PromptReferenceIdeal.main_arg12) = m ((c.tc : Thread Cert.PromptReferenceIdeal.nD Cert.PromptReferenceIdeal.τ).loc Cert.PromptReferenceIdeal.main_arg12)
      ∧ r.2.mem ((c.tc : Thread Cert.PromptReferenceIdeal.nD Cert.PromptReferenceIdeal.τ).loc Cert.PromptReferenceIdeal.main_arg13) = m ((c.tc : Thread Cert.PromptReferenceIdeal.nD Cert.PromptReferenceIdeal.τ).loc Cert.PromptReferenceIdeal.main_arg13)
      ∧ r.2.mem ((c.tc : Thread Cert.PromptReferenceIdeal.nD Cert.PromptReferenceIdeal.τ).loc Cert.PromptReferenceIdeal.main_arg14) = m ((c.tc : Thread Cert.PromptReferenceIdeal.nD Cert.PromptReferenceIdeal.τ).loc Cert.PromptReferenceIdeal.main_arg14)
      ∧ r.2.mem ((c.tc : Thread Cert.PromptReferenceIdeal.nD Cert.PromptReferenceIdeal.τ).loc Cert.PromptReferenceIdeal.main_arg15) = m ((c.tc : Thread Cert.PromptReferenceIdeal.nD Cert.PromptReferenceIdeal.τ).loc Cert.PromptReferenceIdeal.main_arg15)
      ∧ r.2.mem ((c.tc : Thread Cert.PromptReferenceIdeal.nD Cert.PromptReferenceIdeal.τ).loc Cert.PromptReferenceIdeal.main_arg16) = m ((c.tc : Thread Cert.PromptReferenceIdeal.nD Cert.PromptReferenceIdeal.τ).loc Cert.PromptReferenceIdeal.main_arg16))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16)
      ∧ r.2.mem ((c.tc : Thread Cert.Sample.nD Cert.Sample.τ).loc Cert.Sample.main_arg17) = m ((c.tc : Thread Cert.Sample.nD Cert.Sample.τ).loc Cert.Sample.main_arg17)
      ∧ r.2.mem ((c.tc : Thread Cert.Sample.nD Cert.Sample.τ).loc Cert.Sample.main_arg18) = m ((c.tc : Thread Cert.Sample.nD Cert.Sample.τ).loc Cert.Sample.main_arg18))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
      ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15)
      ∧ r.2.mem ((c.tc : Thread Cert.SampleReferenceIdeal.nD Cert.SampleReferenceIdeal.τ).loc Cert.SampleReferenceIdeal.main_arg16) = m ((c.tc : Thread Cert.SampleReferenceIdeal.nD Cert.SampleReferenceIdeal.τ).loc Cert.SampleReferenceIdeal.main_arg16)
      ∧ r.2.mem ((c.tc : Thread Cert.SampleReferenceIdeal.nD Cert.SampleReferenceIdeal.τ).loc Cert.SampleReferenceIdeal.main_arg17) = m ((c.tc : Thread Cert.SampleReferenceIdeal.nD Cert.SampleReferenceIdeal.τ).loc Cert.SampleReferenceIdeal.main_arg17)
      ∧ r.2.mem ((c.tc : Thread Cert.SampleReferenceIdeal.nD Cert.SampleReferenceIdeal.τ).loc Cert.SampleReferenceIdeal.main_arg18) = m ((c.tc : Thread Cert.SampleReferenceIdeal.nD Cert.SampleReferenceIdeal.τ).loc Cert.SampleReferenceIdeal.main_arg18))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
      ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
      ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)
      ∧ m' ((c.tc : Thread Cert.PromptReferenceIdeal.nD Cert.PromptReferenceIdeal.τ).loc Cert.PromptReferenceIdeal.main_arg10) = m ((c.tc : Thread Cert.PromptIdeal.nD Cert.PromptIdeal.τ).loc Cert.PromptIdeal.main_arg10)
      ∧ m' ((c.tc : Thread Cert.PromptReferenceIdeal.nD Cert.PromptReferenceIdeal.τ).loc Cert.PromptReferenceIdeal.main_arg11) = m ((c.tc : Thread Cert.PromptIdeal.nD Cert.PromptIdeal.τ).loc Cert.PromptIdeal.main_arg11)
      ∧ m' ((c.tc : Thread Cert.PromptReferenceIdeal.nD Cert.PromptReferenceIdeal.τ).loc Cert.PromptReferenceIdeal.main_arg12) = m ((c.tc : Thread Cert.PromptIdeal.nD Cert.PromptIdeal.τ).loc Cert.PromptIdeal.main_arg12)
      ∧ m' ((c.tc : Thread Cert.PromptReferenceIdeal.nD Cert.PromptReferenceIdeal.τ).loc Cert.PromptReferenceIdeal.main_arg13) = m ((c.tc : Thread Cert.PromptIdeal.nD Cert.PromptIdeal.τ).loc Cert.PromptIdeal.main_arg13)
      ∧ m' ((c.tc : Thread Cert.PromptReferenceIdeal.nD Cert.PromptReferenceIdeal.τ).loc Cert.PromptReferenceIdeal.main_arg14) = m ((c.tc : Thread Cert.PromptIdeal.nD Cert.PromptIdeal.τ).loc Cert.PromptIdeal.main_arg14)
      ∧ m' ((c.tc : Thread Cert.PromptReferenceIdeal.nD Cert.PromptReferenceIdeal.τ).loc Cert.PromptReferenceIdeal.main_arg15) = m ((c.tc : Thread Cert.PromptIdeal.nD Cert.PromptIdeal.τ).loc Cert.PromptIdeal.main_arg15)
      ∧ m' ((c.tc : Thread Cert.PromptReferenceIdeal.nD Cert.PromptReferenceIdeal.τ).loc Cert.PromptReferenceIdeal.main_arg16) = m ((c.tc : Thread Cert.PromptIdeal.nD Cert.PromptIdeal.τ).loc Cert.PromptIdeal.main_arg16)) →
    ∃ (v0 : (c : Dev Cert.PromptIdeal.nD) → Buf (Elt Ideal) ((c.tc : Thread Cert.PromptIdeal.nD Cert.PromptIdeal.τ).loc Cert.PromptIdeal.main_v49)) (v1 : (c : Dev Cert.PromptIdeal.nD) → Buf (Elt Ideal) ((c.tc : Thread Cert.PromptIdeal.nD Cert.PromptIdeal.τ).loc Cert.PromptIdeal.main_v50)) (v2 : (c : Dev Cert.PromptIdeal.nD) → Buf (Elt Ideal) ((c.tc : Thread Cert.PromptIdeal.nD Cert.PromptIdeal.τ).loc Cert.PromptIdeal.main_v51)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v49) = v0 c
          ∧ r.2.mem ((c.tc : Thread Cert.PromptIdeal.nD Cert.PromptIdeal.τ).loc Cert.PromptIdeal.main_v50) = v1 c
          ∧ r.2.mem ((c.tc : Thread Cert.PromptIdeal.nD Cert.PromptIdeal.τ).loc Cert.PromptIdeal.main_v51) = v2 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
          ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
          ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15)
          ∧ r.2.mem ((c.tc : Thread Cert.PromptIdeal.nD Cert.PromptIdeal.τ).loc Cert.PromptIdeal.main_arg16) = m ((c.tc : Thread Cert.PromptIdeal.nD Cert.PromptIdeal.τ).loc Cert.PromptIdeal.main_arg16))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v192) = v0 c
          ∧ r.2.mem ((c.tc : Thread Cert.PromptReferenceIdeal.nD Cert.PromptReferenceIdeal.τ).loc Cert.PromptReferenceIdeal.main_v193) = v1 c
          ∧ r.2.mem ((c.tc : Thread Cert.PromptReferenceIdeal.nD Cert.PromptReferenceIdeal.τ).loc Cert.PromptReferenceIdeal.main_v194) = v2 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9)
          ∧ r.2.mem ((c.tc : Thread Cert.PromptReferenceIdeal.nD Cert.PromptReferenceIdeal.τ).loc Cert.PromptReferenceIdeal.main_arg10) = m' ((c.tc : Thread Cert.PromptReferenceIdeal.nD Cert.PromptReferenceIdeal.τ).loc Cert.PromptReferenceIdeal.main_arg10)
          ∧ r.2.mem ((c.tc : Thread Cert.PromptReferenceIdeal.nD Cert.PromptReferenceIdeal.τ).loc Cert.PromptReferenceIdeal.main_arg11) = m' ((c.tc : Thread Cert.PromptReferenceIdeal.nD Cert.PromptReferenceIdeal.τ).loc Cert.PromptReferenceIdeal.main_arg11)
          ∧ r.2.mem ((c.tc : Thread Cert.PromptReferenceIdeal.nD Cert.PromptReferenceIdeal.τ).loc Cert.PromptReferenceIdeal.main_arg12) = m' ((c.tc : Thread Cert.PromptReferenceIdeal.nD Cert.PromptReferenceIdeal.τ).loc Cert.PromptReferenceIdeal.main_arg12)
          ∧ r.2.mem ((c.tc : Thread Cert.PromptReferenceIdeal.nD Cert.PromptReferenceIdeal.τ).loc Cert.PromptReferenceIdeal.main_arg13) = m' ((c.tc : Thread Cert.PromptReferenceIdeal.nD Cert.PromptReferenceIdeal.τ).loc Cert.PromptReferenceIdeal.main_arg13)
          ∧ r.2.mem ((c.tc : Thread Cert.PromptReferenceIdeal.nD Cert.PromptReferenceIdeal.τ).loc Cert.PromptReferenceIdeal.main_arg14) = m' ((c.tc : Thread Cert.PromptReferenceIdeal.nD Cert.PromptReferenceIdeal.τ).loc Cert.PromptReferenceIdeal.main_arg14)
          ∧ r.2.mem ((c.tc : Thread Cert.PromptReferenceIdeal.nD Cert.PromptReferenceIdeal.τ).loc Cert.PromptReferenceIdeal.main_arg15) = m' ((c.tc : Thread Cert.PromptReferenceIdeal.nD Cert.PromptReferenceIdeal.τ).loc Cert.PromptReferenceIdeal.main_arg15)
          ∧ r.2.mem ((c.tc : Thread Cert.PromptReferenceIdeal.nD Cert.PromptReferenceIdeal.τ).loc Cert.PromptReferenceIdeal.main_arg16) = m' ((c.tc : Thread Cert.PromptReferenceIdeal.nD Cert.PromptReferenceIdeal.τ).loc Cert.PromptReferenceIdeal.main_arg16))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)
      ∧ m' ((c.tc : Thread Cert.SampleReferenceIdeal.nD Cert.SampleReferenceIdeal.τ).loc Cert.SampleReferenceIdeal.main_arg11) = m ((c.tc : Thread Cert.SampleIdeal.nD Cert.SampleIdeal.τ).loc Cert.SampleIdeal.main_arg11)
      ∧ m' ((c.tc : Thread Cert.SampleReferenceIdeal.nD Cert.SampleReferenceIdeal.τ).loc Cert.SampleReferenceIdeal.main_arg12) = m ((c.tc : Thread Cert.SampleIdeal.nD Cert.SampleIdeal.τ).loc Cert.SampleIdeal.main_arg12)
      ∧ m' ((c.tc : Thread Cert.SampleReferenceIdeal.nD Cert.SampleReferenceIdeal.τ).loc Cert.SampleReferenceIdeal.main_arg13) = m ((c.tc : Thread Cert.SampleIdeal.nD Cert.SampleIdeal.τ).loc Cert.SampleIdeal.main_arg13)
      ∧ m' ((c.tc : Thread Cert.SampleReferenceIdeal.nD Cert.SampleReferenceIdeal.τ).loc Cert.SampleReferenceIdeal.main_arg14) = m ((c.tc : Thread Cert.SampleIdeal.nD Cert.SampleIdeal.τ).loc Cert.SampleIdeal.main_arg14)
      ∧ m' ((c.tc : Thread Cert.SampleReferenceIdeal.nD Cert.SampleReferenceIdeal.τ).loc Cert.SampleReferenceIdeal.main_arg15) = m ((c.tc : Thread Cert.SampleIdeal.nD Cert.SampleIdeal.τ).loc Cert.SampleIdeal.main_arg15)
      ∧ m' ((c.tc : Thread Cert.SampleReferenceIdeal.nD Cert.SampleReferenceIdeal.τ).loc Cert.SampleReferenceIdeal.main_arg16) = m ((c.tc : Thread Cert.SampleIdeal.nD Cert.SampleIdeal.τ).loc Cert.SampleIdeal.main_arg16)
      ∧ m' ((c.tc : Thread Cert.SampleReferenceIdeal.nD Cert.SampleReferenceIdeal.τ).loc Cert.SampleReferenceIdeal.main_arg17) = m ((c.tc : Thread Cert.SampleIdeal.nD Cert.SampleIdeal.τ).loc Cert.SampleIdeal.main_arg17)
      ∧ m' ((c.tc : Thread Cert.SampleReferenceIdeal.nD Cert.SampleReferenceIdeal.τ).loc Cert.SampleReferenceIdeal.main_arg18) = m ((c.tc : Thread Cert.SampleIdeal.nD Cert.SampleIdeal.τ).loc Cert.SampleIdeal.main_arg18)) →
    ∃ (v0 : (c : Dev Cert.SampleIdeal.nD) → Buf (Elt Ideal) ((c.tc : Thread Cert.SampleIdeal.nD Cert.SampleIdeal.τ).loc Cert.SampleIdeal.main_v50)) (v1 : (c : Dev Cert.SampleIdeal.nD) → Buf (Elt Ideal) ((c.tc : Thread Cert.SampleIdeal.nD Cert.SampleIdeal.τ).loc Cert.SampleIdeal.main_v51)) (v2 : (c : Dev Cert.SampleIdeal.nD) → Buf (Elt Ideal) ((c.tc : Thread Cert.SampleIdeal.nD Cert.SampleIdeal.τ).loc Cert.SampleIdeal.main_v52)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v50) = v0 c
          ∧ r.2.mem ((c.tc : Thread Cert.SampleIdeal.nD Cert.SampleIdeal.τ).loc Cert.SampleIdeal.main_v51) = v1 c
          ∧ r.2.mem ((c.tc : Thread Cert.SampleIdeal.nD Cert.SampleIdeal.τ).loc Cert.SampleIdeal.main_v52) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
          ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
          ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v191) = v0 c
          ∧ r.2.mem ((c.tc : Thread Cert.SampleReferenceIdeal.nD Cert.SampleReferenceIdeal.τ).loc Cert.SampleReferenceIdeal.main_v192) = v1 c
          ∧ r.2.mem ((c.tc : Thread Cert.SampleReferenceIdeal.nD Cert.SampleReferenceIdeal.τ).loc Cert.SampleReferenceIdeal.main_v193) = v2 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10)
          ∧ r.2.mem ((c.tc : Thread Cert.SampleReferenceIdeal.nD Cert.SampleReferenceIdeal.τ).loc Cert.SampleReferenceIdeal.main_arg11) = m' ((c.tc : Thread Cert.SampleReferenceIdeal.nD Cert.SampleReferenceIdeal.τ).loc Cert.SampleReferenceIdeal.main_arg11)
          ∧ r.2.mem ((c.tc : Thread Cert.SampleReferenceIdeal.nD Cert.SampleReferenceIdeal.τ).loc Cert.SampleReferenceIdeal.main_arg12) = m' ((c.tc : Thread Cert.SampleReferenceIdeal.nD Cert.SampleReferenceIdeal.τ).loc Cert.SampleReferenceIdeal.main_arg12)
          ∧ r.2.mem ((c.tc : Thread Cert.SampleReferenceIdeal.nD Cert.SampleReferenceIdeal.τ).loc Cert.SampleReferenceIdeal.main_arg13) = m' ((c.tc : Thread Cert.SampleReferenceIdeal.nD Cert.SampleReferenceIdeal.τ).loc Cert.SampleReferenceIdeal.main_arg13)
          ∧ r.2.mem ((c.tc : Thread Cert.SampleReferenceIdeal.nD Cert.SampleReferenceIdeal.τ).loc Cert.SampleReferenceIdeal.main_arg14) = m' ((c.tc : Thread Cert.SampleReferenceIdeal.nD Cert.SampleReferenceIdeal.τ).loc Cert.SampleReferenceIdeal.main_arg14)
          ∧ r.2.mem ((c.tc : Thread Cert.SampleReferenceIdeal.nD Cert.SampleReferenceIdeal.τ).loc Cert.SampleReferenceIdeal.main_arg15) = m' ((c.tc : Thread Cert.SampleReferenceIdeal.nD Cert.SampleReferenceIdeal.τ).loc Cert.SampleReferenceIdeal.main_arg15)
          ∧ r.2.mem ((c.tc : Thread Cert.SampleReferenceIdeal.nD Cert.SampleReferenceIdeal.τ).loc Cert.SampleReferenceIdeal.main_arg16) = m' ((c.tc : Thread Cert.SampleReferenceIdeal.nD Cert.SampleReferenceIdeal.τ).loc Cert.SampleReferenceIdeal.main_arg16)
          ∧ r.2.mem ((c.tc : Thread Cert.SampleReferenceIdeal.nD Cert.SampleReferenceIdeal.τ).loc Cert.SampleReferenceIdeal.main_arg17) = m' ((c.tc : Thread Cert.SampleReferenceIdeal.nD Cert.SampleReferenceIdeal.τ).loc Cert.SampleReferenceIdeal.main_arg17)
          ∧ r.2.mem ((c.tc : Thread Cert.SampleReferenceIdeal.nD Cert.SampleReferenceIdeal.τ).loc Cert.SampleReferenceIdeal.main_arg18) = m' ((c.tc : Thread Cert.SampleReferenceIdeal.nD Cert.SampleReferenceIdeal.τ).loc Cert.SampleReferenceIdeal.main_arg18))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v17)) (v1 : (c : Dev Cert.QkvIdeal.nD) → Buf (Elt Ideal) ((c.tc : Thread Cert.QkvIdeal.nD Cert.QkvIdeal.τ).loc Cert.QkvIdeal.main_v24)) (v2 : (c : Dev Cert.QkvIdeal.nD) → Buf (Elt Ideal) ((c.tc : Thread Cert.QkvIdeal.nD Cert.QkvIdeal.τ).loc Cert.QkvIdeal.main_v26)) (v3 : (c : Dev Cert.QkvIdeal.nD) → Buf (Elt Ideal) ((c.tc : Thread Cert.QkvIdeal.nD Cert.QkvIdeal.τ).loc Cert.QkvIdeal.main_v20)) (v4 : (c : Dev Cert.QkvIdeal.nD) → Buf (Elt Ideal) ((c.tc : Thread Cert.QkvIdeal.nD Cert.QkvIdeal.τ).loc Cert.QkvIdeal.main_v28)) (v5 : (c : Dev Cert.QkvIdeal.nD) → Buf (Elt Ideal) ((c.tc : Thread Cert.QkvIdeal.nD Cert.QkvIdeal.τ).loc Cert.QkvIdeal.main_v30)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v17) = v0 c
          ∧ r.2.mem ((c.tc : Thread Cert.QkvIdeal.nD Cert.QkvIdeal.τ).loc Cert.QkvIdeal.main_v24) = v1 c
          ∧ r.2.mem ((c.tc : Thread Cert.QkvIdeal.nD Cert.QkvIdeal.τ).loc Cert.QkvIdeal.main_v26) = v2 c
          ∧ r.2.mem ((c.tc : Thread Cert.QkvIdeal.nD Cert.QkvIdeal.τ).loc Cert.QkvIdeal.main_v20) = v3 c
          ∧ r.2.mem ((c.tc : Thread Cert.QkvIdeal.nD Cert.QkvIdeal.τ).loc Cert.QkvIdeal.main_v28) = v4 c
          ∧ r.2.mem ((c.tc : Thread Cert.QkvIdeal.nD Cert.QkvIdeal.τ).loc Cert.QkvIdeal.main_v30) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v20) = v0 c
          ∧ r.2.mem ((c.tc : Thread Cert.QkvReferenceIdeal.nD Cert.QkvReferenceIdeal.τ).loc Cert.QkvReferenceIdeal.main_v23) = v1 c
          ∧ r.2.mem ((c.tc : Thread Cert.QkvReferenceIdeal.nD Cert.QkvReferenceIdeal.τ).loc Cert.QkvReferenceIdeal.main_v26) = v2 c
          ∧ r.2.mem ((c.tc : Thread Cert.QkvReferenceIdeal.nD Cert.QkvReferenceIdeal.τ).loc Cert.QkvReferenceIdeal.main_v47) = v3 c
          ∧ r.2.mem ((c.tc : Thread Cert.QkvReferenceIdeal.nD Cert.QkvReferenceIdeal.τ).loc Cert.QkvReferenceIdeal.main_v50) = v4 c
          ∧ r.2.mem ((c.tc : Thread Cert.QkvReferenceIdeal.nD Cert.QkvReferenceIdeal.τ).loc Cert.QkvReferenceIdeal.main_v53) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def Claim : Prop :=
  ∃ (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts) (hQkv : Cert.Qkv.Facts) (hQkvIdeal : Cert.QkvIdeal.Facts) (hQkvReferenceIdeal : Cert.QkvReferenceIdeal.Facts),
    quiescent_Prompt (hPrompt := hPrompt)
    ∧ quiescent_PromptIdeal (hPromptIdeal := hPromptIdeal)
    ∧ quiescent_PromptReferenceIdeal (hPromptReferenceIdeal := hPromptReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Prompt_PromptIdeal
    ∧ algebraic_PromptIdeal_PromptReferenceIdeal (hPromptIdeal := hPromptIdeal) (hPromptReferenceIdeal := hPromptReferenceIdeal)
    ∧ preserves_Sample_SampleIdeal
    ∧ algebraic_SampleIdeal_SampleReferenceIdeal (hSampleIdeal := hSampleIdeal) (hSampleReferenceIdeal := hSampleReferenceIdeal)
    ∧ preserves_Qkv_QkvIdeal
    ∧ algebraic_QkvIdeal_QkvReferenceIdeal (hQkvIdeal := hQkvIdeal) (hQkvReferenceIdeal := hQkvReferenceIdeal)
-- ==== Prompt.lean ====
abbrev S4x2048x4096 : Shape := ⟨3, ![4, 2048, 4096]⟩
abbrev S2x4096 : Shape := ⟨2, ![2, 4096]⟩
abbrev S4096 : Shape := ⟨1, ![4096]⟩
abbrev S1x4096x4096 : Shape := ⟨3, ![1, 4096, 4096]⟩
abbrev S1x4096x11264 : Shape := ⟨3, ![1, 4096, 11264]⟩
abbrev S1x4x5632 : Shape := ⟨3, ![1, 4, 5632]⟩
abbrev S1x5632 : Shape := ⟨2, ![1, 5632]⟩
abbrev S1x22x256x256 : Shape := ⟨4, ![1, 22, 256, 256]⟩
abbrev S1x5632x4096 : Shape := ⟨3, ![1, 5632, 4096]⟩
abbrev S2x4096x22016 : Shape := ⟨3, ![2, 4096, 22016]⟩
abbrev S2x11008x4096 : Shape := ⟨3, ![2, 11008, 4096]⟩
abbrev S_ : Shape := ⟨0, ![]⟩
abbrev S4x3x5632 : Shape := ⟨3, ![4, 3, 5632]⟩
abbrev S4x5632 : Shape := ⟨2, ![4, 5632]⟩
abbrev S8192x4096 : Shape := ⟨2, ![8192, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S8192x11008 : Shape := ⟨2, ![8192, 11008]⟩
abbrev S1x4096x256 : Shape := ⟨3, ![1, 4096, 256]⟩
abbrev S1024x256 : Shape := ⟨2, ![1024, 256]⟩
abbrev S4096x256 : Shape := ⟨2, ![4096, 256]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩
abbrev S8192x11264 : Shape := ⟨2, ![8192, 11264]⟩
abbrev S1x4096x1024 : Shape := ⟨3, ![1, 4096, 1024]⟩
abbrev S1024x1024 : Shape := ⟨2, ![1024, 1024]⟩
abbrev S4096x1024 : Shape := ⟨2, ![4096, 1024]⟩
abbrev S4x2048x11264 : Shape := ⟨3, ![4, 2048, 11264]⟩
abbrev S5632 : Shape := ⟨1, ![5632]⟩
abbrev S4x5x5632 : Shape := ⟨3, ![4, 5, 5632]⟩
abbrev S4x8x5632 : Shape := ⟨3, ![4, 8, 5632]⟩
abbrev S4x1x5632 : Shape := ⟨3, ![4, 1, 5632]⟩
abbrev S4x2048x5632 : Shape := ⟨3, ![4, 2048, 5632]⟩
abbrev S1x2048x256 : Shape := ⟨3, ![1, 2048, 256]⟩
abbrev S1x8x256 : Shape := ⟨3, ![1, 8, 256]⟩
abbrev S1x1x256 : Shape := ⟨3, ![1, 1, 256]⟩
abbrev S4x256 : Shape := ⟨2, ![4, 256]⟩
abbrev S1x256 : Shape := ⟨2, ![1, 256]⟩
abbrev S1x1x256x256 : Shape := ⟨4, ![1, 1, 256, 256]⟩
abbrev S2056x256 : Shape := ⟨2, ![2056, 256]⟩
abbrev S2048x256 : Shape := ⟨2, ![2048, 256]⟩
abbrev S8x256 : Shape := ⟨2, ![8, 256]⟩
abbrev S256x256 : Shape := ⟨2, ![256, 256]⟩
abbrev S8192x5632 : Shape := ⟨2, ![8192, 5632]⟩
abbrev S1024x5632 : Shape := ⟨2, ![1024, 5632]⟩
abbrev S1x5632x512 : Shape := ⟨3, ![1, 5632, 512]⟩
abbrev S5632x512 : Shape := ⟨2, ![5632, 512]⟩
abbrev S1x4x3x5632 : Shape := ⟨4, ![1, 4, 3, 5632]⟩

abbrev nBuf : Space → Nat
  | .hbm => 74
  | .vmem => 105
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x4096, .f32⟩
  | .hbm, ⟨2, _⟩ => ⟨S2x4096, .f32⟩
  | .hbm, ⟨3, _⟩ => ⟨S2x4096, .f32⟩
  | .hbm, ⟨4, _⟩ => ⟨S4096, .f32⟩
  | .hbm, ⟨5, _⟩ => ⟨S1x4096x4096, .f32⟩
  | .hbm, ⟨6, _⟩ => ⟨S1x4096x11264, .f32⟩
  | .hbm, ⟨7, _⟩ => ⟨S1x4x5632, .f32⟩
  | .hbm, ⟨8, _⟩ => ⟨S1x5632, .f32⟩
  | .hbm, ⟨9, _⟩ => ⟨S1x22x256x256, .f32⟩
  | .hbm, ⟨10, _⟩ => ⟨S1x5632, .f32⟩
  | .hbm, ⟨11, _⟩ => ⟨S1x22x256x256, .f32⟩
  | .hbm, ⟨12, _⟩ => ⟨S1x5632, .f32⟩
  | .hbm, ⟨13, _⟩ => ⟨S1x5632, .f32⟩
  | .hbm, ⟨14, _⟩ => ⟨S1x5632x4096, .f32⟩
  | .hbm, ⟨15, _⟩ => ⟨S2x4096x22016, .f32⟩
  | .hbm, ⟨16, _⟩ => ⟨S2x11008x4096, .f32⟩
  | .hbm, ⟨17, _⟩ => ⟨S_, .f32⟩
  | .hbm, ⟨18, _⟩ => ⟨S4x3x5632, .f32⟩
  | .hbm, ⟨19, _⟩ => ⟨S_, .f32⟩
  | .hbm, ⟨20, _⟩ => ⟨S4x5632, .f32⟩
  | .hbm, ⟨21, _⟩ => ⟨S2x11008x4096, .bf16⟩
  | .hbm, ⟨22, _⟩ => ⟨S8192x4096, .bf16⟩
  | .hbm, ⟨23, _⟩ => ⟨S1x4096x4096, .bf16⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S4096, .f32⟩
  | .hbm, ⟨28, _⟩ => ⟨S1x4096, .f32⟩
  | .hbm, ⟨29, _⟩ => ⟨S8192x4096, .bf16⟩
  | .hbm, ⟨30, _⟩ => ⟨S8192x11008, .bf16⟩
  | .hbm, ⟨31, _⟩ => ⟨S8192x4096, .f32⟩
  | .hbm, ⟨32, _⟩ => ⟨S1x4096, .f32⟩
  | .hbm, ⟨33, _⟩ => ⟨S4096, .f32⟩
  | .hbm, ⟨34, _⟩ => ⟨S1x4096, .f32⟩
  | .hbm, ⟨35, _⟩ => ⟨S8192x4096, .bf16⟩
  | .hbm, ⟨36, _⟩ => ⟨S1x4096x11264, .bf16⟩
  | .hbm, ⟨37, _⟩ => ⟨S8192x11264, .f32⟩
  | .hbm, ⟨38, _⟩ => ⟨S4x2048x11264, .f32⟩
  | .hbm, ⟨39, _⟩ => ⟨S4x5632, .f32⟩
  | .hbm, ⟨40, _⟩ => ⟨S5632, .f32⟩
  | .hbm, ⟨41, _⟩ => ⟨S1x22x256x256, .bf16⟩
  | .hbm, ⟨42, _⟩ => ⟨S5632, .f32⟩
  | .hbm, ⟨43, _⟩ => ⟨S1x22x256x256, .bf16⟩
  | .hbm, ⟨44, _⟩ => ⟨S5632, .f32⟩
  | .hbm, ⟨45, _⟩ => ⟨S5632, .f32⟩
  | .hbm, ⟨46, _⟩ => ⟨S_, .f32⟩
  | .hbm, ⟨47, _⟩ => ⟨S4x5x5632, .f32⟩
  | .hbm, ⟨48, _⟩ => ⟨S4x8x5632, .f32⟩
  | .hbm, ⟨49, _⟩ => ⟨S4x1x5632, .f32⟩
  | .hbm, ⟨50, _⟩ => ⟨S1x5632, .f32⟩
  | .hbm, ⟨51, _⟩ => ⟨S1x5632, .f32⟩
  | .hbm, ⟨52, _⟩ => ⟨S1x5632, .f32⟩
  | .hbm, ⟨53, _⟩ => ⟨S1x5632, .f32⟩
  | .hbm, ⟨54, _⟩ => ⟨S4x2048x5632, .bf16⟩
  | .hbm, ⟨55, _⟩ => ⟨S4x8x5632, .f32⟩
  | .hbm, ⟨56, _⟩ => ⟨S4x8x5632, .f32⟩
  | .hbm, ⟨57, _⟩ => ⟨S4x3x5632, .f32⟩
  | .hbm, ⟨58, _⟩ => ⟨S4x1x5632, .f32⟩
  | .hbm, ⟨59, _⟩ => ⟨S4x5632, .f32⟩
  | .hbm, ⟨60, _⟩ => ⟨S8192x5632, .bf16⟩
  | .hbm, ⟨61, _⟩ => ⟨S1x5632x4096, .bf16⟩
  | .hbm, ⟨62, _⟩ => ⟨S8192x4096, .f32⟩
  | .hbm, ⟨63, _⟩ => ⟨S1x4096, .f32⟩
  | .hbm, ⟨64, _⟩ => ⟨S4096, .f32⟩
  | .hbm, ⟨65, _⟩ => ⟨S1x4096, .f32⟩
  | .hbm, ⟨66, _⟩ => ⟨S8192x4096, .bf16⟩
  | .hbm, ⟨67, _⟩ => ⟨S8192x11008, .bf16⟩
  | .hbm, ⟨68, _⟩ => ⟨S8192x4096, .f32⟩
  | .hbm, ⟨69, _⟩ => ⟨S1x4096, .f32⟩
  | .hbm, ⟨70, _⟩ => ⟨S8192x4096, .f32⟩
  | .hbm, ⟨71, _⟩ => ⟨S4x2048x4096, .f32⟩
  | .hbm, ⟨72, _⟩ => ⟨S1x4x3x5632, .f32⟩
  | .hbm, ⟨73, _⟩ => ⟨S1x4x5632, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x4096, .f32⟩
  | .local _ .vmem, ⟨9, _⟩ => ⟨S512x4096, .f32⟩
  | .local _ .vmem, ⟨10, _⟩ => ⟨S1x4096, .f32⟩
  | .local _ .vmem, ⟨11, _⟩ => ⟨S512x4096, .bf16⟩
  | .local _ .vmem, ⟨12, _⟩ => ⟨S512x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1x4096x256, .f32⟩
  | .local _ .vmem, ⟨16, _⟩ => ⟨S1x4096x256, .f32⟩
  | .local _ .vmem, ⟨17, _⟩ => ⟨S1x4096x256, .f32⟩
  | .local _ .vmem, ⟨18, _⟩ => ⟨S1x4096x256, .f32⟩
  | .local _ .vmem, ⟨19, _⟩ => ⟨S1024x256, .bf16⟩
  | .local _ .vmem, ⟨20, _⟩ => ⟨S1024x256, .bf16⟩
  | .local _ .vmem, ⟨21, _⟩ => ⟨S512x11008, .bf16⟩
  | .local _ .vmem, ⟨22, _⟩ => ⟨S512x11008, .bf16⟩
  | .local _ .vmem, ⟨23, _⟩ => ⟨S1x11008x512, .bf16⟩
  | .local _ .vmem, ⟨24, _⟩ => ⟨S1x11008x512, .bf16⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x4096, .f32⟩
  | .local _ .vmem, ⟨30, _⟩ => ⟨S512x4096, .f32⟩
  | .local _ .vmem, ⟨31, _⟩ => ⟨S1x4096, .f32⟩
  | .local _ .vmem, ⟨32, _⟩ => ⟨S512x4096, .bf16⟩
  | .local _ .vmem, ⟨33, _⟩ => ⟨S512x4096, .bf16⟩
  | .local _ .vmem, ⟨34, _⟩ => ⟨S1024x4096, .bf16⟩
  | .local _ .vmem, ⟨35, _⟩ => ⟨S1024x4096, .bf16⟩
  | .local _ .vmem, ⟨36, _⟩ => ⟨S1x4096x1024, .bf16⟩
  | .local _ .vmem, ⟨37, _⟩ => ⟨S1x4096x1024, .bf16⟩
  | .local _ .vmem, ⟨38, _⟩ => ⟨S1024x1024, .f32⟩
  | .local _ .vmem, ⟨39, _⟩ => ⟨S1024x1024, .f32⟩
  | .local _ .vmem, ⟨40, _⟩ => ⟨S1x2048x256, .f32⟩
  | .local _ .vmem, ⟨41, _⟩ => ⟨S1x2048x256, .f32⟩
  | .local _ .vmem, ⟨42, _⟩ => ⟨S1x2048x256, .f32⟩
  | .local _ .vmem, ⟨43, _⟩ => ⟨S1x2048x256, .f32⟩
  | .local _ .vmem, ⟨44, _⟩ => ⟨S1x8x256, .f32⟩
  | .local _ .vmem, ⟨45, _⟩ => ⟨S1x8x256, .f32⟩
  | .local _ .vmem, ⟨46, _⟩ => ⟨S1x1x256, .f32⟩
  | .local _ .vmem, ⟨47, _⟩ => ⟨S1x1x256, .f32⟩
  | .local _ .vmem, ⟨48, _⟩ => ⟨S4x256, .f32⟩
  | .local _ .vmem, ⟨49, _⟩ => ⟨S4x256, .f32⟩
  | .local _ .vmem, ⟨50, _⟩ => ⟨S1x256, .f32⟩
  | .local _ .vmem, ⟨51, _⟩ => ⟨S1x256, .f32⟩
  | .local _ .vmem, ⟨52, _⟩ => ⟨S1x1x256x256, .bf16⟩
  | .local _ .vmem, ⟨53, _⟩ => ⟨S1x1x256x256, .bf16⟩
  | .local _ .vmem, ⟨54, _⟩ => ⟨S1x256, .f32⟩
  | .local _ .vmem, ⟨55, _⟩ => ⟨S1x256, .f32⟩
  | .local _ .vmem, ⟨56, _⟩ => ⟨S1x1x256x256, .bf16⟩
  | .local _ .vmem, ⟨57, _⟩ => ⟨S1x1x256x256, .bf16⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S1x2048x256, .bf16⟩
  | .local _ .vmem, ⟨63, _⟩ => ⟨S1x2048x256, .bf16⟩
  | .local _ .vmem, ⟨64, _⟩ => ⟨S1x8x256, .f32⟩
  | .local _ .vmem, ⟨65, _⟩ => ⟨S1x8x256, .f32⟩
  | .local _ .vmem, ⟨66, _⟩ => ⟨S1x8x256, .f32⟩
  | .local _ .vmem, ⟨67, _⟩ => ⟨S1x8x256, .f32⟩
  | .local _ .vmem, ⟨68, _⟩ => ⟨S2056x256, .f32⟩
  | .local _ .vmem, ⟨69, _⟩ => ⟨S2048x256, .f32⟩
  | .local _ .vmem, ⟨70, _⟩ => ⟨S2048x256, .f32⟩
  | .local _ .vmem, ⟨71, _⟩ => ⟨S1024x5632, .bf16⟩
  | .local _ .vmem, ⟨72, _⟩ => ⟨S1024x5632, .bf16⟩
  | .local _ .vmem, ⟨73, _⟩ => ⟨S1x5632x512, .bf16⟩
  | .local _ .vmem, ⟨74, _⟩ => ⟨S1x5632x512, .bf16⟩
  | .local _ .vmem, ⟨75, _⟩ => ⟨S1024x512, .f32⟩
  | .local _ .vmem, ⟨76, _⟩ => ⟨S1024x512, .f32⟩
  | .local _ .vmem, ⟨77, _⟩ => ⟨S1024x512, .f32⟩
  | .local _ .vmem, ⟨78, _⟩ => ⟨S1024x512, .f32⟩
  | .local _ .vmem, ⟨79, _⟩ => ⟨S512x4096, .f32⟩
  | .local _ .vmem, ⟨80, _⟩ => ⟨S512x4096, .f32⟩
  | .local _ .vmem, ⟨81, _⟩ => ⟨S1x4096, .f32⟩
  | .local _ .vmem, ⟨82, _⟩ => ⟨S512x4096, .bf16⟩
  | .local _ .vmem, ⟨83, _⟩ => ⟨S512x4096, .bf16⟩
  | .local _ .vmem, ⟨84, _⟩ => ⟨S1024x4096, .bf16⟩
  | .local _ .vmem, ⟨85, _⟩ => ⟨S1024x4096, .bf16⟩
  | .local _ .vmem, ⟨86, _⟩ => ⟨S1x4096x256, .f32⟩
  | .local _ .vmem, ⟨87, _⟩ => ⟨S1x4096x256, .f32⟩
  | .local _ .vmem, ⟨88, _⟩ => ⟨S1x4096x256, .f32⟩
  | .local _ .vmem, ⟨89, _⟩ => ⟨S1x4096x256, .f32⟩
  | .local _ .vmem, ⟨90, _⟩ => ⟨S1024x256, .bf16⟩
  | .local _ .vmem, ⟨91, _⟩ => ⟨S1024x256, .bf16⟩
  | .local _ .vmem, ⟨92, _⟩ => ⟨S512x11008, .bf16⟩
  | .local _ .vmem, ⟨93, _⟩ => ⟨S512x11008, .bf16⟩
  | .local _ .vmem, ⟨94, _⟩ => ⟨S1x11008x512, .bf16⟩
  | .local _ .vmem, ⟨95, _⟩ => ⟨S1x11008x512, .bf16⟩
  | .local _ .vmem, ⟨96, _⟩ => ⟨S512x512, .f32⟩
  | .local _ .vmem, ⟨97, _⟩ => ⟨S512x512, .f32⟩
  | .local _ .vmem, ⟨98, _⟩ => ⟨S512x512, .f32⟩
  | .local _ .vmem, ⟨99, _⟩ => ⟨S512x512, .f32⟩
  | .local _ .vmem, ⟨100, _⟩ => ⟨S512x4096, .f32⟩
  | .local _ .vmem, ⟨101, _⟩ => ⟨S512x4096, .f32⟩
  | .local _ .vmem, ⟨102, _⟩ => ⟨S1x4096, .f32⟩
  | .local _ .vmem, ⟨103, _⟩ => ⟨S512x4096, .f32⟩
  | .local _ .vmem, ⟨104, _⟩ => ⟨S512x4096, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg7_1 : Ref sig .tc := ⟨.vmem, 55, rfl⟩
abbrev cc6_stg8_0 : Ref sig .tc := ⟨.vmem, 56, rfl⟩
abbrev cc6_stg8_1 : Ref sig .tc := ⟨.vmem, 57, rfl⟩
abbrev cc6_stg9_0 : Ref sig .tc := ⟨.vmem, 58, rfl⟩
abbrev cc6_stg9_1 : Ref sig .tc := ⟨.vmem, 59, rfl⟩
abbrev cc6_stg10_0 : Ref sig .tc := ⟨.vmem, 60, rfl⟩
abbrev cc6_stg10_1 : Ref sig .tc := ⟨.vmem, 61, rfl⟩
abbrev cc6_stg11_0 : Ref sig .tc := ⟨.vmem, 62, rfl⟩
abbrev cc6_stg11_1 : Ref sig .tc := ⟨.vmem, 63, rfl⟩
abbrev cc6_stg12_0 : Ref sig .tc := ⟨.vmem, 64, rfl⟩
abbrev cc6_stg12_1 : Ref sig .tc := ⟨.vmem, 65, rfl⟩
abbrev cc6_stg13_0 : Ref sig .tc := ⟨.vmem, 66, rfl⟩
abbrev cc6_stg13_1 : Ref sig .tc := ⟨.vmem, 67, rfl⟩
abbrev cc6_scratch0 : Ref sig .tc := ⟨.vmem, 68, rfl⟩
abbrev cc6_scratch1 : Ref sig .tc := ⟨.vmem, 69, rfl⟩
abbrev cc6_scratch2 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc7_stg3_0 : Ref sig .tc := ⟨.vmem, 77, rfl⟩
abbrev cc7_stg3_1 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg2_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg2_1 : Ref sig .tc := ⟨.vmem, 89, rfl⟩
abbrev cc9_stg3_0 : Ref sig .tc := ⟨.vmem, 90, rfl⟩
abbrev cc9_stg3_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg2_1 : Ref sig .tc := ⟨.vmem, 97, rfl⟩
abbrev cc10_stg3_0 : Ref sig .tc := ⟨.vmem, 98, rfl⟩
abbrev cc10_stg3_1 : Ref sig .tc := ⟨.vmem, 99, rfl⟩
abbrev cc11_stg0_0 : Ref sig .tc := ⟨.vmem, 100, rfl⟩
abbrev cc11_stg0_1 : Ref sig .tc := ⟨.vmem, 101, rfl⟩
abbrev cc11_stg1_0 : Ref sig .tc := ⟨.vmem, 102, rfl⟩
abbrev cc11_stg2_0 : Ref sig .tc := ⟨.vmem, 103, rfl⟩
abbrev cc11_stg2_1 : Ref sig .tc := ⟨.vmem, 104, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc6_sem6_0 : DmaSem sig := 52
abbrev cc6_sem6_1 : DmaSem sig := 53
abbrev cc6_sem7_0 : DmaSem sig := 54
abbrev cc6_sem7_1 : DmaSem sig := 55
abbrev cc6_sem8_0 : DmaSem sig := 56
abbrev cc6_sem8_1 : DmaSem sig := 57
abbrev cc6_sem9_0 : DmaSem sig := 58
abbrev cc6_sem9_1 : DmaSem sig := 59
abbrev cc6_sem10_0 : DmaSem sig := 60
abbrev cc6_sem10_1 : DmaSem sig := 61
abbrev cc6_sem11_0 : DmaSem sig := 62
abbrev cc6_sem11_1 : DmaSem sig := 63
abbrev cc6_sem12_0 : DmaSem sig := 64
abbrev cc6_sem12_1 : DmaSem sig := 65
abbrev cc6_sem13_0 : DmaSem sig := 66
abbrev cc6_sem13_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem2_1 : DmaSem sig := 73
abbrev cc7_sem3_0 : DmaSem sig := 74
abbrev cc7_sem3_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem2_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem2_1 : DmaSem sig := 86
abbrev cc9_sem3_0 : DmaSem sig := 87
abbrev cc9_sem3_1 : DmaSem sig := 88
abbrev cc10_sem0_0 : DmaSem sig := 89
abbrev cc10_sem0_1 : DmaSem sig := 90
abbrev cc10_sem1_0 : DmaSem sig := 91
abbrev cc10_sem1_1 : DmaSem sig := 92
abbrev cc10_sem2_0 : DmaSem sig := 93
abbrev cc10_sem2_1 : DmaSem sig := 94
abbrev cc10_sem3_0 : DmaSem sig := 95
abbrev cc10_sem3_1 : DmaSem sig := 96
abbrev cc11_sem0_0 : DmaSem sig := 97
abbrev cc11_sem0_1 : DmaSem sig := 98
abbrev cc11_sem1_0 : DmaSem sig := 99
abbrev cc11_sem2_0 : DmaSem sig := 100
abbrev cc11_sem2_1 : DmaSem sig := 101

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x11008x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 22], ![false, false]⟩

@[reducible] def k6_t1_loop : Scf.Loop 32 :=
  let c0_i32 : BitVec 32 := 0#32
  let c256_i32 : BitVec 32 := 256#32
  let v90 : BitVec 32 := Scalar.addi c0_i32 c256_i32
  let c1_i32 : BitVec 32 := 1#32
  ⟨c0_i32, v90, c1_i32⟩
def k6_mult1 (k6_t1 : Fin k6_t1_loop.trips) : BitVec 32 :=
  let c0_i32 : BitVec 32 := 0#32
  let c1_i32 : BitVec 32 := 1#32
  let arg19 : BitVec 32 := Scf.iv c0_i32 c1_i32 k6_t1
  let c8_i32 : BitVec 32 := 8#32
  let v117 : BitVec 32 := Scalar.muli arg19 c8_i32
  v117
def k6_off1 (k6_t1 : Fin k6_t1_loop.trips) : Fin 2 → Nat :=
  let c0_i32 : BitVec 32 := 0#32
  let c1_i32 : BitVec 32 := 1#32
  let arg19 : BitVec 32 := Scf.iv c0_i32 c1_i32 k6_t1
  let c8_i32 : BitVec 32 := 8#32
  let v117 : BitVec 32 := Scalar.muli arg19 c8_i32
  let v118 : BitVec 32 := v117
  let v119 : Index := Scalar.indexCast v118
  let c0_64 : Index := 0#32
  ![v119.toNat, 0]
def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![arg0.toNat, c0_i32.toNat, v0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_6 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_8 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_11 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_12 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_13 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x8x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x1x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S4x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S1x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S1x1x256x256 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev stage6_7 : Fin 2 → Memref sig .tc .vmem S1x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![false, true]

abbrev stage6_8 : Fin 2 → Memref sig .tc .vmem S1x1x256x256 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![false, true]

abbrev stage6_9 : Fin 2 → Memref sig .tc .vmem S1x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![false, true]

abbrev stage6_10 : Fin 2 → Memref sig .tc .vmem S1x256 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![false, true]

abbrev stage6_11 : Fin 2 → Memref sig .tc .vmem S1x2048x256 .bf16 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true, true]

abbrev stage6_12 : Fin 2 → Memref sig .tc .vmem S1x8x256 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true, true]

abbrev stage6_13 : Fin 2 → Memref sig .tc .vmem S1x8x256 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true, true]

abbrev grid7 : Pipeline.Grid := ⟨2, ![8, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x5632 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x5632x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x4096 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x4096 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x4096 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![8, 43], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc9_transform_2 (i : grid9.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c1_i32 : BitVec 32 := 1#32
  let c0_i32 : BitVec 32 := 0#32
  let c0_i32_0 : BitVec 32 := 0#32
  ![c1_i32.toNat, c0_i32.toNat, v0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1x4096x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1x4096x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S1024x256 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![16, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S512x11008 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1x11008x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S512x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x4096 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x4096 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S512x4096 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]
-- ==== PromptReferenceIdeal.lean ====
abbrev S4x2048x4096 : Shape := ⟨3, ![4, 2048, 4096]⟩
abbrev S2x4096 : Shape := ⟨2, ![2, 4096]⟩
abbrev S4096 : Shape := ⟨1, ![4096]⟩
abbrev S1x4096x4096 : Shape := ⟨3, ![1, 4096, 4096]⟩
abbrev S1x4096x11264 : Shape := ⟨3, ![1, 4096, 11264]⟩
abbrev S1x4x5632 : Shape := ⟨3, ![1, 4, 5632]⟩
abbrev S1x5632 : Shape := ⟨2, ![1, 5632]⟩
abbrev S1x22x256x256 : Shape := ⟨4, ![1, 22, 256, 256]⟩
abbrev S1x5632x4096 : Shape := ⟨3, ![1, 5632, 4096]⟩
abbrev S2x4096x22016 : Shape := ⟨3, ![2, 4096, 22016]⟩
abbrev S2x11008x4096 : Shape := ⟨3, ![2, 11008, 4096]⟩
abbrev S_ : Shape := ⟨0, ![]⟩
abbrev S4x3x5632 : Shape := ⟨3, ![4, 3, 5632]⟩
abbrev S4x5632 : Shape := ⟨2, ![4, 5632]⟩
abbrev S4096x4096 : Shape := ⟨2, ![4096, 4096]⟩
abbrev S1x4096 : Shape := ⟨2, ![1, 4096]⟩
abbrev S4x2048 : Shape := ⟨2, ![4, 2048]⟩
abbrev S4x2048x1 : Shape := ⟨3, ![4, 2048, 1]⟩
abbrev S1x1x4096 : Shape := ⟨3, ![1, 1, 4096]⟩
abbrev S1x4096x22016 : Shape := ⟨3, ![1, 4096, 22016]⟩
abbrev S4096x22016 : Shape := ⟨2, ![4096, 22016]⟩
abbrev S1x11008x4096 : Shape := ⟨3, ![1, 11008, 4096]⟩
abbrev S11008x4096 : Shape := ⟨2, ![11008, 4096]⟩
abbrev S4x2048x22016 : Shape := ⟨3, ![4, 2048, 22016]⟩
abbrev S4x2048x11008 : Shape := ⟨3, ![4, 2048, 11008]⟩
abbrev S4096x11264 : Shape := ⟨2, ![4096, 11264]⟩
abbrev S5632 : Shape := ⟨1, ![5632]⟩
abbrev S22x256x256 : Shape := ⟨3, ![22, 256, 256]⟩
abbrev S5632x4096 : Shape := ⟨2, ![5632, 4096]⟩
abbrev S4x2048x11264 : Shape := ⟨3, ![4, 2048, 11264]⟩
abbrev S4x2048x5632 : Shape := ⟨3, ![4, 2048, 5632]⟩
abbrev S4x2051x5632 : Shape := ⟨3, ![4, 2051, 5632]⟩
abbrev S1x1x5632 : Shape := ⟨3, ![1, 1, 5632]⟩
abbrev S4x2048x22x256 : Shape := ⟨4, ![4, 2048, 22, 256]⟩
abbrev S22x256x4x2048 : Shape := ⟨4, ![22, 256, 4, 2048]⟩
abbrev S2048x4x5632 : Shape := ⟨3, ![2048, 4, 5632]⟩
abbrev S4x1x5632 : Shape := ⟨3, ![4, 1, 5632]⟩
abbrev S1x4x3x5632 : Shape := ⟨4, ![1, 4, 3, 5632]⟩

abbrev nBuf : Space → Nat
  | .hbm => 289
  | .vmem => 0
  | .smem => 0
  | _ => 0

abbrev hbmTy0_0 (i : Nat) : BufTy := match i % 128 with
  | 0 => ⟨S4x2048x4096, .bf16⟩
  | 1 => ⟨S4x2048x4096, .f32⟩
  | 2 => ⟨S2x4096, .f32⟩
  | 3 => ⟨S2x4096, .f32⟩
  | 4 => ⟨S4096, .f32⟩
  | 5 => ⟨S1x4096x4096, .f32⟩
  | 6 => ⟨S1x4096x11264, .f32⟩
  | 7 => ⟨S1x4x5632, .f32⟩
  | 8 => ⟨S1x5632, .f32⟩
  | 9 => ⟨S1x22x256x256, .f32⟩
  | 10 => ⟨S1x5632, .f32⟩
  | 11 => ⟨S1x22x256x256, .f32⟩
  | 12 => ⟨S1x5632, .f32⟩
  | 13 => ⟨S1x5632, .f32⟩
  | 14 => ⟨S1x5632x4096, .f32⟩
  | 15 => ⟨S2x4096x22016, .f32⟩
  | 16 => ⟨S2x11008x4096, .f32⟩
  | 17 => ⟨S_, .f32⟩
  | 18 => ⟨S4x3x5632, .f32⟩
  | 19 => ⟨S_, .f32⟩
  | 20 => ⟨S4x5632, .f32⟩
  | 21 => ⟨S4x2048x4096, .f32⟩
  | 22 => ⟨S4096x4096, .f32⟩
  | 23 => ⟨S4x2048x4096, .f32⟩
  | 24 => ⟨S4x2048x4096, .f32⟩
  | 25 => ⟨S1x4096, .f32⟩
  | 26 => ⟨S4096, .f32⟩
  | 27 => ⟨S4x2048x4096, .f32⟩
  | 28 => ⟨S_, .f32⟩
  | 29 => ⟨S4x2048, .f32⟩
  | 30 => ⟨S4x2048x1, .f32⟩
  | 31 => ⟨S_, .f32⟩
  | 32 => ⟨S4x2048x1, .f32⟩
  | 33 => ⟨S4x2048x1, .f32⟩
  | 34 => ⟨S_, .f32⟩
  | 35 => ⟨S4x2048x1, .f32⟩
  | 36 => ⟨S4x2048x1, .f32⟩
  | 37 => ⟨S4x2048x1, .f32⟩
  | 38 => ⟨S4x2048x4096, .f32⟩
  | 39 => ⟨S4x2048x4096, .f32⟩
  | 40 => ⟨S1x1x4096, .f32⟩
  | 41 => ⟨S4x2048x4096, .f32⟩
  | 42 => ⟨S4x2048x4096, .f32⟩
  | 43 => ⟨S1x4096x22016, .f32⟩
  | 44 => ⟨S4096x22016, .f32⟩
  | 45 => ⟨S1x11008x4096, .f32⟩
  | 46 => ⟨S11008x4096, .f32⟩
  | 47 => ⟨S4x2048x22016, .f32⟩
  | 48 => ⟨S4x2048x11008, .f32⟩
  | 49 => ⟨S4x2048x11008, .f32⟩
  | 50 => ⟨S4x2048x11008, .f32⟩
  | 51 => ⟨S4x2048x11008, .f32⟩
  | 52 => ⟨S_, .f32⟩
  | 53 => ⟨S4x2048x11008, .f32⟩
  | 54 => ⟨S4x2048x11008, .f32⟩
  | 55 => ⟨S_, .f32⟩
  | 56 => ⟨S4x2048x11008, .f32⟩
  | 57 => ⟨S4x2048x11008, .f32⟩
  | 58 => ⟨S4x2048x11008, .f32⟩
  | 59 => ⟨S4x2048x11008, .f32⟩
  | 60 => ⟨S4x2048x4096, .f32⟩
  | 61 => ⟨S4x2048x4096, .f32⟩
  | 62 => ⟨S1x4096, .f32⟩
  | 63 => ⟨S4096, .f32⟩
  | 64 => ⟨S4x2048x4096, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S4x2048x1, .f32⟩
  | 75 => ⟨S4x2048x4096, .f32⟩
  | 76 => ⟨S4x2048x4096, .f32⟩
  | 77 => ⟨S1x1x4096, .f32⟩
  | 78 => ⟨S4x2048x4096, .f32⟩
  | 79 => ⟨S4x2048x4096, .f32⟩
  | 80 => ⟨S4096x11264, .f32⟩
  | 81 => ⟨S4x5632, .f32⟩
  | 82 => ⟨S5632, .f32⟩
  | 83 => ⟨S22x256x256, .f32⟩
  | 84 => ⟨S5632, .f32⟩
  | 85 => ⟨S22x256x256, .f32⟩
  | 86 => ⟨S5632, .f32⟩
  | 87 => ⟨S5632, .f32⟩
  | 88 => ⟨S5632x4096, .f32⟩
  | 89 => ⟨S4x2048x11264, .f32⟩
  | 90 => ⟨S4x2048x5632, .f32⟩
  | 91 => ⟨S4x2048x5632, .f32⟩
  | 92 => ⟨S4x2051x5632, .f32⟩
  | 93 => ⟨S4x2048x5632, .f32⟩
  | 94 => ⟨S1x5632, .f32⟩
  | 95 => ⟨S5632, .f32⟩
  | 96 => ⟨S1x1x5632, .f32⟩
  | 97 => ⟨S4x2048x5632, .f32⟩
  | 98 => ⟨S4x2048x5632, .f32⟩
  | 99 => ⟨S1x1x5632, .f32⟩
  | 100 => ⟨S4x2048x5632, .f32⟩
  | 101 => ⟨S4x2048x5632, .f32⟩
  | 102 => ⟨S4x2048x5632, .f32⟩
  | 103 => ⟨S1x5632, .f32⟩
  | 104 => ⟨S5632, .f32⟩
  | 105 => ⟨S1x1x5632, .f32⟩
  | 106 => ⟨S4x2048x5632, .f32⟩
  | 107 => ⟨S4x2048x5632, .f32⟩
  | 108 => ⟨S4x2048x5632, .f32⟩
  | 109 => ⟨S4x2048x5632, .f32⟩
  | 110 => ⟨S1x5632, .f32⟩
  | 111 => ⟨S5632, .f32⟩
  | 112 => ⟨S1x1x5632, .f32⟩
  | 113 => ⟨S4x2048x5632, .f32⟩
  | 114 => ⟨S4x2048x5632, .f32⟩
  | 115 => ⟨S4x2048x5632, .f32⟩
  | 116 => ⟨S4x2048x5632, .f32⟩
  | 117 => ⟨S1x5632, .f32⟩
  | 118 => ⟨S5632, .f32⟩
  | 119 => ⟨S1x1x5632, .f32⟩
  | 120 => ⟨S4x2048x5632, .f32⟩
  | 121 => ⟨S4x2048x5632, .f32⟩
  | 122 => ⟨S4x2048x5632, .f32⟩
  | 123 => ⟨S4x2048x22x256, .f32⟩
  | 124 => ⟨S22x256x4x2048, .f32⟩
  | 125 => ⟨S4x2048x22x256, .f32⟩
  | 126 => ⟨S4x2048x5632, .f32⟩
  | 127 => ⟨S1x1x5632, .f32⟩
  | _ => ⟨S4x2048x4096, .bf16⟩

abbrev hbmTy0_1 (i : Nat) : BufTy := match i % 128 with
  | 0 => ⟨S4x2048x5632, .f32⟩
  | 1 => ⟨S4x2048x5632, .f32⟩
  | 2 => ⟨S4x2048x5632, .f32⟩
  | 3 => ⟨S4x2048x5632, .f32⟩
  | 4 => ⟨S_, .f32⟩
  | 5 => ⟨S4x2048x5632, .f32⟩
  | 6 => ⟨S4x2048x5632, .f32⟩
  | 7 => ⟨S_, .f32⟩
  | 8 => ⟨S4x2048x5632, .f32⟩
  | 9 => ⟨S4x2048x5632, .f32⟩
  | 10 => ⟨S22x256x4x2048, .f32⟩
  | 11 => ⟨S4x2048x22x256, .f32⟩
  | 12 => ⟨S4x2048x5632, .f32⟩
  | 13 => ⟨S1x1x5632, .f32⟩
  | 14 => ⟨S4x2048x5632, .f32⟩
  | 15 => ⟨S4x2048x5632, .f32⟩
  | 16 => ⟨S4x2048x5632, .f32⟩
  | 17 => ⟨S4x2048x5632, .f32⟩
  | 18 => ⟨S_, .f32⟩
  | 19 => ⟨S4x2048x5632, .f32⟩
  | 20 => ⟨S4x2048x5632, .f32⟩
  | 21 => ⟨S_, .f32⟩
  | 22 => ⟨S4x2048x5632, .f32⟩
  | 23 => ⟨S4x2048x5632, .f32⟩
  | 24 => ⟨S_, .f32⟩
  | 25 => ⟨S4x2048x5632, .f32⟩
  | 26 => ⟨S4x2048x5632, .f32⟩
  | 27 => ⟨S5632, .f32⟩
  | 28 => ⟨S_, .f32⟩
  | 29 => ⟨S5632, .f32⟩
  | 30 => ⟨S5632, .f32⟩
  | 31 => ⟨S5632, .f32⟩
  | 32 => ⟨S5632, .f32⟩
  | 33 => ⟨S5632, .i1⟩
  | 34 => ⟨S5632, .f32⟩
  | 35 => ⟨S5632, .f32⟩
  | 36 => ⟨S5632, .f32⟩
  | 37 => ⟨S5632, .f32⟩
  | 38 => ⟨S5632, .f32⟩
  | 39 => ⟨S5632, .f32⟩
  | 40 => ⟨S5632, .f32⟩
  | 41 => ⟨S5632, .f32⟩
  | 42 => ⟨S1x1x5632, .f32⟩
  | 43 => ⟨S4x2048x5632, .f32⟩
  | 44 => ⟨S4x2048x5632, .f32⟩
  | 45 => ⟨S4x2048x5632, .f32⟩
  | 46 => ⟨S_, .f32⟩
  | 47 => ⟨S4x2048x5632, .f32⟩
  | 48 => ⟨S4x2048x5632, .f32⟩
  | 49 => ⟨S4x2048x5632, .f32⟩
  | 50 => ⟨S4x2048x5632, .f32⟩
  | 51 => ⟨S4x2048x5632, .f32⟩
  | 52 => ⟨S4x2048x5632, .f32⟩
  | 53 => ⟨S4x2048x5632, .f32⟩
  | 54 => ⟨S2048x4x5632, .f32⟩
  | 55 => ⟨S2048x4x5632, .f32⟩
  | 56 => ⟨S_, .f32⟩
  | 57 => ⟨S2048x4x5632, .f32⟩
  | 58 => ⟨S_, .i32⟩
  | 59 => ⟨S2048x4x5632, .f32⟩
  | 60 => ⟨S2048x4x5632, .f32⟩
  | 61 => ⟨S_, .i32⟩
  | 62 => ⟨S4x5632, .f32⟩
  | 63 => ⟨S2048x4x5632, .f32⟩
  | 64 => ⟨S_, .i32⟩
  | 65 => ⟨S_, .i1⟩
  | 66 => ⟨S_, .i32⟩
  | 67 => ⟨S_, .i32⟩
  | 68 => ⟨S1x4x5632, .f32⟩
  | 69 => ⟨S4x5632, .f32⟩
  | 70 => ⟨S_, .i32⟩
  | 71 => ⟨S_, .i32⟩
  | 72 => ⟨S1x4x5632, .f32⟩
  | 73 => ⟨S4x5632, .f32⟩
  | 74 => ⟨S4x5632, .f32⟩
  | 75 => ⟨S4x5632, .f32⟩
  | 76 => ⟨S1x4x5632, .f32⟩
  | 77 => ⟨S_, .i32⟩
  | 78 => ⟨S_, .i32⟩
  | 79 => ⟨S2048x4x5632, .f32⟩
  | 80 => ⟨S_, .i32⟩
  | 81 => ⟨S_, .i32⟩
  | 82 => ⟨S4x2048x5632, .f32⟩
  | 83 => ⟨S4x2048x5632, .f32⟩
  | 84 => ⟨S4x2048x5632, .f32⟩
  | 85 => ⟨S_, .f32⟩
  | 86 => ⟨S4x2048x5632, .f32⟩
  | 87 => ⟨S4x2048x5632, .f32⟩
  | 88 => ⟨S4x2048x5632, .f32⟩
  | 89 => ⟨S_, .f32⟩
  | 90 => ⟨S4x2048x5632, .f32⟩
  | 91 => ⟨S4x2048x5632, .f32⟩
  | 92 => ⟨S4x2048x5632, .f32⟩
  | 93 => ⟨S_, .f32⟩
  | 94 => ⟨S4x2048x5632, .f32⟩
  | 95 => ⟨S4x2048x5632, .f32⟩
  | 96 => ⟨S_, .f32⟩
  | 97 => ⟨S4x2048x5632, .f32⟩
  | 98 => ⟨S4x2048x5632, .f32⟩
  | 99 => ⟨S4x2048x5632, .f32⟩
  | 100 => ⟨S4x2048x5632, .f32⟩
  | 101 => ⟨S4x2048x4096, .f32⟩
  | 102 => ⟨S4x3x5632, .f32⟩
  | 103 => ⟨S4x1x5632, .f32⟩
  | 104 => ⟨S4x5632, .f32⟩
  | 105 => ⟨S4x2048x4096, .f32⟩
  | 106 => ⟨S1x4096, .f32⟩
  | 107 => ⟨S4096, .f32⟩
  | 108 => ⟨S4x2048x4096, .f32⟩
  | 109 => ⟨S_, .f32⟩
  | 110 => ⟨S4x2048, .f32⟩
  | 111 => ⟨S4x2048x1, .f32⟩
  | 112 => ⟨S_, .f32⟩
  | 113 => ⟨S4x2048x1, .f32⟩
  | 114 => ⟨S4x2048x1, .f32⟩
  | 115 => ⟨S_, .f32⟩
  | 116 => ⟨S4x2048x1, .f32⟩
  | 117 => ⟨S4x2048x1, .f32⟩
  | 118 => ⟨S4x2048x1, .f32⟩
  | 119 => ⟨S4x2048x4096, .f32⟩
  | 120 => ⟨S4x2048x4096, .f32⟩
  | 121 => ⟨S1x1x4096, .f32⟩
  | 122 => ⟨S4x2048x4096, .f32⟩
  | 123 => ⟨S4x2048x4096, .f32⟩
  | 124 => ⟨S1x4096x22016, .f32⟩
  | 125 => ⟨S4096x22016, .f32⟩
  | 126 => ⟨S1x11008x4096, .f32⟩
  | 127 => ⟨S11008x4096, .f32⟩
  | _ => ⟨S4x2048x4096, .bf16⟩

abbrev hbmTy0_2 (i : Nat) : BufTy := match i % 128 with
  | 0 => ⟨S4x2048x22016, .f32⟩
  | 1 => ⟨S4x2048x11008, .f32⟩
  | 2 => ⟨S4x2048x11008, .f32⟩
  | 3 => ⟨S4x2048x11008, .f32⟩
  | 4 => ⟨S4x2048x11008, .f32⟩
  | 5 => ⟨S_, .f32⟩
  | 6 => ⟨S4x2048x11008, .f32⟩
  | 7 => ⟨S4x2048x11008, .f32⟩
  | 8 => ⟨S_, .f32⟩
  | 9 => ⟨S4x2048x11008, .f32⟩
  | 10 => ⟨S4x2048x11008, .f32⟩
  | 11 => ⟨S4x2048x11008, .f32⟩
  | 12 => ⟨S4x2048x11008, .f32⟩
  | 13 => ⟨S4x2048x4096, .f32⟩
  | 14 => ⟨S4x2048x4096, .f32⟩
  | 15 => ⟨S4x2048x4096, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x4096, .f32⟩
  | 27 => ⟨S4x2048x4096, .f32⟩
  | 28 => ⟨S1x1x4096, .f32⟩
  | 29 => ⟨S4x2048x4096, .f32⟩
  | 30 => ⟨S4x2048x4096, .f32⟩
  | 31 => ⟨S1x4x3x5632, .f32⟩
  | 32 => ⟨S1x4x5632, .f32⟩
  | _ => ⟨S4x2048x4096, .bf16⟩

abbrev hbmTy (i : Nat) : BufTy := match i / 128 with
  | 0 => hbmTy0_0 i
  | 1 => hbmTy0_1 i
  | 2 => hbmTy0_2 i
  | _ => ⟨S4x2048x4096, .bf16⟩

abbrev bufTy : (tb : Table) → Fin (tcTables nBuf tb) → BufTy
  | .hbm, ⟨i, _⟩ => hbmTy i
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_7 : Ref sig .tc := ⟨.hbm, 132, rfl⟩
abbrev main_v99 : Ref sig .tc := ⟨.hbm, 133, rfl⟩
abbrev main_v100 : Ref sig .tc := ⟨.hbm, 134, rfl⟩
abbrev main_cst_8 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_9 : Ref sig .tc := ⟨.hbm, 146, rfl⟩
abbrev main_v111 : Ref sig .tc := ⟨.hbm, 147, rfl⟩
abbrev main_v112 : Ref sig .tc := ⟨.hbm, 148, rfl⟩
abbrev main_cst_10 : Ref sig .tc := ⟨.hbm, 149, rfl⟩
abbrev main_v113 : Ref sig .tc := ⟨.hbm, 150, rfl⟩
abbrev main_v114 : Ref sig .tc := ⟨.hbm, 151, rfl⟩
abbrev main_cst_11 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_v8 : Ref sig .tc := ⟨.hbm, 165, rfl⟩
abbrev main_call1_v9 : Ref sig .tc := ⟨.hbm, 166, rfl⟩
abbrev main_call1_v10 : Ref sig .tc := ⟨.hbm, 167, rfl⟩
abbrev main_call1_v11 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_12 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_13 : Ref sig .tc := ⟨.hbm, 184, rfl⟩
abbrev main_v132 : Ref sig .tc := ⟨.hbm, 185, rfl⟩
abbrev main_c : Ref sig .tc := ⟨.hbm, 186, rfl⟩
abbrev main_v133_0 : Ref sig .tc := ⟨.hbm, 187, rfl⟩
abbrev main_v133_1 : Ref sig .tc := ⟨.hbm, 188, rfl⟩
abbrev main_v133_2 : Ref sig .tc := ⟨.hbm, 189, rfl⟩
abbrev main_v133_3 : Ref sig .tc := ⟨.hbm, 190, rfl⟩
abbrev main_v133_4 : Ref sig .tc := ⟨.hbm, 191, rfl⟩
abbrev main_while0c_c_28 : Ref sig .tc := ⟨.hbm, 192, rfl⟩
abbrev main_while0c_v195 : Ref sig .tc := ⟨.hbm, 193, rfl⟩
abbrev main_while0b_call2_c : Ref sig .tc := ⟨.hbm, 194, rfl⟩
abbrev main_while0b_call2_c_0 : Ref sig .tc := ⟨.hbm, 195, rfl⟩
abbrev main_while0b_call2_v0 : Ref sig .tc := ⟨.hbm, 196, rfl⟩
abbrev main_while0b_v195 : Ref sig .tc := ⟨.hbm, 197, rfl⟩
abbrev main_while0b_call3_c : Ref sig .tc := ⟨.hbm, 198, rfl⟩
abbrev main_while0b_call3_c_0 : Ref sig .tc := ⟨.hbm, 199, rfl⟩
abbrev main_while0b_call3_v0 : Ref sig .tc := ⟨.hbm, 200, rfl⟩
abbrev main_while0b_v196 : Ref sig .tc := ⟨.hbm, 201, rfl⟩
abbrev main_while0b_v197 : Ref sig .tc := ⟨.hbm, 202, rfl⟩
abbrev main_while0b_v198 : Ref sig .tc := ⟨.hbm, 203, rfl⟩
abbrev main_while0b_call4_v0 : Ref sig .tc := ⟨.hbm, 204, rfl⟩
abbrev main_while0b_call4_c : Ref sig .tc := ⟨.hbm, 205, rfl⟩
abbrev main_while0b_call4_c_0 : Ref sig .tc := ⟨.hbm, 206, rfl⟩
abbrev main_while0b_v199 : Ref sig .tc := ⟨.hbm, 207, rfl⟩
abbrev main_while0b_c_28 : Ref sig .tc := ⟨.hbm, 208, rfl⟩
abbrev main_while0b_v200 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_cst_14 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_cst_15 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_cst_16 : Ref sig .tc := ⟨.hbm, 221, rfl⟩
abbrev main_v143 : Ref sig .tc := ⟨.hbm, 222, rfl⟩
abbrev main_v144 : Ref sig .tc := ⟨.hbm, 223, rfl⟩
abbrev main_cst_17 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_18 : Ref sig .tc := ⟨.hbm, 237, rfl⟩
abbrev main_v157 : Ref sig .tc := ⟨.hbm, 238, rfl⟩
abbrev main_v158 : Ref sig .tc := ⟨.hbm, 239, rfl⟩
abbrev main_cst_19 : Ref sig .tc := ⟨.hbm, 240, rfl⟩
abbrev main_v159 : Ref sig .tc := ⟨.hbm, 241, rfl⟩
abbrev main_v160 : Ref sig .tc := ⟨.hbm, 242, rfl⟩
abbrev main_cst_20 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_call5_v0 : Ref sig .tc := ⟨.hbm, 259, rfl⟩
abbrev main_call5_v1 : Ref sig .tc := ⟨.hbm, 260, rfl⟩
abbrev main_call5_cst : Ref sig .tc := ⟨.hbm, 261, rfl⟩
abbrev main_call5_v2 : Ref sig .tc := ⟨.hbm, 262, rfl⟩
abbrev main_call5_v3 : Ref sig .tc := ⟨.hbm, 263, rfl⟩
abbrev main_call5_cst_0 : Ref sig .tc := ⟨.hbm, 264, rfl⟩
abbrev main_call5_v4 : Ref sig .tc := ⟨.hbm, 265, rfl⟩
abbrev main_call5_v5 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_21 : Ref sig .tc := ⟨.hbm, 272, rfl⟩
abbrev main_v181 : Ref sig .tc := ⟨.hbm, 273, rfl⟩
abbrev main_v182 : Ref sig .tc := ⟨.hbm, 274, rfl⟩
abbrev main_cst_22 : Ref sig .tc := ⟨.hbm, 275, rfl⟩
abbrev main_v183 : Ref sig .tc := ⟨.hbm, 276, rfl⟩
abbrev main_v184 : Ref sig .tc := ⟨.hbm, 277, rfl⟩
abbrev main_cst_23 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩

abbrev nD : Nat := 1
abbrev τ : Topo := Topo.v7x

variable {F : FTy → Type} [FloatOps F]

abbrev main_while0_count : Scf.Loop 32 := ⟨0#32, 2048#32, 1#32⟩
-- ==== Sample.lean ====
abbrev S8x8x4096 : Shape := ⟨3, ![8, 8, 4096]⟩
abbrev S1x8x3x5632 : Shape := ⟨4, ![1, 8, 3, 5632]⟩
abbrev S1x8x5632 : Shape := ⟨3, ![1, 8, 5632]⟩
abbrev S2x4096 : Shape := ⟨2, ![2, 4096]⟩
abbrev S4096 : Shape := ⟨1, ![4096]⟩
abbrev S1x4096x4096 : Shape := ⟨3, ![1, 4096, 4096]⟩
abbrev S1x4096x11264 : Shape := ⟨3, ![1, 4096, 11264]⟩
abbrev S1x4x5632 : Shape := ⟨3, ![1, 4, 5632]⟩
abbrev S1x5632 : Shape := ⟨2, ![1, 5632]⟩
abbrev S1x22x256x256 : Shape := ⟨4, ![1, 22, 256, 256]⟩
abbrev S1x5632x4096 : Shape := ⟨3, ![1, 5632, 4096]⟩
abbrev S2x4096x22016 : Shape := ⟨3, ![2, 4096, 22016]⟩
abbrev S2x11008x4096 : Shape := ⟨3, ![2, 11008, 4096]⟩
abbrev S8x3x5632 : Shape := ⟨3, ![8, 3, 5632]⟩
abbrev S8x5632 : Shape := ⟨2, ![8, 5632]⟩
abbrev S64x4096 : Shape := ⟨2, ![64, 4096]⟩
abbrev S1x4096x512 : Shape := ⟨3, ![1, 4096, 512]⟩
abbrev S64x512 : Shape := ⟨2, ![64, 512]⟩
abbrev S4096x512 : Shape := ⟨2, ![4096, 512]⟩
abbrev S1x4096 : Shape := ⟨2, ![1, 4096]⟩
abbrev S64 : Shape := ⟨1, ![64]⟩
abbrev S64x1 : Shape := ⟨2, ![64, 1]⟩
abbrev S64x11008 : Shape := ⟨2, ![64, 11008]⟩
abbrev S1x4096x256 : Shape := ⟨3, ![1, 4096, 256]⟩
abbrev S64x256 : Shape := ⟨2, ![64, 256]⟩
abbrev S4096x256 : Shape := ⟨2, ![4096, 256]⟩
abbrev S1x11008x512 : Shape := ⟨3, ![1, 11008, 512]⟩
abbrev S11008x512 : Shape := ⟨2, ![11008, 512]⟩
abbrev S64x11264 : Shape := ⟨2, ![64, 11264]⟩
abbrev S1x4096x1024 : Shape := ⟨3, ![1, 4096, 1024]⟩
abbrev S64x1024 : Shape := ⟨2, ![64, 1024]⟩
abbrev S4096x1024 : Shape := ⟨2, ![4096, 1024]⟩
abbrev S8x8x11264 : Shape := ⟨3, ![8, 8, 11264]⟩
abbrev S4x5632 : Shape := ⟨2, ![4, 5632]⟩
abbrev S5632 : Shape := ⟨1, ![5632]⟩
abbrev S_ : Shape := ⟨0, ![]⟩
abbrev S8x5x5632 : Shape := ⟨3, ![8, 5, 5632]⟩
abbrev S8x8x5632 : Shape := ⟨3, ![8, 8, 5632]⟩
abbrev S8x1x5632 : Shape := ⟨3, ![8, 1, 5632]⟩
abbrev S1x8x256 : Shape := ⟨3, ![1, 8, 256]⟩
abbrev S1x1x256 : Shape := ⟨3, ![1, 1, 256]⟩
abbrev S4x256 : Shape := ⟨2, ![4, 256]⟩
abbrev S1x256 : Shape := ⟨2, ![1, 256]⟩
abbrev S1x1x256x256 : Shape := ⟨4, ![1, 1, 256, 256]⟩
abbrev S16x256 : Shape := ⟨2, ![16, 256]⟩
abbrev S8x256 : Shape := ⟨2, ![8, 256]⟩
abbrev S256x256 : Shape := ⟨2, ![256, 256]⟩
abbrev S64x5632 : Shape := ⟨2, ![64, 5632]⟩
abbrev S1x5632x512 : Shape := ⟨3, ![1, 5632, 512]⟩
abbrev S5632x512 : Shape := ⟨2, ![5632, 512]⟩

abbrev nBuf : Space → Nat
  | .hbm => 75
  | .vmem => 90
  | .smem => 0
  | _ => 0

abbrev bufTy : (tb : Table) → Fin (tcTables nBuf tb) → BufTy
  | .hbm, ⟨0, _⟩ => ⟨S8x8x4096, .f32⟩
  | .hbm, ⟨1, _⟩ => ⟨S8x8x4096, .f32⟩
  | .hbm, ⟨2, _⟩ => ⟨S1x8x3x5632, .f32⟩
  | .hbm, ⟨3, _⟩ => ⟨S1x8x5632, .f32⟩
  | .hbm, ⟨4, _⟩ => ⟨S2x4096, .f32⟩
  | .hbm, ⟨5, _⟩ => ⟨S2x4096, .f32⟩
  | .hbm, ⟨6, _⟩ => ⟨S4096, .f32⟩
  | .hbm, ⟨7, _⟩ => ⟨S1x4096x4096, .f32⟩
  | .hbm, ⟨8, _⟩ => ⟨S1x4096x11264, .f32⟩
  | .hbm, ⟨9, _⟩ => ⟨S1x4x5632, .f32⟩
  | .hbm, ⟨10, _⟩ => ⟨S1x5632, .f32⟩
  | .hbm, ⟨11, _⟩ => ⟨S1x22x256x256, .f32⟩
  | .hbm, ⟨12, _⟩ => ⟨S1x5632, .f32⟩
  | .hbm, ⟨13, _⟩ => ⟨S1x22x256x256, .f32⟩
  | .hbm, ⟨14, _⟩ => ⟨S1x5632, .f32⟩
  | .hbm, ⟨15, _⟩ => ⟨S1x5632, .f32⟩
  | .hbm, ⟨16, _⟩ => ⟨S1x5632x4096, .f32⟩
  | .hbm, ⟨17, _⟩ => ⟨S2x4096x22016, .f32⟩
  | .hbm, ⟨18, _⟩ => ⟨S2x11008x4096, .f32⟩
  | .hbm, ⟨19, _⟩ => ⟨S8x3x5632, .f32⟩
  | .hbm, ⟨20, _⟩ => ⟨S8x5632, .f32⟩
  | .hbm, ⟨21, _⟩ => ⟨S2x11008x4096, .bf16⟩
  | .hbm, ⟨22, _⟩ => ⟨S64x4096, .f32⟩
  | .hbm, ⟨23, _⟩ => ⟨S64x4096, .bf16⟩
  | .hbm, ⟨24, _⟩ => ⟨S1x4096x4096, .bf16⟩
  | .hbm, ⟨25, _⟩ => ⟨S64x4096, .f32⟩
  | .hbm, ⟨26, _⟩ => ⟨S64x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S64x4096, .bf16⟩
  | .hbm, ⟨31, _⟩ => ⟨S64x11008, .bf16⟩
  | .hbm, ⟨32, _⟩ => ⟨S64x4096, .f32⟩
  | .hbm, ⟨33, _⟩ => ⟨S1x4096, .f32⟩
  | .hbm, ⟨34, _⟩ => ⟨S4096, .f32⟩
  | .hbm, ⟨35, _⟩ => ⟨S1x4096, .f32⟩
  | .hbm, ⟨36, _⟩ => ⟨S64x4096, .bf16⟩
  | .hbm, ⟨37, _⟩ => ⟨S1x4096x11264, .bf16⟩
  | .hbm, ⟨38, _⟩ => ⟨S64x11264, .f32⟩
  | .hbm, ⟨39, _⟩ => ⟨S8x8x11264, .f32⟩
  | .hbm, ⟨40, _⟩ => ⟨S4x5632, .f32⟩
  | .hbm, ⟨41, _⟩ => ⟨S5632, .f32⟩
  | .hbm, ⟨42, _⟩ => ⟨S1x22x256x256, .bf16⟩
  | .hbm, ⟨43, _⟩ => ⟨S5632, .f32⟩
  | .hbm, ⟨44, _⟩ => ⟨S1x22x256x256, .bf16⟩
  | .hbm, ⟨45, _⟩ => ⟨S5632, .f32⟩
  | .hbm, ⟨46, _⟩ => ⟨S5632, .f32⟩
  | .hbm, ⟨47, _⟩ => ⟨S_, .f32⟩
  | .hbm, ⟨48, _⟩ => ⟨S8x5x5632, .f32⟩
  | .hbm, ⟨49, _⟩ => ⟨S8x8x5632, .f32⟩
  | .hbm, ⟨50, _⟩ => ⟨S8x1x5632, .f32⟩
  | .hbm, ⟨51, _⟩ => ⟨S1x5632, .f32⟩
  | .hbm, ⟨52, _⟩ => ⟨S1x5632, .f32⟩
  | .hbm, ⟨53, _⟩ => ⟨S1x5632, .f32⟩
  | .hbm, ⟨54, _⟩ => ⟨S1x5632, .f32⟩
  | .hbm, ⟨55, _⟩ => ⟨S8x8x5632, .bf16⟩
  | .hbm, ⟨56, _⟩ => ⟨S8x8x5632, .f32⟩
  | .hbm, ⟨57, _⟩ => ⟨S8x8x5632, .f32⟩
  | .hbm, ⟨58, _⟩ => ⟨S8x3x5632, .f32⟩
  | .hbm, ⟨59, _⟩ => ⟨S8x1x5632, .f32⟩
  | .hbm, ⟨60, _⟩ => ⟨S8x5632, .f32⟩
  | .hbm, ⟨61, _⟩ => ⟨S64x5632, .bf16⟩
  | .hbm, ⟨62, _⟩ => ⟨S1x5632x4096, .bf16⟩
  | .hbm, ⟨63, _⟩ => ⟨S64x4096, .f32⟩
  | .hbm, ⟨64, _⟩ => ⟨S1x4096, .f32⟩
  | .hbm, ⟨65, _⟩ => ⟨S4096, .f32⟩
  | .hbm, ⟨66, _⟩ => ⟨S1x4096, .f32⟩
  | .hbm, ⟨67, _⟩ => ⟨S64x4096, .bf16⟩
  | .hbm, ⟨68, _⟩ => ⟨S64x11008, .bf16⟩
  | .hbm, ⟨69, _⟩ => ⟨S64x4096, .f32⟩
  | .hbm, ⟨70, _⟩ => ⟨S1x4096, .f32⟩
  | .hbm, ⟨71, _⟩ => ⟨S64x4096, .f32⟩
  | .hbm, ⟨72, _⟩ => ⟨S8x8x4096, .f32⟩
  | .hbm, ⟨73, _⟩ => ⟨S1x8x3x5632, .f32⟩
  | .hbm, ⟨74, _⟩ => ⟨S1x8x5632, .f32⟩
  | .local _ .vmem, ⟨0, _⟩ => ⟨S64x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x4096, .f32⟩
  | .local _ .vmem, ⟨8, _⟩ => ⟨S1x4096, .f32⟩
  | .local _ .vmem, ⟨9, _⟩ => ⟨S64x4096, .bf16⟩
  | .local _ .vmem, ⟨10, _⟩ => ⟨S64x4096, .bf16⟩
  | .local _ .vmem, ⟨11, _⟩ => ⟨S1x4096x256, .f32⟩
  | .local _ .vmem, ⟨12, _⟩ => ⟨S1x4096x256, .f32⟩
  | .local _ .vmem, ⟨13, _⟩ => ⟨S1x4096x256, .f32⟩
  | .local _ .vmem, ⟨14, _⟩ => ⟨S1x4096x256, .f32⟩
  | .local _ .vmem, ⟨15, _⟩ => ⟨S64x256, .bf16⟩
  | .local _ .vmem, ⟨16, _⟩ => ⟨S64x256, .bf16⟩
  | .local _ .vmem, ⟨17, _⟩ => ⟨S64x11008, .bf16⟩
  | .local _ .vmem, ⟨18, _⟩ => ⟨S1x11008x512, .bf16⟩
  | .local _ .vmem, ⟨19, _⟩ => ⟨S1x11008x512, .bf16⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S64x4096, .f32⟩
  | .local _ .vmem, ⟨25, _⟩ => ⟨S1x4096, .f32⟩
  | .local _ .vmem, ⟨26, _⟩ => ⟨S64x4096, .bf16⟩
  | .local _ .vmem, ⟨27, _⟩ => ⟨S64x4096, .bf16⟩
  | .local _ .vmem, ⟨28, _⟩ => ⟨S1x4096x1024, .bf16⟩
  | .local _ .vmem, ⟨29, _⟩ => ⟨S1x4096x1024, .bf16⟩
  | .local _ .vmem, ⟨30, _⟩ => ⟨S64x1024, .f32⟩
  | .local _ .vmem, ⟨31, _⟩ => ⟨S64x1024, .f32⟩
  | .local _ .vmem, ⟨32, _⟩ => ⟨S1x8x256, .f32⟩
  | .local _ .vmem, ⟨33, _⟩ => ⟨S1x8x256, .f32⟩
  | .local _ .vmem, ⟨34, _⟩ => ⟨S1x8x256, .f32⟩
  | .local _ .vmem, ⟨35, _⟩ => ⟨S1x8x256, .f32⟩
  | .local _ .vmem, ⟨36, _⟩ => ⟨S1x8x256, .f32⟩
  | .local _ .vmem, ⟨37, _⟩ => ⟨S1x8x256, .f32⟩
  | .local _ .vmem, ⟨38, _⟩ => ⟨S1x1x256, .f32⟩
  | .local _ .vmem, ⟨39, _⟩ => ⟨S1x1x256, .f32⟩
  | .local _ .vmem, ⟨40, _⟩ => ⟨S4x256, .f32⟩
  | .local _ .vmem, ⟨41, _⟩ => ⟨S4x256, .f32⟩
  | .local _ .vmem, ⟨42, _⟩ => ⟨S1x256, .f32⟩
  | .local _ .vmem, ⟨43, _⟩ => ⟨S1x256, .f32⟩
  | .local _ .vmem, ⟨44, _⟩ => ⟨S1x1x256x256, .bf16⟩
  | .local _ .vmem, ⟨45, _⟩ => ⟨S1x1x256x256, .bf16⟩
  | .local _ .vmem, ⟨46, _⟩ => ⟨S1x256, .f32⟩
  | .local _ .vmem, ⟨47, _⟩ => ⟨S1x256, .f32⟩
  | .local _ .vmem, ⟨48, _⟩ => ⟨S1x1x256x256, .bf16⟩
  | .local _ .vmem, ⟨49, _⟩ => ⟨S1x1x256x256, .bf16⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S1x8x256, .bf16⟩
  | .local _ .vmem, ⟨55, _⟩ => ⟨S1x8x256, .bf16⟩
  | .local _ .vmem, ⟨56, _⟩ => ⟨S1x8x256, .f32⟩
  | .local _ .vmem, ⟨57, _⟩ => ⟨S1x8x256, .f32⟩
  | .local _ .vmem, ⟨58, _⟩ => ⟨S1x8x256, .f32⟩
  | .local _ .vmem, ⟨59, _⟩ => ⟨S1x8x256, .f32⟩
  | .local _ .vmem, ⟨60, _⟩ => ⟨S16x256, .f32⟩
  | .local _ .vmem, ⟨61, _⟩ => ⟨S8x256, .f32⟩
  | .local _ .vmem, ⟨62, _⟩ => ⟨S8x256, .f32⟩
  | .local _ .vmem, ⟨63, _⟩ => ⟨S64x5632, .bf16⟩
  | .local _ .vmem, ⟨64, _⟩ => ⟨S1x5632x512, .bf16⟩
  | .local _ .vmem, ⟨65, _⟩ => ⟨S1x5632x512, .bf16⟩
  | .local _ .vmem, ⟨66, _⟩ => ⟨S64x512, .f32⟩
  | .local _ .vmem, ⟨67, _⟩ => ⟨S64x512, .f32⟩
  | .local _ .vmem, ⟨68, _⟩ => ⟨S64x512, .f32⟩
  | .local _ .vmem, ⟨69, _⟩ => ⟨S64x512, .f32⟩
  | .local _ .vmem, ⟨70, _⟩ => ⟨S64x4096, .f32⟩
  | .local _ .vmem, ⟨71, _⟩ => ⟨S1x4096, .f32⟩
  | .local _ .vmem, ⟨72, _⟩ => ⟨S64x4096, .bf16⟩
  | .local _ .vmem, ⟨73, _⟩ => ⟨S64x4096, .bf16⟩
  | .local _ .vmem, ⟨74, _⟩ => ⟨S1x4096x256, .f32⟩
  | .local _ .vmem, ⟨75, _⟩ => ⟨S1x4096x256, .f32⟩
  | .local _ .vmem, ⟨76, _⟩ => ⟨S1x4096x256, .f32⟩
  | .local _ .vmem, ⟨77, _⟩ => ⟨S1x4096x256, .f32⟩
  | .local _ .vmem, ⟨78, _⟩ => ⟨S64x256, .bf16⟩
  | .local _ .vmem, ⟨79, _⟩ => ⟨S64x256, .bf16⟩
  | .local _ .vmem, ⟨80, _⟩ => ⟨S64x11008, .bf16⟩
  | .local _ .vmem, ⟨81, _⟩ => ⟨S1x11008x512, .bf16⟩
  | .local _ .vmem, ⟨82, _⟩ => ⟨S1x11008x512, .bf16⟩
  | .local _ .vmem, ⟨83, _⟩ => ⟨S64x512, .f32⟩
  | .local _ .vmem, ⟨84, _⟩ => ⟨S64x512, .f32⟩
  | .local _ .vmem, ⟨85, _⟩ => ⟨S64x512, .f32⟩
  | .local _ .vmem, ⟨86, _⟩ => ⟨S64x512, .f32⟩
  | .local _ .vmem, ⟨87, _⟩ => ⟨S64x4096, .f32⟩
  | .local _ .vmem, ⟨88, _⟩ => ⟨S1x4096, .f32⟩
  | .local _ .vmem, ⟨89, _⟩ => ⟨S64x4096, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_v35_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc6_stg4_0 : Ref sig .tc := ⟨.vmem, 40, rfl⟩
abbrev cc6_stg4_1 : Ref sig .tc := ⟨.vmem, 41, rfl⟩
abbrev cc6_stg5_0 : Ref sig .tc := ⟨.vmem, 42, rfl⟩
abbrev cc6_stg5_1 : Ref sig .tc := ⟨.vmem, 43, rfl⟩
abbrev cc6_stg6_0 : Ref sig .tc := ⟨.vmem, 44, rfl⟩
abbrev cc6_stg6_1 : Ref sig .tc := ⟨.vmem, 45, rfl⟩
abbrev cc6_stg7_0 : Ref sig .tc := ⟨.vmem, 46, rfl⟩
abbrev cc6_stg7_1 : Ref sig .tc := ⟨.vmem, 47, rfl⟩
abbrev cc6_stg8_0 : Ref sig .tc := ⟨.vmem, 48, rfl⟩
abbrev cc6_stg8_1 : Ref sig .tc := ⟨.vmem, 49, rfl⟩
abbrev cc6_stg9_0 : Ref sig .tc := ⟨.vmem, 50, rfl⟩
abbrev cc6_stg9_1 : Ref sig .tc := ⟨.vmem, 51, rfl⟩
abbrev cc6_stg10_0 : Ref sig .tc := ⟨.vmem, 52, rfl⟩
abbrev cc6_stg10_1 : Ref sig .tc := ⟨.vmem, 53, rfl⟩
abbrev cc6_stg11_0 : Ref sig .tc := ⟨.vmem, 54, rfl⟩
abbrev cc6_stg11_1 : Ref sig .tc := ⟨.vmem, 55, rfl⟩
abbrev cc6_stg12_0 : Ref sig .tc := ⟨.vmem, 56, rfl⟩
abbrev cc6_stg12_1 : Ref sig .tc := ⟨.vmem, 57, rfl⟩
abbrev cc6_stg13_0 : Ref sig .tc := ⟨.vmem, 58, rfl⟩
abbrev cc6_stg13_1 : Ref sig .tc := ⟨.vmem, 59, rfl⟩
abbrev cc6_scratch0 : Ref sig .tc := ⟨.vmem, 60, rfl⟩
abbrev cc6_scratch1 : Ref sig .tc := ⟨.vmem, 61, rfl⟩
abbrev cc6_scratch2 : Ref sig .tc := ⟨.vmem, 62, rfl⟩
abbrev cc7_stg0_0 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc8_stg0_0 : Ref sig .tc := ⟨.vmem, 70, rfl⟩
abbrev cc8_stg1_0 : Ref sig .tc := ⟨.vmem, 71, rfl⟩
abbrev cc8_stg2_0 : Ref sig .tc := ⟨.vmem, 72, rfl⟩
abbrev cc9_stg0_0 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg2_1 : Ref sig .tc := ⟨.vmem, 77, rfl⟩
abbrev cc9_stg3_0 : Ref sig .tc := ⟨.vmem, 78, rfl⟩
abbrev cc9_stg3_1 : Ref sig .tc := ⟨.vmem, 79, rfl⟩
abbrev cc10_stg0_0 : Ref sig .tc := ⟨.vmem, 80, rfl⟩
abbrev cc10_stg1_0 : Ref sig .tc := ⟨.vmem, 81, rfl⟩
abbrev cc10_stg1_1 : Ref sig .tc := ⟨.vmem, 82, rfl⟩
abbrev cc10_stg2_0 : Ref sig .tc := ⟨.vmem, 83, rfl⟩
abbrev cc10_stg2_1 : Ref sig .tc := ⟨.vmem, 84, rfl⟩
abbrev cc10_stg3_0 : Ref sig .tc := ⟨.vmem, 85, rfl⟩
abbrev cc10_stg3_1 : Ref sig .tc := ⟨.vmem, 86, rfl⟩
abbrev cc11_stg0_0 : Ref sig .tc := ⟨.vmem, 87, rfl⟩
abbrev cc11_stg1_0 : Ref sig .tc := ⟨.vmem, 88, rfl⟩
abbrev cc11_stg2_0 : Ref sig .tc := ⟨.vmem, 89, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38
abbrev cc6_sem3_1 : DmaSem sig := 39
abbrev cc6_sem4_0 : DmaSem sig := 40
abbrev cc6_sem4_1 : DmaSem sig := 41
abbrev cc6_sem5_0 : DmaSem sig := 42
abbrev cc6_sem5_1 : DmaSem sig := 43
abbrev cc6_sem6_0 : DmaSem sig := 44
abbrev cc6_sem6_1 : DmaSem sig := 45
abbrev cc6_sem7_0 : DmaSem sig := 46
abbrev cc6_sem7_1 : DmaSem sig := 47
abbrev cc6_sem8_0 : DmaSem sig := 48
abbrev cc6_sem8_1 : DmaSem sig := 49
abbrev cc6_sem9_0 : DmaSem sig := 50
abbrev cc6_sem9_1 : DmaSem sig := 51
abbrev cc6_sem10_0 : DmaSem sig := 52
abbrev cc6_sem10_1 : DmaSem sig := 53
abbrev cc6_sem11_0 : DmaSem sig := 54
abbrev cc6_sem11_1 : DmaSem sig := 55
abbrev cc6_sem12_0 : DmaSem sig := 56
abbrev cc6_sem12_1 : DmaSem sig := 57
abbrev cc6_sem13_0 : DmaSem sig := 58
abbrev cc6_sem13_1 : DmaSem sig := 59
abbrev cc7_sem0_0 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem3_1 : DmaSem sig := 66
abbrev cc8_sem0_0 : DmaSem sig := 67
abbrev cc8_sem1_0 : DmaSem sig := 68
abbrev cc8_sem2_0 : DmaSem sig := 69
abbrev cc9_sem0_0 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem3_1 : DmaSem sig := 76
abbrev cc10_sem0_0 : DmaSem sig := 77
abbrev cc10_sem1_0 : DmaSem sig := 78
abbrev cc10_sem1_1 : DmaSem sig := 79
abbrev cc10_sem2_0 : DmaSem sig := 80
abbrev cc10_sem2_1 : DmaSem sig := 81
abbrev cc10_sem3_0 : DmaSem sig := 82
abbrev cc10_sem3_1 : DmaSem sig := 83
abbrev cc11_sem0_0 : DmaSem sig := 84
abbrev cc11_sem1_0 : DmaSem sig := 85
abbrev cc11_sem2_0 : DmaSem sig := 86

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![1, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S64x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S64x11008 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S1x11008x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S64x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S64x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x4096 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨2, ![1, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S64x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S1x4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S64x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 22], ![false, false]⟩

def k6_mult1 : BitVec 32 :=
  let c0_i32 : BitVec 32 := 0#32
  let c8_i32 : BitVec 32 := 8#32
  let v90 : BitVec 32 := Scalar.muli c0_i32 c8_i32
  v90
def k6_off1 : Fin 2 → Nat :=
  let c0_i32 : BitVec 32 := 0#32
  let c8_i32 : BitVec 32 := 8#32
  let v90 : BitVec 32 := Scalar.muli c0_i32 c8_i32
  let v91 : BitVec 32 := v90
  let v92 : Index := Scalar.indexCast v91
  let c0_48 : Index := 0#32
  ![v92.toNat, 0]
def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![arg0.toNat, c0_i32.toNat, v0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_6 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_8 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_11 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_12 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_13 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x8x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x8x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x8x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x1x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S4x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S1x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S1x1x256x256 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev stage6_7 : Fin 2 → Memref sig .tc .vmem S1x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![false, true]

abbrev stage6_8 : Fin 2 → Memref sig .tc .vmem S1x1x256x256 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![false, true]

abbrev stage6_9 : Fin 2 → Memref sig .tc .vmem S1x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![false, true]

abbrev stage6_10 : Fin 2 → Memref sig .tc .vmem S1x256 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![false, true]

abbrev stage6_11 : Fin 2 → Memref sig .tc .vmem S1x8x256 .bf16 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true, true]

abbrev stage6_12 : Fin 2 → Memref sig .tc .vmem S1x8x256 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true, true]

abbrev stage6_13 : Fin 2 → Memref sig .tc .vmem S1x8x256 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true, true]

abbrev grid7 : Pipeline.Grid := ⟨2, ![1, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S64x5632 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S1x5632x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S64x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S64x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S64x4096 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1x4096 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64x4096 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev grid9 : Pipeline.Grid := ⟨2, ![1, 43], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc9_transform_2 (i : grid9.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c1_i32 : BitVec 32 := 1#32
  let c0_i32 : BitVec 32 := 0#32
  let c0_i32_0 : BitVec 32 := 0#32
  ![c1_i32.toNat, c0_i32.toNat, v0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S64x4096 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 2 → Memref sig .tc .vmem S1x4096x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1x4096x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S64x256 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![1, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S64x11008 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 2 → Memref sig .tc .vmem S1x11008x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S64x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S64x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S64x4096 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1x4096 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S64x4096 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]
-- ==== SampleReferenceIdeal.lean ====
abbrev S8x8x4096 : Shape := ⟨3, ![8, 8, 4096]⟩
abbrev S1x8x3x5632 : Shape := ⟨4, ![1, 8, 3, 5632]⟩
abbrev S1x8x5632 : Shape := ⟨3, ![1, 8, 5632]⟩
abbrev S2x4096 : Shape := ⟨2, ![2, 4096]⟩
abbrev S4096 : Shape := ⟨1, ![4096]⟩
abbrev S1x4096x4096 : Shape := ⟨3, ![1, 4096, 4096]⟩
abbrev S1x4096x11264 : Shape := ⟨3, ![1, 4096, 11264]⟩
abbrev S1x4x5632 : Shape := ⟨3, ![1, 4, 5632]⟩
abbrev S1x5632 : Shape := ⟨2, ![1, 5632]⟩
abbrev S1x22x256x256 : Shape := ⟨4, ![1, 22, 256, 256]⟩
abbrev S1x5632x4096 : Shape := ⟨3, ![1, 5632, 4096]⟩
abbrev S2x4096x22016 : Shape := ⟨3, ![2, 4096, 22016]⟩
abbrev S2x11008x4096 : Shape := ⟨3, ![2, 11008, 4096]⟩
abbrev S8x3x5632 : Shape := ⟨3, ![8, 3, 5632]⟩
abbrev S8x5632 : Shape := ⟨2, ![8, 5632]⟩
abbrev S4096x4096 : Shape := ⟨2, ![4096, 4096]⟩
abbrev S1x4096 : Shape := ⟨2, ![1, 4096]⟩
abbrev S_ : Shape := ⟨0, ![]⟩
abbrev S8x8 : Shape := ⟨2, ![8, 8]⟩
abbrev S8x8x1 : Shape := ⟨3, ![8, 8, 1]⟩
abbrev S1x1x4096 : Shape := ⟨3, ![1, 1, 4096]⟩
abbrev S1x4096x22016 : Shape := ⟨3, ![1, 4096, 22016]⟩
abbrev S4096x22016 : Shape := ⟨2, ![4096, 22016]⟩
abbrev S1x11008x4096 : Shape := ⟨3, ![1, 11008, 4096]⟩
abbrev S11008x4096 : Shape := ⟨2, ![11008, 4096]⟩
abbrev S8x8x22016 : Shape := ⟨3, ![8, 8, 22016]⟩
abbrev S8x8x11008 : Shape := ⟨3, ![8, 8, 11008]⟩
abbrev S4096x11264 : Shape := ⟨2, ![4096, 11264]⟩
abbrev S4x5632 : Shape := ⟨2, ![4, 5632]⟩
abbrev S5632 : Shape := ⟨1, ![5632]⟩
abbrev S22x256x256 : Shape := ⟨3, ![22, 256, 256]⟩
abbrev S5632x4096 : Shape := ⟨2, ![5632, 4096]⟩
abbrev S8x8x11264 : Shape := ⟨3, ![8, 8, 11264]⟩
abbrev S8x8x5632 : Shape := ⟨3, ![8, 8, 5632]⟩
abbrev S8x11x5632 : Shape := ⟨3, ![8, 11, 5632]⟩
abbrev S1x1x5632 : Shape := ⟨3, ![1, 1, 5632]⟩
abbrev S8x8x22x256 : Shape := ⟨4, ![8, 8, 22, 256]⟩
abbrev S22x256x8x8 : Shape := ⟨4, ![22, 256, 8, 8]⟩
abbrev S8x1x5632 : Shape := ⟨3, ![8, 1, 5632]⟩

abbrev nBuf : Space → Nat
  | .hbm => 288
  | .vmem => 0
  | .smem => 0
  | _ => 0

abbrev hbmTy0_0 (i : Nat) : BufTy := match i % 128 with
  | 0 => ⟨S8x8x4096, .f32⟩
  | 1 => ⟨S8x8x4096, .f32⟩
  | 2 => ⟨S1x8x3x5632, .f32⟩
  | 3 => ⟨S1x8x5632, .f32⟩
  | 4 => ⟨S2x4096, .f32⟩
  | 5 => ⟨S2x4096, .f32⟩
  | 6 => ⟨S4096, .f32⟩
  | 7 => ⟨S1x4096x4096, .f32⟩
  | 8 => ⟨S1x4096x11264, .f32⟩
  | 9 => ⟨S1x4x5632, .f32⟩
  | 10 => ⟨S1x5632, .f32⟩
  | 11 => ⟨S1x22x256x256, .f32⟩
  | 12 => ⟨S1x5632, .f32⟩
  | 13 => ⟨S1x22x256x256, .f32⟩
  | 14 => ⟨S1x5632, .f32⟩
  | 15 => ⟨S1x5632, .f32⟩
  | 16 => ⟨S1x5632x4096, .f32⟩
  | 17 => ⟨S2x4096x22016, .f32⟩
  | 18 => ⟨S2x11008x4096, .f32⟩
  | 19 => ⟨S8x3x5632, .f32⟩
  | 20 => ⟨S8x5632, .f32⟩
  | 21 => ⟨S4096x4096, .f32⟩
  | 22 => ⟨S8x8x4096, .f32⟩
  | 23 => ⟨S8x8x4096, .f32⟩
  | 24 => ⟨S1x4096, .f32⟩
  | 25 => ⟨S4096, .f32⟩
  | 26 => ⟨S8x8x4096, .f32⟩
  | 27 => ⟨S_, .f32⟩
  | 28 => ⟨S8x8, .f32⟩
  | 29 => ⟨S8x8x1, .f32⟩
  | 30 => ⟨S_, .f32⟩
  | 31 => ⟨S8x8x1, .f32⟩
  | 32 => ⟨S8x8x1, .f32⟩
  | 33 => ⟨S_, .f32⟩
  | 34 => ⟨S8x8x1, .f32⟩
  | 35 => ⟨S8x8x1, .f32⟩
  | 36 => ⟨S8x8x1, .f32⟩
  | 37 => ⟨S8x8x4096, .f32⟩
  | 38 => ⟨S8x8x4096, .f32⟩
  | 39 => ⟨S1x1x4096, .f32⟩
  | 40 => ⟨S8x8x4096, .f32⟩
  | 41 => ⟨S8x8x4096, .f32⟩
  | 42 => ⟨S1x4096x22016, .f32⟩
  | 43 => ⟨S4096x22016, .f32⟩
  | 44 => ⟨S1x11008x4096, .f32⟩
  | 45 => ⟨S11008x4096, .f32⟩
  | 46 => ⟨S8x8x22016, .f32⟩
  | 47 => ⟨S8x8x11008, .f32⟩
  | 48 => ⟨S8x8x11008, .f32⟩
  | 49 => ⟨S8x8x11008, .f32⟩
  | 50 => ⟨S8x8x11008, .f32⟩
  | 51 => ⟨S_, .f32⟩
  | 52 => ⟨S8x8x11008, .f32⟩
  | 53 => ⟨S8x8x11008, .f32⟩
  | 54 => ⟨S_, .f32⟩
  | 55 => ⟨S8x8x11008, .f32⟩
  | 56 => ⟨S8x8x11008, .f32⟩
  | 57 => ⟨S8x8x11008, .f32⟩
  | 58 => ⟨S8x8x11008, .f32⟩
  | 59 => ⟨S8x8x4096, .f32⟩
  | 60 => ⟨S8x8x4096, .f32⟩
  | 61 => ⟨S1x4096, .f32⟩
  | 62 => ⟨S4096, .f32⟩
  | 63 => ⟨S8x8x4096, .f32⟩
  | 64 => ⟨S_, .f32⟩
  | 65 => ⟨S8x8, .f32⟩
  | 66 => ⟨S8x8x1, .f32⟩
  | 67 => ⟨S_, .f32⟩
  | 68 => ⟨S8x8x1, .f32⟩
  | 69 => ⟨S8x8x1, .f32⟩
  | 70 => ⟨S_, .f32⟩
  | 71 => ⟨S8x8x1, .f32⟩
  | 72 => ⟨S8x8x1, .f32⟩
  | 73 => ⟨S8x8x1, .f32⟩
  | 74 => ⟨S8x8x4096, .f32⟩
  | 75 => ⟨S8x8x4096, .f32⟩
  | 76 => ⟨S1x1x4096, .f32⟩
  | 77 => ⟨S8x8x4096, .f32⟩
  | 78 => ⟨S8x8x4096, .f32⟩
  | 79 => ⟨S4096x11264, .f32⟩
  | 80 => ⟨S4x5632, .f32⟩
  | 81 => ⟨S5632, .f32⟩
  | 82 => ⟨S22x256x256, .f32⟩
  | 83 => ⟨S5632, .f32⟩
  | 84 => ⟨S22x256x256, .f32⟩
  | 85 => ⟨S5632, .f32⟩
  | 86 => ⟨S5632, .f32⟩
  | 87 => ⟨S5632x4096, .f32⟩
  | 88 => ⟨S8x8x11264, .f32⟩
  | 89 => ⟨S8x8x5632, .f32⟩
  | 90 => ⟨S8x8x5632, .f32⟩
  | 91 => ⟨S8x11x5632, .f32⟩
  | 92 => ⟨S8x8x5632, .f32⟩
  | 93 => ⟨S1x5632, .f32⟩
  | 94 => ⟨S5632, .f32⟩
  | 95 => ⟨S1x1x5632, .f32⟩
  | 96 => ⟨S8x8x5632, .f32⟩
  | 97 => ⟨S8x8x5632, .f32⟩
  | 98 => ⟨S1x1x5632, .f32⟩
  | 99 => ⟨S8x8x5632, .f32⟩
  | 100 => ⟨S8x8x5632, .f32⟩
  | 101 => ⟨S8x8x5632, .f32⟩
  | 102 => ⟨S1x5632, .f32⟩
  | 103 => ⟨S5632, .f32⟩
  | 104 => ⟨S1x1x5632, .f32⟩
  | 105 => ⟨S8x8x5632, .f32⟩
  | 106 => ⟨S8x8x5632, .f32⟩
  | 107 => ⟨S8x8x5632, .f32⟩
  | 108 => ⟨S8x8x5632, .f32⟩
  | 109 => ⟨S1x5632, .f32⟩
  | 110 => ⟨S5632, .f32⟩
  | 111 => ⟨S1x1x5632, .f32⟩
  | 112 => ⟨S8x8x5632, .f32⟩
  | 113 => ⟨S8x8x5632, .f32⟩
  | 114 => ⟨S8x8x5632, .f32⟩
  | 115 => ⟨S8x8x5632, .f32⟩
  | 116 => ⟨S1x5632, .f32⟩
  | 117 => ⟨S5632, .f32⟩
  | 118 => ⟨S1x1x5632, .f32⟩
  | 119 => ⟨S8x8x5632, .f32⟩
  | 120 => ⟨S8x8x5632, .f32⟩
  | 121 => ⟨S8x8x5632, .f32⟩
  | 122 => ⟨S8x8x22x256, .f32⟩
  | 123 => ⟨S22x256x8x8, .f32⟩
  | 124 => ⟨S8x8x22x256, .f32⟩
  | 125 => ⟨S8x8x5632, .f32⟩
  | 126 => ⟨S1x1x5632, .f32⟩
  | 127 => ⟨S8x8x5632, .f32⟩
  | _ => ⟨S8x8x4096, .f32⟩

abbrev hbmTy0_1 (i : Nat) : BufTy := match i % 128 with
  | 0 => ⟨S8x8x5632, .f32⟩
  | 1 => ⟨S8x8x5632, .f32⟩
  | 2 => ⟨S8x8x5632, .f32⟩
  | 3 => ⟨S_, .f32⟩
  | 4 => ⟨S8x8x5632, .f32⟩
  | 5 => ⟨S8x8x5632, .f32⟩
  | 6 => ⟨S_, .f32⟩
  | 7 => ⟨S8x8x5632, .f32⟩
  | 8 => ⟨S8x8x5632, .f32⟩
  | 9 => ⟨S22x256x8x8, .f32⟩
  | 10 => ⟨S8x8x22x256, .f32⟩
  | 11 => ⟨S8x8x5632, .f32⟩
  | 12 => ⟨S1x1x5632, .f32⟩
  | 13 => ⟨S8x8x5632, .f32⟩
  | 14 => ⟨S8x8x5632, .f32⟩
  | 15 => ⟨S8x8x5632, .f32⟩
  | 16 => ⟨S8x8x5632, .f32⟩
  | 17 => ⟨S_, .f32⟩
  | 18 => ⟨S8x8x5632, .f32⟩
  | 19 => ⟨S8x8x5632, .f32⟩
  | 20 => ⟨S_, .f32⟩
  | 21 => ⟨S8x8x5632, .f32⟩
  | 22 => ⟨S8x8x5632, .f32⟩
  | 23 => ⟨S_, .f32⟩
  | 24 => ⟨S8x8x5632, .f32⟩
  | 25 => ⟨S8x8x5632, .f32⟩
  | 26 => ⟨S5632, .f32⟩
  | 27 => ⟨S_, .f32⟩
  | 28 => ⟨S5632, .f32⟩
  | 29 => ⟨S5632, .f32⟩
  | 30 => ⟨S5632, .f32⟩
  | 31 => ⟨S5632, .f32⟩
  | 32 => ⟨S5632, .i1⟩
  | 33 => ⟨S5632, .f32⟩
  | 34 => ⟨S5632, .f32⟩
  | 35 => ⟨S5632, .f32⟩
  | 36 => ⟨S5632, .f32⟩
  | 37 => ⟨S5632, .f32⟩
  | 38 => ⟨S5632, .f32⟩
  | 39 => ⟨S5632, .f32⟩
  | 40 => ⟨S5632, .f32⟩
  | 41 => ⟨S1x1x5632, .f32⟩
  | 42 => ⟨S8x8x5632, .f32⟩
  | 43 => ⟨S8x8x5632, .f32⟩
  | 44 => ⟨S8x8x5632, .f32⟩
  | 45 => ⟨S_, .f32⟩
  | 46 => ⟨S8x8x5632, .f32⟩
  | 47 => ⟨S8x8x5632, .f32⟩
  | 48 => ⟨S8x8x5632, .f32⟩
  | 49 => ⟨S8x8x5632, .f32⟩
  | 50 => ⟨S8x8x5632, .f32⟩
  | 51 => ⟨S8x8x5632, .f32⟩
  | 52 => ⟨S8x8x5632, .f32⟩
  | 53 => ⟨S8x8x5632, .f32⟩
  | 54 => ⟨S8x8x5632, .f32⟩
  | 55 => ⟨S_, .f32⟩
  | 56 => ⟨S8x8x5632, .f32⟩
  | 57 => ⟨S_, .i32⟩
  | 58 => ⟨S8x8x5632, .f32⟩
  | 59 => ⟨S8x8x5632, .f32⟩
  | 60 => ⟨S_, .i32⟩
  | 61 => ⟨S8x5632, .f32⟩
  | 62 => ⟨S8x8x5632, .f32⟩
  | 63 => ⟨S_, .i32⟩
  | 64 => ⟨S_, .i1⟩
  | 65 => ⟨S_, .i32⟩
  | 66 => ⟨S_, .i32⟩
  | 67 => ⟨S1x8x5632, .f32⟩
  | 68 => ⟨S8x5632, .f32⟩
  | 69 => ⟨S_, .i32⟩
  | 70 => ⟨S_, .i32⟩
  | 71 => ⟨S1x8x5632, .f32⟩
  | 72 => ⟨S8x5632, .f32⟩
  | 73 => ⟨S8x5632, .f32⟩
  | 74 => ⟨S8x5632, .f32⟩
  | 75 => ⟨S1x8x5632, .f32⟩
  | 76 => ⟨S_, .i32⟩
  | 77 => ⟨S_, .i32⟩
  | 78 => ⟨S8x8x5632, .f32⟩
  | 79 => ⟨S_, .i32⟩
  | 80 => ⟨S_, .i32⟩
  | 81 => ⟨S8x8x5632, .f32⟩
  | 82 => ⟨S8x8x5632, .f32⟩
  | 83 => ⟨S8x8x5632, .f32⟩
  | 84 => ⟨S_, .f32⟩
  | 85 => ⟨S8x8x5632, .f32⟩
  | 86 => ⟨S8x8x5632, .f32⟩
  | 87 => ⟨S8x8x5632, .f32⟩
  | 88 => ⟨S_, .f32⟩
  | 89 => ⟨S8x8x5632, .f32⟩
  | 90 => ⟨S8x8x5632, .f32⟩
  | 91 => ⟨S8x8x5632, .f32⟩
  | 92 => ⟨S_, .f32⟩
  | 93 => ⟨S8x8x5632, .f32⟩
  | 94 => ⟨S8x8x5632, .f32⟩
  | 95 => ⟨S_, .f32⟩
  | 96 => ⟨S8x8x5632, .f32⟩
  | 97 => ⟨S8x8x5632, .f32⟩
  | 98 => ⟨S8x8x5632, .f32⟩
  | 99 => ⟨S8x8x5632, .f32⟩
  | 100 => ⟨S8x8x4096, .f32⟩
  | 101 => ⟨S8x3x5632, .f32⟩
  | 102 => ⟨S8x1x5632, .f32⟩
  | 103 => ⟨S8x5632, .f32⟩
  | 104 => ⟨S8x8x4096, .f32⟩
  | 105 => ⟨S1x4096, .f32⟩
  | 106 => ⟨S4096, .f32⟩
  | 107 => ⟨S8x8x4096, .f32⟩
  | 108 => ⟨S_, .f32⟩
  | 109 => ⟨S8x8, .f32⟩
  | 110 => ⟨S8x8x1, .f32⟩
  | 111 => ⟨S_, .f32⟩
  | 112 => ⟨S8x8x1, .f32⟩
  | 113 => ⟨S8x8x1, .f32⟩
  | 114 => ⟨S_, .f32⟩
  | 115 => ⟨S8x8x1, .f32⟩
  | 116 => ⟨S8x8x1, .f32⟩
  | 117 => ⟨S8x8x1, .f32⟩
  | 118 => ⟨S8x8x4096, .f32⟩
  | 119 => ⟨S8x8x4096, .f32⟩
  | 120 => ⟨S1x1x4096, .f32⟩
  | 121 => ⟨S8x8x4096, .f32⟩
  | 122 => ⟨S8x8x4096, .f32⟩
  | 123 => ⟨S1x4096x22016, .f32⟩
  | 124 => ⟨S4096x22016, .f32⟩
  | 125 => ⟨S1x11008x4096, .f32⟩
  | 126 => ⟨S11008x4096, .f32⟩
  | 127 => ⟨S8x8x22016, .f32⟩
  | _ => ⟨S8x8x4096, .f32⟩

abbrev hbmTy0_2 (i : Nat) : BufTy := match i % 128 with
  | 0 => ⟨S8x8x11008, .f32⟩
  | 1 => ⟨S8x8x11008, .f32⟩
  | 2 => ⟨S8x8x11008, .f32⟩
  | 3 => ⟨S8x8x11008, .f32⟩
  | 4 => ⟨S_, .f32⟩
  | 5 => ⟨S8x8x11008, .f32⟩
  | 6 => ⟨S8x8x11008, .f32⟩
  | 7 => ⟨S_, .f32⟩
  | 8 => ⟨S8x8x11008, .f32⟩
  | 9 => ⟨S8x8x11008, .f32⟩
  | 10 => ⟨S8x8x11008, .f32⟩
  | 11 => ⟨S8x8x11008, .f32⟩
  | 12 => ⟨S8x8x4096, .f32⟩
  | 13 => ⟨S8x8x4096, .f32⟩
  | 14 => ⟨S8x8x4096, .f32⟩
  | 15 => ⟨S_, .f32⟩
  | 16 => ⟨S8x8, .f32⟩
  | 17 => ⟨S8x8x1, .f32⟩
  | 18 => ⟨S_, .f32⟩
  | 19 => ⟨S8x8x1, .f32⟩
  | 20 => ⟨S8x8x1, .f32⟩
  | 21 => ⟨S_, .f32⟩
  | 22 => ⟨S8x8x1, .f32⟩
  | 23 => ⟨S8x8x1, .f32⟩
  | 24 => ⟨S8x8x1, .f32⟩
  | 25 => ⟨S8x8x4096, .f32⟩
  | 26 => ⟨S8x8x4096, .f32⟩
  | 27 => ⟨S1x1x4096, .f32⟩
  | 28 => ⟨S8x8x4096, .f32⟩
  | 29 => ⟨S8x8x4096, .f32⟩
  | 30 => ⟨S1x8x3x5632, .f32⟩
  | 31 => ⟨S1x8x5632, .f32⟩
  | _ => ⟨S8x8x4096, .f32⟩

abbrev hbmTy (i : Nat) : BufTy := match i / 128 with
  | 0 => hbmTy0_0 i
  | 1 => hbmTy0_1 i
  | 2 => hbmTy0_2 i
  | _ => ⟨S8x8x4096, .f32⟩

abbrev bufTy : (tb : Table) → Fin (tcTables nBuf tb) → BufTy
  | .hbm, ⟨i, _⟩ => hbmTy i
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_cst_3 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_5 : Ref sig .tc := ⟨.hbm, 131, rfl⟩
abbrev main_v98 : Ref sig .tc := ⟨.hbm, 132, rfl⟩
abbrev main_v99 : Ref sig .tc := ⟨.hbm, 133, rfl⟩
abbrev main_cst_6 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_7 : Ref sig .tc := ⟨.hbm, 145, rfl⟩
abbrev main_v110 : Ref sig .tc := ⟨.hbm, 146, rfl⟩
abbrev main_v111 : Ref sig .tc := ⟨.hbm, 147, rfl⟩
abbrev main_cst_8 : Ref sig .tc := ⟨.hbm, 148, rfl⟩
abbrev main_v112 : Ref sig .tc := ⟨.hbm, 149, rfl⟩
abbrev main_v113 : Ref sig .tc := ⟨.hbm, 150, rfl⟩
abbrev main_cst_9 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call1_cst : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_call1_v3 : Ref sig .tc := ⟨.hbm, 159, rfl⟩
abbrev main_call1_v4 : Ref sig .tc := ⟨.hbm, 160, rfl⟩
abbrev main_call1_v5 : Ref sig .tc := ⟨.hbm, 161, rfl⟩
abbrev main_call1_v6 : Ref sig .tc := ⟨.hbm, 162, rfl⟩
abbrev main_call1_v7 : Ref sig .tc := ⟨.hbm, 163, rfl⟩
abbrev main_call1_v8 : Ref sig .tc := ⟨.hbm, 164, rfl⟩
abbrev main_call1_v9 : Ref sig .tc := ⟨.hbm, 165, rfl⟩
abbrev main_call1_v10 : Ref sig .tc := ⟨.hbm, 166, rfl⟩
abbrev main_call1_v11 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_10 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_11 : Ref sig .tc := ⟨.hbm, 183, rfl⟩
abbrev main_v131 : Ref sig .tc := ⟨.hbm, 184, rfl⟩
abbrev main_c : Ref sig .tc := ⟨.hbm, 185, rfl⟩
abbrev main_v132_0 : Ref sig .tc := ⟨.hbm, 186, rfl⟩
abbrev main_v132_1 : Ref sig .tc := ⟨.hbm, 187, rfl⟩
abbrev main_v132_2 : Ref sig .tc := ⟨.hbm, 188, rfl⟩
abbrev main_v132_3 : Ref sig .tc := ⟨.hbm, 189, rfl⟩
abbrev main_v132_4 : Ref sig .tc := ⟨.hbm, 190, rfl⟩
abbrev main_while0c_c_26 : Ref sig .tc := ⟨.hbm, 191, rfl⟩
abbrev main_while0c_v194 : Ref sig .tc := ⟨.hbm, 192, rfl⟩
abbrev main_while0b_call2_c : Ref sig .tc := ⟨.hbm, 193, rfl⟩
abbrev main_while0b_call2_c_0 : Ref sig .tc := ⟨.hbm, 194, rfl⟩
abbrev main_while0b_call2_v0 : Ref sig .tc := ⟨.hbm, 195, rfl⟩
abbrev main_while0b_v194 : Ref sig .tc := ⟨.hbm, 196, rfl⟩
abbrev main_while0b_call3_c : Ref sig .tc := ⟨.hbm, 197, rfl⟩
abbrev main_while0b_call3_c_0 : Ref sig .tc := ⟨.hbm, 198, rfl⟩
abbrev main_while0b_call3_v0 : Ref sig .tc := ⟨.hbm, 199, rfl⟩
abbrev main_while0b_v195 : Ref sig .tc := ⟨.hbm, 200, rfl⟩
abbrev main_while0b_v196 : Ref sig .tc := ⟨.hbm, 201, rfl⟩
abbrev main_while0b_v197 : Ref sig .tc := ⟨.hbm, 202, rfl⟩
abbrev main_while0b_call4_v0 : Ref sig .tc := ⟨.hbm, 203, rfl⟩
abbrev main_while0b_call4_c : Ref sig .tc := ⟨.hbm, 204, rfl⟩
abbrev main_while0b_call4_c_0 : Ref sig .tc := ⟨.hbm, 205, rfl⟩
abbrev main_while0b_v198 : Ref sig .tc := ⟨.hbm, 206, rfl⟩
abbrev main_while0b_c_26 : Ref sig .tc := ⟨.hbm, 207, rfl⟩
abbrev main_while0b_v199 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_12 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_cst_13 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_cst_14 : Ref sig .tc := ⟨.hbm, 220, rfl⟩
abbrev main_v142 : Ref sig .tc := ⟨.hbm, 221, rfl⟩
abbrev main_v143 : Ref sig .tc := ⟨.hbm, 222, rfl⟩
abbrev main_cst_15 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_cst_16 : Ref sig .tc := ⟨.hbm, 236, rfl⟩
abbrev main_v156 : Ref sig .tc := ⟨.hbm, 237, rfl⟩
abbrev main_v157 : Ref sig .tc := ⟨.hbm, 238, rfl⟩
abbrev main_cst_17 : Ref sig .tc := ⟨.hbm, 239, rfl⟩
abbrev main_v158 : Ref sig .tc := ⟨.hbm, 240, rfl⟩
abbrev main_v159 : Ref sig .tc := ⟨.hbm, 241, rfl⟩
abbrev main_cst_18 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_call5_v0 : Ref sig .tc := ⟨.hbm, 258, rfl⟩
abbrev main_call5_v1 : Ref sig .tc := ⟨.hbm, 259, rfl⟩
abbrev main_call5_cst : Ref sig .tc := ⟨.hbm, 260, rfl⟩
abbrev main_call5_v2 : Ref sig .tc := ⟨.hbm, 261, rfl⟩
abbrev main_call5_v3 : Ref sig .tc := ⟨.hbm, 262, rfl⟩
abbrev main_call5_cst_0 : Ref sig .tc := ⟨.hbm, 263, rfl⟩
abbrev main_call5_v4 : Ref sig .tc := ⟨.hbm, 264, rfl⟩
abbrev main_call5_v5 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_cst_19 : Ref sig .tc := ⟨.hbm, 271, rfl⟩
abbrev main_v180 : Ref sig .tc := ⟨.hbm, 272, rfl⟩
abbrev main_v181 : Ref sig .tc := ⟨.hbm, 273, rfl⟩
abbrev main_cst_20 : Ref sig .tc := ⟨.hbm, 274, rfl⟩
abbrev main_v182 : Ref sig .tc := ⟨.hbm, 275, rfl⟩
abbrev main_v183 : Ref sig .tc := ⟨.hbm, 276, rfl⟩
abbrev main_cst_21 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩

abbrev nD : Nat := 1
abbrev τ : Topo := Topo.v7x

variable {F : FTy → Type} [FloatOps F]

abbrev main_while0_count : Scf.Loop 32 := ⟨0#32, 8#32, 1#32⟩
-- ==== Qkv.lean ====
abbrev S4x2048x4096 : Shape := ⟨3, ![4, 2048, 4096]⟩
abbrev S8x8x4096 : Shape := ⟨3, ![8, 8, 4096]⟩
abbrev S2x4096 : Shape := ⟨2, ![2, 4096]⟩
abbrev S1x4096x12288 : Shape := ⟨3, ![1, 4096, 12288]⟩
abbrev S8192x4096 : Shape := ⟨2, ![8192, 4096]⟩
abbrev S64x4096 : Shape := ⟨2, ![64, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S64 : Shape := ⟨1, ![64]⟩
abbrev S64x1 : Shape := ⟨2, ![64, 1]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S64x1024 : Shape := ⟨2, ![64, 1024]⟩
abbrev S4x2048x32x128 : Shape := ⟨4, ![4, 2048, 32, 128]⟩
abbrev S1x4x2048x32x128 : Shape := ⟨5, ![1, 4, 2048, 32, 128]⟩
abbrev S8x8x32x128 : Shape := ⟨4, ![8, 8, 32, 128]⟩
abbrev S1x8x8x32x128 : Shape := ⟨5, ![1, 8, 8, 32, 128]⟩

abbrev nBuf : Space → Nat
  | .hbm => 35
  | .vmem => 41
  | .smem => 0
  | _ => 0

abbrev bufTy : (tb : Table) → Fin (tcTables nBuf tb) → BufTy
  | .hbm, ⟨0, _⟩ => ⟨S4x2048x4096, .f32⟩
  | .hbm, ⟨1, _⟩ => ⟨S8x8x4096, .f32⟩
  | .hbm, ⟨2, _⟩ => ⟨S2x4096, .f32⟩
  | .hbm, ⟨3, _⟩ => ⟨S1x4096x12288, .f32⟩
  | .hbm, ⟨4, _⟩ => ⟨S1x4096x12288, .bf16⟩
  | .hbm, ⟨5, _⟩ => ⟨S8192x4096, .f32⟩
  | .hbm, ⟨6, _⟩ => ⟨S64x4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S8192x4096, .bf16⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S64x4096, .bf16⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S64x4096, .f32⟩
  | .hbm, ⟨19, _⟩ => ⟨S64x4096, .f32⟩
  | .hbm, ⟨20, _⟩ => ⟨S64x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S8x8x4096, .f32⟩
  | .hbm, ⟨25, _⟩ => ⟨S8x8x4096, .f32⟩
  | .hbm, ⟨26, _⟩ => ⟨S8x8x4096, .f32⟩
  | .hbm, ⟨27, _⟩ => ⟨S4x2048x32x128, .f32⟩
  | .hbm, ⟨28, _⟩ => ⟨S1x4x2048x32x128, .f32⟩
  | .hbm, ⟨29, _⟩ => ⟨S4x2048x32x128, .f32⟩
  | .hbm, ⟨30, _⟩ => ⟨S1x4x2048x32x128, .f32⟩
  | .hbm, ⟨31, _⟩ => ⟨S8x8x32x128, .f32⟩
  | .hbm, ⟨32, _⟩ => ⟨S1x8x8x32x128, .f32⟩
  | .hbm, ⟨33, _⟩ => ⟨S8x8x32x128, .f32⟩
  | .hbm, ⟨34, _⟩ => ⟨S1x8x8x32x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S64x4096, .f32⟩
  | .local _ .vmem, ⟨6, _⟩ => ⟨S1x4096, .f32⟩
  | .local _ .vmem, ⟨7, _⟩ => ⟨S64x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1x4096x1024, .bf16⟩
  | .local _ .vmem, ⟨11, _⟩ => ⟨S1x4096x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x4096, .bf16⟩
  | .local _ .vmem, ⟨15, _⟩ => ⟨S1024x4096, .bf16⟩
  | .local _ .vmem, ⟨16, _⟩ => ⟨S1x4096x1024, .bf16⟩
  | .local _ .vmem, ⟨17, _⟩ => ⟨S1x4096x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x4096, .bf16⟩
  | .local _ .vmem, ⟨21, _⟩ => ⟨S1024x4096, .bf16⟩
  | .local _ .vmem, ⟨22, _⟩ => ⟨S1x4096x1024, .bf16⟩
  | .local _ .vmem, ⟨23, _⟩ => ⟨S1x4096x1024, .bf16⟩
  | .local _ .vmem, ⟨24, _⟩ => ⟨S1024x1024, .f32⟩
  | .local _ .vmem, ⟨25, _⟩ => ⟨S1024x1024, .f32⟩
  | .local _ .vmem, ⟨26, _⟩ => ⟨S64x4096, .bf16⟩
  | .local _ .vmem, ⟨27, _⟩ => ⟨S1x4096x1024, .bf16⟩
  | .local _ .vmem, ⟨28, _⟩ => ⟨S1x4096x1024, .bf16⟩
  | .local _ .vmem, ⟨29, _⟩ => ⟨S64x1024, .f32⟩
  | .local _ .vmem, ⟨30, _⟩ => ⟨S64x1024, .f32⟩
  | .local _ .vmem, ⟨31, _⟩ => ⟨S64x4096, .bf16⟩
  | .local _ .vmem, ⟨32, _⟩ => ⟨S1x4096x1024, .bf16⟩
  | .local _ .vmem, ⟨33, _⟩ => ⟨S1x4096x1024, .bf16⟩
  | .local _ .vmem, ⟨34, _⟩ => ⟨S64x1024, .f32⟩
  | .local _ .vmem, ⟨35, _⟩ => ⟨S64x1024, .f32⟩
  | .local _ .vmem, ⟨36, _⟩ => ⟨S64x4096, .bf16⟩
  | .local _ .vmem, ⟨37, _⟩ => ⟨S1x4096x1024, .bf16⟩
  | .local _ .vmem, ⟨38, _⟩ => ⟨S1x4096x1024, .bf16⟩
  | .local _ .vmem, ⟨39, _⟩ => ⟨S64x1024, .f32⟩
  | .local _ .vmem, ⟨40, _⟩ => ⟨S64x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc7_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem1_0 : DmaSem sig := 32
abbrev cc6_sem1_1 : DmaSem sig := 33
abbrev cc6_sem2_0 : DmaSem sig := 34
abbrev cc6_sem2_1 : DmaSem sig := 35
abbrev cc7_sem0_0 : DmaSem sig := 36
abbrev cc7_sem1_0 : DmaSem sig := 37
abbrev cc7_sem1_1 : DmaSem sig := 38
abbrev cc7_sem2_0 : DmaSem sig := 39
abbrev cc7_sem2_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S64x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S1x4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S64x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S64x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S1x4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S64x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S64x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S1x4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S64x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== QkvReferenceIdeal.lean ====
abbrev S4x2048x4096 : Shape := ⟨3, ![4, 2048, 4096]⟩
abbrev S8x8x4096 : Shape := ⟨3, ![8, 8, 4096]⟩
abbrev S2x4096 : Shape := ⟨2, ![2, 4096]⟩
abbrev S1x4096x12288 : Shape := ⟨3, ![1, 4096, 12288]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x12288 : Shape := ⟨2, ![4096, 12288]⟩
abbrev S4x2048x12288 : Shape := ⟨3, ![4, 2048, 12288]⟩
abbrev S4x2048x3x32x128 : Shape := ⟨5, ![4, 2048, 3, 32, 128]⟩
abbrev S4x2048x1x32x128 : Shape := ⟨5, ![4, 2048, 1, 32, 128]⟩
abbrev S4x2048x32x128 : Shape := ⟨4, ![4, 2048, 32, 128]⟩
abbrev S1x4x2048x32x128 : Shape := ⟨5, ![1, 4, 2048, 32, 128]⟩
abbrev S8x8 : Shape := ⟨2, ![8, 8]⟩
abbrev S8x8x1 : Shape := ⟨3, ![8, 8, 1]⟩
abbrev S8x8x12288 : Shape := ⟨3, ![8, 8, 12288]⟩
abbrev S8x8x3x32x128 : Shape := ⟨5, ![8, 8, 3, 32, 128]⟩
abbrev S8x8x1x32x128 : Shape := ⟨5, ![8, 8, 1, 32, 128]⟩
abbrev S8x8x32x128 : Shape := ⟨4, ![8, 8, 32, 128]⟩
abbrev S1x8x8x32x128 : Shape := ⟨5, ![1, 8, 8, 32, 128]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x8x4096, .f32⟩
  | .hbm, ⟨2, _⟩ => ⟨S2x4096, .f32⟩
  | .hbm, ⟨3, _⟩ => ⟨S1x4096x12288, .f32⟩
  | .hbm, ⟨4, _⟩ => ⟨S1x4096, .f32⟩
  | .hbm, ⟨5, _⟩ => ⟨S4096, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S4096x12288, .f32⟩
  | .hbm, ⟨23, _⟩ => ⟨S4x2048x12288, .f32⟩
  | .hbm, ⟨24, _⟩ => ⟨S4x2048x3x32x128, .f32⟩
  | .hbm, ⟨25, _⟩ => ⟨S4x2048x1x32x128, .f32⟩
  | .hbm, ⟨26, _⟩ => ⟨S4x2048x32x128, .f32⟩
  | .hbm, ⟨27, _⟩ => ⟨S4x2048x4096, .f32⟩
  | .hbm, ⟨28, _⟩ => ⟨S4x2048x1x32x128, .f32⟩
  | .hbm, ⟨29, _⟩ => ⟨S4x2048x32x128, .f32⟩
  | .hbm, ⟨30, _⟩ => ⟨S1x4x2048x32x128, .f32⟩
  | .hbm, ⟨31, _⟩ => ⟨S4x2048x1x32x128, .f32⟩
  | .hbm, ⟨32, _⟩ => ⟨S4x2048x32x128, .f32⟩
  | .hbm, ⟨33, _⟩ => ⟨S1x4x2048x32x128, .f32⟩
  | .hbm, ⟨34, _⟩ => ⟨S1x4096, .f32⟩
  | .hbm, ⟨35, _⟩ => ⟨S4096, .f32⟩
  | .hbm, ⟨36, _⟩ => ⟨S8x8x4096, .f32⟩
  | .hbm, ⟨37, _⟩ => ⟨S_, .f32⟩
  | .hbm, ⟨38, _⟩ => ⟨S8x8, .f32⟩
  | .hbm, ⟨39, _⟩ => ⟨S8x8x1, .f32⟩
  | .hbm, ⟨40, _⟩ => ⟨S_, .f32⟩
  | .hbm, ⟨41, _⟩ => ⟨S8x8x1, .f32⟩
  | .hbm, ⟨42, _⟩ => ⟨S8x8x1, .f32⟩
  | .hbm, ⟨43, _⟩ => ⟨S_, .f32⟩
  | .hbm, ⟨44, _⟩ => ⟨S8x8x1, .f32⟩
  | .hbm, ⟨45, _⟩ => ⟨S8x8x1, .f32⟩
  | .hbm, ⟨46, _⟩ => ⟨S8x8x1, .f32⟩
  | .hbm, ⟨47, _⟩ => ⟨S8x8x4096, .f32⟩
  | .hbm, ⟨48, _⟩ => ⟨S8x8x4096, .f32⟩
  | .hbm, ⟨49, _⟩ => ⟨S1x1x4096, .f32⟩
  | .hbm, ⟨50, _⟩ => ⟨S8x8x4096, .f32⟩
  | .hbm, ⟨51, _⟩ => ⟨S8x8x4096, .f32⟩
  | .hbm, ⟨52, _⟩ => ⟨S4096x12288, .f32⟩
  | .hbm, ⟨53, _⟩ => ⟨S8x8x12288, .f32⟩
  | .hbm, ⟨54, _⟩ => ⟨S8x8x3x32x128, .f32⟩
  | .hbm, ⟨55, _⟩ => ⟨S8x8x1x32x128, .f32⟩
  | .hbm, ⟨56, _⟩ => ⟨S8x8x32x128, .f32⟩
  | .hbm, ⟨57, _⟩ => ⟨S8x8x4096, .f32⟩
  | .hbm, ⟨58, _⟩ => ⟨S8x8x1x32x128, .f32⟩
  | .hbm, ⟨59, _⟩ => ⟨S8x8x32x128, .f32⟩
  | .hbm, ⟨60, _⟩ => ⟨S1x8x8x32x128, .f32⟩
  | .hbm, ⟨61, _⟩ => ⟨S8x8x1x32x128, .f32⟩
  | .hbm, ⟨62, _⟩ => ⟨S8x8x32x128, .f32⟩
  | .hbm, ⟨63, _⟩ => ⟨S1x8x8x32x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== Proof.Dense.lean ====
/-
  The rows that the norm, the projections and the gated feed-forward part compute, over the extended reals.
-/
module

public import Idealize.ShloMosaic.Lib.Pipeline.ValueKit
public import Idealize.ShloMosaic.Lib.IdealHost
public import Idealize.ShloMosaic.Lib.Pointwise

@[expose] public section

noncomputable section

namespace Cert.Dense

open Idealize.ShloMosaic Idealize.ShloMosaic.Tactic

/-- Entry `k` of a row divided by its root mean square, times `g`. -/
def rms (row : Fin 4096 → EReal) (g : EReal) (k : Fin 4096) : EReal :=
  row k * Ideal.rsqrt (Ideal.div (∑ l, row l * row l) (Ideal.ofBits FTy.f32 1166016512#32) + Ideal.ofBits FTy.f32 897988541#32) * g

/-- The product of a row and a column. -/
def dot {K : ℕ} (row col : Fin K → EReal) : EReal := ∑ k, row k * col k

/-- The gated product of the two halves of the up projection. -/
def swiglu (g u : EReal) : EReal := g * Ideal.logistic g * u

/-- The normed rows of an array. -/
def normed {R : ℕ} (x : Vec Ideal ⟨2, ![R, 4096]⟩ .f32) (g : Vec Ideal ⟨2, ![1, 4096]⟩ .f32) : Vec Ideal ⟨2, ![R, 4096]⟩ .bf16 :=
  fun i => rms (fun k => x (ix2 (i 0) k)) (g (ix2 0 (i 1))) (i 1)

theorem idx2 {a b : ℕ} (y : Shape.Idx ⟨2, ![a, b]⟩) : y = ix2 (n0 := a) (n1 := b) (y 0) (y 1) := by
  funext d
  match d with
  | ⟨0, _⟩ => rfl
  | ⟨1, _⟩ => rfl

/-- A block of normed rows, from the blocks of the rows and of the scales it reads. -/
theorem normed_block {R T : ℕ} (x : Vec Ideal ⟨2, ![R, 4096]⟩ .f32) (g : Vec Ideal ⟨2, ![1, 4096]⟩ .f32)
    {xb : Vec Ideal ⟨2, ![T, 4096]⟩ .f32} {gb : Vec Ideal ⟨2, ![1, 4096]⟩ .f32} {out : Vec Ideal ⟨2, ![T, 4096]⟩ .bf16}
    (hout : ∀ i k, out (ix2 i k) = rms (fun l => xb (ix2 i l)) (gb (ix2 0 k)) k)
    (y : Shape.Idx ⟨2, ![T, 4096]⟩) (e : Shape.Idx ⟨2, ![R, 4096]⟩) (hx : ∀ l, xb (ix2 (y 0) l) = x (ix2 (e 0) l))
    (hg : gb (ix2 0 (y 1)) = g (ix2 0 (e 1))) (h1 : e 1 = y 1) : out y = normed x g e := by
  refine (congrArg out (idx2 y)).trans ((hout (y 0) (y 1)).trans ?_)
  unfold normed
  simp only [hx, hg, h1]

/-- A block of rows times columns, from the blocks of the rows and of the weights it reads. -/
theorem product_block {R T K M N : ℕ} (n : Vec Ideal ⟨2, ![R, K]⟩ .bf16) (col : Fin M → Fin K → EReal)
    {nb : Vec Ideal ⟨2, ![T, K]⟩ .bf16} {wb : Vec Ideal ⟨3, ![1, K, N]⟩ .bf16} {out : Vec Ideal ⟨2, ![T, N]⟩ .f32}
    (hout : ∀ i j, out (ix2 i j) = dot (fun k => nb (ix2 i k)) fun k => wb (ix3 0 k j))
    (y : Shape.Idx ⟨2, ![T, N]⟩) (e : Shape.Idx ⟨2, ![R, M]⟩) (h0 : ∀ k, nb (ix2 (y 0) k) = n (ix2 (e 0) k))
    (h1 : ∀ k, wb (ix3 0 k (y 1)) = col (e 1) k) : out y = dot (fun k => n (ix2 (e 0) k)) (col (e 1)) := by
  refine (congrArg out (idx2 y)).trans ((hout (y 0) (y 1)).trans ?_)
  simp only [h0, h1]

/-- A block of residual rows plus rows times columns, from the blocks it reads. -/
theorem residual_block {R T K M N : ℕ} (n : Vec Ideal ⟨2, ![R, K]⟩ .bf16) (col : Fin M → Fin K → EReal) (x : Vec Ideal ⟨2, ![R, M]⟩ .f32)
    {nb : Vec Ideal ⟨2, ![T, K]⟩ .bf16} {wb : Vec Ideal ⟨3, ![1, K, N]⟩ .bf16} {xb : Vec Ideal ⟨2, ![T, N]⟩ .f32} {out : Vec Ideal ⟨2, ![T, N]⟩ .f32}
    (hout : ∀ i j, out (ix2 i j) = xb (ix2 i j) + dot (fun k => nb (ix2 i k)) fun k => wb (ix3 0 k j))
    (y : Shape.Idx ⟨2, ![T, N]⟩) (e : Shape.Idx ⟨2, ![R, M]⟩) (h0 : ∀ k, nb (ix2 (y 0) k) = n (ix2 (e 0) k))
    (h1 : ∀ k, wb (ix3 0 k (y 1)) = col (e 1) k) (hx : xb (ix2 (y 0) (y 1)) = x e) :
    out y = x e + dot (fun k => n (ix2 (e 0) k)) (col (e 1)) := by
  refine (congrArg out (idx2 y)).trans ((hout (y 0) (y 1)).trans ?_)
  simp only [h0, h1, hx]

/-- The residual rows plus rows times the columns of layer `L`. -/
def summed {R K M n : ℕ} (L : Fin n) (h : Vec Ideal ⟨2, ![R, K]⟩ .bf16) (w : Vec Ideal ⟨3, ![n, K, M]⟩ .bf16) (x : Vec Ideal ⟨2, ![R, M]⟩ .f32) :
    Vec Ideal ⟨2, ![R, M]⟩ .f32 :=
  fun i => x i + dot (fun k => h (ix2 (i 0) k)) fun k => w (ix3 L k (i 1))

/-- Rows times the columns of a matrix. -/
def projected {R K M : ℕ} (h : Vec Ideal ⟨2, ![R, K]⟩ .bf16) (w : Vec Ideal ⟨3, ![1, K, M]⟩ .bf16) : Vec Ideal ⟨2, ![R, M]⟩ .f32 :=
  fun i => dot (fun k => h (ix2 (i 0) k)) fun k => w (ix3 0 k (i 1))

/-- The hidden rows, from the normed rows and the weights of layer `L`. -/
def hidden {R : ℕ} (L : Fin 2) (n : Vec Ideal ⟨2, ![R, 4096]⟩ .bf16) (w : Vec Ideal ⟨3, ![2, 4096, 22016]⟩ .f32) : Vec Ideal ⟨2, ![R, 11008]⟩ .bf16 :=
  fun i => swiglu (dot (fun k => n (ix2 (i 0) k)) fun k => w (ix3 L k ⟨(i 1).val, by have := (i 1).isLt; change (i 1).val < 11008 at this; omega⟩))
    (dot (fun k => n (ix2 (i 0) k)) fun k => w (ix3 L k ⟨11008 + (i 1).val, by have := (i 1).isLt; change (i 1).val < 11008 at this; omega⟩))

/-- A block of hidden rows, from the blocks it reads. -/
theorem hidden_block {R T N : ℕ} (L : Fin 2) (n : Vec Ideal ⟨2, ![R, 4096]⟩ .bf16) (w : Vec Ideal ⟨3, ![2, 4096, 22016]⟩ .f32)
    {nb : Vec Ideal ⟨2, ![T, 4096]⟩ .bf16} {gb ub : Vec Ideal ⟨3, ![1, 4096, N]⟩ .f32} {out : Vec Ideal ⟨2, ![T, N]⟩ .bf16}
    (hout : ∀ i j, out (ix2 i j) = swiglu (dot (fun k => nb (ix2 i k)) fun k => gb (ix3 0 k j)) (dot (fun k => nb (ix2 i k)) fun k => ub (ix3 0 k j)))
    (y : Shape.Idx ⟨2, ![T, N]⟩) (e : Shape.Idx ⟨2, ![R, 11008]⟩) (h0 : ∀ k, nb (ix2 (y 0) k) = n (ix2 (e 0) k))
    (hg : ∀ k, gb (ix3 0 k (y 1)) = w (ix3 L k ⟨(e 1).val, by have := (e 1).isLt; change (e 1).val < 11008 at this; omega⟩))
    (hu : ∀ k, ub (ix3 0 k (y 1)) = w (ix3 L k ⟨11008 + (e 1).val, by have := (e 1).isLt; change (e 1).val < 11008 at this; omega⟩)) :
    out y = hidden L n w e := by
  refine (congrArg out (idx2 y)).trans ((hout (y 0) (y 1)).trans ?_)
  unfold hidden
  simp only [h0, hg, hu]

theorem off2 : (![0, 0] : Fin 2 → Nat) = fun _ => 0 := by decide
theorem off3 : (![0, 0, 0] : Fin 3 → Nat) = fun _ => 0 := by decide

end Cert.Dense

end
-- ==== Proof.PromptDense.lean ====
/-
  What the prompt's eleven dense calls leave in their arrays, from whatever their inputs hold.
-/
module

public import proofs.«01_k».proof.Proof.Gen.PromptIdeal.Frame
public import proofs.«01_k».proof.Proof.Dense
public import Idealize.ShloMosaic.Lib.Claim

@[expose] public section

set_option maxRecDepth 16384
set_option maxHeartbeats 1000000

noncomputable section

namespace Cert.Layers.Prompt

open Idealize.ShloMosaic Idealize.ShloMosaic.TcCoe Idealize.ShloMosaic.Tactic Cert.Dense
open Cert.PromptIdeal Cert.PromptIdeal.Gen

/-! ### What one step writes, at an entry -/

theorem out0_3_apply (h : Vec Ideal S1024x4096 .bf16) (w : Vec Ideal S1x4096x512 .bf16) (x : Vec Ideal S1024x512 .f32) (i : Fin 1024) (j : Fin 512) :
    out0_3 h w x (ix2 i j) = x (ix2 i j) + dot (fun k => h (ix2 i k)) fun k => w (ix3 0 k j) := by
  unfold out0_3
  rw [View.canon_unit_zero (S := S1024x512) off2]
  simp only [View.ld_unit_zero (S := S1024x4096) off2, View.ld_unit_zero (S := S1024x512) off2, View.ld_unit_zero (S := S1x4096x512) off3]
  pointwise [k0_pay1, dot]

theorem out1_2_apply (x : Vec Ideal S512x4096 .f32) (g : Vec Ideal S1x4096 .f32) (i : Fin 512) (k : Fin 4096) :
    out1_2 x g (ix2 i k) = rms (fun l => x (ix2 i l)) (g (ix2 0 k)) k := by
  unfold out1_2
  rw [View.canon_unit_zero (S := S512x4096) off2]
  simp only [View.ld_unit_zero (S := S512x4096) off2, View.ld_unit_zero (S := S1x4096) off2]
  pointwise [k1_pay1, rms]

theorem out2_3_apply (x : Vec Ideal S1024x4096 .bf16) (g u : Vec Ideal S1x4096x256 .f32) (i : Fin 1024) (j : Fin 256) :
    out2_3 x g u (ix2 i j) = swiglu (dot (fun k => x (ix2 i k)) fun k => g (ix3 0 k j)) (dot (fun k => x (ix2 i k)) fun k => u (ix3 0 k j)) := by
  unfold out2_3
  rw [View.canon_unit_zero (S := S1024x256) off2]
  simp only [View.ld_unit_zero (S := S1024x4096) off2, View.ld_unit_zero (S := S1x4096x256) off3]
  pointwise [k2_pay1, swiglu, dot]

theorem out3_3_apply (h : Vec Ideal S512x11008 .bf16) (w : Vec Ideal S1x11008x512 .bf16) (x : Vec Ideal S512x512 .f32) (i : Fin 512) (j : Fin 512) :
    out3_3 h w x (ix2 i j) = x (ix2 i j) + dot (fun k => h (ix2 i k)) fun k => w (ix3 0 k j) := by
  unfold out3_3
  rw [View.canon_unit_zero (S := S512x512) off2]
  simp only [View.ld_unit_zero (S := S512x11008) off2, View.ld_unit_zero (S := S512x512) off2, View.ld_unit_zero (S := S1x11008x512) off3]
  pointwise [k3_pay1, dot]

theorem out5_2_apply (n : Vec Ideal S1024x4096 .bf16) (w : Vec Ideal S1x4096x1024 .bf16) (i : Fin 1024) (j : Fin 1024) :
    out5_2 n w (ix2 i j) = dot (fun k => n (ix2 i k)) fun k => w (ix3 0 k j) := by
  unfold out5_2
  rw [View.canon_unit_zero (S := S1024x1024) off2]
  simp only [View.ld_unit_zero (S := S1024x4096) off2, View.ld_unit_zero (S := S1x4096x1024) off3]
  pointwise [k5_pay1, dot]

theorem out7_3_apply (h : Vec Ideal S1024x5632 .bf16) (w : Vec Ideal S1x5632x512 .bf16) (x : Vec Ideal S1024x512 .f32) (i : Fin 1024) (j : Fin 512) :
    out7_3 h w x (ix2 i j) = x (ix2 i j) + dot (fun k => h (ix2 i k)) fun k => w (ix3 0 k j) := by
  unfold out7_3
  rw [View.canon_unit_zero (S := S1024x512) off2]
  simp only [View.ld_unit_zero (S := S1024x5632) off2, View.ld_unit_zero (S := S1024x512) off2, View.ld_unit_zero (S := S1x5632x512) off3]
  pointwise [k7_pay1, dot]

theorem out11_2_apply (x : Vec Ideal S512x4096 .f32) (g : Vec Ideal S1x4096 .f32) (i : Fin 512) (k : Fin 4096) :
    out11_2 x g (ix2 i k) = rms (fun l => x (ix2 i l)) (g (ix2 0 k)) k := by
  unfold out11_2
  rw [View.canon_unit_zero (S := S512x4096) off2]
  simp only [View.ld_unit_zero (S := S512x4096) off2, View.ld_unit_zero (S := S1x4096) off2]
  pointwise [k11_pay1, rms]

/-- The norms and the feed-forward calls of the second layer write what those of the first layer do. -/
theorem out4_2_eq : @out4_2 Ideal _ = @out1_2 Ideal _ := rfl
theorem out8_2_eq : @out8_2 Ideal _ = @out1_2 Ideal _ := rfl
theorem out9_3_eq : @out9_3 Ideal _ = @out2_3 Ideal _ := rfl
theorem out10_3_eq : @out10_3 Ideal _ = @out3_3 Ideal _ := rfl

/-! ### Which blocks a step reads and writes -/

theorem at0 : ∀ t : Fin grid0.N, win0_0.index t = ![(grid0.coords t 0).val, 0]
    ∧ win0_1.index t = ![0, 0, (grid0.coords t 1).val]
    ∧ win0_2.index t = ![(grid0.coords t 0).val, (grid0.coords t 1).val]
    ∧ win0_3.index t = ![(grid0.coords t 0).val, (grid0.coords t 1).val] := by decide +kernel
theorem at1 : ∀ t : Fin grid1.N, win1_0.index t = ![(grid1.coords t 0).val, 0]
    ∧ win1_1.index t = ![0, 0]
    ∧ win1_2.index t = ![(grid1.coords t 0).val, 0] := by decide +kernel
theorem at2 : ∀ t : Fin grid2.N, win2_0.index t = ![(grid2.coords t 0).val, 0]
    ∧ win2_1.index t = ![0, 0, (grid2.coords t 1).val]
    ∧ win2_2.index t = ![0, 0, (grid2.coords t 1).val + 43]
    ∧ win2_3.index t = ![(grid2.coords t 0).val, (grid2.coords t 1).val] := by decide +kernel
theorem at3 : ∀ t : Fin grid3.N, win3_0.index t = ![(grid3.coords t 0).val, 0]
    ∧ win3_1.index t = ![0, 0, (grid3.coords t 1).val]
    ∧ win3_2.index t = ![(grid3.coords t 0).val, (grid3.coords t 1).val]
    ∧ win3_3.index t = ![(grid3.coords t 0).val, (grid3.coords t 1).val] := by decide +kernel
theorem at4 : ∀ t : Fin grid4.N, win4_0.index t = ![(grid4.coords t 0).val, 0]
    ∧ win4_1.index t = ![0, 0]
    ∧ win4_2.index t = ![(grid4.coords t 0).val, 0] := by decide +kernel
theorem at5 : ∀ t : Fin grid5.N, win5_0.index t = ![(grid5.coords t 0).val, 0]
    ∧ win5_1.index t = ![0, 0, (grid5.coords t 1).val]
    ∧ win5_2.index t = ![(grid5.coords t 0).val, (grid5.coords t 1).val] := by decide +kernel
theorem at7 : ∀ t : Fin grid7.N, win7_0.index t = ![(grid7.coords t 0).val, 0]
    ∧ win7_1.index t = ![0, 0, (grid7.coords t 1).val]
    ∧ win7_2.index t = ![(grid7.coords t 0).val, (grid7.coords t 1).val]
    ∧ win7_3.index t = ![(grid7.coords t 0).val, (grid7.coords t 1).val] := by decide +kernel
theorem at8 : ∀ t : Fin grid8.N, win8_0.index t = ![(grid8.coords t 0).val, 0]
    ∧ win8_1.index t = ![0, 0]
    ∧ win8_2.index t = ![(grid8.coords t 0).val, 0] := by decide +kernel
theorem at9 : ∀ t : Fin grid9.N, win9_0.index t = ![(grid9.coords t 0).val, 0]
    ∧ win9_1.index t = ![1, 0, (grid9.coords t 1).val]
    ∧ win9_2.index t = ![1, 0, (grid9.coords t 1).val + 43]
    ∧ win9_3.index t = ![(grid9.coords t 0).val, (grid9.coords t 1).val] := by decide +kernel
theorem at10 : ∀ t : Fin grid10.N, win10_0.index t = ![(grid10.coords t 0).val, 0]
    ∧ win10_1.index t = ![1, 0, (grid10.coords t 1).val]
    ∧ win10_2.index t = ![(grid10.coords t 0).val, (grid10.coords t 1).val]
    ∧ win10_3.index t = ![(grid10.coords t 0).val, (grid10.coords t 1).val] := by decide +kernel
theorem at11 : ∀ t : Fin grid11.N, win11_0.index t = ![(grid11.coords t 0).val, 0]
    ∧ win11_1.index t = ![0, 0]
    ∧ win11_2.index t = ![(grid11.coords t 0).val, 0] := by decide +kernel

/-! ### What the calls leave -/

variable (V : (c : Dev nD) → (b : Ref sig .tc) → Buf (Elt Ideal) ((c : Thread nD τ).loc b)) (c : Dev nD)

theorem arr0 : (dat0 V c).arrAt 3 cfg0.N = summed (n := 1) 0 (V c main_v3) (V c main_v4) (V c main_v5) := by
  refine (dat0 V c).arrAt_eq_of_covers 3 _ (by decide +kernel) fun t hf y => ?_
  blk_simp
  rw [after0_3]
  exact residual_block (V c main_v3) (fun j k => V c main_v4 (ix3 (n0 := 1) 0 k j)) (V c main_v5) (out0_3_apply _ _ _) y _
    (fun k => by blk_ext [iblk0, at0 t]) (fun k => by blk_ext [iblk0, at0 t]) (by blk_ext [iblk0, at0 t])

theorem arr1 : (dat1 V c).arrAt 2 cfg1.N = normed (R := 8192) (V c main_v6) (V c main_v9) := by
  refine (dat1 V c).arrAt_eq_of_covers 2 _ (by decide +kernel) fun t hf y => ?_
  blk_simp
  rw [after1_2]
  exact normed_block _ _ (out1_2_apply _ _) y _ (fun l => by blk_ext [iblk1, at1 t]) (by blk_ext [iblk1, at1 t]) (Fin.ext (by blk_ext [at1 t]))

theorem arr2 : (dat2 V c).arrAt 3 cfg2.N = hidden 0 (V c main_v10) (V c main_arg15) := by
  refine (dat2 V c).arrAt_eq_of_covers 3 _ (by decide +kernel) fun t hf y => ?_
  blk_simp
  rw [after2_3]
  exact hidden_block 0 (V c main_v10) (V c main_arg15) (out2_3_apply _ _ _) y _ (fun k => by blk_ext [iblk2, at2 t])
    (fun k => by blk_ext [iblk2, at2 t]) (fun k => by blk_ext [iblk2, at2 t])

theorem arr3 : (dat3 V c).arrAt 3 cfg3.N = summed (n := 2) 0 (V c main_v11) (V c main_v2) (V c main_v6) := by
  refine (dat3 V c).arrAt_eq_of_covers 3 _ (by decide +kernel) fun t hf y => ?_
  blk_simp
  rw [after3_3]
  exact residual_block (V c main_v11) (fun j k => V c main_v2 (ix3 (n0 := 2) 0 k j)) (V c main_v6) (out3_3_apply _ _ _) y _
    (fun k => by blk_ext [iblk3, at3 t]) (fun k => by blk_ext [iblk3, at3 t]) (by blk_ext [iblk3, at3 t])

theorem arr4 : (dat4 V c).arrAt 2 cfg4.N = normed (R := 8192) (V c main_v12) (V c main_v15) := by
  refine (dat4 V c).arrAt_eq_of_covers 2 _ (by decide +kernel) fun t hf y => ?_
  blk_simp
  rw [after4_2, out4_2_eq]
  exact normed_block _ _ (out1_2_apply _ _) y _ (fun l => by blk_ext [iblk4, at4 t]) (by blk_ext [iblk4, at4 t]) (Fin.ext (by blk_ext [at4 t]))

theorem arr5 : (dat5 V c).arrAt 2 cfg5.N = projected (R := 8192) (V c main_v16) (V c main_v17) := by
  refine (dat5 V c).arrAt_eq_of_covers 2 _ (by decide +kernel) fun t hf y => ?_
  blk_simp
  rw [after5_2]
  exact product_block (V c main_v16) (fun j k => V c main_v17 (ix3 (n0 := 1) 0 k j)) (out5_2_apply _ _) y _ (fun k => by blk_ext [iblk5, at5 t])
    fun k => by blk_ext [iblk5, at5 t]

theorem arr7 : (dat7 V c).arrAt 3 cfg7.N = summed (n := 1) 0 (V c main_v38) (V c main_v39) (V c main_v12) := by
  refine (dat7 V c).arrAt_eq_of_covers 3 _ (by decide +kernel) fun t hf y => ?_
  blk_simp
  rw [after7_3]
  exact residual_block (V c main_v38) (fun j k => V c main_v39 (ix3 (n0 := 1) 0 k j)) (V c main_v12) (out7_3_apply _ _ _) y _
    (fun k => by blk_ext [iblk7, at7 t]) (fun k => by blk_ext [iblk7, at7 t]) (by blk_ext [iblk7, at7 t])

theorem arr8 : (dat8 V c).arrAt 2 cfg8.N = normed (R := 8192) (V c main_v40) (V c main_v43) := by
  refine (dat8 V c).arrAt_eq_of_covers 2 _ (by decide +kernel) fun t hf y => ?_
  blk_simp
  rw [after8_2, out8_2_eq]
  exact normed_block _ _ (out1_2_apply _ _) y _ (fun l => by blk_ext [iblk8, at8 t]) (by blk_ext [iblk8, at8 t]) (Fin.ext (by blk_ext [at8 t]))

theorem arr9 : (dat9 V c).arrAt 3 cfg9.N = hidden 1 (V c main_v44) (V c main_arg15) := by
  refine (dat9 V c).arrAt_eq_of_covers 3 _ (by decide +kernel) fun t hf y => ?_
  blk_simp
  rw [after9_3, out9_3_eq]
  exact hidden_block 1 (V c main_v44) (V c main_arg15) (out2_3_apply _ _ _) y _ (fun k => by blk_ext [iblk9, at9 t])
    (fun k => by blk_ext [iblk9, at9 t]) (fun k => by blk_ext [iblk9, at9 t])

theorem arr10 : (dat10 V c).arrAt 3 cfg10.N = summed (n := 2) 1 (V c main_v45) (V c main_v2) (V c main_v40) := by
  refine (dat10 V c).arrAt_eq_of_covers 3 _ (by decide +kernel) fun t hf y => ?_
  blk_simp
  rw [after10_3, out10_3_eq]
  exact residual_block (V c main_v45) (fun j k => V c main_v2 (ix3 (n0 := 2) 1 k j)) (V c main_v40) (out3_3_apply _ _ _) y _
    (fun k => by blk_ext [iblk10, at10 t]) (fun k => by blk_ext [iblk10, at10 t]) (by blk_ext [iblk10, at10 t])

theorem arr11 : (dat11 V c).arrAt 2 cfg11.N = normed (R := 8192) (V c main_v46) (V c main_v47) := by
  refine (dat11 V c).arrAt_eq_of_covers 2 _ (by decide +kernel) fun t hf y => ?_
  blk_simp
  rw [after11_2]
  exact normed_block _ _ (out11_2_apply _ _) y _ (fun l => by blk_ext [iblk11, at11 t]) (by blk_ext [iblk11, at11 t]) (Fin.ext (by blk_ext [at11 t]))

end Cert.Layers.Prompt

end
-- ==== Proof.Scan.lean ====
/-
  The linear recurrence `h ↦ a·h + b` over the extended reals, and the group of eight rows that the kernel's loop
  computes at once: three doubling steps over the rows of the group (distances 1, 2 and 4), then the carried row.
  The only law of arithmetic used beyond commutativity and associativity is `a·(x + y) = a·x + a·y` for a decay `a`
  that is nonnegative and finite.
-/
module

public import Idealize.ShloMosaic.Lib.Pointwise

@[expose] public section

noncomputable section

namespace Cert.Rglru

open Idealize.ShloMosaic

/-- The state before row `n`: `h₀`, then `a·h + b` row by row. -/
def hseq (h0 : EReal) (a b : ℕ → EReal) : ℕ → EReal
  | 0 => h0
  | n + 1 => a n * hseq h0 a b n + b n

/-- Eight rows taken from row `n` on are eight rows from the state before row `n`. -/
theorem hseq_add (h0 : EReal) (a b : ℕ → EReal) (n : ℕ) :
    ∀ m, hseq h0 a b (n + m) = hseq (hseq h0 a b n) (fun i => a (n + i)) (fun i => b (n + i)) m
  | 0 => rfl
  | m + 1 => by
    show a (n + m) * hseq h0 a b (n + m) + b (n + m) = _
    rw [hseq_add h0 a b n m]; rfl

/-- Two recurrences whose coefficients agree on the rows passed agree. -/
theorem hseq_congr {h0 : EReal} {a b a' b' : ℕ → EReal} :
    ∀ n, (∀ i < n, a i = a' i) → (∀ i < n, b i = b' i) → hseq h0 a b n = hseq h0 a' b' n
  | 0, _, _ => rfl
  | n + 1, ha, hb => by
    show a n * hseq h0 a b n + b n = a' n * hseq h0 a' b' n + b' n
    rw [ha n n.lt_succ_self, hb n n.lt_succ_self,
      hseq_congr n (fun i hi => ha i (hi.trans n.lt_succ_self)) fun i hi => hb i (hi.trans n.lt_succ_self)]

/-- What a decay is: nonnegative and finite. -/
def Decay (a : EReal) : Prop := 0 ≤ a ∧ a ≠ ⊤

theorem Decay.mul_add {a : EReal} (h : Decay a) (x y : EReal) : a * (x + y) = a * x + a * y :=
  EReal.left_distrib_of_nonneg_of_ne_top h.1 h.2 x y

end Cert.Rglru

end
-- ==== Proof.Scalars.lean ====
/-
  Facts on single extended reals that join the kernel's and the reference's gate arithmetic: the constants, the two ways
  of writing softplus, the decay `e^(log a)` that lies in [0, 1] because `log a ≤ 0`, and the input scale, which the
  kernel writes `√(-2·tanh x / (1 - tanh x))` and the reference `√(-(e^(2x) - 1))`.
-/
module

public import proofs.«01_k».proof.Proof.Scan
public import Idealize.ShloMosaic.Lib.IdealHost

@[expose] public section

noncomputable section

namespace Cert.Rglru

open Idealize.ShloMosaic

/-! ## Constants -/

theorem ofBits_neg_eight : Ideal.ofBits .f32 3238002688#32 = ((-8 : ℝ) : EReal) := by
  simp [Ideal.ofBits, Ideal.ieee, -EReal.coe_mul]; norm_num

theorem ofBits_neg_two : Ideal.ofBits .f32 3221225472#32 = ((-2 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

/-! ## Softplus -/

/-- The kernel's softplus of `-x`. -/
def softplusNeg (x : EReal) : EReal := max (0 - x) 0 + Ideal.log1p (Ideal.exp (0 - max x (-x)))

theorem exp_nonneg (x : EReal) : 0 ≤ Ideal.exp x := by
  induction x using EReal.rec with
  | bot => exact le_refl _
  | top => exact le_top
  | coe r => rw [Ideal.exp_coe]; exact_mod_cast (Real.exp_pos r).le

theorem log1p_nonneg {x : EReal} (h : 0 ≤ x) : 0 ≤ Ideal.log1p x := by
  unfold Ideal.log1p
  induction x using EReal.rec with
  | bot => exact absurd h (by simp)
  | top => rw [EReal.add_top_of_ne_bot (show (1 : EReal) ≠ ⊥ from EReal.coe_ne_bot 1)]; exact le_top
  | coe r =>
    have hr : 0 ≤ r := by exact_mod_cast h
    rw [← EReal.coe_one, ← EReal.coe_add, Ideal.log_coe, if_neg (by linarith)]
    exact_mod_cast Real.log_nonneg (by linarith)

theorem softplusNeg_nonneg (x : EReal) : 0 ≤ softplusNeg x :=
  add_nonneg (le_max_right _ _) (log1p_nonneg (exp_nonneg _))

/-- The reference's softplus of `-x`, whose absolute value is taken of `-x - 0`. -/
theorem softplusNeg_eq (x : EReal) :
    max (-x) 0 + Ideal.log1p (Ideal.exp (-max (-x - 0) (-(-x - 0)))) = softplusNeg x := by
  unfold softplusNeg
  rw [sub_zero, neg_neg, zero_sub, zero_sub, max_comm (-x) x]

/-! ## The gate and the decay -/

theorem logistic_mem (x : EReal) : 0 ≤ Ideal.logistic x := by
  induction x using EReal.rec with
  | bot => rw [Ideal.logistic_bot]
  | top => rw [Ideal.logistic_top]; exact zero_le_one
  | coe r =>
    rw [Ideal.logistic_coe]
    have : (0 : ℝ) < 1 + Real.exp (-r) := by positivity
    exact_mod_cast (inv_pos.mpr this).le

/-- The logarithm of the decay: `-8·r·softplus`. -/
def logDecay (x lam : EReal) : EReal := Ideal.ofBits .f32 3238002688#32 * Ideal.logistic x * softplusNeg lam

theorem logDecay_nonpos (x lam : EReal) : logDecay x lam ≤ 0 := by
  unfold logDecay
  rw [ofBits_neg_eight]
  have h8 : ((-8 : ℝ) : EReal) ≤ 0 := by exact_mod_cast (by norm_num : (-8 : ℝ) ≤ 0)
  exact EReal.mul_nonpos_iff.mpr (Or.inr ⟨EReal.mul_nonpos_iff.mpr (Or.inr ⟨h8, logistic_mem x⟩), softplusNeg_nonneg lam⟩)

theorem decay_exp {x : EReal} (h : x ≤ 0) : Decay (Ideal.exp x) := by
  refine ⟨exp_nonneg x, ?_⟩
  induction x using EReal.rec with
  | bot => simp
  | top => exact absurd h (by simp)
  | coe r => rw [Ideal.exp_coe]; exact EReal.coe_ne_top _

/-- The input scale: `-2·tanh x / (1 - tanh x) = -(e^(2x) - 1)` for `x ≤ 0`. -/
theorem scale_eq {x : EReal} (h : x ≤ 0) :
    Ideal.div (Ideal.ofBits .f32 3221225472#32 * Ideal.tanh x) (1 - Ideal.tanh x)
      = -(Ideal.exp (Ideal.ofBits .f32 1073741824#32 * x) - 1) := by
  rw [ofBits_neg_two, ofBits_two]
  induction x using EReal.rec with
  | top => exact absurd h (by simp)
  | bot =>
    rw [Ideal.tanh_bot, EReal.coe_mul_bot_of_pos (by norm_num : (0 : ℝ) < 2), Ideal.exp_bot,
      ← EReal.coe_one, ← EReal.coe_neg, ← EReal.coe_sub, ← EReal.coe_mul, Ideal.div_coe (by norm_num), ← EReal.coe_mul,
      ← EReal.coe_zero, ← EReal.coe_sub, ← EReal.coe_neg]
    norm_num
  | coe r =>
    have hne : 1 - Real.tanh r ≠ 0 := by have := Real.tanh_lt_one r; linarith
    rw [Ideal.tanh_coe, ← EReal.coe_mul, ← EReal.coe_mul, Ideal.exp_coe, ← EReal.coe_one, ← EReal.coe_sub, ← EReal.coe_sub,
      ← EReal.coe_neg, Ideal.div_coe hne, ← EReal.coe_mul, EReal.coe_eq_coe_iff, mul_one_div, div_eq_iff hne,
      Real.tanh_eq_sinh_div_cosh, Real.sinh_eq, Real.cosh_eq]
    have e2 : Real.exp (2 * r) = Real.exp r * Real.exp r := by rw [← Real.exp_add]; ring_nf
    have en : Real.exp (-r) * Real.exp r = 1 := by rw [← Real.exp_add]; simp
    have hp := Real.exp_pos r
    have hn := Real.exp_pos (-r)
    rw [e2]
    field_simp
    nlinarith [en, hp, hn]

/-- The scaled input of the recurrence as the kernel writes it. -/
def scaledIn (x g v : EReal) : EReal :=
  Ideal.sqrt (Ideal.div (Ideal.ofBits .f32 3221225472#32 * Ideal.tanh x) (1 - Ideal.tanh x)) * (Ideal.logistic g * v)

/-- The kernel's gated output of a state `h` and a gate value `g`. -/
def gelued (h g : EReal) : EReal :=
  h * (g * (Ideal.ofBits .f32 0x3F000000#32 * (1 + Ideal.tanh (Ideal.ofBits .f32 0x3F4C422A#32
    * (g + Ideal.ofBits .f32 0x3D372713#32 * (g * (g * g)))))))

end Cert.Rglru
-- ==== Proof.Layers.lean ====
/-
  The layers from the attention's output on, row by row over the extended reals: the attention's projection, the feed-forward
  layers, the recurrent layer (four-step convolution, two gates by groups of 256 channels, a linear recurrence in time) and the
  last norm. One batch row is a sequence of rows; a step before the first is one of the three earlier inputs.
-/
module

public import proofs.«01_k».proof.Proof.Dense
public import proofs.«01_k».proof.Proof.Scan
public import proofs.«01_k».proof.Proof.Scalars

@[expose] public section

noncomputable section

namespace Cert.Layers

open Idealize.ShloMosaic Cert.Dense Cert.Rglru

/-- A row of the model's width. -/
abbrev Row := Fin 4096 → EReal

/-- The weights of the layers. -/
structure Weights where
  mix : Vec Ideal ⟨2, ![2, 4096]⟩ .f32
  ffn : Vec Ideal ⟨2, ![2, 4096]⟩ .f32
  last : Vec Ideal ⟨1, ![4096]⟩ .f32
  wo : Vec Ideal ⟨3, ![1, 4096, 4096]⟩ .f32
  win : Vec Ideal ⟨3, ![1, 4096, 11264]⟩ .f32
  cw : Vec Ideal ⟨3, ![1, 4, 5632]⟩ .f32
  cb : Vec Ideal ⟨2, ![1, 5632]⟩ .f32
  wa : Vec Ideal ⟨4, ![1, 22, 256, 256]⟩ .f32
  ba : Vec Ideal ⟨2, ![1, 5632]⟩ .f32
  wi : Vec Ideal ⟨4, ![1, 22, 256, 256]⟩ .f32
  bi : Vec Ideal ⟨2, ![1, 5632]⟩ .f32
  lam : Vec Ideal ⟨2, ![1, 5632]⟩ .f32
  wout : Vec Ideal ⟨3, ![1, 5632, 4096]⟩ .f32
  up : Vec Ideal ⟨3, ![2, 4096, 22016]⟩ .f32
  down : Vec Ideal ⟨3, ![2, 11008, 4096]⟩ .f32

/-- Column `j` of the gates' half of the up projection and of the other half. -/
def upG (j : Fin 11008) : Fin 22016 := ⟨j.val, by omega⟩
def upU (j : Fin 11008) : Fin 22016 := ⟨11008 + j.val, by omega⟩

/-- Channel `l` of group `n`. -/
def col (n : Fin 22) (l : Fin 256) : Fin 5632 := ⟨n.val * 256 + l.val, by omega⟩
/-- The same channel among the 11264 projected ones, whose first half is the gate branch. -/
def colG (n : Fin 22) (l : Fin 256) : Fin 11264 := ⟨n.val * 256 + l.val, by omega⟩
/-- The same channel in the second half, the recurrent branch. -/
def colU (n : Fin 22) (l : Fin 256) : Fin 11264 := ⟨(n.val + 22) * 256 + l.val, by omega⟩
/-- The group of a column, and its channel within the group. -/
def grp (i : Fin 5632) : Fin 22 := ⟨i.val / 256, by omega⟩
def lane (i : Fin 5632) : Fin 256 := ⟨i.val % 256, by omega⟩

theorem col_grp (i : Fin 5632) : col (grp i) (lane i) = i :=
  Fin.ext (by show i.val / 256 * 256 + i.val % 256 = i.val; omega)
theorem grp_col (n : Fin 22) (l : Fin 256) : grp (col n l) = n := Fin.ext (by show (n.val * 256 + l.val) / 256 = n.val; omega)
theorem lane_col (n : Fin 22) (l : Fin 256) : lane (col n l) = l := Fin.ext (by show (n.val * 256 + l.val) % 256 = l.val; omega)

variable (w : Weights)

/-- A row plus the projection of the attention's row. -/
def attended (o x : Row) : Row := fun k => x k + dot o fun j => w.wo (ix3 0 j k)

/-- The hidden row of feed-forward layer `L`. -/
def hiddenRow (L : Fin 2) (n : Row) (j : Fin 11008) : EReal :=
  swiglu (dot n fun k => w.up (ix3 L k (upG j))) (dot n fun k => w.up (ix3 L k (upU j)))

/-- Feed-forward layer `L`. -/
def ffnRow (L : Fin 2) (x : Row) : Row := fun k =>
  x k + dot (hiddenRow w L fun l => rms x (w.ffn (ix2 L l)) l) fun j => w.down (ix3 L j k)

/-- The two branches of the recurrent layer. -/
def branches (x : Row) (j : Fin 11264) : EReal := dot (fun k => rms x (w.mix (ix2 1 k)) k) fun k => w.win (ix3 0 k j)

section

variable (gu : ℕ → Fin 11264 → EReal) (cp : Fin 3 → Fin 5632 → EReal) (h0 : Fin 5632 → EReal)

/-- Row `k` of the three earlier inputs followed by the inputs. -/
def uRow (n : Fin 22) (k : ℕ) (l : Fin 256) : EReal := if k < 3 then cp (Fin.ofNat 3 k) (col n l) else gu (k - 3) (colU n l)

/-- The causal convolution over four steps. -/
def uConv (n : Fin 22) (t : ℕ) (l : Fin 256) : EReal :=
  w.cb (ix2 0 (col n l)) + uRow gu cp n t l * w.cw (ix3 0 0 (col n l)) + uRow gu cp n (t + 1) l * w.cw (ix3 0 1 (col n l))
    + uRow gu cp n (t + 2) l * w.cw (ix3 0 2 (col n l)) + uRow gu cp n (t + 3) l * w.cw (ix3 0 3 (col n l))

/-- A gate's argument: the convolved inputs of the group through the group's matrix, plus the bias. -/
def gate (m : Vec Ideal ⟨4, ![1, 22, 256, 256]⟩ .f32) (b : Vec Ideal ⟨2, ![1, 5632]⟩ .f32) (n : Fin 22) (t : ℕ) (l : Fin 256) : EReal :=
  (∑ x, uConv w gu cp n t x * m (ix4 0 n x l)) + b (ix2 0 (col n l))

/-- The logarithm of the decay. -/
def logDec (n : Fin 22) (t : ℕ) (l : Fin 256) : EReal := logDecay (gate w gu cp w.wa w.ba n t l) (w.lam (ix2 0 (col n l)))

/-- What step `t` adds to the state. -/
def added (n : Fin 22) (t : ℕ) (l : Fin 256) : EReal :=
  scaledIn (logDec w gu cp n t l) (gate w gu cp w.wi w.bi n t l) (uConv w gu cp n t l)

/-- The state before step `t`. -/
def state (n : Fin 22) (l : Fin 256) (t : ℕ) : EReal :=
  hseq (h0 (col n l)) (fun t => Ideal.exp (logDec w gu cp n t l)) (fun t => added w gu cp n t l) t

/-- The gated states of step `t`. -/
def gated (t : ℕ) (i : Fin 5632) : EReal := gelued (state w gu cp h0 (grp i) (lane i) (t + 1)) (gu t (colG (grp i) (lane i)))

theorem state_congr {gu gu' : ℕ → Fin 11264 → EReal} {T : ℕ} (h : ∀ t < T, gu t = gu' t) (n : Fin 22) (l : Fin 256) :
    ∀ k ≤ T, state w gu cp h0 n l k = state w gu' cp h0 n l k := by
  intro k hk
  have hr : ∀ t < k, ∀ j ≤ 3, ∀ l, uRow gu cp n (t + j) l = uRow gu' cp n (t + j) l := fun t ht j hj l => by
    unfold uRow
    by_cases h3 : t + j < 3
    · rw [if_pos h3, if_pos h3]
    · rw [if_neg h3, if_neg h3, h _ (by omega)]
  have hc : ∀ t < k, ∀ l, uConv w gu cp n t l = uConv w gu' cp n t l := fun t ht l => by
    unfold uConv
    have e0 := hr t ht 0 (by omega) l
    rw [Nat.add_zero] at e0
    rw [e0, hr t ht 1 (by omega) l, hr t ht 2 (by omega) l, hr t ht 3 (by omega) l]
  have hg : ∀ t < k, ∀ m b l, gate w gu cp m b n t l = gate w gu' cp m b n t l := fun t ht m b l => by
    unfold gate
    simp only [hc t ht]
  unfold state
  refine hseq_congr k (fun t ht => ?_) (fun t ht => ?_)
  · unfold logDec; rw [hg t ht]
  · unfold added logDec; rw [hg t ht, hg t ht, hc t ht]

end

section

variable (o x : ℕ → Row) (cp : Fin 3 → Fin 5632 → EReal) (h0 : Fin 5632 → EReal)

/-- The rows after the first layer's projection and feed-forward layer. -/
def rows1 (t : ℕ) : Row := ffnRow w 0 (attended w (o t) (x t))

/-- The branches of all steps. -/
def guRows (t : ℕ) : Fin 11264 → EReal := branches w (rows1 w o x t)

/-- The rows after the recurrent layer. -/
def rows2 (t : ℕ) : Row := fun k => rows1 w o x t k + dot (gated w (guRows w o x) cp h0 t) fun i => w.wout (ix3 0 i k)

/-- The layers' result at step `t`. -/
def outRow (t : ℕ) : Row := fun k => rms (ffnRow w 1 (rows2 w o x cp h0 t)) (w.last (ix1 k)) k

end

/-- Row `t` of batch row `b` of an array. -/
def seq {B T C : ℕ} [NeZero T] (a : Vec Ideal ⟨3, ![B, T, C]⟩ .f32) (b : Fin B) (t : ℕ) (k : Fin C) : EReal := a (ix3 b (Fin.ofNat T t) k)

/-- All rows of all batch rows, one below the other. -/
def rowsOf (B T : ℕ) [NeZero B] {R C : ℕ} (f : Fin B → ℕ → Fin C → EReal) : Vec Ideal ⟨2, ![R, C]⟩ .f32 :=
  fun i => f (Fin.ofNat B ((i 0).val / T)) ((i 0).val % T) (i 1)

section

variable {B T R : ℕ} [NeZero B]

theorem normed_rows (x : Fin B → ℕ → Row) (g : Vec Ideal ⟨2, ![1, 4096]⟩ .f32) (g' : Row) (h : ∀ k, g (ix2 0 k) = g' k) :
    normed (R := R) (rowsOf B T x) g = rowsOf B T fun b t k => rms (x b t) (g' k) k := by
  rw [← funext h]
  rfl

theorem summed_rows {K n : ℕ} (L : Fin n) (h : Fin B → ℕ → Fin K → EReal) (m : Vec Ideal ⟨3, ![n, K, 4096]⟩ .f32) (x : Fin B → ℕ → Row) :
    summed (R := R) L (rowsOf B T h) m (rowsOf B T x) = rowsOf B T fun b t k => x b t k + dot (h b t) fun j => m (ix3 L j k) := rfl

theorem hidden_rows (L : Fin 2) (n : Fin B → ℕ → Row) : hidden (R := R) L (rowsOf B T n) w.up = rowsOf B T fun b t => hiddenRow w L (n b t) := rfl

theorem projected_rows {K M : ℕ} (n : Fin B → ℕ → Fin K → EReal) (m : Vec Ideal ⟨3, ![1, K, M]⟩ .f32) :
    projected (R := R) (rowsOf B T n) m = rowsOf B T fun b t j => dot (n b t) fun k => m (ix3 0 k j) := rfl

end

end Cert.Layers

end
-- ==== Proof.PromptLoop.lean ====
/-
  The kernel's loop over the groups of eight rows. Before trip `k` the carried row is the state before row `8k` of the
  recurrence whose decays lie in one scratch array and whose inputs lay in the other; the latter holds by then the
  states of the rows passed, and still the inputs of the rows to come.
-/
module

public import proofs.«01_k».proof.Proof.Scan
public import proofs.«01_k».proof.Proof.Gen.PromptIdeal.Loops
public import Idealize.ShloMosaic.Lib.VecWindow
public import Idealize.ShloMosaic.Lib.WritesUnit

@[expose] public section

noncomputable section

namespace Cert.Layers.Prompt

open Idealize.ShloMosaic Idealize.ShloMosaic.TcCoe Idealize.ShloMosaic.Tactic
open Cert.PromptIdeal Cert.PromptIdeal.Gen Cert.Rglru

/-- The value that one trip of the kernel's loop stores, of the decays `a`, the inputs `b` and the carried row. -/
def groupVal (acc : FVec Ideal S1x256 .f32) (a b : FVec Ideal S8x256 .f32) : FVec Ideal S8x256 .f32 :=
  k6_pay21 acc (k6_pay4 (iota .tc S8x256 32 [0] iota_S8x256_d0_w32) a b) (k6_pay5 (iota .tc S8x256 32 [0] iota_S8x256_d0_w32) a)
    (k6_pay6 (iota .tc S8x256 32 [0] iota_S8x256_d0_w32) a) (k6_pay7 (iota .tc S8x256 32 [0] iota_S8x256_d0_w32)) 4#32

/-- ONE GROUP: row `j` of the stored value is the state after row `j` of the recurrence from the carried row. -/
theorem groupVal_apply (acc : FVec Ideal S1x256 .f32) (a b : FVec Ideal S8x256 .f32) (l : Fin 256)
    (ha : ∀ j : Fin 8, Decay (a (ix2 j l))) (j : Fin 8) :
    groupVal acc a b (ix2 j l)
      = hseq (acc (ix2 0 l)) (fun n => a (ix2 (Fin.ofNat 8 n) l)) (fun n => b (ix2 (Fin.ofNat 8 n) l)) (j.val + 1) := by
  unfold groupVal
  pointwise [k6_pay21, k6_pay7, k6_pay6, k6_pay5, k6_pay4, k6_pay3]
  have hd : ∀ j x y, a (ix2 j l) * (x + y) = a (ix2 j l) * x + a (ix2 j l) * y := fun j => (ha j).mul_add
  revert hd
  generalize hA : (fun j : Fin 8 => a (ix2 j l)) = A
  generalize hB : (fun j : Fin 8 => b (ix2 j l)) = B
  have hA' : ∀ j, a (ix2 j l) = A j := fun j => congrFun hA j
  have hB' : ∀ j, b (ix2 j l) = B j := fun j => congrFun hB j
  simp only [hA', hB']
  intro hd
  have h1 : ∀ x y : EReal, Scalar.select (1#1) x y = x := fun _ _ => rfl
  have h0 : ∀ x y : EReal, Scalar.select (0#1) x y = y := fun _ _ => rfl
  fin_cases j <;>
    simp (decide := true) [hseq, IntOp.cmpi, h1, h0, hd, mul_assoc, add_assoc]
  all_goals rfl

/-- The loop makes 256 trips. -/
theorem trips_eq : k6_t1_loop.trips = 256 := by decide

/-- The index vector the masks of the loop are made of: the row. -/
abbrev rowIota : IVec S8x256 32 := iota .tc S8x256 32 [0] iota_S8x256_d0_w32

section

variable (𝒱 : Variants) (c : Dev nD) (bd : Option 𝒱.V) (i : grid6.Coords) (arg2 : Memref sig .tc .vmem S1x2048x256 .f32) (harg2 : arg2.IsWhole) (arg3 : Memref sig .tc .vmem S1x2048x256 .f32) (harg3 : arg3.IsWhole) (arg4 : Memref sig .tc .vmem S1x8x256 .f32) (harg4 : arg4.IsWhole) (arg5 : Memref sig .tc .vmem S1x1x256 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x1x256x256 .bf16) (harg8 : arg8.IsWhole) (arg9 : Memref sig .tc .vmem S1x256 .f32) (harg9 : arg9.IsWhole) (arg10 : Memref sig .tc .vmem S1x1x256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x2048x256 .bf16) (harg13 : arg13.IsWhole) (arg14 : Memref sig .tc .vmem S1x8x256 .f32) (harg14 : arg14.IsWhole) (arg15 : Memref sig .tc .vmem S1x8x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole)
  (v33 v54 v68 v69 : FVec Ideal S2048x256 .f32) (X : BufTy.Contents (Elt Ideal) arg17.view.ty)

/-- The eight rows of the decays that trip `k` loads. -/
def aRows (k : Fin k6_t1_loop.trips) : FVec Ideal S8x256 .f32 :=
  View.readAt (Elt Ideal) arg17.view (Rect.unit (s := S2048x256) (k6_off1 k) S8x256.size (k6_off1_inb k)).toLoadRect X

/-- The eight rows of the inputs that trip `k` loads. -/
def bRows (f : BufTy.Contents (Elt Ideal) arg18.view.ty) (k : Fin k6_t1_loop.trips) : FVec Ideal S8x256 .f32 :=
  View.readAt (Elt Ideal) arg18.view (Rect.unit (s := S2048x256) (k6_off1 k) S8x256.size (k6_off1_inb k)).toLoadRect f

/-- What one trip stores: the group's rows, at the group's place. -/
theorem tripL_eq (k : Fin k6_t1_loop.trips) (acc : FVec Ideal S1x256 .f32) (f : BufTy.Contents (Elt Ideal) arg18.view.ty) :
    tripL_k6_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v33 v54 v68 v69 rowIota X k acc f
      = [⟨Rect.unit (s := S2048x256) (k6_off1 k) S8x256.size (k6_off1_inb k), groupVal acc (aRows arg17 X k) (bRows arg18 f k)⟩] := by
  unfold tripL_k6_t1 trip_k6_t1
  dsimp only
  unfold k6_pay22
  rw [shapeCast_self]
  rfl

/-- What one trip carries on: the last row of the group. -/
theorem tripR_eq (k : Fin k6_t1_loop.trips) (acc : FVec Ideal S1x256 .f32) (f : BufTy.Contents (Elt Ideal) arg18.view.ty) :
    tripR_k6_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v33 v54 v68 v69 rowIota X k acc f
      = extractStridedSlice S1x256 ![7, 0] (groupVal acc (aRows arg17 X k) (bRows arg18 f k)) slices_S8x256_o7_0_S1x256 := by
  unfold tripR_k6_t1 trip_k6_t1
  dsimp only
  unfold k6_pay23
  rfl

/-- The row `8k + j` of the array. -/
def rowOf (k : Fin k6_t1_loop.trips) (j : Fin 8) : Fin 2048 :=
  ⟨8 * k.val + j.val, by have := k.isLt; have := trips_eq; omega⟩

theorem aRows_apply (k : Fin k6_t1_loop.trips) (j : Fin 8) (l : Fin 256) :
    aRows arg17 X k (ix2 j l) = View.read (Elt Ideal) arg17.view X (ix2 (rowOf k j) l) := by
  unfold aRows
  rw [View.readAt_unit arg17.view X (k6_off1_inb k) (k6_off1_eq k) (k6_off1_eq k ▸ k6_off1_inb k)]
  refine congrArg (View.read (Elt Ideal) arg17.view X) (funext fun a => Fin.ext ?_)
  match a with
  | ⟨0, _⟩ => show 8 * k.val + 1 * j.val = 8 * k.val + j.val; omega
  | ⟨1, _⟩ => show 0 + 1 * l.val = l.val; omega

theorem bRows_apply (f : BufTy.Contents (Elt Ideal) arg18.view.ty) (k : Fin k6_t1_loop.trips) (j : Fin 8) (l : Fin 256) :
    bRows arg18 f k (ix2 j l) = View.read (Elt Ideal) arg18.view f (ix2 (rowOf k j) l) := by
  unfold bRows
  rw [View.readAt_unit arg18.view f (k6_off1_inb k) (k6_off1_eq k) (k6_off1_eq k ▸ k6_off1_inb k)]
  refine congrArg (View.read (Elt Ideal) arg18.view f) (funext fun a => Fin.ext ?_)
  match a with
  | ⟨0, _⟩ => show 8 * k.val + 1 * j.val = 8 * k.val + j.val; omega
  | ⟨1, _⟩ => show 0 + 1 * l.val = l.val; omega

variable (G : BufTy.Contents (Elt Ideal) arg18.view.ty) (init : FVec Ideal S1x256 .f32)

/-- The state before row `n` of lane `l`: the recurrence over the rows of the two scratch arrays from the row `init`. -/
def hRow (l : Fin 256) (n : ℕ) : EReal :=
  hseq (init (ix2 0 l)) (fun n => View.read (Elt Ideal) arg17.view X (ix2 (Fin.ofNat 2048 n) l))
    (fun n => View.read (Elt Ideal) arg18.view G (ix2 (Fin.ofNat 2048 n) l)) n

/-- THE LOOP: before trip `k` the carried row is the state before row `8k`, the rows passed hold their states and the
    rows to come what they held at the start. -/
theorem st_inv (hdec : ∀ r l, Decay (View.read (Elt Ideal) arg17.view X (ix2 r l))) :
    ∀ k, k ≤ k6_t1_loop.trips → ∀ l : Fin 256,
      (st_k6_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v33 v54 v68 v69 rowIota X G init k).1 (ix2 0 l)
          = hRow arg17 arg18 X G init l (8 * k)
        ∧ ∀ r : Fin 2048, View.read (Elt Ideal) arg18.view (arg18.view.writes (Elt Ideal) G
            (st_k6_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v33 v54 v68 v69 rowIota X G init k).2) (ix2 r l)
          = if r.val < 8 * k then hRow arg17 arg18 X G init l (r.val + 1) else View.read (Elt Ideal) arg18.view G (ix2 r l) := by
  intro k
  induction k with
  | zero =>
    intro _ l
    refine ⟨rfl, fun r => ?_⟩
    rw [if_neg (by omega)]; rfl
  | succ k ih =>
    intro hk l
    have hk' : k < k6_t1_loop.trips := hk
    obtain ⟨ihc, ihr⟩ := ih (Nat.le_of_lt hk') l
    rw [st_k6_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v33 v54 v68 v69 rowIota X G init ⟨k, hk'⟩]
    simp only [tripL_eq, tripR_eq]
    revert ihc ihr
    generalize st_k6_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v33 v54 v68 v69 rowIota X G init k = s
    intro ihc ihr
    have hg : ∀ j : Fin 8, groupVal s.1 (aRows arg17 X ⟨k, hk'⟩) (bRows arg18 (arg18.view.writes (Elt Ideal) G s.2) ⟨k, hk'⟩) (ix2 j l)
        = hRow arg17 arg18 X G init l (8 * k + j.val + 1) := by
      intro j
      rw [groupVal_apply _ _ _ l (fun j => by rw [aRows_apply]; exact hdec _ _) j, ihc]
      unfold hRow
      rw [show 8 * k + j.val + 1 = 8 * k + (j.val + 1) by omega, hseq_add _ _ _ (8 * k) (j.val + 1)]
      have hrow : ∀ n < j.val + 1, rowOf ⟨k, hk'⟩ (Fin.ofNat 8 n) = Fin.ofNat 2048 (8 * k + n) := by
        intro n hn
        have := trips_eq
        apply Fin.ext
        show 8 * k + n % 8 = (8 * k + n) % 2048
        omega
      refine hseq_congr _ (fun n hn => ?_) (fun n hn => ?_)
      · rw [aRows_apply, hrow n hn]
      · rw [bRows_apply, hrow n hn, ihr, if_neg]
        have := trips_eq
        show ¬ (8 * k + n) % 2048 < 8 * k
        omega
    refine ⟨?_, fun r => ?_⟩
    · show groupVal _ _ _ _ = _
      rw [← show 8 * k + (7 : Fin 8).val + 1 = 8 * (k + 1) from rfl, ← hg 7]
      refine congrArg _ (funext fun a => Fin.ext ?_)
      match a with
      | ⟨0, _⟩ => rfl
      | ⟨1, _⟩ => show 0 + l.val = l.val; omega
    · by_cases h : 8 * k ≤ r.val ∧ r.val < 8 * k + 8
      · rw [List.singleton_append, View.read_writes_cons_rows_of_mem arg18.view G (k6_off1_inb ⟨k, hk'⟩) _ s.2 (ix2 r l)
          (ix2 ⟨r.val - 8 * k, by omega⟩ l) (k6_off1_eq ⟨k, hk'⟩) (by show r.val = 8 * k + (r.val - 8 * k); omega) rfl,
          hg, if_pos (by omega)]
        congr 1
        show 8 * k + (r.val - 8 * k) + 1 = _
        omega
      · rw [List.singleton_append, View.read_writes_cons_rows_of_not_mem arg18.view G (k6_off1_inb ⟨k, hk'⟩) _ s.2 (ix2 r l)
          (k6_off1_eq ⟨k, hk'⟩) (W := 8) rfl (by show r.val < 8 * k ∨ 8 * k + 8 ≤ r.val; omega), ihr]
        by_cases h2 : r.val < 8 * k
        · rw [if_pos h2, if_pos (by omega)]
        · rw [if_neg h2, if_neg (by omega)]

end

end Cert.Layers.Prompt
-- ==== Proof.Block.lean ====
/-
  One block of the recurrence, 256 channels over `T` rows, of the arrays that it reads: the rows it reaches back to, the
  convolution, the gates and the state. Where those arrays hold the weights, the branches and the earlier inputs and state of a
  batch row and a group of channels, these are the recurrent layer's functions. Last, the arrays that all blocks make up.
-/
module

public import proofs.«01_k».proof.Proof.Layers

@[expose] public section

noncomputable section

namespace Cert.Layers

open Idealize.ShloMosaic Cert.Rglru

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

section

variable {T : ℕ} [NeZero T] (x1 : Vec Ideal ⟨3, ![1, T, 256]⟩ .f32) (x2 : Vec Ideal ⟨3, ![1, 8, 256]⟩ .f32) (x3 : Vec Ideal ⟨3, ![1, 1, 256]⟩ .f32)
  (x4 : Vec Ideal ⟨2, ![4, 256]⟩ .f32) (x5 : Vec Ideal ⟨2, ![1, 256]⟩ .f32) (x6 : Vec Ideal ⟨4, ![1, 1, 256, 256]⟩ .bf16)
  (x7 : Vec Ideal ⟨2, ![1, 256]⟩ .f32) (x8 : Vec Ideal ⟨4, ![1, 1, 256, 256]⟩ .bf16) (x9 x10 : Vec Ideal ⟨2, ![1, 256]⟩ .f32)

/-- Row `n` of the eight earlier rows followed by the block's rows. -/
def ext (n : ℕ) (l : Fin 256) : EReal :=
  if n < 8 then x2 (ix3 0 (Fin.ofNat 8 n) l) else x1 (ix3 0 (Fin.ofNat T (n - 8)) l)

/-- The convolution at row `n`: the bias, three earlier rows and the row itself, weighted. -/
def conv (n : ℕ) (l : Fin 256) : EReal :=
  x5 (ix2 0 l) + ext x1 x2 (5 + n) l * x4 (ix2 0 l) + ext x1 x2 (6 + n) l * x4 (ix2 1 l)
    + ext x1 x2 (7 + n) l * x4 (ix2 2 l) + x1 (ix3 0 (Fin.ofNat T n) l) * x4 (ix2 3 l)

/-- A gate's argument at row `n`: the row of the convolution times the gate's weights, plus its bias. -/
def gateArg (w : Vec Ideal ⟨4, ![1, 1, 256, 256]⟩ .bf16) (b : Vec Ideal ⟨2, ![1, 256]⟩ .f32) (n : ℕ) (l : Fin 256) : EReal :=
  (∑ x, conv x1 x2 x4 x5 n x * w (ix4 0 0 x l)) + b (ix2 0 l)

/-- The logarithm of the decay at row `n`. -/
def logA (n : ℕ) (l : Fin 256) : EReal := logDecay (gateArg x1 x2 x4 x5 x6 x7 n l) (x10 (ix2 0 l))

/-- The state before row `n`. -/
def hBlk (l : Fin 256) (n : ℕ) : EReal :=
  hseq (x3 (ix3 0 0 l)) (fun n => Ideal.exp (logA x1 x2 x4 x5 x6 x7 x10 n l))
    (fun n => scaledIn (logA x1 x2 x4 x5 x6 x7 x10 n l) (gateArg x1 x2 x4 x5 x8 x9 n l) (conv x1 x2 x4 x5 n l)) n

/-- The arrays hold what the block of channel group `n` reads of the weights `w`, the branches `gu`, the three earlier inputs
and the state before the first step. Of the eight earlier rows only the last three are ever read. -/
structure Reads (w : Weights) (gu : ℕ → Fin 11264 → EReal) (cp : Fin 3 → Fin 5632 → EReal) (h0 : Fin 5632 → EReal) (n : Fin 22) : Prop where
  u : ∀ (j : Fin T) l, x1 (ix3 0 j l) = gu j.val (colU n l)
  cp : ∀ (k : Fin 3) l, x2 (ix3 0 ⟨5 + k.val, by omega⟩ l) = cp k (col n l)
  h0 : ∀ l, x3 (ix3 0 0 l) = h0 (col n l)
  cw : ∀ j l, x4 (ix2 j l) = w.cw (ix3 0 j (col n l))
  cb : ∀ l, x5 (ix2 0 l) = w.cb (ix2 0 (col n l))
  wa : ∀ j l, x6 (ix4 0 0 j l) = w.wa (ix4 0 n j l)
  ba : ∀ l, x7 (ix2 0 l) = w.ba (ix2 0 (col n l))
  wi : ∀ j l, x8 (ix4 0 0 j l) = w.wi (ix4 0 n j l)
  bi : ∀ l, x9 (ix2 0 l) = w.bi (ix2 0 (col n l))
  lam : ∀ l, x10 (ix2 0 l) = w.lam (ix2 0 (col n l))

variable {x1 x2 x3 x4 x5 x6 x7 x8 x9 x10} {w : Weights} {gu : ℕ → Fin 11264 → EReal} {cp : Fin 3 → Fin 5632 → EReal}
  {h0 : Fin 5632 → EReal} {n : Fin 22} (H : Reads x1 x2 x3 x4 x5 x6 x7 x8 x9 x10 w gu cp h0 n)

include H

/-- The rows a block reads, up to its last row. -/
theorem ext_reads (k : ℕ) (hk : k < T + 3) (l : Fin 256) : ext x1 x2 (5 + k) l = uRow gu cp n k l := by
  unfold ext uRow
  by_cases h : k < 3
  · rw [if_pos (by omega), if_pos h]
    have h8 : (Fin.ofNat 8 (5 + k) : Fin 8) = ⟨5 + (Fin.ofNat 3 k).val, by have := (Fin.ofNat 3 k).isLt; omega⟩ :=
      Fin.ext (by show (5 + k) % 8 = 5 + k % 3; omega)
    rw [h8]
    exact H.cp _ l
  · rw [if_neg (by omega), if_neg h, show 5 + k - 8 = k - 3 by omega]
    refine (H.u _ l).trans ?_
    rw [show (Fin.ofNat T (k - 3)).val = k - 3 from Nat.mod_eq_of_lt (by omega)]

theorem conv_reads (k : ℕ) (hk : k < T) (l : Fin 256) : conv x1 x2 x4 x5 k l = uConv w gu cp n k l := by
  unfold conv uConv
  have e3 : x1 (ix3 0 (Fin.ofNat T k) l) = uRow gu cp n (k + 3) l := by
    unfold uRow
    rw [if_neg (by omega), Nat.add_sub_cancel]
    refine (H.u _ l).trans ?_
    rw [show (Fin.ofNat T k).val = k from Nat.mod_eq_of_lt hk]
  rw [show 6 + k = 5 + (k + 1) by omega, show 7 + k = 5 + (k + 2) by omega, ext_reads H k (by omega), ext_reads H (k + 1) (by omega),
    ext_reads H (k + 2) (by omega), H.cb, e3]
  simp only [H.cw]

/-- A gate's argument, for either gate. -/
theorem gate_reads {x : Vec Ideal ⟨4, ![1, 1, 256, 256]⟩ .bf16} {y : Vec Ideal ⟨2, ![1, 256]⟩ .f32} {m : Vec Ideal ⟨4, ![1, 22, 256, 256]⟩ .f32}
    {b : Vec Ideal ⟨2, ![1, 5632]⟩ .f32} (hx : ∀ j l, x (ix4 0 0 j l) = m (ix4 0 n j l)) (hy : ∀ l, y (ix2 0 l) = b (ix2 0 (col n l)))
    (k : ℕ) (hk : k < T) (l : Fin 256) : gateArg x1 x2 x4 x5 x y k l = gate w gu cp m b n k l := by
  unfold gateArg gate
  rw [hy]
  simp only [conv_reads H k hk, hx]

/-- The state that a block computes. -/
theorem hBlk_reads (l : Fin 256) (k : ℕ) (hk : k ≤ T) : hBlk x1 x2 x3 x4 x5 x6 x7 x8 x9 x10 l k = state w gu cp h0 n l k := by
  unfold hBlk state
  rw [H.h0]
  refine hseq_congr k (fun j hj => ?_) (fun j hj => ?_)
  · unfold logA logDec
    rw [gate_reads H H.wa H.ba j (by omega), H.lam]
  · unfold logA added logDec
    rw [gate_reads H H.wa H.ba j (by omega), gate_reads H H.wi H.bi j (by omega), conv_reads H j (by omega), H.lam]

end

section

variable {B : ℕ} (T o : ℕ) (w : Weights) (gu : Fin B → ℕ → Fin 11264 → EReal) (cp : Fin B → Fin 3 → Fin 5632 → EReal) (h0 : Fin B → Fin 5632 → EReal)

/-- The gated states of every step. -/
def outY : Vec Ideal ⟨3, ![B, T, 5632]⟩ .bf16 := fun i => gated w (gu (i 0)) (cp (i 0)) (h0 (i 0)) (i 1).val (i 2)
/-- The last eight inputs of the recurrent branch, from step `o` on. -/
def outConv : Vec Ideal ⟨3, ![B, 8, 5632]⟩ .f32 := fun i => gu (i 0) (o + (i 1).val) (colU (grp (i 2)) (lane (i 2)))
/-- The last eight states, from the one after step `o` on. -/
def outH : Vec Ideal ⟨3, ![B, 8, 5632]⟩ .f32 := fun i => state w (gu (i 0)) (cp (i 0)) (h0 (i 0)) (grp (i 2)) (lane (i 2)) (o + (i 1).val + 1)

theorem outConv_at (b : Fin B) (j : Fin 8) (n : Fin 22) (l : Fin 256) :
    outConv o gu (ix3 b j (col n l)) = gu b (o + j.val) (colU n l) := by
  show gu b (o + j.val) (colU (grp (col n l)) (lane (col n l))) = _
  rw [grp_col, lane_col]

theorem outH_at (b : Fin B) (j : Fin 8) (n : Fin 22) (l : Fin 256) :
    outH o w gu cp h0 (ix3 b j (col n l)) = state w (gu b) (cp b) (h0 b) n l (o + j.val + 1) := by
  show state w (gu b) (cp b) (h0 b) (grp (col n l)) (lane (col n l)) (o + j.val + 1) = _
  rw [grp_col, lane_col]

end

end Cert.Layers

end
-- ==== Proof.PromptBlock.lean ====
/-
  One block of the kernel (one batch row, 256 lanes): what its three outputs hold, index by index, of the eleven
  blocks it reads. The convolution reads the eight earlier rows and the block's own rows as one array of 2056 rows.
-/
module

public import proofs.«01_k».proof.Proof.PromptLoop
public import proofs.«01_k».proof.Proof.Gen.PromptIdeal.Frame.Region6
public import proofs.«01_k».proof.Proof.Block

@[expose] public section

noncomputable section

namespace Cert.Layers.Prompt

open Idealize.ShloMosaic Idealize.ShloMosaic.TcCoe Idealize.ShloMosaic.Tactic
open Cert.PromptIdeal Cert.PromptIdeal.Gen Cert.Rglru

section

variable (x0 x1 : Vec Ideal S1x2048x256 .f32) (x2 : Vec Ideal S1x8x256 .f32) (x3 : Vec Ideal S1x1x256 .f32)
  (x4 : Vec Ideal S4x256 .f32) (x5 : Vec Ideal S1x256 .f32) (x6 : Vec Ideal S1x1x256x256 .bf16) (x7 : Vec Ideal S1x256 .f32)
  (x8 : Vec Ideal S1x1x256x256 .bf16) (x9 x10 : Vec Ideal S1x256 .f32)

/-- The two pieces that the kernel writes into its scratch array of 2056 rows. -/
abbrev extPieces : List (View.Piece (Elt Ideal) S2056x256 .f32) :=
  [⟨Rect.unit ![8, 0] S2048x256.size inb_S2056x256_S2048x256_8_0, k6_pay10 (F := Ideal) x1⟩,
    ⟨Rect.unit ![0, 0] S8x256.size inb_S2056x256_S8x256_0_0, k6_pay9 (F := Ideal) x2⟩]

theorem pay10_apply (j : Fin 2048) (l : Fin 256) : k6_pay10 (F := Ideal) x1 (ix2 j l) = x1 (ix3 0 j l) := by
  pointwise [k6_pay10, k6_pay8]

theorem pay9_apply (j : Fin 8) (l : Fin 256) : k6_pay9 (F := Ideal) x2 (ix2 j l) = x2 (ix3 0 j l) := by
  pointwise [k6_pay9]

/-- The scratch array reads as the extended rows. -/
theorem ext_read (v : View sig .tc .vmem S2056x256 .f32) (r : Fin 2056) (l : Fin 256) :
    v.read (Elt Ideal) (v.writes (Elt Ideal) v.junk (extPieces x1 x2)) (ix2 r l) = ext x1 x2 r.val l := by
  unfold extPieces
  by_cases h : 8 ≤ r.val
  · rw [View.read_writes_cons_rows_of_mem v v.junk inb_S2056x256_S2048x256_8_0 _ _ (ix2 r l)
      (ix2 (n0 := 2048) (n1 := 256) ⟨r.val - 8, by omega⟩ l) rfl (by show r.val = 8 + (r.val - 8); omega) rfl]
    refine (pay10_apply x1 _ l).trans ?_
    rw [ext, if_neg (by omega)]
    congr 2
    exact Fin.ext (Nat.mod_eq_of_lt (by omega)).symm
  · rw [View.read_writes_cons_rows_of_not_mem v v.junk inb_S2056x256_S2048x256_8_0 _ _ (ix2 r l) rfl (W := 2048) rfl
        (by show r.val < 8 ∨ _; omega),
      View.read_writes_cons_rows_of_mem v v.junk inb_S2056x256_S8x256_0_0 _ _ (ix2 r l)
      (ix2 (n0 := 8) (n1 := 256) ⟨r.val, by omega⟩ l) rfl (by show r.val = 0 + r.val; omega) rfl]
    refine (pay9_apply x2 _ l).trans ?_
    rw [ext, if_pos (by omega)]
    congr 2
    exact Fin.ext (Nat.mod_eq_of_lt (by omega)).symm

/-- Eight or 2048 rows of the scratch array from row `o` on. -/
theorem ext_load {R : ℕ} (v : View sig .tc .vmem S2056x256 .f32) (o : ℕ)
    (inb : ∀ a : Fin 2, (![o, 0] : Fin 2 → Nat) a + (![R, 256] : Fin 2 → Nat) a ≤ S2056x256.size a) (j : Fin R) (l : Fin 256) :
    v.readCov (Val := Elt Ideal) (extPieces x1 x2) (Rect.unit (s := S2056x256) ![o, 0] ![R, 256] inb).toLoadRect (ix2 j l)
      = ext x1 x2 (o + j.val) l := by
  have hb : o + j.val < 2056 := by have := inb 0; have hj := j.isLt; change o + R ≤ 2056 at this; omega
  rw [← ext_read x1 x2 v ⟨o + j.val, hb⟩ l]
  refine congrArg (View.read (Elt Ideal) v _) (funext fun a => Fin.ext ?_)
  match a with
  | ⟨0, _⟩ => show o + 1 * j.val = o + j.val; omega
  | ⟨1, _⟩ => show 0 + 1 * l.val = l.val; omega

/-- The convolution's payload, of the three shifted loads. -/
abbrev convPay (v : View sig .tc .vmem S2056x256 .f32) : FVec Ideal S2048x256 .f32 :=
  k6_pay11 x1 x4 x5
    (v.readCov (Val := Elt Ideal) (extPieces x1 x2) (Rect.unit (s := S2056x256) ![5, 0] S2048x256.size inb_S2056x256_S2048x256_5_0).toLoadRect)
    (v.readCov (Val := Elt Ideal) (extPieces x1 x2) (Rect.unit (s := S2056x256) ![6, 0] S2048x256.size inb_S2056x256_S2048x256_6_0).toLoadRect)
    (v.readCov (Val := Elt Ideal) (extPieces x1 x2) (Rect.unit (s := S2056x256) ![7, 0] S2048x256.size inb_S2056x256_S2048x256_7_0).toLoadRect)

theorem convPay_apply (v : View sig .tc .vmem S2056x256 .f32) (j : Fin 2048) (l : Fin 256) :
    convPay x1 x2 x4 x5 v (ix2 j l) = conv x1 x2 x4 x5 j.val l := by
  have h5 := ext_load x1 x2 v 5 inb_S2056x256_S2048x256_5_0 j l
  have h6 := ext_load x1 x2 v 6 inb_S2056x256_S2048x256_6_0 j l
  have h7 := ext_load x1 x2 v 7 inb_S2056x256_S2048x256_7_0 j l
  unfold conv
  rw [← h5, ← h6, ← h7, show Fin.ofNat 2048 j.val = j from Fin.ext (Nat.mod_eq_of_lt j.isLt)]
  unfold convPay
  generalize v.readCov (Val := Elt Ideal) (extPieces x1 x2) (Rect.unit (s := S2056x256) ![5, 0] S2048x256.size inb_S2056x256_S2048x256_5_0).toLoadRect = e5
  generalize v.readCov (Val := Elt Ideal) (extPieces x1 x2) (Rect.unit (s := S2056x256) ![6, 0] S2048x256.size inb_S2056x256_S2048x256_6_0).toLoadRect = e6
  generalize v.readCov (Val := Elt Ideal) (extPieces x1 x2) (Rect.unit (s := S2056x256) ![7, 0] S2048x256.size inb_S2056x256_S2048x256_7_0).toLoadRect = e7
  pointwise [k6_pay11, k6_pay8]

theorem gate_apply (uc : FVec Ideal S2048x256 .f32) (huc : ∀ j l, uc (ix2 j l) = conv x1 x2 x4 x5 j.val l) (j : Fin 2048) (l : Fin 256) :
    k6_pay14 uc x8 x9 (ix2 j l) = Ideal.logistic (gateArg x1 x2 x4 x5 x8 x9 j.val l) := by
  unfold gateArg
  simp only [← huc]
  pointwise [k6_pay14, k6_pay13]

theorem logA_apply (uc : FVec Ideal S2048x256 .f32) (huc : ∀ j l, uc (ix2 j l) = conv x1 x2 x4 x5 j.val l) (j : Fin 2048) (l : Fin 256) :
    k6_pay17 (k6_pay15 uc x6 x7) (k6_pay16 x10) (ix2 j l) = logA x1 x2 x4 x5 x6 x7 x10 j.val l := by
  unfold logA logDecay softplusNeg gateArg
  simp only [← huc]
  pointwise [k6_pay17, k6_pay16, k6_pay15, k6_pay13]
  rfl

theorem bIn_apply (uc v54 v68 v69 : FVec Ideal S2048x256 .f32) (j : Fin 2048) (l : Fin 256) :
    k6_pay19 uc v54 v68 v69 (ix2 j l)
      = Ideal.sqrt (Ideal.div (Ideal.ofBits .f32 3221225472#32 * Ideal.tanh (k6_pay17 v68 v69 (ix2 j l))) (1 - Ideal.tanh (k6_pay17 v68 v69 (ix2 j l))))
        * (v54 (ix2 j l) * uc (ix2 j l)) := by
  pointwise [k6_pay19]

theorem aOut_apply (v68 v69 : FVec Ideal S2048x256 .f32) (j : Fin 2048) (l : Fin 256) :
    k6_pay18 v68 v69 (ix2 j l) = Ideal.exp (k6_pay17 v68 v69 (ix2 j l)) := by
  pointwise [k6_pay18]

variable (c : Dev nD) (i : grid6.Coords) (arg2 : Memref sig .tc .vmem S1x2048x256 .f32) (harg2 : arg2.IsWhole) (arg3 : Memref sig .tc .vmem S1x2048x256 .f32) (harg3 : arg3.IsWhole) (arg4 : Memref sig .tc .vmem S1x8x256 .f32) (harg4 : arg4.IsWhole) (arg5 : Memref sig .tc .vmem S1x1x256 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x1x256x256 .bf16) (harg8 : arg8.IsWhole) (arg9 : Memref sig .tc .vmem S1x256 .f32) (harg9 : arg9.IsWhole) (arg10 : Memref sig .tc .vmem S1x1x256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x2048x256 .bf16) (harg13 : arg13.IsWhole) (arg14 : Memref sig .tc .vmem S1x8x256 .f32) (harg14 : arg14.IsWhole) (arg15 : Memref sig .tc .vmem S1x8x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole)

/-- THE STATES: after the loop the scratch array of the states holds, at row `r`, the state after row `r`. -/
theorem states_read (v : View sig .tc .vmem S2056x256 .f32) (r : Fin 2048) (l : Fin 256) :
    View.read (Elt Ideal) arg18.view (arg18.view.writes (Elt Ideal) (arg18.view.writes (Elt Ideal) arg18.view.junk
          [⟨Rect.unit ![0, 0] S2048x256.size inb_S2048x256_S2048x256_0_0,
            k6_pay19 (convPay x1 x2 x4 x5 v) (k6_pay14 (convPay x1 x2 x4 x5 v) x8 x9) (k6_pay15 (convPay x1 x2 x4 x5 v) x6 x7) (k6_pay16 x10)⟩])
        (st_k6_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          (convPay x1 x2 x4 x5 v) (k6_pay14 (convPay x1 x2 x4 x5 v) x8 x9) (k6_pay15 (convPay x1 x2 x4 x5 v) x6 x7) (k6_pay16 x10) rowIota
          (arg17.view.writes (Elt Ideal) arg17.view.junk
            [⟨Rect.unit ![0, 0] S2048x256.size inb_S2048x256_S2048x256_0_0, k6_pay18 (k6_pay15 (convPay x1 x2 x4 x5 v) x6 x7) (k6_pay16 x10)⟩])
          (arg18.view.writes (Elt Ideal) arg18.view.junk
            [⟨Rect.unit ![0, 0] S2048x256.size inb_S2048x256_S2048x256_0_0,
              k6_pay19 (convPay x1 x2 x4 x5 v) (k6_pay14 (convPay x1 x2 x4 x5 v) x8 x9) (k6_pay15 (convPay x1 x2 x4 x5 v) x6 x7) (k6_pay16 x10)⟩])
          (k6_pay20 x3) k6_t1_loop.trips).2) (ix2 r l)
      = hBlk x1 x2 x3 x4 x5 x6 x7 x8 x9 x10 l (r.val + 1) := by
  have huc := convPay_apply x1 x2 x4 x5 v
  generalize convPay x1 x2 x4 x5 v = uc at huc ⊢
  have ha : ∀ r l, View.read (Elt Ideal) arg17.view (arg17.view.writes (Elt Ideal) arg17.view.junk
      [⟨Rect.unit ![0, 0] S2048x256.size inb_S2048x256_S2048x256_0_0, k6_pay18 (k6_pay15 uc x6 x7) (k6_pay16 x10)⟩]) (ix2 r l)
        = Ideal.exp (logA x1 x2 x4 x5 x6 x7 x10 r.val l) := by
    intro r l
    rw [View.read_writes_junk_eq_canon, View.canon_unit_zero (S := S2048x256) hz2, aOut_apply, logA_apply x1 x2 x4 x5 x6 x7 x10 uc huc]
  have hb : ∀ r l, View.read (Elt Ideal) arg18.view (arg18.view.writes (Elt Ideal) arg18.view.junk
      [⟨Rect.unit ![0, 0] S2048x256.size inb_S2048x256_S2048x256_0_0, k6_pay19 uc (k6_pay14 uc x8 x9) (k6_pay15 uc x6 x7) (k6_pay16 x10)⟩]) (ix2 r l)
        = scaledIn (logA x1 x2 x4 x5 x6 x7 x10 r.val l) (gateArg x1 x2 x4 x5 x8 x9 r.val l) (conv x1 x2 x4 x5 r.val l) := by
    intro r l
    rw [View.read_writes_junk_eq_canon, View.canon_unit_zero (S := S2048x256) hz2, bIn_apply, logA_apply x1 x2 x4 x5 x6 x7 x10 uc huc,
      gate_apply x1 x2 x4 x5 x8 x9 uc huc, huc]
    rfl
  rw [(st_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 uc (k6_pay14 uc x8 x9) (k6_pay15 uc x6 x7) (k6_pay16 x10) _ _ (k6_pay20 x3)
    (fun r l => by rw [ha]; exact decay_exp (logDecay_nonpos _ _)) k6_t1_loop.trips (le_refl _) l).2 r,
    if_pos (by have := trips_eq; have := r.isLt; omega)]
  unfold hRow hBlk
  have hmod : ∀ n < r.val + 1, (Fin.ofNat 2048 n).val = n := fun n hn => Nat.mod_eq_of_lt (by have := r.isLt; omega)
  rw [show k6_pay20 x3 (ix2 0 l) = x3 (ix3 0 0 l) by pointwise [k6_pay20]]
  refine hseq_congr _ (fun n hn => ?_) (fun n hn => ?_)
  · rw [ha, hmod n hn]
  · rw [hb, hmod n hn]

theorem pay2_apply (w : Vec Ideal S8x256 .f32) (j : Fin 8) (l : Fin 256) : k6_pay2 (F := Ideal) w (ix3 0 j l) = w (ix2 j l) := by
  pointwise [k6_pay2]

theorem pay12_apply (w : Vec Ideal S8x256 .f32) (j : Fin 8) (l : Fin 256) : k6_pay12 (F := Ideal) w (ix3 0 j l) = w (ix2 j l) := by
  pointwise [k6_pay12]

theorem pay1_apply (w : Vec Ideal S2048x256 .f32) (j : Fin 2048) (l : Fin 256) :
    k6_pay1 (F := Ideal) w (k6_pay24 x0) (k6_pay25 x0) k6_pay26 (ix3 0 j l) = gelued (w (ix2 j l)) (x0 (ix3 0 j l)) := by
  unfold gelued
  pointwise [k6_pay1, k6_pay24, k6_pay25, k6_pay26]

/-- The last-state output: row `j` is the state after row `2040 + j`. -/
theorem out13_apply (j : Fin 8) (l : Fin 256) :
    out6_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 j l)
      = hBlk x1 x2 x3 x4 x5 x6 x7 x8 x9 x10 l (2040 + j.val + 1) := by
  rw [show 2040 + j.val + 1 = (⟨2040 + j.val, by omega⟩ : Fin 2048).val + 1 from rfl,
    ← states_read x1 x2 x3 x4 x5 x6 x7 x8 x9 x10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg16.view ⟨2040 + j.val, by omega⟩ l, ← View.writes_append]
  unfold out6_A_13
  rw [View.read_writes_junk_eq_canon]
  unfold kernelRun6_A
  dsimp only
  sl_unfold_words
  simp only [View.readAt_eq_ld, Memref.IsWhole.read_unread, View.ld_unit_zero (S := S1x256) hz2, View.ld_unit_zero (S := S4x256) hz2, View.ld_unit_zero (S := S1x2048x256) hz3, View.ld_unit_zero (S := S1x8x256) hz3, View.ld_unit_zero (S := S1x1x256) hz3, View.ld_unit_zero (S := S1x1x256x256) hz4]
  rw [View.canon_unit_zero (S := S1x8x256) hz3]
  refine (pay2_apply _ j l).trans ?_
  refine congrArg (View.read (Elt Ideal) arg18.view _) (funext fun a => Fin.ext ?_)
  match a with
  | ⟨0, _⟩ => show 2040 + 1 * j.val = 2040 + j.val; omega
  | ⟨1, _⟩ => show 0 + 1 * l.val = l.val; omega

/-- The last-inputs output: row `j` is row `2048 + j` of the extended rows. -/
theorem out12_apply (j : Fin 8) (l : Fin 256) :
    out6_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 j l) = ext x1 x2 (2048 + j.val) l := by
  unfold out6_A_12
  rw [View.read_writes_junk_eq_canon]
  unfold kernelRun6_A
  dsimp only
  sl_unfold_words
  simp only [View.readAt_eq_ld, Memref.IsWhole.read_unread, View.ld_unit_zero (S := S1x256) hz2, View.ld_unit_zero (S := S4x256) hz2, View.ld_unit_zero (S := S1x2048x256) hz3, View.ld_unit_zero (S := S1x8x256) hz3, View.ld_unit_zero (S := S1x1x256) hz3, View.ld_unit_zero (S := S1x1x256x256) hz4]
  rw [View.canon_unit_zero (S := S1x8x256) hz3]
  exact (pay12_apply _ j l).trans (ext_load x1 x2 arg16.view 2048 inb_S2056x256_S8x256_2048_0 j l)

/-- The gated output: row `j` is the state after row `j` times the gelu of the gate. -/
theorem out11_apply (j : Fin 2048) (l : Fin 256) :
    out6_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 j l)
      = gelued (hBlk x1 x2 x3 x4 x5 x6 x7 x8 x9 x10 l (j.val + 1)) (x0 (ix3 0 j l)) := by
  rw [← states_read x1 x2 x3 x4 x5 x6 x7 x8 x9 x10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg16.view j l, ← View.writes_append]
  unfold out6_A_11
  rw [View.read_writes_junk_eq_canon]
  unfold kernelRun6_A
  dsimp only
  sl_unfold_words
  simp only [View.readAt_eq_ld, Memref.IsWhole.read_unread, View.ld_unit_zero (S := S1x256) hz2, View.ld_unit_zero (S := S4x256) hz2, View.ld_unit_zero (S := S1x2048x256) hz3, View.ld_unit_zero (S := S1x8x256) hz3, View.ld_unit_zero (S := S1x1x256) hz3, View.ld_unit_zero (S := S1x1x256x256) hz4]
  rw [View.canon_unit_zero (S := S1x2048x256) hz3]
  refine (pay1_apply x0 _ j l).trans (congrArg (gelued · _) ?_)
  refine congrArg (View.read (Elt Ideal) arg18.view _) (funext fun a => Fin.ext ?_)
  match a with
  | ⟨0, _⟩ => show 0 + 1 * j.val = j.val; omega
  | ⟨1, _⟩ => show 0 + 1 * l.val = l.val; omega

end

end Cert.Layers.Prompt
-- ==== Proof.PromptRecurrence.lean ====
/-
  What the prompt's recurrence call leaves in its three arrays, from whatever its inputs hold: the blocks a grid point reads as
  entries of those inputs, the state it computes, and the arrays put together from the blocks.
-/
module

public import proofs.«01_k».proof.Proof.Gen.PromptIdeal.Frame
public import proofs.«01_k».proof.Proof.Layers
public import proofs.«01_k».proof.Proof.PromptBlock
public import Idealize.ShloMosaic.Lib.Pipeline.ValueKit
public import Idealize.ShloMosaic.Lib.Claim

@[expose] public section

set_option maxRecDepth 16384

noncomputable section

namespace Cert.Layers.Prompt

open Idealize.ShloMosaic Idealize.ShloMosaic.TcCoe Idealize.ShloMosaic.Tactic
open Cert.PromptIdeal Cert.PromptIdeal.Gen Cert.Rglru Cert.Layers

/-- The batch row of a grid point. -/
def pb (t : Fin grid6.N) : Fin 4 := grid6.coords t 0
/-- The channel group of a grid point. -/
def pn (t : Fin grid6.N) : Fin 22 := grid6.coords t 1

theorem idx3 : ∀ t : Fin grid6.N, win6_0.index t = ![(pb t).val, 0, (pn t).val] ∧ win6_1.index t = ![(pb t).val, 0, (pn t).val + 22]
    ∧ win6_2.index t = ![(pb t).val, 0, (pn t).val] ∧ win6_3.index t = ![(pb t).val, 0, (pn t).val]
    ∧ win6_11.index t = ![(pb t).val, 0, (pn t).val] ∧ win6_12.index t = ![(pb t).val, 0, (pn t).val]
    ∧ win6_13.index t = ![(pb t).val, 0, (pn t).val] := by decide +kernel

theorem idx2 : ∀ t : Fin grid6.N, win6_4.index t = ![0, (pn t).val] ∧ win6_5.index t = ![0, (pn t).val]
    ∧ win6_7.index t = ![0, (pn t).val] ∧ win6_9.index t = ![0, (pn t).val] ∧ win6_10.index t = ![0, (pn t).val]
    ∧ win6_6.index t = ![0, (pn t).val, 0, 0] ∧ win6_8.index t = ![0, (pn t).val, 0, 0] := by decide +kernel

section

variable (V : (c : Dev nD) → (b : Ref sig .tc) → Buf (Elt Ideal) ((c : Thread nD τ).loc b)) (c : Dev nD)

/-- The call's inputs hold the weights `w`, the branches, the three earlier inputs and the states before the first step. -/
structure Entered (w : Weights) (gu : Fin 4 → ℕ → Fin 11264 → EReal) (cp : Fin 4 → Fin 3 → Fin 5632 → EReal) (h0 : Fin 4 → Fin 5632 → EReal) : Prop where
  gu : ∀ b (j : Fin 2048) i, V c main_v19 (ix3 (n0 := 4) b j i) = gu b j.val i
  cp : ∀ b (k : Fin 3) i, V c main_v28 (ix3 (n0 := 4) (n1 := 8) b ⟨5 + k.val, by omega⟩ i) = cp b k i
  h0 : ∀ b i, V c main_v29 (ix3 (n0 := 4) (n1 := 1) b 0 i) = h0 b i
  cw : ∀ (j : Fin 4) i, V c main_v20 (ix2 (n0 := 4) j i) = w.cw (ix3 0 j i)
  cb : ∀ i, V c main_v30 (ix2 (n0 := 1) 0 i) = w.cb (ix2 0 i)
  wa : ∀ n j l, V c main_v22 (ix4 (n0 := 1) 0 n j l) = w.wa (ix4 0 n j l)
  ba : ∀ i, V c main_v31 (ix2 (n0 := 1) 0 i) = w.ba (ix2 0 i)
  wi : ∀ n j l, V c main_v24 (ix4 (n0 := 1) 0 n j l) = w.wi (ix4 0 n j l)
  bi : ∀ i, V c main_v32 (ix2 (n0 := 1) 0 i) = w.bi (ix2 0 i)
  lam : ∀ i, V c main_v33 (ix2 (n0 := 1) 0 i) = w.lam (ix2 0 i)

variable {V c} {w : Weights} {gu : Fin 4 → ℕ → Fin 11264 → EReal} {cp : Fin 4 → Fin 3 → Fin 5632 → EReal} {h0 : Fin 4 → Fin 5632 → EReal}
  (H : Entered V c w gu cp h0) (t : Fin cfg6.N)

include H

theorem blk0 (j : Fin 2048) (l : Fin 256) : iblk6 V c 0 t (ix3 0 j l) = gu (pb t) j.val (colG (pn t) l) := by
  rw [← H.gu]
  unfold colG
  blk_ext! [iblk6, idx3 t]

theorem blk1 (j : Fin 2048) (l : Fin 256) : iblk6 V c 1 t (ix3 0 j l) = gu (pb t) j.val (colU (pn t) l) := by
  rw [← H.gu]
  unfold colU
  blk_ext! [iblk6, idx3 t]

/-- Rows 5, 6 and 7 of the eight earlier rows are the three earlier inputs; the others are never read. -/
theorem blk2 (k : Fin 3) (l : Fin 256) : iblk6 V c 2 t (ix3 0 ⟨5 + k.val, by omega⟩ l) = cp (pb t) k (col (pn t) l) := by
  rw [← H.cp]
  unfold col
  blk_ext! [iblk6, idx3 t]

theorem blk3 (l : Fin 256) : iblk6 V c 3 t (ix3 0 0 l) = h0 (pb t) (col (pn t) l) := by
  rw [← H.h0]
  unfold col
  blk_ext! [iblk6, idx3 t]

theorem blk4 (j : Fin 4) (l : Fin 256) : iblk6 V c 4 t (ix2 j l) = w.cw (ix3 0 j (col (pn t) l)) := by
  rw [← H.cw]
  unfold col
  blk_ext! [iblk6, idx2 t]

theorem blk5 (l : Fin 256) : iblk6 V c 5 t (ix2 0 l) = w.cb (ix2 0 (col (pn t) l)) := by
  rw [← H.cb]
  unfold col
  blk_ext! [iblk6, idx2 t]

theorem blk6 (j l : Fin 256) : iblk6 V c 6 t (ix4 0 0 j l) = w.wa (ix4 0 (pn t) j l) := by
  rw [← H.wa]
  blk_ext! [iblk6, idx2 t]

theorem blk7 (l : Fin 256) : iblk6 V c 7 t (ix2 0 l) = w.ba (ix2 0 (col (pn t) l)) := by
  rw [← H.ba]
  unfold col
  blk_ext! [iblk6, idx2 t]

theorem blk8 (j l : Fin 256) : iblk6 V c 8 t (ix4 0 0 j l) = w.wi (ix4 0 (pn t) j l) := by
  rw [← H.wi]
  blk_ext! [iblk6, idx2 t]

theorem blk9 (l : Fin 256) : iblk6 V c 9 t (ix2 0 l) = w.bi (ix2 0 (col (pn t) l)) := by
  rw [← H.bi]
  unfold col
  blk_ext! [iblk6, idx2 t]

theorem blk10 (l : Fin 256) : iblk6 V c 10 t (ix2 0 l) = w.lam (ix2 0 (col (pn t) l)) := by
  rw [← H.lam]
  unfold col
  blk_ext! [iblk6, idx2 t]

/-- A grid point's block reads what its batch row and group of channels call for. -/
theorem reads : Reads (T := 2048) (iblk6 V c 1 t) (iblk6 V c 2 t) (iblk6 V c 3 t) (iblk6 V c 4 t) (iblk6 V c 5 t) (iblk6 V c 6 t) (iblk6 V c 7 t)
    (iblk6 V c 8 t) (iblk6 V c 9 t) (iblk6 V c 10 t) w (gu (pb t)) (cp (pb t)) (h0 (pb t)) (pn t) :=
  ⟨blk1 H t, blk2 H t, blk3 H t, blk4 H t, blk5 H t, blk6 H t, blk7 H t, blk8 H t, blk9 H t, blk10 H t⟩

theorem y_blk (j : Fin 2048) (l : Fin 256) :
    (outsAt6 V c t).1 (ix3 0 j l) = gated w (gu (pb t)) (cp (pb t)) (h0 (pb t)) j.val (col (pn t) l) := by
  unfold gated
  rw [grp_col, lane_col, ← blk0 H, ← hBlk_reads (reads H t) l (j.val + 1) (by omega)]
  unfold outsAt6
  dsimp only
  exact out11_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t)
    scM6_0 (Memref.isWhole_whole _) scM6_1 (Memref.isWhole_whole _) scM6_2 (Memref.isWhole_whole _) j l

theorem conv_out_blk (j : Fin 8) (l : Fin 256) :
    (outsAt6 V c t).2.1 (ix3 0 j l) = gu (pb t) (2040 + j.val) (colU (pn t) l) := by
  have e : iblk6 V c 1 t (ix3 0 ⟨2040 + j.val, by omega⟩ l) = gu (pb t) (2040 + j.val) (colU (pn t) l) := blk1 H t _ l
  rw [← e]
  unfold outsAt6
  dsimp only
  refine (out12_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t)
    scM6_0 (Memref.isWhole_whole _) scM6_1 (Memref.isWhole_whole _) scM6_2 (Memref.isWhole_whole _) j l).trans ?_
  unfold ext
  rw [if_neg (by omega), show 2048 + j.val - 8 = 2040 + j.val by omega]
  congr 2
  exact Fin.ext (Nat.mod_eq_of_lt (by omega))

theorem h_blk (j : Fin 8) (l : Fin 256) :
    (outsAt6 V c t).2.2 (ix3 0 j l) = state w (gu (pb t)) (cp (pb t)) (h0 (pb t)) (pn t) l (2040 + j.val + 1) := by
  rw [← hBlk_reads (reads H t) l _ (by omega)]
  unfold outsAt6
  dsimp only
  exact out13_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t)
    scM6_0 (Memref.isWhole_whole _) scM6_1 (Memref.isWhole_whole _) scM6_2 (Memref.isWhole_whole _) j l

end

variable (V : (c : Dev nD) → (b : Ref sig .tc) → Buf (Elt Ideal) ((c : Thread nD τ).loc b)) (c : Dev nD)
  {w : Weights} {gu : Fin 4 → ℕ → Fin 11264 → EReal} {cp : Fin 4 → Fin 3 → Fin 5632 → EReal} {h0 : Fin 4 → Fin 5632 → EReal}
  (H : Entered V c w gu cp h0)

include H

theorem y_eq : (dat6 V c).arrAt 11 cfg6.N = outY 2048 w gu cp h0 := by
  refine (dat6 V c).arrAt_eq_of_covers 11 _ (by decide +kernel) fun t hf y => ?_
  blk_simp
  rw [after6_11]
  have hy : y = ix3 (n0 := 1) (n1 := 2048) (n2 := 256) 0 (y 1) (y 2) := by blk_ext []
  refine (congrArg (outsAt6 V c t).1 hy).trans ((y_blk H t (y 1) (y 2)).trans ?_)
  have e : (win6_11.blk t).view.emb y = ix3 (n0 := 4) (n1 := 2048) (n2 := 5632) (pb t) (y 1) (col (pn t) (y 2)) := by unfold col; blk_ext [idx3 t]
  rw [e]
  rfl

theorem conv_eq : (dat6 V c).arrAt 12 cfg6.N = outConv 2040 gu := by
  refine (dat6 V c).arrAt_eq_of_covers 12 _ (by decide +kernel) fun t hf y => ?_
  blk_simp
  rw [after6_12]
  have hy : y = ix3 (n0 := 1) (n1 := 8) (n2 := 256) 0 (y 1) (y 2) := by blk_ext []
  refine (congrArg (outsAt6 V c t).2.1 hy).trans ((conv_out_blk H t (y 1) (y 2)).trans ?_)
  have e : (win6_12.blk t).view.emb y = ix3 (n0 := 4) (n1 := 8) (n2 := 5632) (pb t) (y 1) (col (pn t) (y 2)) := by unfold col; blk_ext [idx3 t]
  rw [e]
  exact (outConv_at 2040 gu (pb t) (y 1) (pn t) (y 2)).symm

theorem h_eq : (dat6 V c).arrAt 13 cfg6.N = outH 2040 w gu cp h0 := by
  refine (dat6 V c).arrAt_eq_of_covers 13 _ (by decide +kernel) fun t hf y => ?_
  blk_simp
  rw [after6_13]
  have hy : y = ix3 (n0 := 1) (n1 := 8) (n2 := 256) 0 (y 1) (y 2) := by blk_ext []
  refine (congrArg (outsAt6 V c t).2.2 hy).trans ((h_blk H t (y 1) (y 2)).trans ?_)
  have e : (win6_13.blk t).view.emb y = ix3 (n0 := 4) (n1 := 8) (n2 := 5632) (pb t) (y 1) (col (pn t) (y 2)) := by unfold col; blk_ext [idx3 t]
  rw [e]
  exact (outH_at 2040 w gu cp h0 (pb t) (y 1) (pn t) (y 2)).symm

end Cert.Layers.Prompt

end
-- ==== Proof.Launched.lean ====
/-
  A program of host code and kernel calls one after the other, run to its end: every array holds what the last of its boundaries names.
-/
module

public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {nD : ℕ} {τ : Topo} {sig : RefSig} {Val : EltTy → Type} {Λ₀ : Labels} {P : Type} [Fintype P]

/-- The resources of a run whose cores owe each other nothing. -/
abbrev Res (nD : ℕ) (τ : Topo) (sig : RefSig) (Val : EltTy → Type) := MT nD τ sig Unit Val ℕ (UR sig nD τ) ℕ

/-- A core's arrays at the contents `W`, and its generator register. -/
abbrev holds (W : Dev nD → Valuation τ sig Val) (c : Dev nD) : sProp (Res nD τ sig Val) :=
  iprop(StableHlo.held (c.tc : Thread nD τ) (Pipeline.ucRefs τ sig) (W c) ∗ ∃ r, prngReg c r)

/-- What a core owes: nothing. -/
abbrev free (c : Dev nD) : sProp (Res nD τ sig Val) := iprop(∃ X, owes (c.tc : Thread nD τ) (0 : CellTallies nD τ sig Unit) X)

set_option backward.isDefEq.respectTransparency.types false in
/-- If the segments of a program chain from the launched memory to the contents `W`, the program ends with them. -/
theorem run_to [DecidableEq P] [∀ e, Nonempty (Val e)] (pcs : P → Pipeline.PCfg sig Λ₀ Val) (a : (p : P) → (pcs p).Adm)
    (pdats : (p : P) → (c : Dev nD) → Dat τ Val Unit ℕ (UR sig nD τ) ℕ (Pipeline.pin pcs a p) c)
    (hinj : Function.Injective (cellOf (nD := nD) (τ := τ) (Pipeline.pin pcs a))) (defs₀ : Defs nD τ sig Val Λ₀) (𝒱₀ : Variants)
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Pipeline.Seg pcs a pdats () defs₀ 𝒱₀ (fun _ => ∅) fun _ _ => 0))
    (hmain : ∀ c, Pipeline.Seg.run segs = main c) (hnd : (Pipeline.Seg.pipes segs).Nodup) (W : Dev nD → Valuation τ sig Val)
    (hch : Pipeline.Seg.Chains (fun c => iprop(StableHlo.held (c.tc : Thread nD τ) (Pipeline.ucRefs τ sig) (fun b => m (c, b)) ∗ (∃ r, prngReg c r) ∗ free c))
      segs fun c => iprop(holds W c ∗ free c)) :
    θ_run (Pipeline.defs pcs defs₀) (onTc (τ := τ) main) ⟨m, fun _ => 0, ρ⟩ fun r => ∀ c : Dev nD,
      ∀ b ∈ Pipeline.ucRefs τ sig, r.2.mem (c, b) = W c b :=
  Pipeline.θ_run_regions_kit_sems pcs a pdats () hinj emb₁ defs₀ 𝒱₀ (fun _ => ∅) (fun _ _ => 0) m ρ main segs
    (fun c Q => by rw [hmain c]) hnd
    (O₀ := 0) (hL := fun _ _ => rfl) (G := fun _ => iprop(emp))
    (u₀ := initOf (Pipeline.cells (Pipeline.pin pcs a) hinj) (Pipeline.launchToks (Pipeline.pin pcs a) hinj))
    (hu₀ := by
      rw [show bigSep Finset.univ (fun _ : Dev nD => (iprop(emp) : sProp (Res nD τ sig Val))) = iprop(emp) from BI.bigSep_emp_const _]
      iintro Hu
      imodintro
      isplitl [Hu]
      · iapply (show (ownU (initOf (Pipeline.cells (Pipeline.pin pcs a) hinj) (Pipeline.launchToks (Pipeline.pin pcs a) hinj)) : sProp (Res nD τ sig Val))
            ⊢ BI.own (emb₁ (initOf (Pipeline.cells (Pipeline.pin pcs a) hinj) (Pipeline.launchToks (Pipeline.pin pcs a) hinj))) from .rfl)
        iexact Hu
      · iempintro)
    (T₀ := fun c => iprop(StableHlo.held (c.tc : Thread nD τ) (Pipeline.ucRefs τ sig) (fun b => m (c, b)) ∗ (∃ r, prngReg c r) ∗ free c))
    (Tₙ := holds W) (hch := hch)
    (hinit := by
      refine Pipeline.initEach (fun _ => ∅) (fun _ _ => 0) fun c => ?_
      rw [show unscopedBufs c (fun b => m ((c.tc : Thread nD τ).loc b)) = StableHlo.held (c.tc : Thread nD τ) (Pipeline.ucRefs τ sig) (fun b => m (c, b))
        from Pipeline.unscopedBufs_held c fun b => m (c, b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (c, b) = W c b)
    (hfin := fun c s' => by
      iintro ⟨⟨Hh, -⟩, HSI⟩
      unfold StableHlo.held
      imodintro
      iapply (pointsTo_read_all (Pipeline.ucRefs τ sig) (fun b => ((c.tc : Thread nD τ).1, b)) (W c) s')
      isplitl [Hh] <;> iassumption)
    (hQ := fun s h _ => h)

end Cert

end
-- ==== Proof.PromptChain.lean ====
/-
  The prompt's program from its arguments to its results: the arrays between its calls, one after the other, as rows of the layers.
-/
module

public import proofs.«01_k».proof.Proof.PromptDense
public import proofs.«01_k».proof.Proof.PromptRecurrence
public import proofs.«01_k».proof.Proof.Launched

@[expose] public section

set_option maxRecDepth 16384

noncomputable section

namespace Cert.Layers.Prompt

open Idealize.ShloMosaic Idealize.ShloMosaic.TcCoe Idealize.ShloMosaic.Tactic Idealize.SL.Sem
open Cert.PromptIdeal Cert.PromptIdeal.Gen Cert.Rglru Cert.Layers Cert.Dense

instance : Cert.PromptIdeal.Facts := Cert.PromptIdeal.Gen.facts

set_option backward.isDefEq.respectTransparency.types false in
/-- The calls, run in order, leave every array at the last boundary's contents. -/
theorem run_last (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      ∀ b ∈ Pipeline.ucRefs τ sig, r.2.mem (c, b) = W21 m ρ c b :=
  run_to pcfgs adm (pdats m ρ) cellOf_inj defs₀ 𝒱₀ m ρ main (segs m ρ) (fun c => (main_run m ρ c).symm)
    (by simp only [segs, Pipeline.Seg.pipes_host, Pipeline.Seg.pipes_region, Pipeline.Seg.pipes_nil]; decide) (W21 m ρ)
    ⟨fun _ => .rfl, fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh] <;> iassumption
        · iexact HO⟩

/-! ### Layouts -/

theorem merge_rows (a : Vec Ideal S4x2048x4096 .f32) : shapeCast S8192x4096 a shapeCasts_S4x2048x4096_S8192x4096 = rowsOf 4 2048 (seq a) := by
  funext i
  rw [show i = ix2 (n0 := 8192) (n1 := 4096) (i 0) (i 1) by blk_ext []]
  generalize (i 0 : Fin 8192) = r
  generalize (i 1 : Fin 4096) = k
  unfold rowsOf seq
  pointwise
  have hr : r.val < 8192 := r.isLt
  refine congrArg a (funext fun d => Fin.ext ?_)
  match d with
  | ⟨0, _⟩ => show r.val / 2048 = (r.val / 2048) % 4; omega
  | ⟨1, _⟩ => show r.val % 2048 = (r.val % 2048) % 2048; omega
  | ⟨2, _⟩ => rfl

theorem merge_gated (f : Fin 4 → ℕ → Fin 5632 → EReal) :
    shapeCast S8192x5632 ((fun i => f (i 0) (i 1).val (i 2)) : Vec Ideal S4x2048x5632 .f32) shapeCasts_S4x2048x5632_S8192x5632 = rowsOf 4 2048 f := by
  funext i
  rw [show i = ix2 (n0 := 8192) (n1 := 5632) (i 0) (i 1) by blk_ext []]
  generalize (i 0 : Fin 8192) = r
  generalize (i 1 : Fin 5632) = k
  unfold rowsOf
  pointwise
  have hr : r.val < 8192 := r.isLt
  congr 1
  exact Fin.ext (by show r.val / 2048 = (r.val / 2048) % 4; omega)

theorem rowsOf_at {C : ℕ} (f : Fin 4 → ℕ → Fin C → EReal) (b : Fin 4) (t : Fin 2048) (k : Fin C) :
    rowsOf (R := 8192) 4 2048 f (ix2 ⟨b.val * 2048 + t.val, by omega⟩ k) = f b t.val k := by
  show f (Fin.ofNat 4 ((b.val * 2048 + t.val) / 2048)) ((b.val * 2048 + t.val) % 2048) k = _
  rw [show Fin.ofNat 4 ((b.val * 2048 + t.val) / 2048) = b from Fin.ext (by show (b.val * 2048 + t.val) / 2048 % 4 = b.val; omega),
    show (b.val * 2048 + t.val) % 2048 = t.val by omega]

theorem split_rows (f : Fin 4 → ℕ → Row) (b : Fin 4) (t : Fin 2048) (k : Fin 4096) :
    shapeCast S4x2048x4096 (rowsOf 4 2048 f : Vec Ideal S8192x4096 .f32) shapeCasts_S8192x4096_S4x2048x4096 (ix3 b t k) = f b t.val k := by
  rw [← rowsOf_at f b t k]
  generalize (rowsOf 4 2048 f : Vec Ideal S8192x4096 .f32) = a
  pointwise

theorem split_branches (f : Fin 4 → ℕ → Fin 11264 → EReal) (b : Fin 4) (t : Fin 2048) (k : Fin 11264) :
    shapeCast S4x2048x11264 (rowsOf 4 2048 f : Vec Ideal S8192x11264 .f32) shapeCasts_S8192x11264_S4x2048x11264 (ix3 b t k) = f b t.val k := by
  rw [← rowsOf_at f b t k]
  generalize (rowsOf 4 2048 f : Vec Ideal S8192x11264 .f32) = a
  pointwise

theorem row0 (g : Vec Ideal S2x4096 .f32) (k : Fin 4096) : shapeCast S1x4096 (shapeCast S4096 (extractStridedSlice S1x4096 ![0, 0] g slices_S2x4096_S1x4096_0_0)
      shapeCasts_S1x4096_S4096) shapeCasts_S4096_S1x4096 (ix2 0 k) = g (ix2 0 k) := by
  pointwise
  blk_ext []

theorem row1 (g : Vec Ideal S2x4096 .f32) (k : Fin 4096) : shapeCast S1x4096 (shapeCast S4096 (extractStridedSlice S1x4096 ![1, 0] g slices_S2x4096_S1x4096_1_0)
      shapeCasts_S1x4096_S4096) shapeCasts_S4096_S1x4096 (ix2 0 k) = g (ix2 1 k) := by
  pointwise
  blk_ext []

theorem channels (g : Vec Ideal S1x5632 .f32) (k : Fin 5632) : shapeCast S1x5632 (shapeCast S5632 g shapeCasts_S1x5632_S5632) shapeCasts_S5632_S1x5632 (ix2 0 k) = g (ix2 0 k) := by
  pointwise

theorem earlier (a : Vec Ideal S4x5x5632 .f32) (b : Vec Ideal S4x3x5632 .f32) (n : Fin 4) (k : Fin 3) (i : Fin 5632) :
    concatenate S4x8x5632 1 [⟨S4x5x5632, a⟩, ⟨S4x3x5632, b⟩] concatenates_S4x5x5632_S4x3x5632_S4x8x5632_d1 (ix3 n ⟨5 + k.val, by omega⟩ i) = b (ix3 n k i) := by
  pointwise

variable (m : (ℓ : Loc nD τ sig) → Buf (Elt Ideal) ℓ) (ρ : Dev nD → PrngReg) (c : Dev nD)

/-- The weights, the attention's output and the rows it is added to, as they stand in memory. -/
def wts : Weights where
  mix := m ((c : Thread nD τ).loc main_arg2)
  ffn := m ((c : Thread nD τ).loc main_arg3)
  last := m ((c : Thread nD τ).loc main_arg4)
  wo := m ((c : Thread nD τ).loc main_arg5)
  win := m ((c : Thread nD τ).loc main_arg6)
  cw := m ((c : Thread nD τ).loc main_arg7)
  cb := m ((c : Thread nD τ).loc main_arg8)
  wa := m ((c : Thread nD τ).loc main_arg9)
  ba := m ((c : Thread nD τ).loc main_arg10)
  wi := m ((c : Thread nD τ).loc main_arg11)
  bi := m ((c : Thread nD τ).loc main_arg12)
  lam := m ((c : Thread nD τ).loc main_arg13)
  wout := m ((c : Thread nD τ).loc main_arg14)
  up := m ((c : Thread nD τ).loc main_arg15)
  down := m ((c : Thread nD τ).loc main_arg16)

def aO : Fin 4 → ℕ → Row := seq (B := 4) (T := 2048) (m ((c : Thread nD τ).loc main_arg0))
def aX : Fin 4 → ℕ → Row := seq (B := 4) (T := 2048) (m ((c : Thread nD τ).loc main_arg1))

/-- A prompt begins with no earlier inputs and an empty state. -/
def cp0 (_ : Fin 4) (_ : Fin 3) (_ : Fin 5632) : EReal := 0
def st0 (_ : Fin 4) (_ : Fin 5632) : EReal := 0

/-- The rows after the first layer, the branches, and the rows after the recurrent layer. -/
def r1 (b : Fin 4) : ℕ → Row := rows1 (wts m c) (aO m c b) (aX m c b)
def gu (b : Fin 4) : ℕ → Fin 11264 → EReal := guRows (wts m c) (aO m c b) (aX m c b)
def r2 (b : Fin 4) : ℕ → Row := rows2 (wts m c) (aO m c b) (aX m c b) (cp0 b) (st0 b)
/-- The rows of the results. -/
def rOut (b : Fin 4) : ℕ → Row := outRow (wts m c) (aO m c b) (aX m c b) (cp0 b) (st0 b)

/-! ### The first layer -/

theorem v3_eq : (V1 m ρ c main_v3 : Vec Ideal S8192x4096 .bf16) = (rowsOf 4 2048 (aO m c) : Vec Ideal S8192x4096 .f32) := by
  have e : (V1 m ρ c main_v3 : Vec Ideal S8192x4096 .bf16) = shapeCast S8192x4096 (m ((c : Thread nD τ).loc main_arg0)) shapeCasts_S4x2048x4096_S8192x4096 := by
    simp only [V1, W1, hostOps0]
    after_results_simp <;> rfl
  exact e.trans (merge_rows _)

theorem v5_eq : (V1 m ρ c main_v5 : Vec Ideal S8192x4096 .f32) = rowsOf 4 2048 (aX m c) := by
  have e : (V1 m ρ c main_v5 : Vec Ideal S8192x4096 .f32) = shapeCast S8192x4096 (m ((c : Thread nD τ).loc main_arg1)) shapeCasts_S4x2048x4096_S8192x4096 := by
    simp only [V1, W1, hostOps0]
    after_results_simp <;> rfl
  exact e.trans (merge_rows _)

theorem v4_eq : (V1 m ρ c main_v4 : Vec Ideal S1x4096x4096 .bf16) = (wts m c).wo := by
  have e : (V1 m ρ c main_v4 : Vec Ideal S1x4096x4096 .bf16) = truncf (F := Ideal) .bf16 (m ((c : Thread nD τ).loc main_arg5)) bitsLt_bf16_f32 := by
    simp only [V1, W1, hostOps0]
    after_results_simp <;> rfl
  exact e

theorem v2_eq : (V1 m ρ c main_v2 : Vec Ideal S2x11008x4096 .bf16) = (wts m c).down := by
  have e : (V1 m ρ c main_v2 : Vec Ideal S2x11008x4096 .bf16) = truncf (F := Ideal) .bf16 (m ((c : Thread nD τ).loc main_arg16)) bitsLt_bf16_f32 := by
    simp only [V1, W1, hostOps0]
    after_results_simp <;> rfl
  exact e

theorem v6_eq : (V2 m ρ c main_v6 : Vec Ideal S8192x4096 .f32) = rowsOf 4 2048 fun b t => attended (wts m c) (aO m c b t) (aX m c b t) := by
  refine (W2_arr m ρ c 3).trans ((arr0 (V1 m ρ) c).trans ?_)
  rw [v3_eq, v4_eq, v5_eq]
  exact summed_rows ..

theorem v9_at (k : Fin 4096) : (V3 m ρ c main_v9 : Vec Ideal S1x4096 .f32) (ix2 0 k) = (wts m c).ffn (ix2 0 k) := by
  have e : (V3 m ρ c main_v9 : Vec Ideal S1x4096 .f32) = shapeCast S1x4096 (shapeCast S4096 (extractStridedSlice S1x4096 ![0, 0]
      (W2 m ρ c (Proc.devRef .tc main_arg3)) slices_S2x4096_S1x4096_0_0) shapeCasts_S1x4096_S4096) shapeCasts_S4096_S1x4096 := by
    simp only [V3, W3, hostOps1]
    after_results_simp <;> rfl
  rw [e, W2_args m ρ c main_arg3 (by simp)]
  exact row0 _ k

theorem v10_eq : (V4 m ρ c main_v10 : Vec Ideal S8192x4096 .bf16) = (rowsOf 4 2048 fun b t k =>
    rms (attended (wts m c) (aO m c b t) (aX m c b t)) ((wts m c).ffn (ix2 0 k)) k : Vec Ideal S8192x4096 .f32) := by
  refine (W4_arr m ρ c 2).trans ((arr1 (V3 m ρ) c).trans ?_)
  have h : V3 m ρ c main_v6 = V2 m ρ c main_v6 := W3_of m ρ c main_v6 (by decide)
  rw [h, v6_eq]
  exact normed_rows _ _ _ (v9_at m ρ c)

theorem v11_eq : (V5 m ρ c main_v11 : Vec Ideal S8192x11008 .bf16) = (rowsOf 4 2048 fun b t => hiddenRow (wts m c) 0 fun k =>
    rms (attended (wts m c) (aO m c b t) (aX m c b t)) ((wts m c).ffn (ix2 0 k)) k : Vec Ideal S8192x11008 .f32) := by
  refine (W5_arr m ρ c 3).trans ((arr2 (V4 m ρ) c).trans ?_)
  have h : V4 m ρ c main_arg15 = (wts m c).up := W4_args m ρ c main_arg15 (by simp)
  rw [h, v10_eq]
  exact hidden_rows ..

theorem v12_eq : (V6 m ρ c main_v12 : Vec Ideal S8192x4096 .f32) = rowsOf 4 2048 (r1 m c) := by
  refine (W6_arr m ρ c 3).trans ((arr3 (V5 m ρ) c).trans ?_)
  have h2 : V5 m ρ c main_v2 = V1 m ρ c main_v2 := (W5_of m ρ c main_v2 (by decide)).trans ((W4_of m ρ c main_v2 (by decide)).trans
    ((W3_of m ρ c main_v2 (by decide)).trans (W2_of m ρ c main_v2 (by decide))))
  have h6 : V5 m ρ c main_v6 = V2 m ρ c main_v6 := (W5_of m ρ c main_v6 (by decide)).trans ((W4_of m ρ c main_v6 (by decide)).trans
    (W3_of m ρ c main_v6 (by decide)))
  rw [h2, h6, v2_eq, v6_eq, v11_eq]
  exact summed_rows ..

/-! ### The recurrent layer -/

theorem v15_at (k : Fin 4096) : (V7 m ρ c main_v15 : Vec Ideal S1x4096 .f32) (ix2 0 k) = (wts m c).mix (ix2 1 k) := by
  have e : (V7 m ρ c main_v15 : Vec Ideal S1x4096 .f32) = shapeCast S1x4096 (shapeCast S4096 (extractStridedSlice S1x4096 ![1, 0]
      (W6 m ρ c (Proc.devRef .tc main_arg2)) slices_S2x4096_S1x4096_1_0) shapeCasts_S1x4096_S4096) shapeCasts_S4096_S1x4096 := by
    simp only [V7, W7, hostOps4]
    after_results_simp <;> rfl
  rw [e, W6_args m ρ c main_arg2 (by simp)]
  exact row1 _ k

theorem v16_eq : (V8 m ρ c main_v16 : Vec Ideal S8192x4096 .bf16) = (rowsOf 4 2048 fun b t k =>
    rms (r1 m c b t) ((wts m c).mix (ix2 1 k)) k : Vec Ideal S8192x4096 .f32) := by
  refine (W8_arr m ρ c 2).trans ((arr4 (V7 m ρ) c).trans ?_)
  have h : V7 m ρ c main_v12 = V6 m ρ c main_v12 := W7_of m ρ c main_v12 (by decide)
  rw [h, v12_eq]
  exact normed_rows _ _ _ (v15_at m ρ c)

theorem v17_eq : (V9 m ρ c main_v17 : Vec Ideal S1x4096x11264 .bf16) = (wts m c).win := by
  have e : (V9 m ρ c main_v17 : Vec Ideal S1x4096x11264 .bf16) = truncf (F := Ideal) .bf16 (W8 m ρ c (Proc.devRef .tc main_arg6)) bitsLt_bf16_f32 := by
    simp only [V9, W9, hostOps5]
    after_results_simp <;> rfl
  rw [e, W8_args m ρ c main_arg6 (by simp)]
  rfl

theorem v18_eq : (V10 m ρ c main_v18 : Vec Ideal S8192x11264 .f32) = rowsOf 4 2048 (gu m c) := by
  refine (W10_arr m ρ c 2).trans ((arr5 (V9 m ρ) c).trans ?_)
  have h : V9 m ρ c main_v16 = V8 m ρ c main_v16 := W9_of m ρ c main_v16 (by decide)
  rw [h, v16_eq, v17_eq]
  exact projected_rows ..

theorem v0_eq : (V1 m ρ c main_v0 : Vec Ideal S4x3x5632 .f32) = fun _ => (0 : EReal) := by
  have e : (V1 m ρ c main_v0 : Vec Ideal S4x3x5632 .f32) = broadcastInDim S4x3x5632 ![] bcast_S_S4x3x5632 (constant (F := Ideal) S_ .f32 0x00000000#32) := by
    simp only [V1, W1, hostOps0]
    after_results_simp <;> rfl
  rw [e]
  funext i
  pointwise

theorem v1_eq : (V1 m ρ c main_v1 : Vec Ideal S4x5632 .f32) = fun _ => (0 : EReal) := by
  have e : (V1 m ρ c main_v1 : Vec Ideal S4x5632 .f32) = broadcastInDim S4x5632 ![] bcast_S_S4x5632 (constant (F := Ideal) S_ .f32 0x00000000#32) := by
    simp only [V1, W1, hostOps0]
    after_results_simp <;> rfl
  rw [e]
  funext i
  pointwise

theorem v0_kept : V10 m ρ c main_v0 = V1 m ρ c main_v0 :=
  (W10_of m ρ c main_v0 (by decide)).trans ((W9_of m ρ c main_v0 (by decide)).trans ((W8_of m ρ c main_v0 (by decide)).trans
    ((W7_of m ρ c main_v0 (by decide)).trans ((W6_of m ρ c main_v0 (by decide)).trans ((W5_of m ρ c main_v0 (by decide)).trans
      ((W4_of m ρ c main_v0 (by decide)).trans ((W3_of m ρ c main_v0 (by decide)).trans (W2_of m ρ c main_v0 (by decide)))))))))

theorem v1_kept : V10 m ρ c main_v1 = V1 m ρ c main_v1 :=
  (W10_of m ρ c main_v1 (by decide)).trans ((W9_of m ρ c main_v1 (by decide)).trans ((W8_of m ρ c main_v1 (by decide)).trans
    ((W7_of m ρ c main_v1 (by decide)).trans ((W6_of m ρ c main_v1 (by decide)).trans ((W5_of m ρ c main_v1 (by decide)).trans
      ((W4_of m ρ c main_v1 (by decide)).trans ((W3_of m ρ c main_v1 (by decide)).trans (W2_of m ρ c main_v1 (by decide)))))))))

/-- The recurrence's call is entered with the branches of the first layer's rows. -/
theorem entered : Entered (V11 m ρ) c (wts m c) (gu m c) cp0 st0 where
  gu b j i := by
    have e : (V11 m ρ c main_v19 : Vec Ideal S4x2048x11264 .f32) = shapeCast S4x2048x11264 (V10 m ρ c main_v18) shapeCasts_S8192x11264_S4x2048x11264 := by
      simp only [V11, W11, hostOps6]
      after_results_simp <;> rfl
    rw [e, v18_eq]
    exact split_branches _ b j i
  cp b k i := by
    have e : (V11 m ρ c main_v28 : Vec Ideal S4x8x5632 .f32) = concatenate S4x8x5632 1 [⟨S4x5x5632, broadcastInDim S4x5x5632 ![] bcast_S_S4x5x5632
        (constant (F := Ideal) S_ .f32 0x00000000#32)⟩, ⟨S4x3x5632, V10 m ρ c main_v0⟩] concatenates_S4x5x5632_S4x3x5632_S4x8x5632_d1 := by
      simp only [V11, W11, hostOps6]
      after_results_simp <;> rfl
    rw [e, v0_kept, v0_eq]
    exact earlier _ _ b k i
  h0 b i := by
    have e : (V11 m ρ c main_v29 : Vec Ideal S4x1x5632 .f32) = shapeCast S4x1x5632 (V10 m ρ c main_v1) shapeCasts_S4x5632_S4x1x5632 := by
      simp only [V11, W11, hostOps6]
      after_results_simp <;> rfl
    rw [e, v1_kept, v1_eq]
    pointwise
    rfl
  cw j i := by
    have e : (V11 m ρ c main_v20 : Vec Ideal S4x5632 .f32) = shapeCast S4x5632 (W10 m ρ c (Proc.devRef .tc main_arg7)) shapeCasts_S1x4x5632_S4x5632 := by
      simp only [V11, W11, hostOps6]
      after_results_simp <;> rfl
    rw [e, W10_args m ρ c main_arg7 (by simp)]
    pointwise
    rfl
  cb i := by
    have e : (V11 m ρ c main_v30 : Vec Ideal S1x5632 .f32) = shapeCast S1x5632 (shapeCast S5632 (W10 m ρ c (Proc.devRef .tc main_arg8)) shapeCasts_S1x5632_S5632) shapeCasts_S5632_S1x5632 := by
      simp only [V11, W11, hostOps6]
      after_results_simp <;> rfl
    rw [e, W10_args m ρ c main_arg8 (by simp)]
    exact channels _ i
  wa n j l := by
    have e : (V11 m ρ c main_v22 : Vec Ideal S1x22x256x256 .bf16) = truncf (F := Ideal) .bf16 (W10 m ρ c (Proc.devRef .tc main_arg9)) bitsLt_bf16_f32 := by
      simp only [V11, W11, hostOps6]
      after_results_simp <;> rfl
    rw [e, W10_args m ρ c main_arg9 (by simp)]
    rfl
  ba i := by
    have e : (V11 m ρ c main_v31 : Vec Ideal S1x5632 .f32) = shapeCast S1x5632 (shapeCast S5632 (W10 m ρ c (Proc.devRef .tc main_arg10)) shapeCasts_S1x5632_S5632) shapeCasts_S5632_S1x5632 := by
      simp only [V11, W11, hostOps6]
      after_results_simp <;> rfl
    rw [e, W10_args m ρ c main_arg10 (by simp)]
    exact channels _ i
  wi n j l := by
    have e : (V11 m ρ c main_v24 : Vec Ideal S1x22x256x256 .bf16) = truncf (F := Ideal) .bf16 (W10 m ρ c (Proc.devRef .tc main_arg11)) bitsLt_bf16_f32 := by
      simp only [V11, W11, hostOps6]
      after_results_simp <;> rfl
    rw [e, W10_args m ρ c main_arg11 (by simp)]
    rfl
  bi i := by
    have e : (V11 m ρ c main_v32 : Vec Ideal S1x5632 .f32) = shapeCast S1x5632 (shapeCast S5632 (W10 m ρ c (Proc.devRef .tc main_arg12)) shapeCasts_S1x5632_S5632) shapeCasts_S5632_S1x5632 := by
      simp only [V11, W11, hostOps6]
      after_results_simp <;> rfl
    rw [e, W10_args m ρ c main_arg12 (by simp)]
    exact channels _ i
  lam i := by
    have e : (V11 m ρ c main_v33 : Vec Ideal S1x5632 .f32) = shapeCast S1x5632 (shapeCast S5632 (W10 m ρ c (Proc.devRef .tc main_arg13)) shapeCasts_S1x5632_S5632) shapeCasts_S5632_S1x5632 := by
      simp only [V11, W11, hostOps6]
      after_results_simp <;> rfl
    rw [e, W10_args m ρ c main_arg13 (by simp)]
    exact channels _ i

theorem y_arr : V12 m ρ c main_v34_0 = outY 2048 (wts m c) (gu m c) cp0 st0 := (W12_arr m ρ c 11).trans (y_eq _ _ (entered m ρ c))
theorem conv_arr : V12 m ρ c main_v34_1 = outConv 2040 (gu m c) := (W12_arr m ρ c 12).trans (conv_eq _ _ (entered m ρ c))
theorem h_arr : V12 m ρ c main_v34_2 = outH 2040 (wts m c) (gu m c) cp0 st0 := (W12_arr m ρ c 13).trans (h_eq _ _ (entered m ρ c))

theorem v38_eq : (V13 m ρ c main_v38 : Vec Ideal S8192x5632 .bf16) = (rowsOf 4 2048 fun b => gated (wts m c) (gu m c b) (cp0 b) (st0 b) : Vec Ideal S8192x5632 .f32) := by
  have e : (V13 m ρ c main_v38 : Vec Ideal S8192x5632 .bf16) = shapeCast S8192x5632 (V12 m ρ c main_v34_0) shapeCasts_S4x2048x5632_S8192x5632 := by
    simp only [V13, W13, hostOps7]
    after_results_simp <;> rfl
  rw [e, y_arr]
  exact merge_gated fun b => gated (wts m c) (gu m c b) (cp0 b) (st0 b)

theorem v39_eq : (V13 m ρ c main_v39 : Vec Ideal S1x5632x4096 .bf16) = (wts m c).wout := by
  have e : (V13 m ρ c main_v39 : Vec Ideal S1x5632x4096 .bf16) = truncf (F := Ideal) .bf16 (W12 m ρ c (Proc.devRef .tc main_arg14)) bitsLt_bf16_f32 := by
    simp only [V13, W13, hostOps7]
    after_results_simp <;> rfl
  rw [e, W12_args m ρ c main_arg14 (by simp)]
  rfl

theorem v12_kept : V13 m ρ c main_v12 = V6 m ρ c main_v12 :=
  (W13_of m ρ c main_v12 (by decide)).trans ((W12_of m ρ c main_v12 (by decide)).trans ((W11_of m ρ c main_v12 (by decide)).trans
    ((W10_of m ρ c main_v12 (by decide)).trans ((W9_of m ρ c main_v12 (by decide)).trans ((W8_of m ρ c main_v12 (by decide)).trans
      (W7_of m ρ c main_v12 (by decide)))))))

theorem v40_eq : (V14 m ρ c main_v40 : Vec Ideal S8192x4096 .f32) = rowsOf 4 2048 (r2 m c) := by
  refine (W14_arr m ρ c 3).trans ((arr7 (V13 m ρ) c).trans ?_)
  rw [v12_kept, v12_eq, v38_eq, v39_eq]
  exact summed_rows ..

/-! ### The second feed-forward layer and the last norm -/

theorem v43_at (k : Fin 4096) : (V15 m ρ c main_v43 : Vec Ideal S1x4096 .f32) (ix2 0 k) = (wts m c).ffn (ix2 1 k) := by
  have e : (V15 m ρ c main_v43 : Vec Ideal S1x4096 .f32) = shapeCast S1x4096 (shapeCast S4096 (extractStridedSlice S1x4096 ![1, 0]
      (W14 m ρ c (Proc.devRef .tc main_arg3)) slices_S2x4096_S1x4096_1_0) shapeCasts_S1x4096_S4096) shapeCasts_S4096_S1x4096 := by
    simp only [V15, W15, hostOps8]
    after_results_simp <;> rfl
  rw [e, W14_args m ρ c main_arg3 (by simp)]
  exact row1 _ k

theorem v44_eq : (V16 m ρ c main_v44 : Vec Ideal S8192x4096 .bf16) = (rowsOf 4 2048 fun b t k =>
    rms (r2 m c b t) ((wts m c).ffn (ix2 1 k)) k : Vec Ideal S8192x4096 .f32) := by
  refine (W16_arr m ρ c 2).trans ((arr8 (V15 m ρ) c).trans ?_)
  have h : V15 m ρ c main_v40 = V14 m ρ c main_v40 := W15_of m ρ c main_v40 (by decide)
  rw [h, v40_eq]
  exact normed_rows _ _ _ (v43_at m ρ c)

theorem v45_eq : (V17 m ρ c main_v45 : Vec Ideal S8192x11008 .bf16) = (rowsOf 4 2048 fun b t => hiddenRow (wts m c) 1 fun k =>
    rms (r2 m c b t) ((wts m c).ffn (ix2 1 k)) k : Vec Ideal S8192x11008 .f32) := by
  refine (W17_arr m ρ c 3).trans ((arr9 (V16 m ρ) c).trans ?_)
  have h : V16 m ρ c main_arg15 = (wts m c).up := W16_args m ρ c main_arg15 (by simp)
  rw [h, v44_eq]
  exact hidden_rows ..

theorem v2_kept : V17 m ρ c main_v2 = V1 m ρ c main_v2 :=
  (W17_of m ρ c main_v2 (by decide)).trans ((W16_of m ρ c main_v2 (by decide)).trans ((W15_of m ρ c main_v2 (by decide)).trans
    ((W14_of m ρ c main_v2 (by decide)).trans ((W13_of m ρ c main_v2 (by decide)).trans ((W12_of m ρ c main_v2 (by decide)).trans
      ((W11_of m ρ c main_v2 (by decide)).trans ((W10_of m ρ c main_v2 (by decide)).trans ((W9_of m ρ c main_v2 (by decide)).trans
        ((W8_of m ρ c main_v2 (by decide)).trans ((W7_of m ρ c main_v2 (by decide)).trans ((W6_of m ρ c main_v2 (by decide)).trans
          ((W5_of m ρ c main_v2 (by decide)).trans ((W4_of m ρ c main_v2 (by decide)).trans ((W3_of m ρ c main_v2 (by decide)).trans
            (W2_of m ρ c main_v2 (by decide))))))))))))))))

theorem v46_eq : (V18 m ρ c main_v46 : Vec Ideal S8192x4096 .f32) = rowsOf 4 2048 fun b t => ffnRow (wts m c) 1 (r2 m c b t) := by
  refine (W18_arr m ρ c 3).trans ((arr10 (V17 m ρ) c).trans ?_)
  have h : V17 m ρ c main_v40 = V14 m ρ c main_v40 := (W17_of m ρ c main_v40 (by decide)).trans ((W16_of m ρ c main_v40 (by decide)).trans
    (W15_of m ρ c main_v40 (by decide)))
  rw [v2_kept, h, v2_eq, v40_eq, v45_eq]
  exact summed_rows ..

theorem v47_at (k : Fin 4096) : (V19 m ρ c main_v47 : Vec Ideal S1x4096 .f32) (ix2 0 k) = (wts m c).last (ix1 k) := by
  have e : (V19 m ρ c main_v47 : Vec Ideal S1x4096 .f32) = shapeCast S1x4096 (W18 m ρ c (Proc.devRef .tc main_arg4)) shapeCasts_S4096_S1x4096 := by
    simp only [V19, W19, hostOps11]
    after_results_simp <;> rfl
  rw [e, W18_args m ρ c main_arg4 (by simp)]
  pointwise
  rfl

theorem v48_eq : (V20 m ρ c main_v48 : Vec Ideal S8192x4096 .f32) = rowsOf 4 2048 (rOut m c) := by
  refine (W20_arr m ρ c 2).trans ((arr11 (V19 m ρ) c).trans ?_)
  have h : V19 m ρ c main_v46 = V18 m ρ c main_v46 := W19_of m ρ c main_v46 (by decide)
  rw [h, v46_eq]
  exact normed_rows _ _ _ (v47_at m ρ c)

/-! ### The results -/

/-- The layers' result at every step. -/
def resX : Vec Ideal S4x2048x4096 .f32 := fun i => rOut m c (i 0) (i 1).val (i 2)
/-- The last three inputs of the recurrent branch. -/
def resConv : Vec Ideal S1x4x3x5632 .f32 := fun i => gu m c (i 1) (2045 + (i 2).val) (colU (grp (i 3)) (lane (i 3)))
/-- The last state. -/
def resH : Vec Ideal S1x4x5632 .f32 := fun i => state (wts m c) (gu m c (i 1)) (cp0 (i 1)) (st0 (i 1)) (grp (i 2)) (lane (i 2)) 2048

theorem last_x : W21 m ρ c (Proc.devRef .tc main_v49) = resX m c := by
  have e : (W21 m ρ c (Proc.devRef .tc main_v49) : Vec Ideal S4x2048x4096 .f32) = shapeCast S4x2048x4096 (V20 m ρ c main_v48) shapeCasts_S8192x4096_S4x2048x4096 := by
    simp only [W21, hostOps12]
    after_results_simp <;> rfl
  rw [e, v48_eq]
  funext i
  rw [show i = ix3 (n0 := 4) (n1 := 2048) (n2 := 4096) (i 0) (i 1) (i 2) by blk_ext []]
  exact split_rows _ (i 0) (i 1) (i 2)

theorem last_conv : W21 m ρ c (Proc.devRef .tc main_v50) = resConv m c := by
  have e : (W21 m ρ c (Proc.devRef .tc main_v50) : Vec Ideal S1x4x3x5632 .f32) = broadcastInDim S1x4x3x5632 ![1, 2, 3] bcast_S4x3x5632_S1x4x3x5632_1_2_3
      (V20 m ρ c main_v35) := by
    simp only [W21, hostOps12]
    after_results_simp <;> rfl
  have h : V20 m ρ c main_v35 = V13 m ρ c main_v35 := (W20_of m ρ c main_v35 (by decide)).trans ((W19_of m ρ c main_v35 (by decide)).trans
    ((W18_of m ρ c main_v35 (by decide)).trans ((W17_of m ρ c main_v35 (by decide)).trans ((W16_of m ρ c main_v35 (by decide)).trans
      ((W15_of m ρ c main_v35 (by decide)).trans (W14_of m ρ c main_v35 (by decide)))))))
  have e' : (V13 m ρ c main_v35 : Vec Ideal S4x3x5632 .f32) = extractStridedSlice S4x3x5632 ![0, 5, 0] (V12 m ρ c main_v34_1) slices_S4x8x5632_S4x3x5632_0_5_0 := by
    simp only [V13, W13, hostOps7]
    after_results_simp <;> rfl
  rw [e, h, e', conv_arr]
  funext i
  rw [show i = ix4 (n0 := 1) (n1 := 4) (n2 := 3) (n3 := 5632) 0 (i 1) (i 2) (i 3) by blk_ext []]
  generalize (i 1 : Fin 4) = b
  generalize (i 2 : Fin 3) = k
  generalize (i 3 : Fin 5632) = l
  unfold resConv outConv
  pointwise
  rw [show 2040 + (5 + k.val) = 2045 + k.val by omega]

theorem last_h : W21 m ρ c (Proc.devRef .tc main_v51) = resH m c := by
  have e : (W21 m ρ c (Proc.devRef .tc main_v51) : Vec Ideal S1x4x5632 .f32) = broadcastInDim S1x4x5632 ![1, 2] bcast_S4x5632_S1x4x5632_1_2 (V20 m ρ c main_v37) := by
    simp only [W21, hostOps12]
    after_results_simp <;> rfl
  have h : V20 m ρ c main_v37 = V13 m ρ c main_v37 := (W20_of m ρ c main_v37 (by decide)).trans ((W19_of m ρ c main_v37 (by decide)).trans
    ((W18_of m ρ c main_v37 (by decide)).trans ((W17_of m ρ c main_v37 (by decide)).trans ((W16_of m ρ c main_v37 (by decide)).trans
      ((W15_of m ρ c main_v37 (by decide)).trans (W14_of m ρ c main_v37 (by decide)))))))
  have e' : (V13 m ρ c main_v37 : Vec Ideal S4x5632 .f32) = shapeCast S4x5632 (extractStridedSlice S4x1x5632 ![0, 7, 0] (V12 m ρ c main_v34_2)
      slices_S4x8x5632_S4x1x5632_0_7_0) shapeCasts_S4x1x5632_S4x5632 := by
    simp only [V13, W13, hostOps7]
    after_results_simp <;> rfl
  rw [e, h, e', h_arr]
  funext i
  rw [show i = ix3 (n0 := 1) (n1 := 4) (n2 := 5632) 0 (i 1) (i 2) by blk_ext []]
  generalize (i 1 : Fin 4) = b
  generalize (i 2 : Fin 5632) = l
  unfold resH outH
  pointwise

end Cert.Layers.Prompt

end
-- ==== Proof.RefParts.lean ====
/-
  The parts of the two references that do not depend on the batch: the slices of the weights, and the functions of single numbers,
  over arrays of any shape. Each comes with its value at an index.
-/
module

public import proofs.«01_k».proof.Proof.Layers
public import Idealize.ShloMosaic.Lib.Pointwise
public import Idealize.ShloMosaic.Lib.IdealHost

@[expose] public section

set_option maxRecDepth 16384

noncomputable section

namespace Cert.Layers

open Idealize.ShloMosaic Idealize.ShloMosaic.Tactic Idealize.ShloMosaic.StableHlo
open Cert.Dense Cert.Rglru

/-- A number at every index. -/
def lit {s : Shape} (w : BitVec 32) : FVec Ideal s .f32 := broadcastInDim s ![] ⟨fun a => a.elim0, fun a => a.elim0⟩ (constant ⟨0, ![]⟩ .f32 w)

theorem lit_at {s : Shape} (w : BitVec 32) (i : s.Idx) : lit w i = Ideal.ofBits .f32 w := rfl

/-! ### The weights -/

/-- The scales of layer 0 and of layer 1. -/
def scale0 (g : FVec Ideal ⟨2, ![2, 4096]⟩ .f32) : FVec Ideal ⟨1, ![4096]⟩ .f32 :=
  shapeCast ⟨1, ![4096]⟩ (extractStridedSlice ⟨2, ![1, 4096]⟩ ![0, 0] g (by decide)) (by decide)
def scale1 (g : FVec Ideal ⟨2, ![2, 4096]⟩ .f32) : FVec Ideal ⟨1, ![4096]⟩ .f32 :=
  shapeCast ⟨1, ![4096]⟩ (extractStridedSlice ⟨2, ![1, 4096]⟩ ![1, 0] g (by decide)) (by decide)

/-- The two projections of a feed-forward layer, of layer 0 and of layer 1. -/
def up0 (w : FVec Ideal ⟨3, ![2, 4096, 22016]⟩ .f32) : FVec Ideal ⟨2, ![4096, 22016]⟩ .f32 :=
  shapeCast ⟨2, ![4096, 22016]⟩ (extractStridedSlice ⟨3, ![1, 4096, 22016]⟩ ![0, 0, 0] w (by decide)) (by decide)
def up1 (w : FVec Ideal ⟨3, ![2, 4096, 22016]⟩ .f32) : FVec Ideal ⟨2, ![4096, 22016]⟩ .f32 :=
  shapeCast ⟨2, ![4096, 22016]⟩ (extractStridedSlice ⟨3, ![1, 4096, 22016]⟩ ![1, 0, 0] w (by decide)) (by decide)
def down0 (w : FVec Ideal ⟨3, ![2, 11008, 4096]⟩ .f32) : FVec Ideal ⟨2, ![11008, 4096]⟩ .f32 :=
  shapeCast ⟨2, ![11008, 4096]⟩ (extractStridedSlice ⟨3, ![1, 11008, 4096]⟩ ![0, 0, 0] w (by decide)) (by decide)
def down1 (w : FVec Ideal ⟨3, ![2, 11008, 4096]⟩ .f32) : FVec Ideal ⟨2, ![11008, 4096]⟩ .f32 :=
  shapeCast ⟨2, ![11008, 4096]⟩ (extractStridedSlice ⟨3, ![1, 11008, 4096]⟩ ![1, 0, 0] w (by decide)) (by decide)

/-- The one row of an array. -/
def flat (b : FVec Ideal ⟨2, ![1, 5632]⟩ .f32) : FVec Ideal ⟨1, ![5632]⟩ .f32 := shapeCast ⟨1, ![5632]⟩ b (by decide)

/-- The softplus of `x`, with its case for a number that is none. -/
def softT (x : FVec Ideal ⟨1, ![5632]⟩ .f32) : FVec Ideal ⟨1, ![5632]⟩ .f32 :=
  let z : FVec Ideal ⟨1, ![5632]⟩ .f32 := broadcastInDim ⟨1, ![5632]⟩ ![] ⟨fun a => a.elim0, fun a => a.elim0⟩ (constant ⟨0, ![]⟩ .f32 0x00000000#32)
  select (cmpf .une (subf x z) (subf x z)) (addf x z)
    (addf (maximumf x z) (Host.log1p (Host.exp (Host.negf (Host.absf (subf x z))))))

theorem scale0_at (g : FVec Ideal ⟨2, ![2, 4096]⟩ .f32) (k : Fin 4096) : scale0 g (ix1 k) = g (ix2 0 k) := by
  unfold scale0
  pointwise
theorem scale1_at (g : FVec Ideal ⟨2, ![2, 4096]⟩ .f32) (k : Fin 4096) : scale1 g (ix1 k) = g (ix2 1 k) := by
  unfold scale1
  pointwise

theorem up0_at (w : FVec Ideal ⟨3, ![2, 4096, 22016]⟩ .f32) (k : Fin 4096) (j : Fin 22016) : up0 w (ix2 k j) = w (ix3 0 k j) := by
  unfold up0
  pointwise
theorem up1_at (w : FVec Ideal ⟨3, ![2, 4096, 22016]⟩ .f32) (k : Fin 4096) (j : Fin 22016) : up1 w (ix2 k j) = w (ix3 1 k j) := by
  unfold up1
  pointwise
theorem down0_at (w : FVec Ideal ⟨3, ![2, 11008, 4096]⟩ .f32) (k : Fin 11008) (j : Fin 4096) : down0 w (ix2 k j) = w (ix3 0 k j) := by
  unfold down0
  pointwise
theorem down1_at (w : FVec Ideal ⟨3, ![2, 11008, 4096]⟩ .f32) (k : Fin 11008) (j : Fin 4096) : down1 w (ix2 k j) = w (ix3 1 k j) := by
  unfold down1
  pointwise

theorem flat_at (v : FVec Ideal ⟨2, ![1, 5632]⟩ .f32) (j : Fin 5632) : flat v (ix1 j) = v (ix2 0 j) := by
  unfold flat
  pointwise

theorem softT_at (lam : FVec Ideal ⟨1, ![5632]⟩ .f32) (j : Fin 5632) : softT (Host.negf lam) (ix1 j) = softplusNeg (lam (ix1 j)) := by
  rw [← softplusNeg_eq]
  unfold softT
  pointwise
  rw [if_neg (fun h => h rfl)]
  rfl

/-! ### Functions of single numbers -/

/-- The gate times its logistic function. -/
def siluT {s : Shape} (g : FVec Ideal s .f32) : FVec Ideal s .f32 :=
  let one : FVec Ideal s .f32 := lit 0x3F800000#32
  mulf g (Host.divf one (addf one (Host.exp (Host.negf g))))

/-- The logistic function, written with the exponential. -/
def sigT {s : Shape} (x : FVec Ideal s .f32) : FVec Ideal s .f32 :=
  Host.divf (lit 0x3F800000#32) (addf (lit 0x3F800000#32) (Host.exp (Host.negf x)))

/-- What each step adds, from the logarithm of the decay, the input gate and the convolution. -/
def inT {s : Shape} (l g u : FVec Ideal s .f32) : FVec Ideal s .f32 :=
  mulf (Host.sqrt (Host.negf (Host.expm1 (mulf (lit 0x40000000#32) l)))) (mulf g u)

/-- The states, gated by the gelu of the gate branch. -/
def gatedT {s : Shape} (h g : FVec Ideal s .f32) : FVec Ideal s .f32 :=
  mulf h (mulf g (mulf (lit 0x3F000000#32) (addf (lit 0x3F800000#32) (Host.tanh (mulf (lit 0x3F4C422A#32) (addf g (mulf (lit 0x3D372713#32) (mulf (mulf g g) g))))))))

theorem siluT_at {s : Shape} (p q : FVec Ideal s .f32) (i : s.Idx) : mulf (F := Ideal) (φ := .f32) (siluT p) q i = swiglu (p i) (q i) := by
  unfold siluT swiglu Ideal.logistic
  pointwise [lit]

theorem sigT_at {s : Shape} (x : FVec Ideal s .f32) (i : s.Idx) : sigT x i = Ideal.logistic (x i) := by
  unfold sigT Ideal.logistic
  pointwise [lit]

/-- The gated output, with the cube multiplied in the other order. -/
theorem cube (h g : EReal) :
    h * (g * (Ideal.ofBits FTy.f32 1056964608#32 * (1 + Ideal.tanh (Ideal.ofBits FTy.f32 1061962282#32 * (g + Ideal.ofBits FTy.f32 1027024659#32 * (g * g * g))))))
      = gelued h g := by
  unfold gelued
  rw [mul_assoc g g g]

theorem gatedT_at {s : Shape} (h g : FVec Ideal s .f32) (i : s.Idx) : gatedT h g i = gelued (h i) (g i) := by
  rw [← cube]
  unfold gatedT
  pointwise [lit]

end Cert.Layers

end
-- ==== Proof.PromptRefTerms.lean ====
/-
  The prompt's reference, stretch by stretch, as terms of the arrays each stretch reads.
-/
module

public import proofs.«01_k».proof.Proof.Gen.PromptReferenceIdeal
public import proofs.«01_k».proof.Proof.Gen.PromptReferenceIdeal.Run
public import proofs.«01_k».proof.Proof.RefParts

@[expose] public section

set_option maxRecDepth 16384

noncomputable section

namespace Cert.Layers.PromptRef

open Idealize.ShloMosaic Idealize.ShloMosaic.TcCoe Idealize.ShloMosaic.Tactic Idealize.ShloMosaic.StableHlo
open Cert.PromptReferenceIdeal Cert.PromptReferenceIdeal.Gen Cert.PromptReferenceIdeal.Value

/-! ### Terms -/

/-- A number for every row. -/
def litRow (w : BitVec 32) : FVec Ideal S4x2048x1 .f32 := broadcastInDim S4x2048x1 ![] bcast_S_S4x2048x1 (constant S_ .f32 w)

/-- The norm of the rows, scaled by `g`. -/
def normT (x : FVec Ideal S4x2048x4096 .f32) (g : FVec Ideal S4096 .f32) : FVec Ideal S4x2048x4096 .f32 :=
  mulf (mulf x (broadcastInDim S4x2048x4096 ![0, 1, 2] bcast_S4x2048x1_S4x2048x4096_0_1_2 (Host.rsqrt (addf (Host.divf
      (broadcastInDim S4x2048x1 ![0, 1] bcast_S4x2048_S4x2048x1_0_1 (Host.reduceAdd (mulf x x) (constant S_ .f32 0x00000000#32) reducesTo_S4x2048x4096_S4x2048_d2 h_S_))
      (litRow 0x45800000#32)) (litRow 0x358637BD#32)))))
    (broadcastInDim S4x2048x4096 ![0, 1, 2] bcast_S1x1x4096_S4x2048x4096_0_1_2 (broadcastInDim S1x1x4096 ![2] bcast_S4096_S1x1x4096_2 g))

/-- The rows plus the attention's rows projected. -/
def attT (o : FVec Ideal S4x2048x4096 .bf16) (x : FVec Ideal S4x2048x4096 .f32) (w : FVec Ideal S1x4096x4096 .f32) : FVec Ideal S4x2048x4096 .f32 :=
  addf x (Host.dotGeneral (F := Ideal) (φ₂ := .f32) dot_S4x2048x4096_S4096x4096_S4x2048x4096_2_0_01_1_n_n none (extf .f32 o bitsLt_bf16_f32) (shapeCast S4096x4096 w shapeCasts_S1x4096x4096_S4096x4096))

/-- The up projection. -/
def upT (n : FVec Ideal S4x2048x4096 .f32) (w : FVec Ideal S4096x22016 .f32) : FVec Ideal S4x2048x22016 .f32 :=
  Host.dotGeneral (F := Ideal) (φ₂ := .f32) dot_S4x2048x4096_S4096x22016_S4x2048x22016_2_0_01_1_n_n none n w
/-- The two halves of the up projection. -/
def halfG (u : FVec Ideal S4x2048x22016 .f32) : FVec Ideal S4x2048x11008 .f32 := extractStridedSlice S4x2048x11008 ![0, 0, 0] u slices_S4x2048x22016_S4x2048x11008_0_0_0
def halfU (u : FVec Ideal S4x2048x22016 .f32) : FVec Ideal S4x2048x11008 .f32 := extractStridedSlice S4x2048x11008 ![0, 0, 11008] u slices_S4x2048x22016_S4x2048x11008_0_0_11008

/-- The rows plus the down projection of the hidden rows. -/
def downT (x : FVec Ideal S4x2048x4096 .f32) (h : FVec Ideal S4x2048x11008 .f32) (w : FVec Ideal S11008x4096 .f32) : FVec Ideal S4x2048x4096 .f32 :=
  addf x (Host.dotGeneral (F := Ideal) (φ₂ := .f32) dot_S4x2048x11008_S11008x4096_S4x2048x4096_2_0_01_1_n_n none h w)

/-- The two branches of the recurrent layer. -/
def guT (x : FVec Ideal S4x2048x4096 .f32) (g : FVec Ideal S2x4096 .f32) (w : FVec Ideal S1x4096x11264 .f32) : FVec Ideal S4x2048x11264 .f32 :=
  Host.dotGeneral (F := Ideal) (φ₂ := .f32) dot_S4x2048x4096_S4096x11264_S4x2048x11264_2_0_01_1_n_n none (normT x (scale1 g)) (shapeCast S4096x11264 w shapeCasts_S1x4096x11264_S4096x11264)

def branchG (u : FVec Ideal S4x2048x11264 .f32) : FVec Ideal S4x2048x5632 .f32 := extractStridedSlice S4x2048x5632 ![0, 0, 0] u slices_S4x2048x11264_S4x2048x5632_0_0_0

/-- The three earlier inputs followed by the inputs. -/
def extT (gu : FVec Ideal S4x2048x11264 .f32) (cp : FVec Ideal S4x3x5632 .f32) : FVec Ideal S4x2051x5632 .f32 :=
  concatenate S4x2051x5632 1 [⟨S4x3x5632, cp⟩, ⟨S4x2048x5632, (extractStridedSlice S4x2048x5632 ![0, 0, 5632] gu slices_S4x2048x11264_S4x2048x5632_0_0_5632)⟩] concatenates_S4x3x5632_S4x2048x5632_S4x2051x5632_d1

/-- A vector over channels at every batch row and time. -/
def overRows (b : FVec Ideal S5632 .f32) : FVec Ideal S4x2048x5632 .f32 :=
  broadcastInDim S4x2048x5632 ![0, 1, 2] bcast_S1x1x5632_S4x2048x5632_0_1_2 (broadcastInDim S1x1x5632 ![2] bcast_S5632_S1x1x5632_2 b)

/-- The causal convolution of the extended rows. -/
def convT (e : FVec Ideal S4x2051x5632 .f32) (cw : FVec Ideal S1x4x5632 .f32) (cb : FVec Ideal S1x5632 .f32) : FVec Ideal S4x2048x5632 .f32 :=
  let w : FVec Ideal S4x5632 .f32 := shapeCast S4x5632 cw shapeCasts_S1x4x5632_S4x5632
  addf (addf (addf (addf (overRows (flat cb))
    (mulf (extractStridedSlice S4x2048x5632 ![0, 0, 0] e slices_S4x2051x5632_S4x2048x5632_0_0_0)
      (overRows (flat (extractStridedSlice S1x5632 ![0, 0] w slices_S4x5632_S1x5632_0_0)))))
    (mulf (extractStridedSlice S4x2048x5632 ![0, 1, 0] e slices_S4x2051x5632_S4x2048x5632_0_1_0)
      (overRows (flat (extractStridedSlice S1x5632 ![1, 0] w slices_S4x5632_S1x5632_1_0)))))
    (mulf (extractStridedSlice S4x2048x5632 ![0, 2, 0] e slices_S4x2051x5632_S4x2048x5632_0_2_0)
      (overRows (flat (extractStridedSlice S1x5632 ![2, 0] w slices_S4x5632_S1x5632_2_0)))))
    (mulf (extractStridedSlice S4x2048x5632 ![0, 3, 0] e slices_S4x2051x5632_S4x2048x5632_0_3_0)
      (overRows (flat (extractStridedSlice S1x5632 ![3, 0] w slices_S4x5632_S1x5632_3_0))))

/-- A gate's argument from the convolution `u`, the gate's weights and bias. -/
def gateT (u : FVec Ideal S4x2048x5632 .f32) (w : FVec Ideal S1x22x256x256 .f32) (b : FVec Ideal S1x5632 .f32) : FVec Ideal S4x2048x5632 .f32 :=
  addf (shapeCast S4x2048x5632 (transpose S4x2048x22x256 [2, 3, 0, 1]
      (Host.dotGeneral (F := Ideal) (φ₁ := .f32) (φ₂ := .f32) dot_S22x256x256_S4x2048x22x256_S22x256x4x2048_1_3_2_01_0_2 none
        (shapeCast S22x256x256 w shapeCasts_S1x22x256x256_S22x256x256) (shapeCast S4x2048x22x256 u shapeCasts_S4x2048x5632_S4x2048x22x256))
      transposes_S22x256x4x2048_S4x2048x22x256_2_3_0_1) shapeCasts_S4x2048x22x256_S4x2048x5632) (overRows (flat b))

/-- The logarithm of the decay, from −8 times the gate and the softplus. -/
def logT (r : FVec Ideal S4x2048x5632 .f32) (s : FVec Ideal S5632 .f32) : FVec Ideal S4x2048x5632 .f32 := mulf r (overRows s)

/-- The rows by time first, and the states by batch row first. -/
def timeFirst (x : FVec Ideal S4x2048x5632 .f32) : FVec Ideal S2048x4x5632 .f32 := transpose S2048x4x5632 [1, 0, 2] x transposes_S4x2048x5632_S2048x4x5632_1_0_2
def batchFirst (x : FVec Ideal S2048x4x5632 .f32) : FVec Ideal S4x2048x5632 .f32 := transpose S4x2048x5632 [1, 0, 2] x transposes_S2048x4x5632_S4x2048x5632_1_0_2

/-- The rows plus the recurrent layer's output projection. -/
def recT (x : FVec Ideal S4x2048x4096 .f32) (y : FVec Ideal S4x2048x5632 .f32) (w : FVec Ideal S5632x4096 .f32) : FVec Ideal S4x2048x4096 .f32 :=
  addf x (Host.dotGeneral (F := Ideal) (φ₂ := .f32) dot_S4x2048x5632_S5632x4096_S4x2048x4096_2_0_01_1_n_n none y w)

/-! ### The stretches -/

variable (V : Valuation τ sig (Elt Ideal))

set_option maxHeartbeats 4000000

theorem s0_v5 : after hostOps0 V (Proc.devRef .tc main_v5) = attT (V (Proc.devRef .tc main_arg0)) (V (Proc.devRef .tc main_arg1)) (V (Proc.devRef .tc main_arg5)) := by
  after_reads_simp
  rfl

theorem s0_v26 : after hostOps0 V (Proc.devRef .tc main_v26) = halfG (upT (normT (attT (V (Proc.devRef .tc main_arg0)) (V (Proc.devRef .tc main_arg1)) (V (Proc.devRef .tc main_arg5)))
    (scale0 (V (Proc.devRef .tc main_arg3)))) (up0 (V (Proc.devRef .tc main_arg15)))) := by
  after_reads_simp
  rfl

theorem s0_v27 : after hostOps0 V (Proc.devRef .tc main_v27) = halfU (upT (normT (attT (V (Proc.devRef .tc main_arg0)) (V (Proc.devRef .tc main_arg1)) (V (Proc.devRef .tc main_arg5)))
    (scale0 (V (Proc.devRef .tc main_arg3)))) (up0 (V (Proc.devRef .tc main_arg15)))) := by
  after_reads_simp
  rfl

theorem s0_v24 : after hostOps0 V (Proc.devRef .tc main_v24) = down0 (V (Proc.devRef .tc main_arg16)) := by
  after_reads_simp
  rfl

theorem s0_v0 : after hostOps0 V (Proc.devRef .tc main_v0) = broadcastInDim S4x3x5632 ![] bcast_S_S4x3x5632 (constant (F := Ideal) S_ .f32 0x00000000#32) := by
  after_reads_simp

theorem s0_v1 : after hostOps0 V (Proc.devRef .tc main_v1) = broadcastInDim S4x5632 ![] bcast_S_S4x5632 (constant (F := Ideal) S_ .f32 0x00000000#32) := by
  after_reads_simp

theorem s1_v28 : after hostOps0_1 V (Proc.devRef .tc main_v28) = siluT (V (Proc.devRef .tc main_v26)) := by
  after_reads_simp
  rfl

theorem s2_v31 : after hostOps0_2 V (Proc.devRef .tc main_v31)
    = downT (V (Proc.devRef .tc main_v5)) (mulf (F := Ideal) (φ := .f32) (V (Proc.devRef .tc main_v28)) (V (Proc.devRef .tc main_v27))) (V (Proc.devRef .tc main_v24)) := by
  after_reads_simp
  rfl

/-- The rows that enter the recurrent layer. -/
abbrev rowsIn : FVec Ideal S4x2048x4096 .f32 :=
  downT (V (Proc.devRef .tc main_v5)) (mulf (F := Ideal) (φ := .f32) (V (Proc.devRef .tc main_v28)) (V (Proc.devRef .tc main_v27))) (V (Proc.devRef .tc main_v24))
abbrev guIn : FVec Ideal S4x2048x11264 .f32 := guT (rowsIn V) (V (Proc.devRef .tc main_arg2)) (V (Proc.devRef .tc main_arg6))
abbrev extIn : FVec Ideal S4x2051x5632 .f32 := extT (guIn V) (V (Proc.devRef .tc main_v0))
abbrev convIn : FVec Ideal S4x2048x5632 .f32 := convT (extIn V) (V (Proc.devRef .tc main_arg7)) (V (Proc.devRef .tc main_arg8))

theorem s2_v57 : after hostOps0_2 V (Proc.devRef .tc main_v57) = branchG (guIn V) := by
  after_reads_simp
  rfl

theorem s2_v59 : after hostOps0_2 V (Proc.devRef .tc main_v59) = extIn V := by
  after_reads_simp
  rfl

theorem s2_v55 : after hostOps0_2 V (Proc.devRef .tc main_v55) = shapeCast S5632x4096 (V (Proc.devRef .tc main_arg14)) shapeCasts_S1x5632x4096_S5632x4096 := by
  after_reads_simp
  rfl

theorem s2_v89 : after hostOps0_2 V (Proc.devRef .tc main_v89) = convIn V := by
  after_reads_simp
  rfl

theorem s2_v114 : after hostOps0_2 V (Proc.devRef .tc main_v114) = sigT (gateT (convIn V) (V (Proc.devRef .tc main_arg11)) (V (Proc.devRef .tc main_arg12))) := by
  after_reads_simp
  rfl

theorem s2_v116 : after hostOps0_2 V (Proc.devRef .tc main_v116)
    = mulf (lit 0xC1000000#32) (sigT (gateT (convIn V) (V (Proc.devRef .tc main_arg9)) (V (Proc.devRef .tc main_arg10)))) := by
  after_reads_simp
  rfl

theorem s2_v117 : after hostOps0_2 V (Proc.devRef .tc main_v117) = Host.negf (F := Ideal) (φ := .f32) (flat (V (Proc.devRef .tc main_arg13))) := by
  after_reads_simp
  rfl

theorem s3_v118 : after hostOps0_3 V (Proc.devRef .tc main_v118) = softT (V (Proc.devRef .tc main_v117)) := by
  after_reads_simp
  rfl

theorem s4_a : after hostOps0_4 V (Proc.devRef .tc main_v133_0)
    = timeFirst (Host.exp (logT (V (Proc.devRef .tc main_v116)) (V (Proc.devRef .tc main_v118)))) := by
  after_reads_simp
  rfl

theorem s4_b : after hostOps0_4 V (Proc.devRef .tc main_v133_1)
    = timeFirst (inT (logT (V (Proc.devRef .tc main_v116)) (V (Proc.devRef .tc main_v118))) (V (Proc.devRef .tc main_v114)) (V (Proc.devRef .tc main_v89))) := by
  after_reads_simp
  rfl

theorem s4_h : after hostOps0_4 V (Proc.devRef .tc main_v133_3) = V (Proc.devRef .tc main_v1) := by
  after_reads_simp
  rfl

/-- The rows after the recurrent layer. -/
abbrev rowsRec : FVec Ideal S4x2048x4096 .f32 :=
  recT (V (Proc.devRef .tc main_v31)) (gatedT (batchFirst (V (Proc.devRef .tc main_v133_4))) (V (Proc.devRef .tc main_v57))) (V (Proc.devRef .tc main_v55))

theorem s5_v150 : after hostOps0_5 V (Proc.devRef .tc main_v150) = extractStridedSlice S4x3x5632 ![0, 2048, 0] (V (Proc.devRef .tc main_v59)) slices_S4x2051x5632_S4x3x5632_0_2048_0 := by
  after_reads_simp

theorem s5_v152 : after hostOps0_5 V (Proc.devRef .tc main_v152) = shapeCast S4x5632 (extractStridedSlice S4x1x5632 ![0, 2047, 0] (batchFirst (V (Proc.devRef .tc main_v133_4)))
    slices_S4x2048x5632_S4x1x5632_0_2047_0) shapeCasts_S4x1x5632_S4x5632 := by
  after_reads_simp
  rfl

theorem s5_v153 : after hostOps0_5 V (Proc.devRef .tc main_v153) = rowsRec V := by
  after_reads_simp
  rfl

theorem s5_v174 : after hostOps0_5 V (Proc.devRef .tc main_v174)
    = halfG (upT (normT (rowsRec V) (scale1 (V (Proc.devRef .tc main_arg3)))) (up1 (V (Proc.devRef .tc main_arg15)))) := by
  after_reads_simp
  rfl

theorem s5_v175 : after hostOps0_5 V (Proc.devRef .tc main_v175)
    = halfU (upT (normT (rowsRec V) (scale1 (V (Proc.devRef .tc main_arg3)))) (up1 (V (Proc.devRef .tc main_arg15)))) := by
  after_reads_simp
  rfl

theorem s5_v172 : after hostOps0_5 V (Proc.devRef .tc main_v172) = down1 (V (Proc.devRef .tc main_arg16)) := by
  after_reads_simp
  rfl

theorem s6_v176 : after hostOps0_6 V (Proc.devRef .tc main_v176) = siluT (V (Proc.devRef .tc main_v174)) := by
  after_reads_simp
  rfl

theorem s7_v192 : after hostOps0_7 V (Proc.devRef .tc main_v192)
    = normT (downT (V (Proc.devRef .tc main_v153)) (mulf (F := Ideal) (φ := .f32) (V (Proc.devRef .tc main_v176)) (V (Proc.devRef .tc main_v175))) (V (Proc.devRef .tc main_v172)))
      (V (Proc.devRef .tc main_arg4)) := by
  after_reads_simp
  rfl

theorem s7_v193 : after hostOps0_7 V (Proc.devRef .tc main_v193) = broadcastInDim S1x4x3x5632 ![1, 2, 3] bcast_S4x3x5632_S1x4x3x5632_1_2_3 (V (Proc.devRef .tc main_v150)) := by
  after_reads_simp

theorem s7_v194 : after hostOps0_7 V (Proc.devRef .tc main_v194) = broadcastInDim S1x4x5632 ![1, 2] bcast_S4x5632_S1x4x5632_1_2 (V (Proc.devRef .tc main_v152)) := by
  after_reads_simp

end Cert.Layers.PromptRef

end
-- ==== Proof.PromptRefAt.lean ====
/-
  The terms of the prompt's reference at an index: they are the layers' functions.
-/
module

public import proofs.«01_k».proof.Proof.PromptRefTerms
public import proofs.«01_k».proof.Proof.Layers

@[expose] public section

set_option maxRecDepth 16384

noncomputable section

namespace Cert.Layers.PromptRef

open Idealize.ShloMosaic Idealize.ShloMosaic.TcCoe Idealize.ShloMosaic.Tactic
open Cert.PromptReferenceIdeal Cert.PromptReferenceIdeal.Gen Cert.PromptReferenceIdeal.Value
open Cert.Dense Cert.Rglru

/-- The array holds the rows `f`. -/
def Holds {C : ℕ} (a : Vec Ideal ⟨3, ![4, 2048, C]⟩ .f32) (f : Fin 4 → ℕ → Fin C → EReal) : Prop :=
  ∀ (b : Fin 4) (t : Fin 2048) (k : Fin C), a (ix3 b t k) = f b t.val k

theorem ofNat_val (t : Fin 2048) : (Fin.ofNat 2048 t.val : Fin 2048) = t := Fin.ext (Nat.mod_eq_of_lt t.isLt)

/-! ### The dense layers -/

section

theorem normT_at (x : FVec Ideal S4x2048x4096 .f32) (g : FVec Ideal S4096 .f32) (b : Fin 4) (t : Fin 2048) (k : Fin 4096) :
    normT x g (ix3 b t k) = rms (fun l => x (ix3 b t l)) (g (ix1 k)) k := by
  unfold normT rms
  pointwise [litRow]

theorem norm_holds {x : FVec Ideal S4x2048x4096 .f32} {f : Fin 4 → ℕ → Row} (h : Holds x f) (g : FVec Ideal S4096 .f32) (g' : Row) (hg : ∀ k, g (ix1 k) = g' k) :
    Holds (normT x g) fun b t k => rms (f b t) (g' k) k := fun b t k => by
  rw [normT_at, hg]
  exact congrArg (fun r => rms r (g' k) k) (funext fun l => h b t l)

theorem attT_at (o : FVec Ideal S4x2048x4096 .bf16) (x : FVec Ideal S4x2048x4096 .f32) (w : FVec Ideal S1x4096x4096 .f32) (b : Fin 4) (t : Fin 2048) (k : Fin 4096) :
    attT o x w (ix3 b t k) = x (ix3 b t k) + dot (fun j => o (ix3 b t j)) fun j => w (ix3 0 j k) := by
  unfold attT dot
  pointwise

theorem upT_at (n : FVec Ideal S4x2048x4096 .f32) (w : FVec Ideal S4096x22016 .f32) (b : Fin 4) (t : Fin 2048) (j : Fin 22016) :
    upT n w (ix3 b t j) = dot (fun k => n (ix3 b t k)) fun k => w (ix2 k j) := by
  unfold upT dot
  pointwise

/-- The gated product at an index, from the up projection. -/
theorem swiglu_at (u : FVec Ideal S4x2048x22016 .f32) (b : Fin 4) (t : Fin 2048) (j : Fin 11008) :
    mulf (F := Ideal) (φ := .f32) (siluT (halfG u)) (halfU u) (ix3 b t j) = swiglu (u (ix3 b t (upG j))) (u (ix3 b t (upU j))) := by
  have e1 : halfG u (ix3 b t j) = u (ix3 b t (upG j)) := by
    unfold halfG
    pointwise [upG]
  have e2 : halfU u (ix3 b t j) = u (ix3 b t (upU j)) := by
    unfold halfU
    pointwise [upU]
  rw [← e1, ← e2]
  exact siluT_at (halfG u) (halfU u) (ix3 b t j)

theorem downT_at (x : FVec Ideal S4x2048x4096 .f32) (h : FVec Ideal S4x2048x11008 .f32) (w : FVec Ideal S11008x4096 .f32) (b : Fin 4) (t : Fin 2048) (k : Fin 4096) :
    downT x h w (ix3 b t k) = x (ix3 b t k) + dot (fun j => h (ix3 b t j)) fun j => w (ix2 j k) := by
  unfold downT dot
  pointwise

theorem recT_at (x : FVec Ideal S4x2048x4096 .f32) (y : FVec Ideal S4x2048x5632 .f32) (w : FVec Ideal S1x5632x4096 .f32) (b : Fin 4) (t : Fin 2048) (k : Fin 4096) :
    recT x y (shapeCast S5632x4096 w shapeCasts_S1x5632x4096_S5632x4096) (ix3 b t k) = x (ix3 b t k) + dot (fun j => y (ix3 b t j)) fun j => w (ix3 0 j k) := by
  unfold recT dot
  pointwise

theorem guT_at (x : FVec Ideal S4x2048x4096 .f32) (g : FVec Ideal S2x4096 .f32) (w : FVec Ideal S1x4096x11264 .f32) (b : Fin 4) (t : Fin 2048) (j : Fin 11264) :
    guT x g w (ix3 b t j) = dot (fun k => normT x (scale1 g) (ix3 b t k)) fun k => w (ix3 0 k j) := by
  unfold guT
  generalize normT x (scale1 g) = n
  unfold dot
  pointwise

end

section

variable (w : Weights)

theorem att_holds (o : FVec Ideal S4x2048x4096 .bf16) (x : FVec Ideal S4x2048x4096 .f32) :
    Holds (attT o x w.wo) fun b t => attended w (seq (B := 4) (T := 2048) (C := 4096) o b t) (seq (B := 4) (T := 2048) x b t) := fun b t k => by
  rw [attT_at]
  unfold attended seq
  simp only [ofNat_val]

/-- A feed-forward layer, from its scale and its slices of the weights. -/
theorem ffn_holds (L : Fin 2) {x : FVec Ideal S4x2048x4096 .f32} {f : Fin 4 → ℕ → Row} (h : Holds x f) (g : FVec Ideal S4096 .f32) (hg : ∀ k, g (ix1 k) = w.ffn (ix2 L k))
    (u : FVec Ideal S4096x22016 .f32) (hu : ∀ k j, u (ix2 k j) = w.up (ix3 L k j)) (d : FVec Ideal S11008x4096 .f32) (hd : ∀ k j, d (ix2 k j) = w.down (ix3 L k j)) :
    Holds (downT x (mulf (F := Ideal) (φ := .f32) (siluT (halfG (upT (normT x g) u))) (halfU (upT (normT x g) u))) d) fun b t => ffnRow w L (f b t) := fun b t k => by
  have hn := norm_holds h g (fun k => w.ffn (ix2 L k)) hg
  have e : ∀ j, upT (normT x g) u (ix3 b t j) = dot (fun l => rms (f b t.val) (w.ffn (ix2 L l)) l) fun k => w.up (ix3 L k j) := fun j => by
    rw [upT_at]
    exact congrArg₂ dot (funext fun l => hn b t l) (funext fun k => hu k j)
  rw [downT_at, h b t k]
  unfold ffnRow hiddenRow
  refine congrArg (_ + ·) (congrArg₂ dot (funext fun j => ?_) (funext fun j => hd j k))
  rw [swiglu_at, e, e]

theorem gu_holds {x : FVec Ideal S4x2048x4096 .f32} {f : Fin 4 → ℕ → Row} (h : Holds x f) : Holds (guT x w.mix w.win) fun b t => branches w (f b t) := fun b t j => by
  have hn := norm_holds h (scale1 w.mix) (fun k => w.mix (ix2 1 k)) (scale1_at _)
  rw [guT_at]
  exact congrArg (fun r => dot r _) (funext fun k => hn b t k)

end

/-! ### The recurrent layer -/

theorem overRows_at (v : FVec Ideal S5632 .f32) (b : Fin 4) (t : Fin 2048) (j : Fin 5632) : overRows v (ix3 b t j) = v (ix1 j) := by
  unfold overRows
  pointwise

theorem gateT_at (u : FVec Ideal S4x2048x5632 .f32) (w : Vec Ideal S1x22x256x256 .f32) (bias : Vec Ideal S1x5632 .f32)
    (b : Fin 4) (t : Fin 2048) (n : Fin 22) (l : Fin 256) :
    gateT u w bias (ix3 b t (col n l)) = (∑ x, u (ix3 b t (col n x)) * w (ix4 0 n x l)) + bias (ix2 0 (col n l)) := by
  rw [← flat_at bias]
  unfold gateT
  generalize flat bias = bias
  pointwise [overRows]
  have e1 : (⟨(col n l).val / 256, by omega⟩ : Fin 22) = n :=
    Fin.ext (by show (n.val * 256 + l.val) / 256 = n.val; omega)
  have e2 : (⟨(col n l).val % 256, by omega⟩ : Fin 256) = l :=
    Fin.ext (by show (n.val * 256 + l.val) % 256 = l.val; omega)
  have e3 : ∀ x : Fin 256, (⟨(col n l).val / 256 * 256 + x.val, by have := (col n l).isLt; omega⟩ : Fin 5632) = col n x := fun x =>
    Fin.ext (by show (n.val * 256 + l.val) / 256 * 256 + x.val = n.val * 256 + x.val; omega)
  refine congrArg (· + _) (Finset.sum_congr rfl fun x _ => ?_)
  rw [e1, e2, e3, mul_comm]

section

variable (w : Weights) (gu : FVec Ideal S4x2048x11264 .f32) (cp : FVec Ideal S4x3x5632 .f32)

/-- The branches and the earlier inputs of batch row `b`. -/
abbrev guOf (b : Fin 4) : ℕ → Fin 11264 → EReal := seq (B := 4) (T := 2048) gu b
abbrev cpOf (b : Fin 4) (k : Fin 3) (i : Fin 5632) : EReal := cp (ix3 b k i)

theorem extT_at (b : Fin 4) (k : Fin 2051) (n : Fin 22) (l : Fin 256) :
    extT gu cp (ix3 b k (col n l)) = uRow (guOf gu b) (cpOf cp b) n k.val l := by
  unfold extT uRow guOf cpOf seq
  pointwise
  by_cases h : k.val < 3
  · have e : (Fin.ofNat 3 k.val : Fin 3) = ⟨k.val, h⟩ := Fin.ext (Nat.mod_eq_of_lt h)
    rw [dif_pos h, if_pos h, e]
  · have e : (Fin.ofNat 2048 (k.val - 3) : Fin 2048) = ⟨k.val - 3, by omega⟩ := Fin.ext (Nat.mod_eq_of_lt (by omega))
    have e' : (⟨5632 + (col n l).val, by omega⟩ : Fin 11264) = colU n l :=
      Fin.ext (by show 5632 + (n.val * 256 + l.val) = (n.val + 22) * 256 + l.val; omega)
    rw [dif_neg h, if_neg h, e, e']

theorem convT_at (b : Fin 4) (t : Fin 2048) (n : Fin 22) (l : Fin 256) :
    convT (extT gu cp) w.cw w.cb (ix3 b t (col n l)) = uConv w (guOf gu b) (cpOf cp b) n t.val l := by
  unfold uConv
  have e := extT_at gu cp b
  have e0 := e ⟨t.val, by omega⟩ n l
  have e1 := e ⟨t.val + 1, by omega⟩ n l
  have e2 := e ⟨t.val + 2, by omega⟩ n l
  have e3 := e ⟨t.val + 3, by omega⟩ n l
  simp only at e0 e1 e2 e3
  rw [← e0, ← e1, ← e2, ← e3]
  generalize extT gu cp = x
  unfold convT
  pointwise [overRows, flat]
  simp only [Nat.add_comm _ t.val]

theorem gate_at (m : Vec Ideal S1x22x256x256 .f32) (bias : Vec Ideal S1x5632 .f32) (b : Fin 4) (t : Fin 2048) (n : Fin 22) (l : Fin 256) :
    gateT (convT (extT gu cp) w.cw w.cb) m bias (ix3 b t (col n l)) = gate w (guOf gu b) (cpOf cp b) m bias n t.val l := by
  rw [gateT_at]
  unfold gate
  simp only [convT_at]

/-- The logarithms of the decays, from the reference's terms. -/
abbrev logs : FVec Ideal S4x2048x5632 .f32 :=
  logT (mulf (lit 0xC1000000#32) (sigT (gateT (convT (extT gu cp) w.cw w.cb) w.wa w.ba))) (softT (Host.negf (F := Ideal) (φ := .f32) (flat w.lam)))

theorem logs_at (b : Fin 4) (t : Fin 2048) (n : Fin 22) (l : Fin 256) :
    logs w gu cp (ix3 b t (col n l)) = logDec w (guOf gu b) (cpOf cp b) n t.val l := by
  have e1 := sigT_at (gateT (convT (extT gu cp) w.cw w.cb) w.wa w.ba) (ix3 b t (col n l))
  rw [gate_at] at e1
  have e2 := overRows_at (softT (Host.negf (flat w.lam))) b t (col n l)
  rw [softT_at, flat_at] at e2
  unfold logs logT logDec logDecay
  refine (congrArg₂ (· * ·) (congrArg₂ (· * ·) (lit_at _ (ix3 b t (col n l))) e1) e2).trans ?_
  rfl

theorem added_at (b : Fin 4) (t : Fin 2048) (n : Fin 22) (l : Fin 256) :
    inT (logs w gu cp) (sigT (gateT (convT (extT gu cp) w.cw w.cb) w.wi w.bi)) (convT (extT gu cp) w.cw w.cb) (ix3 b t (col n l))
      = added w (guOf gu b) (cpOf cp b) n t.val l := by
  have e1 := sigT_at (gateT (convT (extT gu cp) w.cw w.cb) w.wi w.bi) (ix3 b t (col n l))
  rw [gate_at] at e1
  have e3 := logs_at w gu cp b t n l
  have e4 := convT_at w gu cp b t n l
  unfold added scaledIn
  rw [scale_eq (by unfold logDec; exact logDecay_nonpos _ _), ← e3, ← e4, ← e1]
  generalize logs w gu cp = p
  generalize sigT _ = q
  generalize convT _ _ _ = r
  unfold inT
  pointwise [lit]

end

end Cert.Layers.PromptRef

end
-- ==== Proof.PromptRefLoop.lean ====
/-
  The reference's loop: after `k` trips it holds the state before step `k`, and the states of all steps before it.
-/
module

public import proofs.«01_k».proof.Proof.PromptRefTerms
public import proofs.«01_k».proof.Proof.Scan
public import Idealize.ShloMosaic.Lib.DynamicIndex
public import Idealize.ShloMosaic.Lib.Pipeline.Value

@[expose] public section

set_option maxRecDepth 16384

noncomputable section

namespace Cert.Layers.PromptRef

open Idealize.ShloMosaic Idealize.ShloMosaic.TcCoe Idealize.ShloMosaic.Tactic Idealize.ShloMosaic.StableHlo
open Cert.PromptReferenceIdeal Cert.PromptReferenceIdeal.Gen Cert.PromptReferenceIdeal.Value
open Cert.Rglru

/-- The start of the slice that trip `k` takes. -/
abbrev startAt (ctr : IVec S_ 32) : Fin 3 → Int :=
  fun a => (((![ctr, constantI S_ 32 0#32, constantI S_ 32 0#32] : Fin 3 → IVec S_ 32)) a (Shape.Idx.first h_S_)).toInt

theorem startAt_eq {ctr : IVec S_ 32} {k : ℕ} (hk : k < 2048) (hc : ctr = fun _ => BitVec.ofNat 32 k) (a : Fin 3) :
    startAt ctr a = ((![k, 0, 0] : Fin 3 → Nat) a : Int) := by
  have h0 : (BitVec.ofNat 32 k).toInt = (k : Int) := by
    have hn : (BitVec.ofNat 32 k).toNat = k := by rw [BitVec.toNat_ofNat]; exact Nat.mod_eq_of_lt (by omega)
    rw [BitVec.toInt_eq_toNat_of_lt (by rw [hn]; omega), hn]
  subst hc
  match a with
  | ⟨0, _⟩ => exact h0
  | ⟨1, _⟩ => rfl
  | ⟨2, _⟩ => rfl

/-- Trip `k` reads row `k`. -/
theorem read_row (X : FVec Ideal S2048x4x5632 .f32) {ctr : IVec S_ 32} (k : Fin 2048) (hc : ctr = fun _ => BitVec.ofNat 32 k.val)
    (b : Fin 4) (j : Fin 5632) :
    shapeCast S4x5632 (Host.dynamicSlice S1x4x5632 X (startAt ctr) sliceFits_S2048x4x5632_S1x4x5632) shapeCasts_S1x4x5632_S4x5632 (ix2 b j)
      = X (ix3 k b j) := by
  rw [Host.dynamicSlice_eq_extractStridedSlice S1x4x5632 X (startAt ctr) ![k.val, 0, 0] _
    ⟨rfl, fun a => by match a with
      | ⟨0, _⟩ => show k.val + 1 ≤ 2048; omega
      | ⟨1, _⟩ => show 0 + 4 ≤ 4; omega
      | ⟨2, _⟩ => show 0 + 5632 ≤ 5632; omega⟩ (startAt_eq k.isLt hc)]
  pointwise

/-- Trip `k` writes row `k` and keeps the other rows. -/
theorem write_row (X : FVec Ideal S2048x4x5632 .f32) (v : FVec Ideal S4x5632 .f32) {ctr : IVec S_ 32} (k : Fin 2048)
    (hc : ctr = fun _ => BitVec.ofNat 32 k.val) (r : Fin 2048) (b : Fin 4) (j : Fin 5632) :
    Host.dynamicUpdateSlice X (broadcastInDim S1x4x5632 ![1, 2] bcast_S4x5632_S1x4x5632_1_2 v) (startAt ctr) updateFits_S2048x4x5632_S1x4x5632 (ix3 r b j)
      = if r = k then v (ix2 b j) else X (ix3 r b j) := by
  refine (congrFun (Host.dynamicUpdateSlice_eq_updateSlice X _ (startAt ctr) updateFits_S2048x4x5632_S1x4x5632 ![k.val, 0, 0]
    (fun a => by
      rw [startAt_eq k.isLt hc a]
      match a with
      | ⟨0, _⟩ => show (min (max (k.val : Int) 0) ((2048 - 1 : Nat) : Int)).toNat = k.val; omega
      | ⟨1, _⟩ => rfl
      | ⟨2, _⟩ => rfl)
    ⟨rfl, fun a => by match a with
      | ⟨0, _⟩ => show k.val + 1 ≤ 2048; omega
      | ⟨1, _⟩ => show 0 + 4 ≤ 4; omega
      | ⟨2, _⟩ => show 0 + 5632 ≤ 5632; omega⟩) _).trans ?_
  pointwise
  have h2 := b.isLt
  have h3 := j.isLt
  by_cases h : r = k
  · subst h
    rw [if_pos rfl]
    split_ifs with hin
    · simp
    · omega
  · rw [if_neg h]
    have hv : r.val ≠ k.val := fun e => h (Fin.ext e)
    split_ifs with hin
    · omega
    · rfl

variable (m : (ℓ : Loc nD τ sig) → ℓ.2.ty.Contents (Elt Ideal)) (c : Dev nD)

/-- What the loop holds after `k` trips. -/
abbrev at_ (k : ℕ) : Valuation τ sig (Elt Ideal) := STEP^[k] (entryContents preI m c)

/-- The decays of the steps. -/
abbrev decays : FVec Ideal S2048x4x5632 .f32 := entryContents preI m c (Proc.devRef .tc main_v133_0)
/-- The inputs of the steps. -/
abbrev inputs : FVec Ideal S2048x4x5632 .f32 := entryContents preI m c (Proc.devRef .tc main_v133_1)
/-- The first state. -/
abbrev first : FVec Ideal S4x5632 .f32 := entryContents preI m c (Proc.devRef .tc main_v133_3)

/-- The state before step `k`. -/
def refState (b : Fin 4) (j : Fin 5632) (k : ℕ) : EReal :=
  hseq (first m c (ix2 b j)) (fun t => decays m c (ix3 (Fin.ofNat 2048 t) b j)) (fun t => inputs m c (ix3 (Fin.ofNat 2048 t) b j)) k

theorem loop_inv : ∀ k, k ≤ 2048 →
    at_ m c k (Proc.devRef .tc main_v133_0) = decays m c ∧ at_ m c k (Proc.devRef .tc main_v133_1) = inputs m c
    ∧ at_ m c k (Proc.devRef .tc main_v133_2) = (fun _ => BitVec.ofNat 32 k)
    ∧ (∀ b j, (at_ m c k (Proc.devRef .tc main_v133_3) : FVec Ideal S4x5632 .f32) (ix2 b j) = refState m c b j k)
    ∧ ∀ (r : Fin 2048) b j, r.val < k →
        (at_ m c k (Proc.devRef .tc main_v133_4) : FVec Ideal S2048x4x5632 .f32) (ix3 r b j) = refState m c b j (r.val + 1)
  | 0, _ => ⟨rfl, rfl, ctr_entry m c, fun _ _ => rfl, fun r _ _ h => absurd h (Nat.not_lt_zero _)⟩
  | k + 1, hk => by
    obtain ⟨ha, hb, hctr, hh, hs⟩ := loop_inv k (by omega)
    have e : at_ m c (k + 1) = STEP (at_ m c k) := Function.iterate_succ_apply' STEP k _
    have hnew : ∀ b j, (res_main_while0b_v198 (at_ m c k) : FVec Ideal S4x5632 .f32) (ix2 b j) = refState m c b j (k + 1) := fun b j => by
      have r0 := read_row (at_ m c k (Proc.devRef .tc main_v133_0)) ⟨k, by omega⟩ hctr b j
      have r1 := read_row (at_ m c k (Proc.devRef .tc main_v133_1)) ⟨k, by omega⟩ hctr b j
      have ek : (Fin.ofNat 2048 k : Fin 2048) = ⟨k, by omega⟩ := Fin.ext (Nat.mod_eq_of_lt (by omega))
      unfold res_main_while0b_v198
      refine (congrArg₂ (· + ·) (congrArg₂ (· * ·) r0 (hh b j)) r1).trans ?_
      show _ = decays m c (ix3 (Fin.ofNat 2048 k) b j) * refState m c b j k + inputs m c (ix3 (Fin.ofNat 2048 k) b j)
      rw [ha, hb, ek]
    refine ⟨by rw [e, STEP_main_v133_0, ha], by rw [e, STEP_main_v133_1, hb], ?_, fun b j => ?_, fun r b j hr => ?_⟩
    · rw [e, STEP_main_v133_2]
      unfold step_main_v133_2
      rw [hctr]
      funext i
      show BitVec.ofNat 32 k + 1#32 = BitVec.ofNat 32 (k + 1)
      rw [BitVec.ofNat_add]
    · rw [e, STEP_main_v133_3]
      exact hnew b j
    · rw [e, STEP_main_v133_4]
      refine (write_row (at_ m c k (Proc.devRef .tc main_v133_4)) _ ⟨k, by omega⟩ hctr r b j).trans ?_
      by_cases h : r.val = k
      · rw [if_pos (Fin.ext h), hnew, h]
      · rw [if_neg (fun e => h (congrArg Fin.val e)), hs r b j (by omega)]

end Cert.Layers.PromptRef

end
-- ==== Proof.PromptRefValue.lean ====
/-
  What the prompt's reference leaves: the layers' functions of its arguments.
-/
module

public import proofs.«01_k».proof.Proof.PromptRefAt
public import proofs.«01_k».proof.Proof.PromptRefLoop

@[expose] public section

set_option maxRecDepth 16384

noncomputable section

namespace Cert.Layers.PromptRef

open Idealize.ShloMosaic Idealize.ShloMosaic.TcCoe Idealize.ShloMosaic.Tactic Idealize.ShloMosaic.StableHlo
open Cert.PromptReferenceIdeal Cert.PromptReferenceIdeal.Gen Cert.PromptReferenceIdeal.Value
open Cert.Dense Cert.Rglru

/-! ### What a stretch keeps -/

/-- The buffers the last three stretches write. -/
abbrev post5_W : List (Ref sig .tc) := [
  main_v134, main_v135, main_v136, main_cst_14, main_v137, main_v138, main_v139, main_cst_15, main_v140, main_v141, main_v142, main_cst_16, main_v143,
  main_v144, main_cst_17, main_v145, main_v146, main_v147, main_v148, main_v149, main_v150, main_v151, main_v152, main_v153, main_v154, main_v155,
  main_v156, main_cst_18, main_v157, main_v158, main_cst_19, main_v159, main_v160, main_cst_20, main_v161, main_v162, main_v163, main_v164, main_v165,
  main_v166, main_v167, main_v168, main_v169, main_v170, main_v171, main_v172, main_v173, main_v174, main_v175]
abbrev post6_W : List (Ref sig .tc) := [
  main_call5_v0, main_call5_v1, main_call5_cst, main_call5_v2, main_call5_v3, main_call5_cst_0, main_call5_v4, main_call5_v5, main_v176]
abbrev post7_W : List (Ref sig .tc) := [
  main_v177, main_v178, main_v179, main_v180, main_cst_21, main_v181, main_v182, main_cst_22, main_v183, main_v184, main_cst_23, main_v185, main_v186,
  main_v187, main_v188, main_v189, main_v190, main_v191, main_v192, main_v193, main_v194]

theorem post5_writes : (hostOps0_5 : List (HloOp τ sig (Elt Ideal))).Forall fun op => op.writes ⊆ (post5_W.map (Proc.devRef (τ := τ) .tc)).toFinset :=
  forall_writes_sub_of_map rfl
theorem post6_writes : (hostOps0_6 : List (HloOp τ sig (Elt Ideal))).Forall fun op => op.writes ⊆ (post6_W.map (Proc.devRef (τ := τ) .tc)).toFinset :=
  forall_writes_sub_of_map rfl
theorem post7_writes : (hostOps0_7 : List (HloOp τ sig (Elt Ideal))).Forall fun op => op.writes ⊆ (post7_W.map (Proc.devRef (τ := τ) .tc)).toFinset :=
  forall_writes_sub_of_map rfl

/-- The buffers the loop writes. -/
abbrev loop_W : List (Ref sig .tc) := condOps_W ++ (while0Ops0_W ++ (while0Ops0_1_W ++ (while0Ops0_2_W ++ (while0Ops0_3_W ++ while0Ops0_4_W))))
/-- The buffers the stretches before the loop write, from the second on. -/
abbrev pre_W : List (Ref sig .tc) := hostOps0_1_W ++ (hostOps0_2_W ++ (hostOps0_3_W ++ hostOps0_4_W))

variable (m : (ℓ : Loc nD τ sig) → Buf (Elt Ideal) ℓ) (c : Dev nD)

/-- The buffers before the first stretch, and after each one. -/
abbrev U0 : Valuation τ sig (Elt Ideal) := launchContents m c
abbrev U1 : Valuation τ sig (Elt Ideal) := after hostOps0 (U0 m c)
abbrev U2 : Valuation τ sig (Elt Ideal) := after hostOps0_1 (U1 m c)
abbrev U3 : Valuation τ sig (Elt Ideal) := after hostOps0_2 (U2 m c)
abbrev U4 : Valuation τ sig (Elt Ideal) := after hostOps0_3 (U3 m c)
abbrev U5 : Valuation τ sig (Elt Ideal) := after hostOps0_4 (U4 m c)
abbrev U6 : Valuation τ sig (Elt Ideal) := after condOps (atK m 2048 c)
abbrev U7 : Valuation τ sig (Elt Ideal) := after hostOps0_5 (U6 m c)
abbrev U8 : Valuation τ sig (Elt Ideal) := after hostOps0_6 (U7 m c)
abbrev U9 : Valuation τ sig (Elt Ideal) := after hostOps0_7 (U8 m c)

theorem final_eq : finalContents condOps preI bodyI postI 2048 m c = U9 m c := rfl

theorem keep1 (r : Ref sig .tc) (h : r ∉ hostOps0_W) : U1 m c (Proc.devRef .tc r) = m ((c.tc : Thread nD τ).loc r) :=
  after_of_writes_sub hostOps0 _ hostOps0_writes h
theorem keep2 (r : Ref sig .tc) (h : r ∉ hostOps0_1_W) : U2 m c (Proc.devRef .tc r) = U1 m c (Proc.devRef .tc r) :=
  after_of_writes_sub hostOps0_1 _ hostOps0_1_writes h
theorem keep3 (r : Ref sig .tc) (h : r ∉ hostOps0_2_W) : U3 m c (Proc.devRef .tc r) = U2 m c (Proc.devRef .tc r) :=
  after_of_writes_sub hostOps0_2 _ hostOps0_2_writes h
theorem keep4 (r : Ref sig .tc) (h : r ∉ hostOps0_3_W) : U4 m c (Proc.devRef .tc r) = U3 m c (Proc.devRef .tc r) :=
  after_of_writes_sub hostOps0_3 _ hostOps0_3_writes h
theorem keep5 (r : Ref sig .tc) (h : r ∉ hostOps0_4_W) : U5 m c (Proc.devRef .tc r) = U4 m c (Proc.devRef .tc r) :=
  after_of_writes_sub hostOps0_4 _ hostOps0_4_writes h
theorem keep7 (r : Ref sig .tc) (h : r ∉ post5_W) : U7 m c (Proc.devRef .tc r) = U6 m c (Proc.devRef .tc r) :=
  after_of_writes_sub hostOps0_5 _ post5_writes h
theorem keep8 (r : Ref sig .tc) (h : r ∉ post6_W) : U8 m c (Proc.devRef .tc r) = U7 m c (Proc.devRef .tc r) :=
  after_of_writes_sub hostOps0_6 _ post6_writes h
theorem keep9 (r : Ref sig .tc) (h : r ∉ post7_W) : U9 m c (Proc.devRef .tc r) = U8 m c (Proc.devRef .tc r) :=
  after_of_writes_sub hostOps0_7 _ post7_writes h

/-- The loop keeps a buffer that neither its condition nor its body writes. -/
theorem keep_loop (r : Ref sig .tc) (h : r ∉ loop_W) : ∀ k, atK m k c (Proc.devRef .tc r) = U5 m c (Proc.devRef .tc r)
  | 0 => rfl
  | k + 1 => by
    simp only [loop_W, List.mem_append, not_or] at h
    obtain ⟨hc, h0, h1, h2, h3, h4⟩ := h
    refine Eq.trans ?_ (keep_loop r (by simp only [loop_W, List.mem_append, not_or]; exact ⟨hc, h0, h1, h2, h3, h4⟩) k)
    exact (after_of_writes_sub while0Ops0_4 _ while0Ops0_4_writes h4).trans ((after_of_writes_sub while0Ops0_3 _ while0Ops0_3_writes h3).trans
      ((after_of_writes_sub while0Ops0_2 _ while0Ops0_2_writes h2).trans ((after_of_writes_sub while0Ops0_1 _ while0Ops0_1_writes h1).trans
        ((after_of_writes_sub while0Ops0 _ while0Ops0_writes h0).trans (after_of_writes_sub condOps _ condOps_writes hc)))))

theorem keep6 (r : Ref sig .tc) (h : r ∉ loop_W) : U6 m c (Proc.devRef .tc r) = U5 m c (Proc.devRef .tc r) :=
  (after_of_writes_sub condOps _ condOps_writes fun hc => h (List.mem_append_left _ hc)).trans (keep_loop m c r h 2048)

/-- The stretches before the loop keep a buffer that none of them writes. -/
theorem keep25 (r : Ref sig .tc) (h : r ∉ pre_W) : U5 m c (Proc.devRef .tc r) = U1 m c (Proc.devRef .tc r) := by
  simp only [pre_W, List.mem_append, not_or] at h
  obtain ⟨h1, h2, h3, h4⟩ := h
  exact (keep5 m c r h4).trans ((keep4 m c r h3).trans ((keep3 m c r h2).trans (keep2 m c r h1)))

/-- A buffer that no operation writes holds at the end what it held at the start. -/
theorem keep (r : Ref sig .tc) (h : r ∉ hostOps0_W ++ (pre_W ++ loop_W)) (h' : r ∉ post5_W ++ (post6_W ++ post7_W)) :
    U6 m c (Proc.devRef .tc r) = m ((c.tc : Thread nD τ).loc r) ∧ U8 m c (Proc.devRef .tc r) = m ((c.tc : Thread nD τ).loc r)
      ∧ U9 m c (Proc.devRef .tc r) = m ((c.tc : Thread nD τ).loc r) := by
  have h1 : r ∉ hostOps0_W := fun e => h (List.mem_append_left _ e)
  have h2 : r ∉ pre_W := fun e => h (List.mem_append_right _ (List.mem_append_left _ e))
  have h3 : r ∉ loop_W := fun e => h (List.mem_append_right _ (List.mem_append_right _ e))
  simp only [List.mem_append, not_or] at h'
  obtain ⟨h5, h6, h7⟩ := h'
  have e6 := (keep6 m c r h3).trans ((keep25 m c r h2).trans (keep1 m c r h1))
  have e8 := (keep8 m c r h6).trans ((keep7 m c r h5).trans e6)
  exact ⟨e6, e8, (keep9 m c r h7).trans e8⟩

/-! ### The layers' functions of the arguments -/

/-- The weights among the arguments. -/
def wts : Weights where
  mix := m ((c.tc : Thread nD τ).loc main_arg2)
  ffn := m ((c.tc : Thread nD τ).loc main_arg3)
  last := m ((c.tc : Thread nD τ).loc main_arg4)
  wo := m ((c.tc : Thread nD τ).loc main_arg5)
  win := m ((c.tc : Thread nD τ).loc main_arg6)
  cw := m ((c.tc : Thread nD τ).loc main_arg7)
  cb := m ((c.tc : Thread nD τ).loc main_arg8)
  wa := m ((c.tc : Thread nD τ).loc main_arg9)
  ba := m ((c.tc : Thread nD τ).loc main_arg10)
  wi := m ((c.tc : Thread nD τ).loc main_arg11)
  bi := m ((c.tc : Thread nD τ).loc main_arg12)
  lam := m ((c.tc : Thread nD τ).loc main_arg13)
  wout := m ((c.tc : Thread nD τ).loc main_arg14)
  up := m ((c.tc : Thread nD τ).loc main_arg15)
  down := m ((c.tc : Thread nD τ).loc main_arg16)

/-- The attention's rows, the rows it is added to, the three earlier inputs and the first state. -/
def aO : Fin 4 → ℕ → Row := seq (B := 4) (T := 2048) (m ((c.tc : Thread nD τ).loc main_arg0))
def aX : Fin 4 → ℕ → Row := seq (B := 4) (T := 2048) (m ((c.tc : Thread nD τ).loc main_arg1))
def cp0 (_ : Fin 4) (_ : Fin 3) (_ : Fin 5632) : EReal := 0
def st0 (_ : Fin 4) (_ : Fin 5632) : EReal := 0

def r1 (b : Fin 4) : ℕ → Row := rows1 (wts m c) (aO m c b) (aX m c b)
def gu (b : Fin 4) : ℕ → Fin 11264 → EReal := guRows (wts m c) (aO m c b) (aX m c b)
def r2 (b : Fin 4) : ℕ → Row := rows2 (wts m c) (aO m c b) (aX m c b) (cp0 b) (st0 b)
def rOut (b : Fin 4) : ℕ → Row := outRow (wts m c) (aO m c b) (aX m c b) (cp0 b) (st0 b)

theorem zero_bits : Ideal.ofBits .f32 0x00000000#32 = 0 := by simp

/-! ### Before the loop -/

theorem rows_in : Holds (rowsIn (U2 m c)) (r1 m c) := by
  have e5 : U2 m c (Proc.devRef .tc main_v5) = _ := (keep2 m c main_v5 (by decide)).trans (s0_v5 (U0 m c))
  have e28 : U2 m c (Proc.devRef .tc main_v28) = _ := (s1_v28 (U1 m c)).trans (congrArg siluT (s0_v26 (U0 m c)))
  have e27 : U2 m c (Proc.devRef .tc main_v27) = _ := (keep2 m c main_v27 (by decide)).trans (s0_v27 (U0 m c))
  have e24 : U2 m c (Proc.devRef .tc main_v24) = _ := (keep2 m c main_v24 (by decide)).trans (s0_v24 (U0 m c))
  unfold rowsIn
  rw [e5, e28, e27, e24]
  exact ffn_holds (wts m c) 0 (att_holds (wts m c) _ _) _ (scale0_at _) _ (up0_at _) _ (down0_at _)

/-- The branches as the reference holds them. -/
abbrev refGu : FVec Ideal S4x2048x11264 .f32 := guIn (U2 m c)

theorem refGu_eq : refGu m c = guT (rowsIn (U2 m c)) (wts m c).mix (wts m c).win :=
  congrArg₂ (guT (rowsIn (U2 m c))) ((keep2 m c main_arg2 (by decide)).trans (keep1 m c main_arg2 (by decide)))
    ((keep2 m c main_arg6 (by decide)).trans (keep1 m c main_arg6 (by decide)))

theorem refGu_holds : Holds (refGu m c) (gu m c) := by
  rw [refGu_eq]
  exact gu_holds (wts m c) (rows_in m c)

theorem guOf_eq (b : Fin 4) : ∀ t < 2048, guOf (refGu m c) b t = gu m c b t := fun t ht => by
  funext j
  have e := refGu_holds m c b ⟨t, ht⟩ j
  unfold guOf seq
  rw [show (Fin.ofNat 2048 t : Fin 2048) = ⟨t, ht⟩ from Fin.ext (Nat.mod_eq_of_lt ht)]
  exact e

/-- The earlier inputs and the first state as the reference holds them. -/
abbrev refCp : FVec Ideal S4x3x5632 .f32 := U2 m c (Proc.devRef .tc main_v0)

theorem refCp_eq (b : Fin 4) : cpOf (refCp m c) b = cp0 b := by
  have e : refCp m c = _ := (keep2 m c main_v0 (by decide)).trans (s0_v0 (U0 m c))
  funext k i
  unfold cpOf cp0
  rw [e, ← zero_bits]
  pointwise

theorem first_at (b : Fin 4) (j : Fin 5632) : first m c (ix2 b j) = st0 b j := by
  have e : first m c = _ := (s4_h (U4 m c)).trans ((keep4 m c main_v1 (by decide)).trans ((keep3 m c main_v1 (by decide)).trans
    ((keep2 m c main_v1 (by decide)).trans (s0_v1 (U0 m c)))))
  unfold st0
  rw [e, ← zero_bits]
  pointwise

theorem conv_eq : convIn (U2 m c) = convT (extT (refGu m c) (refCp m c)) (wts m c).cw (wts m c).cb :=
  congrArg₂ (convT (extIn (U2 m c))) ((keep2 m c main_arg7 (by decide)).trans (keep1 m c main_arg7 (by decide)))
    ((keep2 m c main_arg8 (by decide)).trans (keep1 m c main_arg8 (by decide)))

theorem v89_eq : U4 m c (Proc.devRef .tc main_v89) = convT (extT (refGu m c) (refCp m c)) (wts m c).cw (wts m c).cb :=
  (keep4 m c main_v89 (by decide)).trans ((s2_v89 (U2 m c)).trans (conv_eq m c))

theorem v114_eq : U4 m c (Proc.devRef .tc main_v114)
    = sigT (gateT (convT (extT (refGu m c) (refCp m c)) (wts m c).cw (wts m c).cb) (wts m c).wi (wts m c).bi) := by
  have e := (keep4 m c main_v114 (by decide)).trans (s2_v114 (U2 m c))
  have ew : U2 m c (Proc.devRef .tc main_arg11) = (wts m c).wi := (keep2 m c main_arg11 (by decide)).trans (keep1 m c main_arg11 (by decide))
  have eb : U2 m c (Proc.devRef .tc main_arg12) = (wts m c).bi := (keep2 m c main_arg12 (by decide)).trans (keep1 m c main_arg12 (by decide))
  rw [conv_eq, ew, eb] at e
  exact e

theorem logs_eq : logT (U4 m c (Proc.devRef .tc main_v116)) (U4 m c (Proc.devRef .tc main_v118)) = logs (wts m c) (refGu m c) (refCp m c) := by
  have e := (keep4 m c main_v116 (by decide)).trans (s2_v116 (U2 m c))
  have ew : U2 m c (Proc.devRef .tc main_arg9) = (wts m c).wa := (keep2 m c main_arg9 (by decide)).trans (keep1 m c main_arg9 (by decide))
  have eb : U2 m c (Proc.devRef .tc main_arg10) = (wts m c).ba := (keep2 m c main_arg10 (by decide)).trans (keep1 m c main_arg10 (by decide))
  have el : U2 m c (Proc.devRef .tc main_arg13) = (wts m c).lam := (keep2 m c main_arg13 (by decide)).trans (keep1 m c main_arg13 (by decide))
  have es := (s3_v118 (U3 m c)).trans (congrArg softT (s2_v117 (U2 m c)))
  rw [conv_eq, ew, eb] at e
  rw [el] at es
  exact congrArg₂ logT e es

/-- The loop's states are the layer's. -/
theorem refState_eq (b : Fin 4) (n : Fin 22) (l : Fin 256) (k : ℕ) (hk : k ≤ 2048) :
    refState m c b (col n l) k = state (wts m c) (gu m c b) (cp0 b) (st0 b) n l k := by
  rw [← state_congr (wts m c) (cp0 b) (st0 b) (guOf_eq m c b) n l k hk, ← refCp_eq m c b]
  unfold refState state
  rw [first_at]
  refine hseq_congr k (fun i hi => ?_) (fun i hi => ?_)
  · have ei : (Fin.ofNat 2048 i).val = i := Nat.mod_eq_of_lt (by omega)
    have e := logs_at (wts m c) (refGu m c) (refCp m c) b (Fin.ofNat 2048 i) n l
    rw [ei] at e
    have ea : decays m c = _ := s4_a (U4 m c)
    rw [ea, logs_eq, ← e]
    unfold timeFirst
    pointwise
  · have ei : (Fin.ofNat 2048 i).val = i := Nat.mod_eq_of_lt (by omega)
    have e := added_at (wts m c) (refGu m c) (refCp m c) b (Fin.ofNat 2048 i) n l
    rw [ei] at e
    have ea : inputs m c = _ := s4_b (U4 m c)
    rw [ea, logs_eq, v89_eq, v114_eq, ← e]
    unfold timeFirst
    pointwise

/-! ### After the loop -/

theorem stacked (b : Fin 4) (t : Fin 2048) (j : Fin 5632) :
    batchFirst (U6 m c (Proc.devRef .tc main_v133_4)) (ix3 b t j) = state (wts m c) (gu m c b) (cp0 b) (st0 b) (grp j) (lane j) (t.val + 1) := by
  have e : U6 m c (Proc.devRef .tc main_v133_4) = at_ m c 2048 (Proc.devRef .tc main_v133_4) :=
    (cond_keeps (atK m 2048 c) main_v133_4 (by decide)).trans (atK_agree m c 2048 main_v133_4 (by decide))
  have h := (loop_inv m c 2048 le_rfl).2.2.2.2 t b j t.isLt
  rw [e, ← refState_eq m c b _ _ _ (by omega), col_grp, ← h]
  generalize at_ m c 2048 (Proc.devRef .tc main_v133_4) = X
  unfold batchFirst
  pointwise

theorem v31_eq : U6 m c (Proc.devRef .tc main_v31) = rowsIn (U2 m c) :=
  (keep6 m c main_v31 (by decide)).trans ((keep5 m c main_v31 (by decide)).trans ((keep4 m c main_v31 (by decide)).trans (s2_v31 (U2 m c))))
theorem v57_eq : U6 m c (Proc.devRef .tc main_v57) = branchG (refGu m c) :=
  (keep6 m c main_v57 (by decide)).trans ((keep5 m c main_v57 (by decide)).trans ((keep4 m c main_v57 (by decide)).trans (s2_v57 (U2 m c))))
theorem v59_eq : U6 m c (Proc.devRef .tc main_v59) = extT (refGu m c) (refCp m c) :=
  (keep6 m c main_v59 (by decide)).trans ((keep5 m c main_v59 (by decide)).trans ((keep4 m c main_v59 (by decide)).trans (s2_v59 (U2 m c))))
theorem v55_eq : U6 m c (Proc.devRef .tc main_v55) = shapeCast S5632x4096 (wts m c).wout shapeCasts_S1x5632x4096_S5632x4096 :=
  (keep6 m c main_v55 (by decide)).trans ((keep5 m c main_v55 (by decide)).trans ((keep4 m c main_v55 (by decide)).trans ((s2_v55 (U2 m c)).trans
    (congrArg (fun a => shapeCast S5632x4096 a shapeCasts_S1x5632x4096_S5632x4096) ((keep2 m c main_arg14 (by decide)).trans (keep1 m c main_arg14 (by decide)))))))

theorem gated_in (b : Fin 4) (t : Fin 2048) (j : Fin 5632) :
    gatedT (batchFirst (U6 m c (Proc.devRef .tc main_v133_4))) (branchG (refGu m c)) (ix3 b t j)
      = gated (wts m c) (gu m c b) (cp0 b) (st0 b) t.val j := by
  rw [gatedT_at, stacked]
  have e : branchG (refGu m c) (ix3 b t j) = gu m c b t.val (colG (grp j) (lane j)) := by
    rw [← refGu_holds m c b t]
    generalize refGu m c = G
    unfold branchG
    pointwise
    exact congrArg (fun i => G (ix3 b t i)) (Fin.ext (by show j.val = j.val / 256 * 256 + j.val % 256; omega))
  rw [e]
  rfl

theorem rows_rec : Holds (rowsRec (U6 m c)) (r2 m c) := fun b t k => by
  unfold rowsRec
  rw [v31_eq, v57_eq, v55_eq, recT_at, rows_in m c b t k, funext (gated_in m c b t)]
  rfl

theorem out_x (b : Fin 4) (t : Fin 2048) (k : Fin 4096) :
    (U9 m c (Proc.devRef .tc main_v192) : FVec Ideal S4x2048x4096 .f32) (ix3 b t k) = rOut m c b t.val k := by
  have e3 := (keep m c main_arg3 (by decide) (by decide)).1
  have e15 := (keep m c main_arg15 (by decide) (by decide)).1
  have e16 := (keep m c main_arg16 (by decide) (by decide)).1
  have e4 : U8 m c (Proc.devRef .tc main_arg4) = (wts m c).last := (keep m c main_arg4 (by decide) (by decide)).2.1
  have e153 : U8 m c (Proc.devRef .tc main_v153) = _ := (keep8 m c main_v153 (by decide)).trans (s5_v153 (U6 m c))
  have e176 : U8 m c (Proc.devRef .tc main_v176) = _ := (s6_v176 (U7 m c)).trans (congrArg siluT (s5_v174 (U6 m c)))
  have e175 : U8 m c (Proc.devRef .tc main_v175) = _ := (keep8 m c main_v175 (by decide)).trans (s5_v175 (U6 m c))
  have e172 : U8 m c (Proc.devRef .tc main_v172) = _ := (keep8 m c main_v172 (by decide)).trans (s5_v172 (U6 m c))
  have e := s7_v192 (U8 m c)
  rw [e153, e176, e175, e172, e4, e3, e15, e16] at e
  refine (congrFun e _).trans ?_
  exact norm_holds (ffn_holds (wts m c) 1 (rows_rec m c) _ (scale1_at _) _ (up1_at _) _ (down1_at _)) _ _ (fun _ => rfl) b t k

theorem out_conv (b : Fin 4) (k : Fin 3) (j : Fin 5632) :
    (U9 m c (Proc.devRef .tc main_v193) : FVec Ideal S1x4x3x5632 .f32) (ix4 0 b k j) = gu m c b (2045 + k.val) (colU (grp j) (lane j)) := by
  have e150 : U8 m c (Proc.devRef .tc main_v150) = _ := (keep8 m c main_v150 (by decide)).trans (s5_v150 (U6 m c))
  have e := s7_v193 (U8 m c)
  rw [e150, v59_eq] at e
  refine (congrFun e _).trans ?_
  have h := extT_at (refGu m c) (refCp m c) b ⟨2048 + k.val, by omega⟩ (grp j) (lane j)
  unfold uRow at h
  rw [if_neg (by show ¬ 2048 + k.val < 3; omega), show 2048 + k.val - 3 = 2045 + k.val by omega, guOf_eq m c b _ (by omega), col_grp] at h
  rw [← h]
  generalize extT (refGu m c) (refCp m c) = X
  pointwise

theorem out_h (b : Fin 4) (j : Fin 5632) :
    (U9 m c (Proc.devRef .tc main_v194) : FVec Ideal S1x4x5632 .f32) (ix3 0 b j) = state (wts m c) (gu m c b) (cp0 b) (st0 b) (grp j) (lane j) 2048 := by
  have e152 : U8 m c (Proc.devRef .tc main_v152) = _ := (keep8 m c main_v152 (by decide)).trans (s5_v152 (U6 m c))
  have e := s7_v194 (U8 m c)
  rw [e152] at e
  refine (congrFun e _).trans ?_
  have h := stacked m c b ⟨2047, by omega⟩ j
  refine Eq.trans ?_ h
  generalize batchFirst (U6 m c (Proc.devRef .tc main_v133_4)) = X
  pointwise

end Cert.Layers.PromptRef

end
-- ==== Proof.Prompt.lean ====
/-
  The prompt's claims: over the reals the twelve calls compute what the reference computes.
-/
module

public import proofs.«01_k».proof.Defs
public import proofs.«01_k».proof.Proof.PromptChain
public import proofs.«01_k».proof.Proof.PromptRefValue
public import Idealize.ShloMosaic.Lib.Claim

@[expose] public section

set_option maxRecDepth 16384

noncomputable section

namespace Cert.Layers

open Idealize.ShloMosaic Idealize.ShloMosaic.TcCoe Idealize.ShloMosaic.Tactic Idealize.SL.Sem

instance prompt_facts : Cert.PromptIdeal.Facts := Cert.PromptIdeal.Gen.facts
instance prompt_reference_facts : Cert.PromptReferenceIdeal.Facts := Cert.PromptReferenceIdeal.Gen.facts

namespace PromptRef

open Cert.PromptReferenceIdeal Cert.PromptReferenceIdeal.Gen Cert.PromptReferenceIdeal.Value

/-- The reference leaves the last stretch's arrays and keeps its arguments. -/
theorem run_kept (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v192) = U9 m c (Proc.devRef .tc main_v192)
      ∧ r.2.mem ((c.tc : Thread nD τ).loc main_v193) = U9 m c (Proc.devRef .tc main_v193)
      ∧ r.2.mem ((c.tc : Thread nD τ).loc main_v194) = U9 m c (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run _ _ _).mono (fun r h c => ⟨h c main_v192 rfl, h c main_v193 rfl, h c main_v194 rfl,
    (h c main_arg0 rfl).trans (keep m c main_arg0 (by decide) (by decide)).2.2,
    (h c main_arg1 rfl).trans (keep m c main_arg1 (by decide) (by decide)).2.2,
    (h c main_arg2 rfl).trans (keep m c main_arg2 (by decide) (by decide)).2.2,
    (h c main_arg3 rfl).trans (keep m c main_arg3 (by decide) (by decide)).2.2,
    (h c main_arg4 rfl).trans (keep m c main_arg4 (by decide) (by decide)).2.2,
    (h c main_arg5 rfl).trans (keep m c main_arg5 (by decide) (by decide)).2.2,
    (h c main_arg6 rfl).trans (keep m c main_arg6 (by decide) (by decide)).2.2,
    (h c main_arg7 rfl).trans (keep m c main_arg7 (by decide) (by decide)).2.2,
    (h c main_arg8 rfl).trans (keep m c main_arg8 (by decide) (by decide)).2.2,
    (h c main_arg9 rfl).trans (keep m c main_arg9 (by decide) (by decide)).2.2,
    (h c main_arg10 rfl).trans (keep m c main_arg10 (by decide) (by decide)).2.2,
    (h c main_arg11 rfl).trans (keep m c main_arg11 (by decide) (by decide)).2.2,
    (h c main_arg12 rfl).trans (keep m c main_arg12 (by decide) (by decide)).2.2,
    (h c main_arg13 rfl).trans (keep m c main_arg13 (by decide) (by decide)).2.2,
    (h c main_arg14 rfl).trans (keep m c main_arg14 (by decide) (by decide)).2.2,
    (h c main_arg15 rfl).trans (keep m c main_arg15 (by decide) (by decide)).2.2,
    (h c main_arg16 rfl).trans (keep m c main_arg16 (by decide) (by decide)).2.2⟩) (run_fold m ρ)

end PromptRef

section

variable (m : (ℓ : Loc Cert.PromptIdeal.nD Cert.PromptIdeal.τ Cert.PromptIdeal.sig) → Buf (Elt Ideal) ℓ)
  (m' : (ℓ : Loc Cert.PromptReferenceIdeal.nD Cert.PromptReferenceIdeal.τ Cert.PromptReferenceIdeal.sig) → Buf (Elt Ideal) ℓ) (c : Dev Cert.PromptIdeal.nD)

namespace Prompt

/-- Both programs start from the same arguments. -/
def Same : Prop :=
  m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
  ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
  ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
  ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
  ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
  ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
  ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
  ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
  ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
  ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)
  ∧ m' ((c.tc : Thread Cert.PromptReferenceIdeal.nD Cert.PromptReferenceIdeal.τ).loc Cert.PromptReferenceIdeal.main_arg10) = m ((c.tc : Thread Cert.PromptIdeal.nD Cert.PromptIdeal.τ).loc Cert.PromptIdeal.main_arg10)
  ∧ m' ((c.tc : Thread Cert.PromptReferenceIdeal.nD Cert.PromptReferenceIdeal.τ).loc Cert.PromptReferenceIdeal.main_arg11) = m ((c.tc : Thread Cert.PromptIdeal.nD Cert.PromptIdeal.τ).loc Cert.PromptIdeal.main_arg11)
  ∧ m' ((c.tc : Thread Cert.PromptReferenceIdeal.nD Cert.PromptReferenceIdeal.τ).loc Cert.PromptReferenceIdeal.main_arg12) = m ((c.tc : Thread Cert.PromptIdeal.nD Cert.PromptIdeal.τ).loc Cert.PromptIdeal.main_arg12)
  ∧ m' ((c.tc : Thread Cert.PromptReferenceIdeal.nD Cert.PromptReferenceIdeal.τ).loc Cert.PromptReferenceIdeal.main_arg13) = m ((c.tc : Thread Cert.PromptIdeal.nD Cert.PromptIdeal.τ).loc Cert.PromptIdeal.main_arg13)
  ∧ m' ((c.tc : Thread Cert.PromptReferenceIdeal.nD Cert.PromptReferenceIdeal.τ).loc Cert.PromptReferenceIdeal.main_arg14) = m ((c.tc : Thread Cert.PromptIdeal.nD Cert.PromptIdeal.τ).loc Cert.PromptIdeal.main_arg14)
  ∧ m' ((c.tc : Thread Cert.PromptReferenceIdeal.nD Cert.PromptReferenceIdeal.τ).loc Cert.PromptReferenceIdeal.main_arg15) = m ((c.tc : Thread Cert.PromptIdeal.nD Cert.PromptIdeal.τ).loc Cert.PromptIdeal.main_arg15)
  ∧ m' ((c.tc : Thread Cert.PromptReferenceIdeal.nD Cert.PromptReferenceIdeal.τ).loc Cert.PromptReferenceIdeal.main_arg16) = m ((c.tc : Thread Cert.PromptIdeal.nD Cert.PromptIdeal.τ).loc Cert.PromptIdeal.main_arg16)

variable {m m' c}

theorem wts_same (h : Same m m' c) : PromptRef.wts m' c = Prompt.wts m c := by
  obtain ⟨h0, h1, h2, h3, h4, h5, h6, h7, h8, h9, h10, h11, h12, h13, h14, h15, h16⟩ := h
  unfold PromptRef.wts Prompt.wts
  rw [h2, h3, h4, h5, h6, h7, h8, h9, h10, h11, h12, h13, h14, h15, h16]

theorem o_same (h : Same m m' c) : PromptRef.aO m' c = Prompt.aO m c := by
  unfold PromptRef.aO Prompt.aO
  rw [h.1]
theorem x_same (h : Same m m' c) : PromptRef.aX m' c = Prompt.aX m c := by
  unfold PromptRef.aX Prompt.aX
  rw [h.2.1]

theorem gu_same (h : Same m m' c) : PromptRef.gu m' c = Prompt.gu m c := by
  unfold PromptRef.gu Prompt.gu
  rw [wts_same h, o_same h, x_same h]

theorem resX_same (h : Same m m' c) : PromptRef.U9 m' c (Proc.devRef .tc Cert.PromptReferenceIdeal.main_v192) = Prompt.resX m c := by
  funext i
  rw [show i = ix3 (n0 := 4) (n1 := 2048) (n2 := 4096) (i 0) (i 1) (i 2) by blk_ext []]
  refine (PromptRef.out_x m' c (i 0) (i 1) (i 2)).trans ?_
  unfold PromptRef.rOut
  rw [wts_same h, o_same h, x_same h]
  rfl

theorem resConv_same (h : Same m m' c) : PromptRef.U9 m' c (Proc.devRef .tc Cert.PromptReferenceIdeal.main_v193) = Prompt.resConv m c := by
  funext i
  rw [show i = ix4 (n0 := 1) (n1 := 4) (n2 := 3) (n3 := 5632) 0 (i 1) (i 2) (i 3) by blk_ext []]
  refine (PromptRef.out_conv m' c (i 1) (i 2) (i 3)).trans ?_
  rw [gu_same h]
  rfl

theorem resH_same (h : Same m m' c) : PromptRef.U9 m' c (Proc.devRef .tc Cert.PromptReferenceIdeal.main_v194) = Prompt.resH m c := by
  funext i
  rw [show i = ix3 (n0 := 1) (n1 := 4) (n2 := 5632) 0 (i 1) (i 2) by blk_ext []]
  refine (PromptRef.out_h m' c (i 1) (i 2)).trans ?_
  rw [wts_same h, gu_same h]
  rfl

end Prompt

end

/-- The reference runs to its end, keeps its arguments and leaves every counter at zero. -/
theorem prompt_reference_quiescent : quiescent_PromptReferenceIdeal := fun m ρ _ =>
  (θ_run _ _ _).mono (fun r h => ⟨fun c => (h c).2.2.2, sem_eq_zero_of_no_sems (by decide) r.2⟩) (PromptRef.run_kept m ρ)

section

open Cert.PromptIdeal Cert.PromptIdeal.Gen

/-- Over the reals the twelve calls compute what the reference computes. -/
theorem prompt_algebraic : algebraic_PromptIdeal_PromptReferenceIdeal := by
  intro m ρ m' ρ' _ hagree
  refine ⟨fun c => Prompt.resX m c, fun c => Prompt.resConv m c, fun c => Prompt.resH m c, ?_, ?_⟩
  · exact (θ_run _ _ _).mono (fun r h c => ⟨(h c _ (mem_uc main_v49 (by decide))).trans (Prompt.last_x m ρ c),
      (h c _ (mem_uc main_v50 (by decide))).trans (Prompt.last_conv m ρ c), (h c _ (mem_uc main_v51 (by decide))).trans (Prompt.last_h m ρ c),
      (h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c),
      (h c _ (mem_uc main_arg9 (by decide))).trans (W21_main_arg9 m ρ c),
      (h c _ (mem_uc main_arg10 (by decide))).trans (W21_main_arg10 m ρ c),
      (h c _ (mem_uc main_arg11 (by decide))).trans (W21_main_arg11 m ρ c),
      (h c _ (mem_uc main_arg12 (by decide))).trans (W21_main_arg12 m ρ c),
      (h c _ (mem_uc main_arg13 (by decide))).trans (W21_main_arg13 m ρ c),
      (h c _ (mem_uc main_arg14 (by decide))).trans (W21_main_arg14 m ρ c),
      (h c _ (mem_uc main_arg15 (by decide))).trans (W21_main_arg15 m ρ c),
      (h c _ (mem_uc main_arg16 (by decide))).trans (W21_main_arg16 m ρ c)⟩)
      (Prompt.run_last m ρ)
  · exact (θ_run _ _ _).mono (fun r h c => ⟨(h c).1.trans (Prompt.resX_same (hagree c)), (h c).2.1.trans (Prompt.resConv_same (hagree c)),
      (h c).2.2.1.trans (Prompt.resH_same (hagree c)), (h c).2.2.2⟩) (PromptRef.run_kept m' ρ')

end

end Cert.Layers

end
-- ==== Proof.SampleDense.lean ====
/-
  What the samples' eleven dense calls leave in their arrays, from whatever their inputs hold.
-/
module

public import proofs.«01_k».proof.Proof.Gen.SampleIdeal.Frame
public import proofs.«01_k».proof.Proof.Dense
public import Idealize.ShloMosaic.Lib.Claim

@[expose] public section

set_option maxRecDepth 16384
set_option maxHeartbeats 1000000

noncomputable section

namespace Cert.Layers.Sample

open Idealize.ShloMosaic Idealize.ShloMosaic.TcCoe Idealize.ShloMosaic.Tactic Cert.Dense
open Cert.SampleIdeal Cert.SampleIdeal.Gen

/-! ### What one step writes, at an entry -/

theorem out0_3_apply (h : Vec Ideal S64x4096 .bf16) (w : Vec Ideal S1x4096x512 .bf16) (x : Vec Ideal S64x512 .f32) (i : Fin 64) (j : Fin 512) :
    out0_3 h w x (ix2 i j) = x (ix2 i j) + dot (fun k => h (ix2 i k)) fun k => w (ix3 0 k j) := by
  unfold out0_3
  rw [View.canon_unit_zero (S := S64x512) off2]
  simp only [View.ld_unit_zero (S := S64x4096) off2, View.ld_unit_zero (S := S64x512) off2, View.ld_unit_zero (S := S1x4096x512) off3]
  pointwise [k0_pay1, dot]

theorem out1_2_apply (x : Vec Ideal S64x4096 .f32) (g : Vec Ideal S1x4096 .f32) (i : Fin 64) (k : Fin 4096) :
    out1_2 x g (ix2 i k) = rms (fun l => x (ix2 i l)) (g (ix2 0 k)) k := by
  unfold out1_2
  rw [View.canon_unit_zero (S := S64x4096) off2]
  simp only [View.ld_unit_zero (S := S64x4096) off2, View.ld_unit_zero (S := S1x4096) off2]
  pointwise [k1_pay1, rms]

theorem out2_3_apply (x : Vec Ideal S64x4096 .bf16) (g u : Vec Ideal S1x4096x256 .f32) (i : Fin 64) (j : Fin 256) :
    out2_3 x g u (ix2 i j) = swiglu (dot (fun k => x (ix2 i k)) fun k => g (ix3 0 k j)) (dot (fun k => x (ix2 i k)) fun k => u (ix3 0 k j)) := by
  unfold out2_3
  rw [View.canon_unit_zero (S := S64x256) off2]
  simp only [View.ld_unit_zero (S := S64x4096) off2, View.ld_unit_zero (S := S1x4096x256) off3]
  pointwise [k2_pay1, swiglu, dot]

theorem out3_3_apply (h : Vec Ideal S64x11008 .bf16) (w : Vec Ideal S1x11008x512 .bf16) (x : Vec Ideal S64x512 .f32) (i : Fin 64) (j : Fin 512) :
    out3_3 h w x (ix2 i j) = x (ix2 i j) + dot (fun k => h (ix2 i k)) fun k => w (ix3 0 k j) := by
  unfold out3_3
  rw [View.canon_unit_zero (S := S64x512) off2]
  simp only [View.ld_unit_zero (S := S64x11008) off2, View.ld_unit_zero (S := S64x512) off2, View.ld_unit_zero (S := S1x11008x512) off3]
  pointwise [k3_pay1, dot]

theorem out5_2_apply (n : Vec Ideal S64x4096 .bf16) (w : Vec Ideal S1x4096x1024 .bf16) (i : Fin 64) (j : Fin 1024) :
    out5_2 n w (ix2 i j) = dot (fun k => n (ix2 i k)) fun k => w (ix3 0 k j) := by
  unfold out5_2
  rw [View.canon_unit_zero (S := S64x1024) off2]
  simp only [View.ld_unit_zero (S := S64x4096) off2, View.ld_unit_zero (S := S1x4096x1024) off3]
  pointwise [k5_pay1, dot]

theorem out7_3_apply (h : Vec Ideal S64x5632 .bf16) (w : Vec Ideal S1x5632x512 .bf16) (x : Vec Ideal S64x512 .f32) (i : Fin 64) (j : Fin 512) :
    out7_3 h w x (ix2 i j) = x (ix2 i j) + dot (fun k => h (ix2 i k)) fun k => w (ix3 0 k j) := by
  unfold out7_3
  rw [View.canon_unit_zero (S := S64x512) off2]
  simp only [View.ld_unit_zero (S := S64x5632) off2, View.ld_unit_zero (S := S64x512) off2, View.ld_unit_zero (S := S1x5632x512) off3]
  pointwise [k7_pay1, dot]

theorem out11_2_apply (x : Vec Ideal S64x4096 .f32) (g : Vec Ideal S1x4096 .f32) (i : Fin 64) (k : Fin 4096) :
    out11_2 x g (ix2 i k) = rms (fun l => x (ix2 i l)) (g (ix2 0 k)) k := by
  unfold out11_2
  rw [View.canon_unit_zero (S := S64x4096) off2]
  simp only [View.ld_unit_zero (S := S64x4096) off2, View.ld_unit_zero (S := S1x4096) off2]
  pointwise [k11_pay1, rms]

/-- The norms and the feed-forward calls of the second layer write what those of the first layer do. -/
theorem out4_2_eq : @out4_2 Ideal _ = @out1_2 Ideal _ := rfl
theorem out8_2_eq : @out8_2 Ideal _ = @out1_2 Ideal _ := rfl
theorem out9_3_eq : @out9_3 Ideal _ = @out2_3 Ideal _ := rfl
theorem out10_3_eq : @out10_3 Ideal _ = @out3_3 Ideal _ := rfl

/-! ### Which blocks a step reads and writes -/

theorem at0 : ∀ t : Fin grid0.N, win0_0.index t = ![(grid0.coords t 0).val, 0]
    ∧ win0_1.index t = ![0, 0, (grid0.coords t 1).val]
    ∧ win0_2.index t = ![(grid0.coords t 0).val, (grid0.coords t 1).val]
    ∧ win0_3.index t = ![(grid0.coords t 0).val, (grid0.coords t 1).val] := by decide +kernel
theorem at1 : ∀ t : Fin grid1.N, win1_0.index t = ![(grid1.coords t 0).val, 0]
    ∧ win1_1.index t = ![0, 0]
    ∧ win1_2.index t = ![(grid1.coords t 0).val, 0] := by decide +kernel
theorem at2 : ∀ t : Fin grid2.N, win2_0.index t = ![(grid2.coords t 0).val, 0]
    ∧ win2_1.index t = ![0, 0, (grid2.coords t 1).val]
    ∧ win2_2.index t = ![0, 0, (grid2.coords t 1).val + 43]
    ∧ win2_3.index t = ![(grid2.coords t 0).val, (grid2.coords t 1).val] := by decide +kernel
theorem at3 : ∀ t : Fin grid3.N, win3_0.index t = ![(grid3.coords t 0).val, 0]
    ∧ win3_1.index t = ![0, 0, (grid3.coords t 1).val]
    ∧ win3_2.index t = ![(grid3.coords t 0).val, (grid3.coords t 1).val]
    ∧ win3_3.index t = ![(grid3.coords t 0).val, (grid3.coords t 1).val] := by decide +kernel
theorem at4 : ∀ t : Fin grid4.N, win4_0.index t = ![(grid4.coords t 0).val, 0]
    ∧ win4_1.index t = ![0, 0]
    ∧ win4_2.index t = ![(grid4.coords t 0).val, 0] := by decide +kernel
theorem at5 : ∀ t : Fin grid5.N, win5_0.index t = ![(grid5.coords t 0).val, 0]
    ∧ win5_1.index t = ![0, 0, (grid5.coords t 1).val]
    ∧ win5_2.index t = ![(grid5.coords t 0).val, (grid5.coords t 1).val] := by decide +kernel
theorem at7 : ∀ t : Fin grid7.N, win7_0.index t = ![(grid7.coords t 0).val, 0]
    ∧ win7_1.index t = ![0, 0, (grid7.coords t 1).val]
    ∧ win7_2.index t = ![(grid7.coords t 0).val, (grid7.coords t 1).val]
    ∧ win7_3.index t = ![(grid7.coords t 0).val, (grid7.coords t 1).val] := by decide +kernel
theorem at8 : ∀ t : Fin grid8.N, win8_0.index t = ![(grid8.coords t 0).val, 0]
    ∧ win8_1.index t = ![0, 0]
    ∧ win8_2.index t = ![(grid8.coords t 0).val, 0] := by decide +kernel
theorem at9 : ∀ t : Fin grid9.N, win9_0.index t = ![(grid9.coords t 0).val, 0]
    ∧ win9_1.index t = ![1, 0, (grid9.coords t 1).val]
    ∧ win9_2.index t = ![1, 0, (grid9.coords t 1).val + 43]
    ∧ win9_3.index t = ![(grid9.coords t 0).val, (grid9.coords t 1).val] := by decide +kernel
theorem at10 : ∀ t : Fin grid10.N, win10_0.index t = ![(grid10.coords t 0).val, 0]
    ∧ win10_1.index t = ![1, 0, (grid10.coords t 1).val]
    ∧ win10_2.index t = ![(grid10.coords t 0).val, (grid10.coords t 1).val]
    ∧ win10_3.index t = ![(grid10.coords t 0).val, (grid10.coords t 1).val] := by decide +kernel
theorem at11 : ∀ t : Fin grid11.N, win11_0.index t = ![(grid11.coords t 0).val, 0]
    ∧ win11_1.index t = ![0, 0]
    ∧ win11_2.index t = ![(grid11.coords t 0).val, 0] := by decide +kernel

/-! ### What the calls leave -/

variable (V : (c : Dev nD) → (b : Ref sig .tc) → Buf (Elt Ideal) ((c : Thread nD τ).loc b)) (c : Dev nD)

theorem arr0 : (dat0 V c).arrAt 3 cfg0.N = summed (n := 1) 0 (V c main_v4) (V c main_v5) (V c main_v6) := by
  refine (dat0 V c).arrAt_eq_of_covers 3 _ (by decide +kernel) fun t hf y => ?_
  blk_simp
  rw [after0_3]
  exact residual_block (V c main_v4) (fun j k => V c main_v5 (ix3 (n0 := 1) 0 k j)) (V c main_v6) (out0_3_apply _ _ _) y _
    (fun k => by blk_ext [iblk0, at0 t]) (fun k => by blk_ext [iblk0, at0 t]) (by blk_ext [iblk0, at0 t])

theorem arr1 : (dat1 V c).arrAt 2 cfg1.N = normed (R := 64) (V c main_v7) (V c main_v10) := by
  refine (dat1 V c).arrAt_eq_of_covers 2 _ (by decide +kernel) fun t hf y => ?_
  blk_simp
  rw [after1_2]
  exact normed_block _ _ (out1_2_apply _ _) y _ (fun l => by blk_ext [iblk1, at1 t]) (by blk_ext [iblk1, at1 t]) (Fin.ext (by blk_ext [at1 t]))

theorem arr2 : (dat2 V c).arrAt 3 cfg2.N = hidden 0 (V c main_v11) (V c main_arg17) := by
  refine (dat2 V c).arrAt_eq_of_covers 3 _ (by decide +kernel) fun t hf y => ?_
  blk_simp
  rw [after2_3]
  exact hidden_block 0 (V c main_v11) (V c main_arg17) (out2_3_apply _ _ _) y _ (fun k => by blk_ext [iblk2, at2 t])
    (fun k => by blk_ext [iblk2, at2 t]) (fun k => by blk_ext [iblk2, at2 t])

theorem arr3 : (dat3 V c).arrAt 3 cfg3.N = summed (n := 2) 0 (V c main_v12) (V c main_v2) (V c main_v7) := by
  refine (dat3 V c).arrAt_eq_of_covers 3 _ (by decide +kernel) fun t hf y => ?_
  blk_simp
  rw [after3_3]
  exact residual_block (V c main_v12) (fun j k => V c main_v2 (ix3 (n0 := 2) 0 k j)) (V c main_v7) (out3_3_apply _ _ _) y _
    (fun k => by blk_ext [iblk3, at3 t]) (fun k => by blk_ext [iblk3, at3 t]) (by blk_ext [iblk3, at3 t])

theorem arr4 : (dat4 V c).arrAt 2 cfg4.N = normed (R := 64) (V c main_v13) (V c main_v16) := by
  refine (dat4 V c).arrAt_eq_of_covers 2 _ (by decide +kernel) fun t hf y => ?_
  blk_simp
  rw [after4_2, out4_2_eq]
  exact normed_block _ _ (out1_2_apply _ _) y _ (fun l => by blk_ext [iblk4, at4 t]) (by blk_ext [iblk4, at4 t]) (Fin.ext (by blk_ext [at4 t]))

theorem arr5 : (dat5 V c).arrAt 2 cfg5.N = projected (R := 64) (V c main_v17) (V c main_v18) := by
  refine (dat5 V c).arrAt_eq_of_covers 2 _ (by decide +kernel) fun t hf y => ?_
  blk_simp
  rw [after5_2]
  exact product_block (V c main_v17) (fun j k => V c main_v18 (ix3 (n0 := 1) 0 k j)) (out5_2_apply _ _) y _ (fun k => by blk_ext [iblk5, at5 t])
    fun k => by blk_ext [iblk5, at5 t]

theorem arr7 : (dat7 V c).arrAt 3 cfg7.N = summed (n := 1) 0 (V c main_v39) (V c main_v40) (V c main_v13) := by
  refine (dat7 V c).arrAt_eq_of_covers 3 _ (by decide +kernel) fun t hf y => ?_
  blk_simp
  rw [after7_3]
  exact residual_block (V c main_v39) (fun j k => V c main_v40 (ix3 (n0 := 1) 0 k j)) (V c main_v13) (out7_3_apply _ _ _) y _
    (fun k => by blk_ext [iblk7, at7 t]) (fun k => by blk_ext [iblk7, at7 t]) (by blk_ext [iblk7, at7 t])

theorem arr8 : (dat8 V c).arrAt 2 cfg8.N = normed (R := 64) (V c main_v41) (V c main_v44) := by
  refine (dat8 V c).arrAt_eq_of_covers 2 _ (by decide +kernel) fun t hf y => ?_
  blk_simp
  rw [after8_2, out8_2_eq]
  exact normed_block _ _ (out1_2_apply _ _) y _ (fun l => by blk_ext [iblk8, at8 t]) (by blk_ext [iblk8, at8 t]) (Fin.ext (by blk_ext [at8 t]))

theorem arr9 : (dat9 V c).arrAt 3 cfg9.N = hidden 1 (V c main_v45) (V c main_arg17) := by
  refine (dat9 V c).arrAt_eq_of_covers 3 _ (by decide +kernel) fun t hf y => ?_
  blk_simp
  rw [after9_3, out9_3_eq]
  exact hidden_block 1 (V c main_v45) (V c main_arg17) (out2_3_apply _ _ _) y _ (fun k => by blk_ext [iblk9, at9 t])
    (fun k => by blk_ext [iblk9, at9 t]) (fun k => by blk_ext [iblk9, at9 t])

theorem arr10 : (dat10 V c).arrAt 3 cfg10.N = summed (n := 2) 1 (V c main_v46) (V c main_v2) (V c main_v41) := by
  refine (dat10 V c).arrAt_eq_of_covers 3 _ (by decide +kernel) fun t hf y => ?_
  blk_simp
  rw [after10_3, out10_3_eq]
  exact residual_block (V c main_v46) (fun j k => V c main_v2 (ix3 (n0 := 2) 1 k j)) (V c main_v41) (out3_3_apply _ _ _) y _
    (fun k => by blk_ext [iblk10, at10 t]) (fun k => by blk_ext [iblk10, at10 t]) (by blk_ext [iblk10, at10 t])

theorem arr11 : (dat11 V c).arrAt 2 cfg11.N = normed (R := 64) (V c main_v47) (V c main_v48) := by
  refine (dat11 V c).arrAt_eq_of_covers 2 _ (by decide +kernel) fun t hf y => ?_
  blk_simp
  rw [after11_2]
  exact normed_block _ _ (out11_2_apply _ _) y _ (fun l => by blk_ext [iblk11, at11 t]) (by blk_ext [iblk11, at11 t]) (Fin.ext (by blk_ext [at11 t]))

end Cert.Layers.Sample

end
-- ==== Proof.SampleBlock.lean ====
/-
  One block of the kernel (one batch row, 256 lanes): what its three outputs hold, index by index, of the eleven
  blocks it reads. The convolution reads the eight earlier rows and the block's own
  eight rows as one array of 16 rows; the eight steps of the recurrence are one scan.
-/
module

public import proofs.«01_k».proof.Proof.Scan
public import proofs.«01_k».proof.Proof.Gen.SampleIdeal.Frame.Region6
public import proofs.«01_k».proof.Proof.Block
public import Idealize.ShloMosaic.Lib.WritesUnit
public import Idealize.ShloMosaic.Lib.VecWindow

@[expose] public section

noncomputable section

namespace Cert.Layers.Sample

open Idealize.ShloMosaic Idealize.ShloMosaic.TcCoe Idealize.ShloMosaic.Tactic
open Cert.SampleIdeal Cert.SampleIdeal.Gen Cert.Rglru

/-- A load of a whole array is what was last stored into all of it. -/
theorem load_whole {s : Shape} {e : EltTy} (v : View sig .tc .vmem s e) {o o' : Fin s.rank → Nat} (inb : ∀ a, o a + s.size a ≤ s.size a)
    (inb' : ∀ a, o' a + s.size a ≤ s.size a) (w : s.Idx → Elt Ideal e) (L : List (View.Piece (Elt Ideal) s e)) :
    v.readCov (Val := Elt Ideal) (⟨Rect.unit (s := s) o' s.size inb', w⟩ :: L) (Rect.unit (s := s) o s.size inb).toLoadRect = w :=
  View.readCov_full v inb inb' w L

/-- Two arrays stored whole and loaded, a function of them stored whole over the second and loaded again: the function's value. -/
theorem load_scan {s : Shape} {e : EltTy} (v v' : View sig .tc .vmem s e) (f : (s.Idx → Elt Ideal e) → (s.Idx → Elt Ideal e) → s.Idx → Elt Ideal e)
    (a b : s.Idx → Elt Ideal e) {o o' : Fin s.rank → Nat} (inb : ∀ a, o a + s.size a ≤ s.size a) (inb' : ∀ a, o' a + s.size a ≤ s.size a) :
    v'.readCov (Val := Elt Ideal)
        (⟨Rect.unit (s := s) o' s.size inb', f (v.readCov (Val := Elt Ideal) [⟨Rect.unit (s := s) o s.size inb, a⟩] (Rect.unit (s := s) o' s.size inb').toLoadRect)
            (v'.readCov (Val := Elt Ideal) [⟨Rect.unit (s := s) o s.size inb, b⟩] (Rect.unit (s := s) o' s.size inb').toLoadRect)⟩
          :: [⟨Rect.unit (s := s) o s.size inb, b⟩]) (Rect.unit (s := s) o s.size inb).toLoadRect = f a b :=
  (load_whole v' inb inb' _ _).trans (congrArg₂ f (load_whole v inb' inb a []) (load_whole v' inb' inb b []))

/-- The index vector the masks of the scan are made of: the row. -/
abbrev rowIota : IVec S8x256 32 := iota .tc S8x256 32 [0] iota_S8x256_d0_w32

/-- The value that the scan stores, of the decays `a`, the inputs `b` and the row before the first. -/
abbrev scanned (acc : FVec Ideal S1x256 .f32) (a b : FVec Ideal S8x256 .f32) : FVec Ideal S8x256 .f32 :=
  k6_pay18 rowIota acc (k6_pay16 a b) (k6_pay17 a)

/-- THE SCAN: row `j` of the stored value is the state after row `j` of the recurrence from the row before the first. -/
theorem scanned_apply (acc : FVec Ideal S1x256 .f32) (a b : FVec Ideal S8x256 .f32) (l : Fin 256)
    (ha : ∀ j : Fin 8, Decay (a (ix2 j l))) (j : Fin 8) :
    scanned acc a b (ix2 j l)
      = hseq (acc (ix2 0 l)) (fun n => a (ix2 (Fin.ofNat 8 n) l)) (fun n => b (ix2 (Fin.ofNat 8 n) l)) (j.val + 1) := by
  unfold scanned
  pointwise [k6_pay18, k6_pay17, k6_pay16]
  have hd : ∀ j x y, a (ix2 j l) * (x + y) = a (ix2 j l) * x + a (ix2 j l) * y := fun j => (ha j).mul_add
  revert hd
  generalize hA : (fun j : Fin 8 => a (ix2 j l)) = A
  generalize hB : (fun j : Fin 8 => b (ix2 j l)) = B
  have hA' : ∀ j, a (ix2 j l) = A j := fun j => congrFun hA j
  have hB' : ∀ j, b (ix2 j l) = B j := fun j => congrFun hB j
  simp only [hA', hB']
  intro hd
  have h1 : ∀ x y : EReal, Scalar.select (1#1) x y = x := fun _ _ => rfl
  have h0 : ∀ x y : EReal, Scalar.select (0#1) x y = y := fun _ _ => rfl
  fin_cases j <;>
    simp (decide := true) [hseq, IntOp.cmpi, h1, h0, hd, mul_assoc, add_assoc]
  all_goals rfl

section

variable (x0 x1 : Vec Ideal S1x8x256 .f32) (x2 : Vec Ideal S1x8x256 .f32) (x3 : Vec Ideal S1x1x256 .f32)
  (x4 : Vec Ideal S4x256 .f32) (x5 : Vec Ideal S1x256 .f32) (x6 : Vec Ideal S1x1x256x256 .bf16) (x7 : Vec Ideal S1x256 .f32)
  (x8 : Vec Ideal S1x1x256x256 .bf16) (x9 x10 : Vec Ideal S1x256 .f32)

/-- The two pieces that the kernel writes into its scratch array of 16 rows. -/
abbrev extPieces : List (View.Piece (Elt Ideal) S16x256 .f32) :=
  [⟨Rect.unit ![8, 0] S8x256.size inb_S16x256_S8x256_8_0, k6_pay5 (F := Ideal) x1⟩,
    ⟨Rect.unit ![0, 0] S8x256.size inb_S16x256_S8x256_0_0, k6_pay4 (F := Ideal) x2⟩]

theorem pay5_apply (j : Fin 8) (l : Fin 256) : k6_pay5 (F := Ideal) x1 (ix2 j l) = x1 (ix3 0 j l) := by
  pointwise [k6_pay5, k6_pay3]

theorem pay4_apply (j : Fin 8) (l : Fin 256) : k6_pay4 (F := Ideal) x2 (ix2 j l) = x2 (ix3 0 j l) := by
  pointwise [k6_pay4]

/-- The scratch array reads as the extended rows. -/
theorem ext_read (v : View sig .tc .vmem S16x256 .f32) (r : Fin 16) (l : Fin 256) :
    v.read (Elt Ideal) (v.writes (Elt Ideal) v.junk (extPieces x1 x2)) (ix2 r l) = ext x1 x2 r.val l := by
  unfold extPieces
  by_cases h : 8 ≤ r.val
  · rw [View.read_writes_cons_rows_of_mem v v.junk inb_S16x256_S8x256_8_0 _ _ (ix2 r l)
      (ix2 (n0 := 8) (n1 := 256) ⟨r.val - 8, by omega⟩ l) rfl (by show r.val = 8 + (r.val - 8); omega) rfl]
    refine (pay5_apply x1 _ l).trans ?_
    rw [ext, if_neg (by omega)]
    congr 2
    exact Fin.ext (Nat.mod_eq_of_lt (by omega)).symm
  · rw [View.read_writes_cons_rows_of_not_mem v v.junk inb_S16x256_S8x256_8_0 _ _ (ix2 r l) rfl (W := 8) rfl
        (by show r.val < 8 ∨ _; omega),
      View.read_writes_cons_rows_of_mem v v.junk inb_S16x256_S8x256_0_0 _ _ (ix2 r l)
      (ix2 (n0 := 8) (n1 := 256) ⟨r.val, by omega⟩ l) rfl (by show r.val = 0 + r.val; omega) rfl]
    refine (pay4_apply x2 _ l).trans ?_
    rw [ext, if_pos (by omega)]
    congr 2
    exact Fin.ext (Nat.mod_eq_of_lt (by omega)).symm

/-- Eight or 8 rows of the scratch array from row `o` on. -/
theorem ext_load {R : ℕ} (v : View sig .tc .vmem S16x256 .f32) (o : ℕ)
    (inb : ∀ a : Fin 2, (![o, 0] : Fin 2 → Nat) a + (![R, 256] : Fin 2 → Nat) a ≤ S16x256.size a) (j : Fin R) (l : Fin 256) :
    v.readCov (Val := Elt Ideal) (extPieces x1 x2) (Rect.unit (s := S16x256) ![o, 0] ![R, 256] inb).toLoadRect (ix2 j l)
      = ext x1 x2 (o + j.val) l := by
  have hb : o + j.val < 16 := by have := inb 0; have hj := j.isLt; change o + R ≤ 16 at this; omega
  rw [← ext_read x1 x2 v ⟨o + j.val, hb⟩ l]
  refine congrArg (View.read (Elt Ideal) v _) (funext fun a => Fin.ext ?_)
  match a with
  | ⟨0, _⟩ => show o + 1 * j.val = o + j.val; omega
  | ⟨1, _⟩ => show 0 + 1 * l.val = l.val; omega

/-- The convolution's payload, of the three shifted loads. -/
abbrev convPay (v : View sig .tc .vmem S16x256 .f32) : FVec Ideal S8x256 .f32 :=
  k6_pay6 x1 x4 x5
    (v.readCov (Val := Elt Ideal) (extPieces x1 x2) (Rect.unit (s := S16x256) ![5, 0] S8x256.size inb_S16x256_S8x256_5_0).toLoadRect)
    (v.readCov (Val := Elt Ideal) (extPieces x1 x2) (Rect.unit (s := S16x256) ![6, 0] S8x256.size inb_S16x256_S8x256_6_0).toLoadRect)
    (v.readCov (Val := Elt Ideal) (extPieces x1 x2) (Rect.unit (s := S16x256) ![7, 0] S8x256.size inb_S16x256_S8x256_7_0).toLoadRect)

theorem convPay_apply (v : View sig .tc .vmem S16x256 .f32) (j : Fin 8) (l : Fin 256) :
    convPay x1 x2 x4 x5 v (ix2 j l) = conv x1 x2 x4 x5 j.val l := by
  have h5 := ext_load x1 x2 v 5 inb_S16x256_S8x256_5_0 j l
  have h6 := ext_load x1 x2 v 6 inb_S16x256_S8x256_6_0 j l
  have h7 := ext_load x1 x2 v 7 inb_S16x256_S8x256_7_0 j l
  unfold conv
  rw [← h5, ← h6, ← h7, show Fin.ofNat 8 j.val = j from Fin.ext (Nat.mod_eq_of_lt j.isLt)]
  unfold convPay
  generalize v.readCov (Val := Elt Ideal) (extPieces x1 x2) (Rect.unit (s := S16x256) ![5, 0] S8x256.size inb_S16x256_S8x256_5_0).toLoadRect = e5
  generalize v.readCov (Val := Elt Ideal) (extPieces x1 x2) (Rect.unit (s := S16x256) ![6, 0] S8x256.size inb_S16x256_S8x256_6_0).toLoadRect = e6
  generalize v.readCov (Val := Elt Ideal) (extPieces x1 x2) (Rect.unit (s := S16x256) ![7, 0] S8x256.size inb_S16x256_S8x256_7_0).toLoadRect = e7
  pointwise [k6_pay6, k6_pay3]

theorem gate_apply (uc : FVec Ideal S8x256 .f32) (huc : ∀ j l, uc (ix2 j l) = conv x1 x2 x4 x5 j.val l) (j : Fin 8) (l : Fin 256) :
    k6_pay9 uc x8 x9 (ix2 j l) = Ideal.logistic (gateArg x1 x2 x4 x5 x8 x9 j.val l) := by
  unfold gateArg
  simp only [← huc]
  pointwise [k6_pay9, k6_pay8]

theorem logA_apply (uc : FVec Ideal S8x256 .f32) (huc : ∀ j l, uc (ix2 j l) = conv x1 x2 x4 x5 j.val l) (j : Fin 8) (l : Fin 256) :
    k6_pay12 (k6_pay10 uc x6 x7) (k6_pay11 x10) (ix2 j l) = logA x1 x2 x4 x5 x6 x7 x10 j.val l := by
  unfold logA logDecay softplusNeg gateArg
  simp only [← huc]
  pointwise [k6_pay12, k6_pay11, k6_pay10, k6_pay8]
  rfl

theorem bIn_apply (uc v54 v68 v69 : FVec Ideal S8x256 .f32) (j : Fin 8) (l : Fin 256) :
    k6_pay14 uc v54 v68 v69 (ix2 j l)
      = Ideal.sqrt (Ideal.div (Ideal.ofBits .f32 3221225472#32 * Ideal.tanh (k6_pay12 v68 v69 (ix2 j l))) (1 - Ideal.tanh (k6_pay12 v68 v69 (ix2 j l))))
        * (v54 (ix2 j l) * uc (ix2 j l)) := by
  pointwise [k6_pay14]

theorem aOut_apply (v68 v69 : FVec Ideal S8x256 .f32) (j : Fin 8) (l : Fin 256) :
    k6_pay13 v68 v69 (ix2 j l) = Ideal.exp (k6_pay12 v68 v69 (ix2 j l)) := by
  pointwise [k6_pay13]

/-- THE STATES: row `j` of the scan's value is the state after row `j`. -/
theorem states_apply (v : View sig .tc .vmem S16x256 .f32) (j : Fin 8) (l : Fin 256) :
    scanned (k6_pay15 x3) (k6_pay13 (k6_pay10 (convPay x1 x2 x4 x5 v) x6 x7) (k6_pay11 x10))
        (k6_pay14 (convPay x1 x2 x4 x5 v) (k6_pay9 (convPay x1 x2 x4 x5 v) x8 x9) (k6_pay10 (convPay x1 x2 x4 x5 v) x6 x7) (k6_pay11 x10)) (ix2 j l)
      = hBlk x1 x2 x3 x4 x5 x6 x7 x8 x9 x10 l (j.val + 1) := by
  have huc := convPay_apply x1 x2 x4 x5 v
  generalize convPay x1 x2 x4 x5 v = uc at huc ⊢
  have ha : ∀ r l, k6_pay13 (k6_pay10 uc x6 x7) (k6_pay11 x10) (ix2 r l) = Ideal.exp (logA x1 x2 x4 x5 x6 x7 x10 r.val l) := by
    intro r l
    rw [aOut_apply, logA_apply x1 x2 x4 x5 x6 x7 x10 uc huc]
  have hb : ∀ r l, k6_pay14 uc (k6_pay9 uc x8 x9) (k6_pay10 uc x6 x7) (k6_pay11 x10) (ix2 r l)
        = scaledIn (logA x1 x2 x4 x5 x6 x7 x10 r.val l) (gateArg x1 x2 x4 x5 x8 x9 r.val l) (conv x1 x2 x4 x5 r.val l) := by
    intro r l
    rw [bIn_apply, logA_apply x1 x2 x4 x5 x6 x7 x10 uc huc, gate_apply x1 x2 x4 x5 x8 x9 uc huc, huc]
    rfl
  rw [scanned_apply _ _ _ l (fun r => by rw [ha]; exact decay_exp (logDecay_nonpos _ _)) j]
  unfold hBlk
  have hmod : ∀ n < j.val + 1, (Fin.ofNat 8 n).val = n := fun n hn => Nat.mod_eq_of_lt (by have := j.isLt; omega)
  rw [show k6_pay15 x3 (ix2 0 l) = x3 (ix3 0 0 l) by pointwise [k6_pay15]]
  refine hseq_congr _ (fun n hn => ?_) (fun n hn => ?_)
  · rw [ha, hmod n hn]
  · rw [hb, hmod n hn]

variable (c : Dev nD) (i : grid6.Coords) (arg2 : Memref sig .tc .vmem S1x8x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x1x256 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x1x256x256 .bf16) (harg8 : arg8.IsWhole) (arg9 : Memref sig .tc .vmem S1x256 .f32) (harg9 : arg9.IsWhole) (arg10 : Memref sig .tc .vmem S1x1x256x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x8x256 .bf16) (harg13 : arg13.IsWhole) (arg14 : Memref sig .tc .vmem S1x8x256 .f32) (harg14 : arg14.IsWhole) (arg15 : Memref sig .tc .vmem S1x8x256 .f32) (harg15 : arg15.IsWhole) (arg16 : Memref sig .tc .vmem S16x256 .f32) (harg16 : arg16.IsWhole) (arg17 : Memref sig .tc .vmem S8x256 .f32) (harg17 : arg17.IsWhole) (arg18 : Memref sig .tc .vmem S8x256 .f32) (harg18 : arg18.IsWhole)

theorem pay2_apply (w : Vec Ideal S8x256 .f32) (j : Fin 8) (l : Fin 256) : k6_pay2 (F := Ideal) w (ix3 0 j l) = w (ix2 j l) := by
  pointwise [k6_pay2]

theorem pay7_apply (w : Vec Ideal S8x256 .f32) (j : Fin 8) (l : Fin 256) : k6_pay7 (F := Ideal) w (ix3 0 j l) = w (ix2 j l) := by
  pointwise [k6_pay7]

theorem pay1_apply (w : Vec Ideal S8x256 .f32) (j : Fin 8) (l : Fin 256) :
    k6_pay1 (F := Ideal) w (k6_pay19 x0) (k6_pay20 x0) (Scalar.ofBits .f32 0x3D372713#32) (ix3 0 j l) = gelued (w (ix2 j l)) (x0 (ix3 0 j l)) := by
  unfold gelued
  pointwise [k6_pay1, k6_pay19, k6_pay20]

/-- The last-state output: row `j` is the state after row `j`. -/
theorem out13_apply (j : Fin 8) (l : Fin 256) :
    out6_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 j l)
      = hBlk x1 x2 x3 x4 x5 x6 x7 x8 x9 x10 l (j.val + 1) := by
  rw [← states_apply x1 x2 x3 x4 x5 x6 x7 x8 x9 x10 arg16.view j l]
  unfold out6_A_13
  rw [View.read_writes_junk_eq_canon]
  unfold kernelRun6_A
  dsimp only
  sl_unfold_words
  simp only [View.readAt_eq_ld, Memref.IsWhole.read_unread, View.ld_unit_zero (S := S1x256) hz2, View.ld_unit_zero (S := S4x256) hz2, View.ld_unit_zero (S := S1x8x256) hz3, View.ld_unit_zero (S := S1x1x256) hz3, View.ld_unit_zero (S := S1x1x256x256) hz4]
  rw [View.canon_unit_zero (S := S1x8x256) hz3]
  exact (pay2_apply _ j l).trans (congrFun (load_scan (s := S8x256) arg17.view arg18.view (fun A B => scanned (k6_pay15 x3) A B)
    (k6_pay13 (k6_pay10 (convPay x1 x2 x4 x5 arg16.view) x6 x7) (k6_pay11 x10))
    (k6_pay14 (convPay x1 x2 x4 x5 arg16.view) (k6_pay9 (convPay x1 x2 x4 x5 arg16.view) x8 x9) (k6_pay10 (convPay x1 x2 x4 x5 arg16.view) x6 x7) (k6_pay11 x10))
    inb_S8x256_S8x256_0_0 k6_off1_inb) (ix2 j l))

/-- The last-inputs output: row `j` is row `8 + j` of the extended rows. -/
theorem out12_apply (j : Fin 8) (l : Fin 256) :
    out6_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 j l) = ext x1 x2 (8 + j.val) l := by
  unfold out6_A_12
  rw [View.read_writes_junk_eq_canon]
  unfold kernelRun6_A
  dsimp only
  sl_unfold_words
  simp only [View.readAt_eq_ld, Memref.IsWhole.read_unread, View.ld_unit_zero (S := S1x256) hz2, View.ld_unit_zero (S := S4x256) hz2, View.ld_unit_zero (S := S1x8x256) hz3, View.ld_unit_zero (S := S1x1x256) hz3, View.ld_unit_zero (S := S1x1x256x256) hz4]
  rw [View.canon_unit_zero (S := S1x8x256) hz3]
  exact (pay7_apply _ j l).trans (ext_load x1 x2 arg16.view 8 inb_S16x256_S8x256_8_0 j l)

/-- The gated output: row `j` is the state after row `j` times the gelu of the gate. -/
theorem out11_apply (j : Fin 8) (l : Fin 256) :
    out6_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 j l)
      = gelued (hBlk x1 x2 x3 x4 x5 x6 x7 x8 x9 x10 l (j.val + 1)) (x0 (ix3 0 j l)) := by
  rw [← states_apply x1 x2 x3 x4 x5 x6 x7 x8 x9 x10 arg16.view j l]
  unfold out6_A_11
  rw [View.read_writes_junk_eq_canon]
  unfold kernelRun6_A
  dsimp only
  sl_unfold_words
  simp only [View.readAt_eq_ld, Memref.IsWhole.read_unread, View.ld_unit_zero (S := S1x256) hz2, View.ld_unit_zero (S := S4x256) hz2, View.ld_unit_zero (S := S1x8x256) hz3, View.ld_unit_zero (S := S1x1x256) hz3, View.ld_unit_zero (S := S1x1x256x256) hz4]
  rw [View.canon_unit_zero (S := S1x8x256) hz3]
  exact (pay1_apply x0 _ j l).trans (congrArg (gelued · _) (congrFun (load_scan (s := S8x256) arg17.view arg18.view (fun A B => scanned (k6_pay15 x3) A B)
    (k6_pay13 (k6_pay10 (convPay x1 x2 x4 x5 arg16.view) x6 x7) (k6_pay11 x10))
    (k6_pay14 (convPay x1 x2 x4 x5 arg16.view) (k6_pay9 (convPay x1 x2 x4 x5 arg16.view) x8 x9) (k6_pay10 (convPay x1 x2 x4 x5 arg16.view) x6 x7) (k6_pay11 x10))
    inb_S8x256_S8x256_0_0 k6_off1_inb) (ix2 j l)))

end

end Cert.Layers.Sample
-- ==== Proof.SampleRecurrence.lean ====
/-
  What the samples' recurrence call leaves in its three arrays, from whatever its inputs hold: the blocks a grid point reads as
  entries of those inputs, the state it computes, and the arrays put together from the blocks.
-/
module

public import proofs.«01_k».proof.Proof.Gen.SampleIdeal.Frame
public import proofs.«01_k».proof.Proof.Layers
public import proofs.«01_k».proof.Proof.SampleBlock
public import Idealize.ShloMosaic.Lib.Pipeline.ValueKit
public import Idealize.ShloMosaic.Lib.Claim

@[expose] public section

set_option maxRecDepth 16384

noncomputable section

namespace Cert.Layers.Sample

open Idealize.ShloMosaic Idealize.ShloMosaic.TcCoe Idealize.ShloMosaic.Tactic
open Cert.SampleIdeal Cert.SampleIdeal.Gen Cert.Rglru Cert.Layers

/-- The batch row of a grid point. -/
def pb (t : Fin grid6.N) : Fin 8 := grid6.coords t 0
/-- The channel group of a grid point. -/
def pn (t : Fin grid6.N) : Fin 22 := grid6.coords t 1

theorem idx3 : ∀ t : Fin grid6.N, win6_0.index t = ![(pb t).val, 0, (pn t).val] ∧ win6_1.index t = ![(pb t).val, 0, (pn t).val + 22]
    ∧ win6_2.index t = ![(pb t).val, 0, (pn t).val] ∧ win6_3.index t = ![(pb t).val, 0, (pn t).val]
    ∧ win6_11.index t = ![(pb t).val, 0, (pn t).val] ∧ win6_12.index t = ![(pb t).val, 0, (pn t).val]
    ∧ win6_13.index t = ![(pb t).val, 0, (pn t).val] := by decide +kernel

theorem idx2 : ∀ t : Fin grid6.N, win6_4.index t = ![0, (pn t).val] ∧ win6_5.index t = ![0, (pn t).val]
    ∧ win6_7.index t = ![0, (pn t).val] ∧ win6_9.index t = ![0, (pn t).val] ∧ win6_10.index t = ![0, (pn t).val]
    ∧ win6_6.index t = ![0, (pn t).val, 0, 0] ∧ win6_8.index t = ![0, (pn t).val, 0, 0] := by decide +kernel

section

variable (V : (c : Dev nD) → (b : Ref sig .tc) → Buf (Elt Ideal) ((c : Thread nD τ).loc b)) (c : Dev nD)

/-- The call's inputs hold the weights `w`, the branches, the three earlier inputs and the states before the first step. -/
structure Entered (w : Weights) (gu : Fin 8 → ℕ → Fin 11264 → EReal) (cp : Fin 8 → Fin 3 → Fin 5632 → EReal) (h0 : Fin 8 → Fin 5632 → EReal) : Prop where
  gu : ∀ b (j : Fin 8) i, V c main_v20 (ix3 (n0 := 8) b j i) = gu b j.val i
  cp : ∀ b (k : Fin 3) i, V c main_v29 (ix3 (n0 := 8) (n1 := 8) b ⟨5 + k.val, by omega⟩ i) = cp b k i
  h0 : ∀ b i, V c main_v30 (ix3 (n0 := 8) (n1 := 1) b 0 i) = h0 b i
  cw : ∀ (j : Fin 4) i, V c main_v21 (ix2 (n0 := 4) j i) = w.cw (ix3 0 j i)
  cb : ∀ i, V c main_v31 (ix2 (n0 := 1) 0 i) = w.cb (ix2 0 i)
  wa : ∀ n j l, V c main_v23 (ix4 (n0 := 1) 0 n j l) = w.wa (ix4 0 n j l)
  ba : ∀ i, V c main_v32 (ix2 (n0 := 1) 0 i) = w.ba (ix2 0 i)
  wi : ∀ n j l, V c main_v25 (ix4 (n0 := 1) 0 n j l) = w.wi (ix4 0 n j l)
  bi : ∀ i, V c main_v33 (ix2 (n0 := 1) 0 i) = w.bi (ix2 0 i)
  lam : ∀ i, V c main_v34 (ix2 (n0 := 1) 0 i) = w.lam (ix2 0 i)

variable {V c} {w : Weights} {gu : Fin 8 → ℕ → Fin 11264 → EReal} {cp : Fin 8 → Fin 3 → Fin 5632 → EReal} {h0 : Fin 8 → Fin 5632 → EReal}
  (H : Entered V c w gu cp h0) (t : Fin cfg6.N)

include H

theorem blk0 (j : Fin 8) (l : Fin 256) : iblk6 V c 0 t (ix3 0 j l) = gu (pb t) j.val (colG (pn t) l) := by
  rw [← H.gu]
  unfold colG
  blk_ext! [iblk6, idx3 t]

theorem blk1 (j : Fin 8) (l : Fin 256) : iblk6 V c 1 t (ix3 0 j l) = gu (pb t) j.val (colU (pn t) l) := by
  rw [← H.gu]
  unfold colU
  blk_ext! [iblk6, idx3 t]

/-- Rows 5, 6 and 7 of the eight earlier rows are the three earlier inputs; the others are never read. -/
theorem blk2 (k : Fin 3) (l : Fin 256) : iblk6 V c 2 t (ix3 0 ⟨5 + k.val, by omega⟩ l) = cp (pb t) k (col (pn t) l) := by
  rw [← H.cp]
  unfold col
  blk_ext! [iblk6, idx3 t]

theorem blk3 (l : Fin 256) : iblk6 V c 3 t (ix3 0 0 l) = h0 (pb t) (col (pn t) l) := by
  rw [← H.h0]
  unfold col
  blk_ext! [iblk6, idx3 t]

theorem blk4 (j : Fin 4) (l : Fin 256) : iblk6 V c 4 t (ix2 j l) = w.cw (ix3 0 j (col (pn t) l)) := by
  rw [← H.cw]
  unfold col
  blk_ext! [iblk6, idx2 t]

theorem blk5 (l : Fin 256) : iblk6 V c 5 t (ix2 0 l) = w.cb (ix2 0 (col (pn t) l)) := by
  rw [← H.cb]
  unfold col
  blk_ext! [iblk6, idx2 t]

theorem blk6 (j l : Fin 256) : iblk6 V c 6 t (ix4 0 0 j l) = w.wa (ix4 0 (pn t) j l) := by
  rw [← H.wa]
  blk_ext! [iblk6, idx2 t]

theorem blk7 (l : Fin 256) : iblk6 V c 7 t (ix2 0 l) = w.ba (ix2 0 (col (pn t) l)) := by
  rw [← H.ba]
  unfold col
  blk_ext! [iblk6, idx2 t]

theorem blk8 (j l : Fin 256) : iblk6 V c 8 t (ix4 0 0 j l) = w.wi (ix4 0 (pn t) j l) := by
  rw [← H.wi]
  blk_ext! [iblk6, idx2 t]

theorem blk9 (l : Fin 256) : iblk6 V c 9 t (ix2 0 l) = w.bi (ix2 0 (col (pn t) l)) := by
  rw [← H.bi]
  unfold col
  blk_ext! [iblk6, idx2 t]

theorem blk10 (l : Fin 256) : iblk6 V c 10 t (ix2 0 l) = w.lam (ix2 0 (col (pn t) l)) := by
  rw [← H.lam]
  unfold col
  blk_ext! [iblk6, idx2 t]

/-- A grid point's block reads what its batch row and group of channels call for. -/
theorem reads : Reads (T := 8) (iblk6 V c 1 t) (iblk6 V c 2 t) (iblk6 V c 3 t) (iblk6 V c 4 t) (iblk6 V c 5 t) (iblk6 V c 6 t) (iblk6 V c 7 t)
    (iblk6 V c 8 t) (iblk6 V c 9 t) (iblk6 V c 10 t) w (gu (pb t)) (cp (pb t)) (h0 (pb t)) (pn t) :=
  ⟨blk1 H t, blk2 H t, blk3 H t, blk4 H t, blk5 H t, blk6 H t, blk7 H t, blk8 H t, blk9 H t, blk10 H t⟩

theorem y_blk (j : Fin 8) (l : Fin 256) :
    (outsAt6 V c t).1 (ix3 0 j l) = gated w (gu (pb t)) (cp (pb t)) (h0 (pb t)) j.val (col (pn t) l) := by
  unfold gated
  rw [grp_col, lane_col, ← blk0 H, ← hBlk_reads (reads H t) l (j.val + 1) (by omega)]
  unfold outsAt6
  dsimp only
  exact out11_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t)
    scM6_0 (Memref.isWhole_whole _) scM6_1 (Memref.isWhole_whole _) scM6_2 (Memref.isWhole_whole _) j l

theorem conv_out_blk (j : Fin 8) (l : Fin 256) :
    (outsAt6 V c t).2.1 (ix3 0 j l) = gu (pb t) (j.val) (colU (pn t) l) := by
  have e : iblk6 V c 1 t (ix3 0 j l) = gu (pb t) (j.val) (colU (pn t) l) := blk1 H t _ l
  rw [← e]
  unfold outsAt6
  dsimp only
  refine (out12_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t)
    scM6_0 (Memref.isWhole_whole _) scM6_1 (Memref.isWhole_whole _) scM6_2 (Memref.isWhole_whole _) j l).trans ?_
  unfold ext
  rw [if_neg (by omega), Nat.add_sub_cancel_left]
  congr 2
  exact Fin.ext (Nat.mod_eq_of_lt (by omega))

theorem h_blk (j : Fin 8) (l : Fin 256) :
    (outsAt6 V c t).2.2 (ix3 0 j l) = state w (gu (pb t)) (cp (pb t)) (h0 (pb t)) (pn t) l (j.val + 1) := by
  rw [← hBlk_reads (reads H t) l _ (by omega)]
  unfold outsAt6
  dsimp only
  exact out13_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t)
    scM6_0 (Memref.isWhole_whole _) scM6_1 (Memref.isWhole_whole _) scM6_2 (Memref.isWhole_whole _) j l

end

variable (V : (c : Dev nD) → (b : Ref sig .tc) → Buf (Elt Ideal) ((c : Thread nD τ).loc b)) (c : Dev nD)
  {w : Weights} {gu : Fin 8 → ℕ → Fin 11264 → EReal} {cp : Fin 8 → Fin 3 → Fin 5632 → EReal} {h0 : Fin 8 → Fin 5632 → EReal}
  (H : Entered V c w gu cp h0)

include H

theorem y_eq : (dat6 V c).arrAt 11 cfg6.N = outY 8 w gu cp h0 := by
  refine (dat6 V c).arrAt_eq_of_covers 11 _ (by decide +kernel) fun t hf y => ?_
  blk_simp
  rw [after6_11]
  have hy : y = ix3 (n0 := 1) (n1 := 8) (n2 := 256) 0 (y 1) (y 2) := by blk_ext []
  refine (congrArg (outsAt6 V c t).1 hy).trans ((y_blk H t (y 1) (y 2)).trans ?_)
  have e : (win6_11.blk t).view.emb y = ix3 (n0 := 8) (n1 := 8) (n2 := 5632) (pb t) (y 1) (col (pn t) (y 2)) := by unfold col; blk_ext [idx3 t]
  rw [e]
  rfl

theorem conv_eq : (dat6 V c).arrAt 12 cfg6.N = outConv 0 gu := by
  refine (dat6 V c).arrAt_eq_of_covers 12 _ (by decide +kernel) fun t hf y => ?_
  blk_simp
  rw [after6_12]
  have hy : y = ix3 (n0 := 1) (n1 := 8) (n2 := 256) 0 (y 1) (y 2) := by blk_ext []
  refine (congrArg (outsAt6 V c t).2.1 hy).trans ((conv_out_blk H t (y 1) (y 2)).trans ?_)
  have e : (win6_12.blk t).view.emb y = ix3 (n0 := 8) (n1 := 8) (n2 := 5632) (pb t) (y 1) (col (pn t) (y 2)) := by unfold col; blk_ext [idx3 t]
  rw [e]
  exact ((outConv_at 0 gu (pb t) (y 1) (pn t) (y 2)).trans (by rw [Nat.zero_add])).symm

theorem h_eq : (dat6 V c).arrAt 13 cfg6.N = outH 0 w gu cp h0 := by
  refine (dat6 V c).arrAt_eq_of_covers 13 _ (by decide +kernel) fun t hf y => ?_
  blk_simp
  rw [after6_13]
  have hy : y = ix3 (n0 := 1) (n1 := 8) (n2 := 256) 0 (y 1) (y 2) := by blk_ext []
  refine (congrArg (outsAt6 V c t).2.2 hy).trans ((h_blk H t (y 1) (y 2)).trans ?_)
  have e : (win6_13.blk t).view.emb y = ix3 (n0 := 8) (n1 := 8) (n2 := 5632) (pb t) (y 1) (col (pn t) (y 2)) := by unfold col; blk_ext [idx3 t]
  rw [e]
  exact ((outH_at 0 w gu cp h0 (pb t) (y 1) (pn t) (y 2)).trans (by rw [Nat.zero_add])).symm

end Cert.Layers.Sample

end
-- ==== Proof.SampleChain.lean ====
/-
  The samples' program from its arguments to its results: the arrays between its calls, one after the other, as rows of the layers.
-/
module

public import proofs.«01_k».proof.Proof.SampleDense
public import proofs.«01_k».proof.Proof.SampleRecurrence
public import proofs.«01_k».proof.Proof.Launched

@[expose] public section

set_option maxRecDepth 16384

noncomputable section

namespace Cert.Layers.Sample

open Idealize.ShloMosaic Idealize.ShloMosaic.TcCoe Idealize.ShloMosaic.Tactic Idealize.SL.Sem
open Cert.SampleIdeal Cert.SampleIdeal.Gen Cert.Rglru Cert.Layers Cert.Dense

instance : Cert.SampleIdeal.Facts := Cert.SampleIdeal.Gen.facts

set_option backward.isDefEq.respectTransparency.types false in
/-- The calls, run in order, leave every array at the last boundary's contents. -/
theorem run_last (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      ∀ b ∈ Pipeline.ucRefs τ sig, r.2.mem (c, b) = W21 m ρ c b :=
  run_to pcfgs adm (pdats m ρ) cellOf_inj defs₀ 𝒱₀ m ρ main (segs m ρ) (fun c => (main_run m ρ c).symm)
    (by simp only [segs, Pipeline.Seg.pipes_host, Pipeline.Seg.pipes_region, Pipeline.Seg.pipes_nil]; decide) (W21 m ρ)
    ⟨fun _ => .rfl, fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh] <;> iassumption
        · iexact HO⟩

/-! ### Layouts -/

theorem merge_rows (a : Vec Ideal S8x8x4096 .f32) : shapeCast S64x4096 a shapeCasts_S8x8x4096_S64x4096 = rowsOf 8 8 (seq a) := by
  funext i
  rw [show i = ix2 (n0 := 64) (n1 := 4096) (i 0) (i 1) by blk_ext []]
  generalize (i 0 : Fin 64) = r
  generalize (i 1 : Fin 4096) = k
  unfold rowsOf seq
  pointwise
  have hr : r.val < 64 := r.isLt
  refine congrArg a (funext fun d => Fin.ext ?_)
  match d with
  | ⟨0, _⟩ => show r.val / 8 = (r.val / 8) % 8; omega
  | ⟨1, _⟩ => show r.val % 8 = (r.val % 8) % 8; omega
  | ⟨2, _⟩ => rfl

theorem merge_gated (f : Fin 8 → ℕ → Fin 5632 → EReal) :
    shapeCast S64x5632 ((fun i => f (i 0) (i 1).val (i 2)) : Vec Ideal S8x8x5632 .f32) shapeCasts_S8x8x5632_S64x5632 = rowsOf 8 8 f := by
  funext i
  rw [show i = ix2 (n0 := 64) (n1 := 5632) (i 0) (i 1) by blk_ext []]
  generalize (i 0 : Fin 64) = r
  generalize (i 1 : Fin 5632) = k
  unfold rowsOf
  pointwise
  have hr : r.val < 64 := r.isLt
  congr 1
  exact Fin.ext (by show r.val / 8 = (r.val / 8) % 8; omega)

theorem rowsOf_at {C : ℕ} (f : Fin 8 → ℕ → Fin C → EReal) (b : Fin 8) (t : Fin 8) (k : Fin C) :
    rowsOf (R := 64) 8 8 f (ix2 ⟨b.val * 8 + t.val, by omega⟩ k) = f b t.val k := by
  show f (Fin.ofNat 8 ((b.val * 8 + t.val) / 8)) ((b.val * 8 + t.val) % 8) k = _
  rw [show Fin.ofNat 8 ((b.val * 8 + t.val) / 8) = b from Fin.ext (by show (b.val * 8 + t.val) / 8 % 8 = b.val; omega),
    show (b.val * 8 + t.val) % 8 = t.val by omega]

theorem split_rows (f : Fin 8 → ℕ → Row) (b : Fin 8) (t : Fin 8) (k : Fin 4096) :
    shapeCast S8x8x4096 (rowsOf 8 8 f : Vec Ideal S64x4096 .f32) shapeCasts_S64x4096_S8x8x4096 (ix3 b t k) = f b t.val k := by
  rw [← rowsOf_at f b t k]
  generalize (rowsOf 8 8 f : Vec Ideal S64x4096 .f32) = a
  pointwise

theorem split_branches (f : Fin 8 → ℕ → Fin 11264 → EReal) (b : Fin 8) (t : Fin 8) (k : Fin 11264) :
    shapeCast S8x8x11264 (rowsOf 8 8 f : Vec Ideal S64x11264 .f32) shapeCasts_S64x11264_S8x8x11264 (ix3 b t k) = f b t.val k := by
  rw [← rowsOf_at f b t k]
  generalize (rowsOf 8 8 f : Vec Ideal S64x11264 .f32) = a
  pointwise

theorem row0 (g : Vec Ideal S2x4096 .f32) (k : Fin 4096) : shapeCast S1x4096 (shapeCast S4096 (extractStridedSlice S1x4096 ![0, 0] g slices_S2x4096_S1x4096_0_0)
      shapeCasts_S1x4096_S4096) shapeCasts_S4096_S1x4096 (ix2 0 k) = g (ix2 0 k) := by
  pointwise
  blk_ext []

theorem row1 (g : Vec Ideal S2x4096 .f32) (k : Fin 4096) : shapeCast S1x4096 (shapeCast S4096 (extractStridedSlice S1x4096 ![1, 0] g slices_S2x4096_S1x4096_1_0)
      shapeCasts_S1x4096_S4096) shapeCasts_S4096_S1x4096 (ix2 0 k) = g (ix2 1 k) := by
  pointwise
  blk_ext []

theorem channels (g : Vec Ideal S1x5632 .f32) (k : Fin 5632) : shapeCast S1x5632 (shapeCast S5632 g shapeCasts_S1x5632_S5632) shapeCasts_S5632_S1x5632 (ix2 0 k) = g (ix2 0 k) := by
  pointwise

theorem earlier (a : Vec Ideal S8x5x5632 .f32) (b : Vec Ideal S8x3x5632 .f32) (n : Fin 8) (k : Fin 3) (i : Fin 5632) :
    concatenate S8x8x5632 1 [⟨S8x5x5632, a⟩, ⟨S8x3x5632, b⟩] concatenates_S8x5x5632_S8x3x5632_S8x8x5632_d1 (ix3 n ⟨5 + k.val, by omega⟩ i) = b (ix3 n k i) := by
  pointwise

theorem given_inputs (a : Vec Ideal S1x8x3x5632 .f32) (b : Fin 8) (k : Fin 3) (i : Fin 5632) :
    shapeCast S8x3x5632 a shapeCasts_S1x8x3x5632_S8x3x5632 (ix3 b k i) = a (ix4 0 b k i) := by
  pointwise

theorem given_states (a : Vec Ideal S1x8x5632 .f32) (b : Fin 8) (i : Fin 5632) :
    shapeCast S8x5632 a shapeCasts_S1x8x5632_S8x5632 (ix2 b i) = a (ix3 0 b i) := by
  pointwise

theorem one_step (a : Vec Ideal S8x5632 .f32) (b : Fin 8) (i : Fin 5632) :
    shapeCast S8x1x5632 a shapeCasts_S8x5632_S8x1x5632 (ix3 b 0 i) = a (ix2 b i) := by
  pointwise

variable (m : (ℓ : Loc nD τ sig) → Buf (Elt Ideal) ℓ) (ρ : Dev nD → PrngReg) (c : Dev nD)

/-- The weights, the attention's output and the rows it is added to, as they stand in memory. -/
def wts : Weights where
  mix := m ((c : Thread nD τ).loc main_arg4)
  ffn := m ((c : Thread nD τ).loc main_arg5)
  last := m ((c : Thread nD τ).loc main_arg6)
  wo := m ((c : Thread nD τ).loc main_arg7)
  win := m ((c : Thread nD τ).loc main_arg8)
  cw := m ((c : Thread nD τ).loc main_arg9)
  cb := m ((c : Thread nD τ).loc main_arg10)
  wa := m ((c : Thread nD τ).loc main_arg11)
  ba := m ((c : Thread nD τ).loc main_arg12)
  wi := m ((c : Thread nD τ).loc main_arg13)
  bi := m ((c : Thread nD τ).loc main_arg14)
  lam := m ((c : Thread nD τ).loc main_arg15)
  wout := m ((c : Thread nD τ).loc main_arg16)
  up := m ((c : Thread nD τ).loc main_arg17)
  down := m ((c : Thread nD τ).loc main_arg18)

def aO : Fin 8 → ℕ → Row := seq (B := 8) (T := 8) (m ((c : Thread nD τ).loc main_arg0))
def aX : Fin 8 → ℕ → Row := seq (B := 8) (T := 8) (m ((c : Thread nD τ).loc main_arg1))

/-- A sample begins with the last three inputs and the state it is given. -/
def cp0 : Fin 8 → Fin 3 → Fin 5632 → EReal := fun b k i => m ((c : Thread nD τ).loc main_arg2) (ix4 (n0 := 1) (n1 := 8) (n2 := 3) (n3 := 5632) 0 b k i)
def st0 : Fin 8 → Fin 5632 → EReal := fun b i => m ((c : Thread nD τ).loc main_arg3) (ix3 (n0 := 1) (n1 := 8) (n2 := 5632) 0 b i)

/-- The rows after the first layer, the branches, and the rows after the recurrent layer. -/
def r1 (b : Fin 8) : ℕ → Row := rows1 (wts m c) (aO m c b) (aX m c b)
def gu (b : Fin 8) : ℕ → Fin 11264 → EReal := guRows (wts m c) (aO m c b) (aX m c b)
def r2 (b : Fin 8) : ℕ → Row := rows2 (wts m c) (aO m c b) (aX m c b) (cp0 m c b) (st0 m c b)
/-- The rows of the results. -/
def rOut (b : Fin 8) : ℕ → Row := outRow (wts m c) (aO m c b) (aX m c b) (cp0 m c b) (st0 m c b)

/-! ### The first layer -/

theorem v4_eq : (V1 m ρ c main_v4 : Vec Ideal S64x4096 .bf16) = (rowsOf 8 8 (aO m c) : Vec Ideal S64x4096 .f32) := by
  have e : (V1 m ρ c main_v4 : Vec Ideal S64x4096 .bf16) = shapeCast S64x4096 (m ((c : Thread nD τ).loc main_arg0)) shapeCasts_S8x8x4096_S64x4096 := by
    simp only [V1, W1, hostOps0]
    after_results_simp <;> rfl
  exact e.trans (merge_rows _)

theorem v6_eq : (V1 m ρ c main_v6 : Vec Ideal S64x4096 .f32) = rowsOf 8 8 (aX m c) := by
  have e : (V1 m ρ c main_v6 : Vec Ideal S64x4096 .f32) = shapeCast S64x4096 (m ((c : Thread nD τ).loc main_arg1)) shapeCasts_S8x8x4096_S64x4096 := by
    simp only [V1, W1, hostOps0]
    after_results_simp <;> rfl
  exact e.trans (merge_rows _)

theorem v5_eq : (V1 m ρ c main_v5 : Vec Ideal S1x4096x4096 .bf16) = (wts m c).wo := by
  have e : (V1 m ρ c main_v5 : Vec Ideal S1x4096x4096 .bf16) = truncf (F := Ideal) .bf16 (m ((c : Thread nD τ).loc main_arg7)) bitsLt_bf16_f32 := by
    simp only [V1, W1, hostOps0]
    after_results_simp <;> rfl
  exact e

theorem v2_eq : (V1 m ρ c main_v2 : Vec Ideal S2x11008x4096 .bf16) = (wts m c).down := by
  have e : (V1 m ρ c main_v2 : Vec Ideal S2x11008x4096 .bf16) = truncf (F := Ideal) .bf16 (m ((c : Thread nD τ).loc main_arg18)) bitsLt_bf16_f32 := by
    simp only [V1, W1, hostOps0]
    after_results_simp <;> rfl
  exact e

theorem v7_eq : (V2 m ρ c main_v7 : Vec Ideal S64x4096 .f32) = rowsOf 8 8 fun b t => attended (wts m c) (aO m c b t) (aX m c b t) := by
  refine (W2_arr m ρ c 3).trans ((arr0 (V1 m ρ) c).trans ?_)
  rw [v4_eq, v5_eq, v6_eq]
  exact summed_rows ..

theorem v10_at (k : Fin 4096) : (V3 m ρ c main_v10 : Vec Ideal S1x4096 .f32) (ix2 0 k) = (wts m c).ffn (ix2 0 k) := by
  have e : (V3 m ρ c main_v10 : Vec Ideal S1x4096 .f32) = shapeCast S1x4096 (shapeCast S4096 (extractStridedSlice S1x4096 ![0, 0]
      (W2 m ρ c (Proc.devRef .tc main_arg5)) slices_S2x4096_S1x4096_0_0) shapeCasts_S1x4096_S4096) shapeCasts_S4096_S1x4096 := by
    simp only [V3, W3, hostOps1]
    after_results_simp <;> rfl
  rw [e, W2_args m ρ c main_arg5 (by simp)]
  exact row0 _ k

theorem v11_eq : (V4 m ρ c main_v11 : Vec Ideal S64x4096 .bf16) = (rowsOf 8 8 fun b t k =>
    rms (attended (wts m c) (aO m c b t) (aX m c b t)) ((wts m c).ffn (ix2 0 k)) k : Vec Ideal S64x4096 .f32) := by
  refine (W4_arr m ρ c 2).trans ((arr1 (V3 m ρ) c).trans ?_)
  have h : V3 m ρ c main_v7 = V2 m ρ c main_v7 := W3_of m ρ c main_v7 (by decide)
  rw [h, v7_eq]
  exact normed_rows _ _ _ (v10_at m ρ c)

theorem v12_eq : (V5 m ρ c main_v12 : Vec Ideal S64x11008 .bf16) = (rowsOf 8 8 fun b t => hiddenRow (wts m c) 0 fun k =>
    rms (attended (wts m c) (aO m c b t) (aX m c b t)) ((wts m c).ffn (ix2 0 k)) k : Vec Ideal S64x11008 .f32) := by
  refine (W5_arr m ρ c 3).trans ((arr2 (V4 m ρ) c).trans ?_)
  have h : V4 m ρ c main_arg17 = (wts m c).up := W4_args m ρ c main_arg17 (by simp)
  rw [h, v11_eq]
  exact hidden_rows ..

theorem v13_eq : (V6 m ρ c main_v13 : Vec Ideal S64x4096 .f32) = rowsOf 8 8 (r1 m c) := by
  refine (W6_arr m ρ c 3).trans ((arr3 (V5 m ρ) c).trans ?_)
  have h2 : V5 m ρ c main_v2 = V1 m ρ c main_v2 := (W5_of m ρ c main_v2 (by decide)).trans ((W4_of m ρ c main_v2 (by decide)).trans
    ((W3_of m ρ c main_v2 (by decide)).trans (W2_of m ρ c main_v2 (by decide))))
  have h6 : V5 m ρ c main_v7 = V2 m ρ c main_v7 := (W5_of m ρ c main_v7 (by decide)).trans ((W4_of m ρ c main_v7 (by decide)).trans
    (W3_of m ρ c main_v7 (by decide)))
  rw [h2, h6, v2_eq, v7_eq, v12_eq]
  exact summed_rows ..

/-! ### The recurrent layer -/

theorem v16_at (k : Fin 4096) : (V7 m ρ c main_v16 : Vec Ideal S1x4096 .f32) (ix2 0 k) = (wts m c).mix (ix2 1 k) := by
  have e : (V7 m ρ c main_v16 : Vec Ideal S1x4096 .f32) = shapeCast S1x4096 (shapeCast S4096 (extractStridedSlice S1x4096 ![1, 0]
      (W6 m ρ c (Proc.devRef .tc main_arg4)) slices_S2x4096_S1x4096_1_0) shapeCasts_S1x4096_S4096) shapeCasts_S4096_S1x4096 := by
    simp only [V7, W7, hostOps4]
    after_results_simp <;> rfl
  rw [e, W6_args m ρ c main_arg4 (by simp)]
  exact row1 _ k

theorem v17_eq : (V8 m ρ c main_v17 : Vec Ideal S64x4096 .bf16) = (rowsOf 8 8 fun b t k =>
    rms (r1 m c b t) ((wts m c).mix (ix2 1 k)) k : Vec Ideal S64x4096 .f32) := by
  refine (W8_arr m ρ c 2).trans ((arr4 (V7 m ρ) c).trans ?_)
  have h : V7 m ρ c main_v13 = V6 m ρ c main_v13 := W7_of m ρ c main_v13 (by decide)
  rw [h, v13_eq]
  exact normed_rows _ _ _ (v16_at m ρ c)

theorem v18_eq : (V9 m ρ c main_v18 : Vec Ideal S1x4096x11264 .bf16) = (wts m c).win := by
  have e : (V9 m ρ c main_v18 : Vec Ideal S1x4096x11264 .bf16) = truncf (F := Ideal) .bf16 (W8 m ρ c (Proc.devRef .tc main_arg8)) bitsLt_bf16_f32 := by
    simp only [V9, W9, hostOps5]
    after_results_simp <;> rfl
  rw [e, W8_args m ρ c main_arg8 (by simp)]
  rfl

theorem v19_eq : (V10 m ρ c main_v19 : Vec Ideal S64x11264 .f32) = rowsOf 8 8 (gu m c) := by
  refine (W10_arr m ρ c 2).trans ((arr5 (V9 m ρ) c).trans ?_)
  have h : V9 m ρ c main_v17 = V8 m ρ c main_v17 := W9_of m ρ c main_v17 (by decide)
  rw [h, v17_eq, v18_eq]
  exact projected_rows ..

theorem v0_at (b : Fin 8) (k : Fin 3) (i : Fin 5632) : (V1 m ρ c main_v0 : Vec Ideal S8x3x5632 .f32) (ix3 b k i) = cp0 m c b k i := by
  have e : (V1 m ρ c main_v0 : Vec Ideal S8x3x5632 .f32) = shapeCast S8x3x5632 (m ((c : Thread nD τ).loc main_arg2)) shapeCasts_S1x8x3x5632_S8x3x5632 := by
    simp only [V1, W1, hostOps0]
    after_results_simp <;> rfl
  exact (congrFun e _).trans (given_inputs _ b k i)

theorem v1_at (b : Fin 8) (i : Fin 5632) : (V1 m ρ c main_v1 : Vec Ideal S8x5632 .f32) (ix2 b i) = st0 m c b i := by
  have e : (V1 m ρ c main_v1 : Vec Ideal S8x5632 .f32) = shapeCast S8x5632 (m ((c : Thread nD τ).loc main_arg3)) shapeCasts_S1x8x5632_S8x5632 := by
    simp only [V1, W1, hostOps0]
    after_results_simp <;> rfl
  exact (congrFun e _).trans (given_states _ b i)

theorem v0_kept : V10 m ρ c main_v0 = V1 m ρ c main_v0 :=
  (W10_of m ρ c main_v0 (by decide)).trans ((W9_of m ρ c main_v0 (by decide)).trans ((W8_of m ρ c main_v0 (by decide)).trans
    ((W7_of m ρ c main_v0 (by decide)).trans ((W6_of m ρ c main_v0 (by decide)).trans ((W5_of m ρ c main_v0 (by decide)).trans
      ((W4_of m ρ c main_v0 (by decide)).trans ((W3_of m ρ c main_v0 (by decide)).trans (W2_of m ρ c main_v0 (by decide)))))))))

theorem v1_kept : V10 m ρ c main_v1 = V1 m ρ c main_v1 :=
  (W10_of m ρ c main_v1 (by decide)).trans ((W9_of m ρ c main_v1 (by decide)).trans ((W8_of m ρ c main_v1 (by decide)).trans
    ((W7_of m ρ c main_v1 (by decide)).trans ((W6_of m ρ c main_v1 (by decide)).trans ((W5_of m ρ c main_v1 (by decide)).trans
      ((W4_of m ρ c main_v1 (by decide)).trans ((W3_of m ρ c main_v1 (by decide)).trans (W2_of m ρ c main_v1 (by decide)))))))))

/-- The recurrence's call is entered with the branches of the first layer's rows. -/
theorem entered : Entered (V11 m ρ) c (wts m c) (gu m c) (cp0 m c) (st0 m c) where
  gu b j i := by
    have e : (V11 m ρ c main_v20 : Vec Ideal S8x8x11264 .f32) = shapeCast S8x8x11264 (V10 m ρ c main_v19) shapeCasts_S64x11264_S8x8x11264 := by
      simp only [V11, W11, hostOps6]
      after_results_simp <;> rfl
    rw [e, v19_eq]
    exact split_branches _ b j i
  cp b k i := by
    have e : (V11 m ρ c main_v29 : Vec Ideal S8x8x5632 .f32) = concatenate S8x8x5632 1 [⟨S8x5x5632, broadcastInDim S8x5x5632 ![] bcast_S_S8x5x5632
        (constant (F := Ideal) S_ .f32 0x00000000#32)⟩, ⟨S8x3x5632, V10 m ρ c main_v0⟩] concatenates_S8x5x5632_S8x3x5632_S8x8x5632_d1 := by
      simp only [V11, W11, hostOps6]
      after_results_simp <;> rfl
    exact (congrFun e _).trans ((earlier _ _ b k i).trans ((congrFun (v0_kept m ρ c) _).trans (v0_at m ρ c b k i)))
  h0 b i := by
    have e : (V11 m ρ c main_v30 : Vec Ideal S8x1x5632 .f32) = shapeCast S8x1x5632 (V10 m ρ c main_v1) shapeCasts_S8x5632_S8x1x5632 := by
      simp only [V11, W11, hostOps6]
      after_results_simp <;> rfl
    exact (congrFun e _).trans ((one_step _ b i).trans ((congrFun (v1_kept m ρ c) _).trans (v1_at m ρ c b i)))
  cw j i := by
    have e : (V11 m ρ c main_v21 : Vec Ideal S4x5632 .f32) = shapeCast S4x5632 (W10 m ρ c (Proc.devRef .tc main_arg9)) shapeCasts_S1x4x5632_S4x5632 := by
      simp only [V11, W11, hostOps6]
      after_results_simp <;> rfl
    rw [e, W10_args m ρ c main_arg9 (by simp)]
    pointwise
    rfl
  cb i := by
    have e : (V11 m ρ c main_v31 : Vec Ideal S1x5632 .f32) = shapeCast S1x5632 (shapeCast S5632 (W10 m ρ c (Proc.devRef .tc main_arg10)) shapeCasts_S1x5632_S5632) shapeCasts_S5632_S1x5632 := by
      simp only [V11, W11, hostOps6]
      after_results_simp <;> rfl
    rw [e, W10_args m ρ c main_arg10 (by simp)]
    exact channels _ i
  wa n j l := by
    have e : (V11 m ρ c main_v23 : Vec Ideal S1x22x256x256 .bf16) = truncf (F := Ideal) .bf16 (W10 m ρ c (Proc.devRef .tc main_arg11)) bitsLt_bf16_f32 := by
      simp only [V11, W11, hostOps6]
      after_results_simp <;> rfl
    rw [e, W10_args m ρ c main_arg11 (by simp)]
    rfl
  ba i := by
    have e : (V11 m ρ c main_v32 : Vec Ideal S1x5632 .f32) = shapeCast S1x5632 (shapeCast S5632 (W10 m ρ c (Proc.devRef .tc main_arg12)) shapeCasts_S1x5632_S5632) shapeCasts_S5632_S1x5632 := by
      simp only [V11, W11, hostOps6]
      after_results_simp <;> rfl
    rw [e, W10_args m ρ c main_arg12 (by simp)]
    exact channels _ i
  wi n j l := by
    have e : (V11 m ρ c main_v25 : Vec Ideal S1x22x256x256 .bf16) = truncf (F := Ideal) .bf16 (W10 m ρ c (Proc.devRef .tc main_arg13)) bitsLt_bf16_f32 := by
      simp only [V11, W11, hostOps6]
      after_results_simp <;> rfl
    rw [e, W10_args m ρ c main_arg13 (by simp)]
    rfl
  bi i := by
    have e : (V11 m ρ c main_v33 : Vec Ideal S1x5632 .f32) = shapeCast S1x5632 (shapeCast S5632 (W10 m ρ c (Proc.devRef .tc main_arg14)) shapeCasts_S1x5632_S5632) shapeCasts_S5632_S1x5632 := by
      simp only [V11, W11, hostOps6]
      after_results_simp <;> rfl
    rw [e, W10_args m ρ c main_arg14 (by simp)]
    exact channels _ i
  lam i := by
    have e : (V11 m ρ c main_v34 : Vec Ideal S1x5632 .f32) = shapeCast S1x5632 (shapeCast S5632 (W10 m ρ c (Proc.devRef .tc main_arg15)) shapeCasts_S1x5632_S5632) shapeCasts_S5632_S1x5632 := by
      simp only [V11, W11, hostOps6]
      after_results_simp <;> rfl
    rw [e, W10_args m ρ c main_arg15 (by simp)]
    exact channels _ i

theorem y_arr : V12 m ρ c main_v35_0 = outY 8 (wts m c) (gu m c) (cp0 m c) (st0 m c) := (W12_arr m ρ c 11).trans (y_eq _ _ (entered m ρ c))
theorem conv_arr : V12 m ρ c main_v35_1 = outConv 0 (gu m c) := (W12_arr m ρ c 12).trans (conv_eq _ _ (entered m ρ c))
theorem h_arr : V12 m ρ c main_v35_2 = outH 0 (wts m c) (gu m c) (cp0 m c) (st0 m c) := (W12_arr m ρ c 13).trans (h_eq _ _ (entered m ρ c))

theorem v39_eq : (V13 m ρ c main_v39 : Vec Ideal S64x5632 .bf16) = (rowsOf 8 8 fun b => gated (wts m c) (gu m c b) (cp0 m c b) (st0 m c b) : Vec Ideal S64x5632 .f32) := by
  have e : (V13 m ρ c main_v39 : Vec Ideal S64x5632 .bf16) = shapeCast S64x5632 (V12 m ρ c main_v35_0) shapeCasts_S8x8x5632_S64x5632 := by
    simp only [V13, W13, hostOps7]
    after_results_simp <;> rfl
  rw [e, y_arr]
  exact merge_gated fun b => gated (wts m c) (gu m c b) (cp0 m c b) (st0 m c b)

theorem v40_eq : (V13 m ρ c main_v40 : Vec Ideal S1x5632x4096 .bf16) = (wts m c).wout := by
  have e : (V13 m ρ c main_v40 : Vec Ideal S1x5632x4096 .bf16) = truncf (F := Ideal) .bf16 (W12 m ρ c (Proc.devRef .tc main_arg16)) bitsLt_bf16_f32 := by
    simp only [V13, W13, hostOps7]
    after_results_simp <;> rfl
  rw [e, W12_args m ρ c main_arg16 (by simp)]
  rfl

theorem v13_kept : V13 m ρ c main_v13 = V6 m ρ c main_v13 :=
  (W13_of m ρ c main_v13 (by decide)).trans ((W12_of m ρ c main_v13 (by decide)).trans ((W11_of m ρ c main_v13 (by decide)).trans
    ((W10_of m ρ c main_v13 (by decide)).trans ((W9_of m ρ c main_v13 (by decide)).trans ((W8_of m ρ c main_v13 (by decide)).trans
      (W7_of m ρ c main_v13 (by decide)))))))

theorem v41_eq : (V14 m ρ c main_v41 : Vec Ideal S64x4096 .f32) = rowsOf 8 8 (r2 m c) := by
  refine (W14_arr m ρ c 3).trans ((arr7 (V13 m ρ) c).trans ?_)
  rw [v13_kept, v13_eq, v39_eq, v40_eq]
  exact summed_rows ..

/-! ### The second feed-forward layer and the last norm -/

theorem v44_at (k : Fin 4096) : (V15 m ρ c main_v44 : Vec Ideal S1x4096 .f32) (ix2 0 k) = (wts m c).ffn (ix2 1 k) := by
  have e : (V15 m ρ c main_v44 : Vec Ideal S1x4096 .f32) = shapeCast S1x4096 (shapeCast S4096 (extractStridedSlice S1x4096 ![1, 0]
      (W14 m ρ c (Proc.devRef .tc main_arg5)) slices_S2x4096_S1x4096_1_0) shapeCasts_S1x4096_S4096) shapeCasts_S4096_S1x4096 := by
    simp only [V15, W15, hostOps8]
    after_results_simp <;> rfl
  rw [e, W14_args m ρ c main_arg5 (by simp)]
  exact row1 _ k

theorem v45_eq : (V16 m ρ c main_v45 : Vec Ideal S64x4096 .bf16) = (rowsOf 8 8 fun b t k =>
    rms (r2 m c b t) ((wts m c).ffn (ix2 1 k)) k : Vec Ideal S64x4096 .f32) := by
  refine (W16_arr m ρ c 2).trans ((arr8 (V15 m ρ) c).trans ?_)
  have h : V15 m ρ c main_v41 = V14 m ρ c main_v41 := W15_of m ρ c main_v41 (by decide)
  rw [h, v41_eq]
  exact normed_rows _ _ _ (v44_at m ρ c)

theorem v46_eq : (V17 m ρ c main_v46 : Vec Ideal S64x11008 .bf16) = (rowsOf 8 8 fun b t => hiddenRow (wts m c) 1 fun k =>
    rms (r2 m c b t) ((wts m c).ffn (ix2 1 k)) k : Vec Ideal S64x11008 .f32) := by
  refine (W17_arr m ρ c 3).trans ((arr9 (V16 m ρ) c).trans ?_)
  have h : V16 m ρ c main_arg17 = (wts m c).up := W16_args m ρ c main_arg17 (by simp)
  rw [h, v45_eq]
  exact hidden_rows ..

theorem v2_kept : V17 m ρ c main_v2 = V1 m ρ c main_v2 :=
  (W17_of m ρ c main_v2 (by decide)).trans ((W16_of m ρ c main_v2 (by decide)).trans ((W15_of m ρ c main_v2 (by decide)).trans
    ((W14_of m ρ c main_v2 (by decide)).trans ((W13_of m ρ c main_v2 (by decide)).trans ((W12_of m ρ c main_v2 (by decide)).trans
      ((W11_of m ρ c main_v2 (by decide)).trans ((W10_of m ρ c main_v2 (by decide)).trans ((W9_of m ρ c main_v2 (by decide)).trans
        ((W8_of m ρ c main_v2 (by decide)).trans ((W7_of m ρ c main_v2 (by decide)).trans ((W6_of m ρ c main_v2 (by decide)).trans
          ((W5_of m ρ c main_v2 (by decide)).trans ((W4_of m ρ c main_v2 (by decide)).trans ((W3_of m ρ c main_v2 (by decide)).trans
            (W2_of m ρ c main_v2 (by decide))))))))))))))))

theorem v47_eq : (V18 m ρ c main_v47 : Vec Ideal S64x4096 .f32) = rowsOf 8 8 fun b t => ffnRow (wts m c) 1 (r2 m c b t) := by
  refine (W18_arr m ρ c 3).trans ((arr10 (V17 m ρ) c).trans ?_)
  have h : V17 m ρ c main_v41 = V14 m ρ c main_v41 := (W17_of m ρ c main_v41 (by decide)).trans ((W16_of m ρ c main_v41 (by decide)).trans
    (W15_of m ρ c main_v41 (by decide)))
  rw [v2_kept, h, v2_eq, v41_eq, v46_eq]
  exact summed_rows ..

theorem v48_at (k : Fin 4096) : (V19 m ρ c main_v48 : Vec Ideal S1x4096 .f32) (ix2 0 k) = (wts m c).last (ix1 k) := by
  have e : (V19 m ρ c main_v48 : Vec Ideal S1x4096 .f32) = shapeCast S1x4096 (W18 m ρ c (Proc.devRef .tc main_arg6)) shapeCasts_S4096_S1x4096 := by
    simp only [V19, W19, hostOps11]
    after_results_simp <;> rfl
  rw [e, W18_args m ρ c main_arg6 (by simp)]
  pointwise
  rfl

theorem v49_eq : (V20 m ρ c main_v49 : Vec Ideal S64x4096 .f32) = rowsOf 8 8 (rOut m c) := by
  refine (W20_arr m ρ c 2).trans ((arr11 (V19 m ρ) c).trans ?_)
  have h : V19 m ρ c main_v47 = V18 m ρ c main_v47 := W19_of m ρ c main_v47 (by decide)
  rw [h, v47_eq]
  exact normed_rows _ _ _ (v48_at m ρ c)

/-! ### The results -/

/-- The layers' result at every step. -/
def resX : Vec Ideal S8x8x4096 .f32 := fun i => rOut m c (i 0) (i 1).val (i 2)
/-- The last three inputs of the recurrent branch. -/
def resConv : Vec Ideal S1x8x3x5632 .f32 := fun i => gu m c (i 1) (5 + (i 2).val) (colU (grp (i 3)) (lane (i 3)))
/-- The last state. -/
def resH : Vec Ideal S1x8x5632 .f32 := fun i => state (wts m c) (gu m c (i 1)) (cp0 m c (i 1)) (st0 m c (i 1)) (grp (i 2)) (lane (i 2)) 8

theorem last_x : W21 m ρ c (Proc.devRef .tc main_v50) = resX m c := by
  have e : (W21 m ρ c (Proc.devRef .tc main_v50) : Vec Ideal S8x8x4096 .f32) = shapeCast S8x8x4096 (V20 m ρ c main_v49) shapeCasts_S64x4096_S8x8x4096 := by
    simp only [W21, hostOps12]
    after_results_simp <;> rfl
  rw [e, v49_eq]
  funext i
  rw [show i = ix3 (n0 := 8) (n1 := 8) (n2 := 4096) (i 0) (i 1) (i 2) by blk_ext []]
  exact split_rows _ (i 0) (i 1) (i 2)

theorem last_conv : W21 m ρ c (Proc.devRef .tc main_v51) = resConv m c := by
  have e : (W21 m ρ c (Proc.devRef .tc main_v51) : Vec Ideal S1x8x3x5632 .f32) = broadcastInDim S1x8x3x5632 ![1, 2, 3] bcast_S8x3x5632_S1x8x3x5632_1_2_3
      (V20 m ρ c main_v36) := by
    simp only [W21, hostOps12]
    after_results_simp <;> rfl
  have h : V20 m ρ c main_v36 = V13 m ρ c main_v36 := (W20_of m ρ c main_v36 (by decide)).trans ((W19_of m ρ c main_v36 (by decide)).trans
    ((W18_of m ρ c main_v36 (by decide)).trans ((W17_of m ρ c main_v36 (by decide)).trans ((W16_of m ρ c main_v36 (by decide)).trans
      ((W15_of m ρ c main_v36 (by decide)).trans (W14_of m ρ c main_v36 (by decide)))))))
  have e' : (V13 m ρ c main_v36 : Vec Ideal S8x3x5632 .f32) = extractStridedSlice S8x3x5632 ![0, 5, 0] (V12 m ρ c main_v35_1) slices_S8x8x5632_S8x3x5632_0_5_0 := by
    simp only [V13, W13, hostOps7]
    after_results_simp <;> rfl
  rw [e, h, e', conv_arr]
  funext i
  rw [show i = ix4 (n0 := 1) (n1 := 8) (n2 := 3) (n3 := 5632) 0 (i 1) (i 2) (i 3) by blk_ext []]
  generalize (i 1 : Fin 8) = b
  generalize (i 2 : Fin 3) = k
  generalize (i 3 : Fin 5632) = l
  unfold resConv outConv
  pointwise

theorem last_h : W21 m ρ c (Proc.devRef .tc main_v52) = resH m c := by
  have e : (W21 m ρ c (Proc.devRef .tc main_v52) : Vec Ideal S1x8x5632 .f32) = broadcastInDim S1x8x5632 ![1, 2] bcast_S8x5632_S1x8x5632_1_2 (V20 m ρ c main_v38) := by
    simp only [W21, hostOps12]
    after_results_simp <;> rfl
  have h : V20 m ρ c main_v38 = V13 m ρ c main_v38 := (W20_of m ρ c main_v38 (by decide)).trans ((W19_of m ρ c main_v38 (by decide)).trans
    ((W18_of m ρ c main_v38 (by decide)).trans ((W17_of m ρ c main_v38 (by decide)).trans ((W16_of m ρ c main_v38 (by decide)).trans
      ((W15_of m ρ c main_v38 (by decide)).trans (W14_of m ρ c main_v38 (by decide)))))))
  have e' : (V13 m ρ c main_v38 : Vec Ideal S8x5632 .f32) = shapeCast S8x5632 (extractStridedSlice S8x1x5632 ![0, 7, 0] (V12 m ρ c main_v35_2)
      slices_S8x8x5632_S8x1x5632_0_7_0) shapeCasts_S8x1x5632_S8x5632 := by
    simp only [V13, W13, hostOps7]
    after_results_simp <;> rfl
  rw [e, h, e', h_arr]
  funext i
  rw [show i = ix3 (n0 := 1) (n1 := 8) (n2 := 5632) 0 (i 1) (i 2) by blk_ext []]
  generalize (i 1 : Fin 8) = b
  generalize (i 2 : Fin 5632) = l
  unfold resH outH
  pointwise

end Cert.Layers.Sample

end
-- ==== Proof.SampleRefTerms.lean ====
/-
  The samples' reference, stretch by stretch, as terms of the arrays each stretch reads.
-/
module

public import proofs.«01_k».proof.Proof.Gen.SampleReferenceIdeal
public import proofs.«01_k».proof.Proof.Gen.SampleReferenceIdeal.Run
public import proofs.«01_k».proof.Proof.RefParts

@[expose] public section

set_option maxRecDepth 16384

noncomputable section

namespace Cert.Layers.SampleRef

open Idealize.ShloMosaic Idealize.ShloMosaic.TcCoe Idealize.ShloMosaic.Tactic Idealize.ShloMosaic.StableHlo
open Cert.SampleReferenceIdeal Cert.SampleReferenceIdeal.Gen Cert.SampleReferenceIdeal.Value

/-! ### Terms -/

/-- A number for every row. -/
def litRow (w : BitVec 32) : FVec Ideal S8x8x1 .f32 := broadcastInDim S8x8x1 ![] bcast_S_S8x8x1 (constant S_ .f32 w)

/-- The norm of the rows, scaled by `g`. -/
def normT (x : FVec Ideal S8x8x4096 .f32) (g : FVec Ideal S4096 .f32) : FVec Ideal S8x8x4096 .f32 :=
  mulf (mulf x (broadcastInDim S8x8x4096 ![0, 1, 2] bcast_S8x8x1_S8x8x4096_0_1_2 (Host.rsqrt (addf (Host.divf
      (broadcastInDim S8x8x1 ![0, 1] bcast_S8x8_S8x8x1_0_1 (Host.reduceAdd (mulf x x) (constant S_ .f32 0x00000000#32) reducesTo_S8x8x4096_S8x8_d2 h_S_))
      (litRow 0x45800000#32)) (litRow 0x358637BD#32)))))
    (broadcastInDim S8x8x4096 ![0, 1, 2] bcast_S1x1x4096_S8x8x4096_0_1_2 (broadcastInDim S1x1x4096 ![2] bcast_S4096_S1x1x4096_2 g))

/-- The rows plus the attention's rows projected. -/
def attT (o : FVec Ideal S8x8x4096 .f32) (x : FVec Ideal S8x8x4096 .f32) (w : FVec Ideal S1x4096x4096 .f32) : FVec Ideal S8x8x4096 .f32 :=
  addf x (Host.dotGeneral (F := Ideal) (φ₂ := .f32) dot_S8x8x4096_S4096x4096_S8x8x4096_2_0_01_1_n_n none o (shapeCast S4096x4096 w shapeCasts_S1x4096x4096_S4096x4096))

/-- The up projection. -/
def upT (n : FVec Ideal S8x8x4096 .f32) (w : FVec Ideal S4096x22016 .f32) : FVec Ideal S8x8x22016 .f32 :=
  Host.dotGeneral (F := Ideal) (φ₂ := .f32) dot_S8x8x4096_S4096x22016_S8x8x22016_2_0_01_1_n_n none n w
/-- The two halves of the up projection. -/
def halfG (u : FVec Ideal S8x8x22016 .f32) : FVec Ideal S8x8x11008 .f32 := extractStridedSlice S8x8x11008 ![0, 0, 0] u slices_S8x8x22016_S8x8x11008_0_0_0
def halfU (u : FVec Ideal S8x8x22016 .f32) : FVec Ideal S8x8x11008 .f32 := extractStridedSlice S8x8x11008 ![0, 0, 11008] u slices_S8x8x22016_S8x8x11008_0_0_11008

/-- The rows plus the down projection of the hidden rows. -/
def downT (x : FVec Ideal S8x8x4096 .f32) (h : FVec Ideal S8x8x11008 .f32) (w : FVec Ideal S11008x4096 .f32) : FVec Ideal S8x8x4096 .f32 :=
  addf x (Host.dotGeneral (F := Ideal) (φ₂ := .f32) dot_S8x8x11008_S11008x4096_S8x8x4096_2_0_01_1_n_n none h w)

/-- The two branches of the recurrent layer. -/
def guT (x : FVec Ideal S8x8x4096 .f32) (g : FVec Ideal S2x4096 .f32) (w : FVec Ideal S1x4096x11264 .f32) : FVec Ideal S8x8x11264 .f32 :=
  Host.dotGeneral (F := Ideal) (φ₂ := .f32) dot_S8x8x4096_S4096x11264_S8x8x11264_2_0_01_1_n_n none (normT x (scale1 g)) (shapeCast S4096x11264 w shapeCasts_S1x4096x11264_S4096x11264)

def branchG (u : FVec Ideal S8x8x11264 .f32) : FVec Ideal S8x8x5632 .f32 := extractStridedSlice S8x8x5632 ![0, 0, 0] u slices_S8x8x11264_S8x8x5632_0_0_0

/-- The three earlier inputs followed by the inputs. -/
def extT (gu : FVec Ideal S8x8x11264 .f32) (cp : FVec Ideal S8x3x5632 .f32) : FVec Ideal S8x11x5632 .f32 :=
  concatenate S8x11x5632 1 [⟨S8x3x5632, cp⟩, ⟨S8x8x5632, (extractStridedSlice S8x8x5632 ![0, 0, 5632] gu slices_S8x8x11264_S8x8x5632_0_0_5632)⟩] concatenates_S8x3x5632_S8x8x5632_S8x11x5632_d1

/-- A vector over channels at every batch row and time. -/
def overRows (b : FVec Ideal S5632 .f32) : FVec Ideal S8x8x5632 .f32 :=
  broadcastInDim S8x8x5632 ![0, 1, 2] bcast_S1x1x5632_S8x8x5632_0_1_2 (broadcastInDim S1x1x5632 ![2] bcast_S5632_S1x1x5632_2 b)

/-- The causal convolution of the extended rows. -/
def convT (e : FVec Ideal S8x11x5632 .f32) (cw : FVec Ideal S1x4x5632 .f32) (cb : FVec Ideal S1x5632 .f32) : FVec Ideal S8x8x5632 .f32 :=
  let w : FVec Ideal S4x5632 .f32 := shapeCast S4x5632 cw shapeCasts_S1x4x5632_S4x5632
  addf (addf (addf (addf (overRows (flat cb))
    (mulf (extractStridedSlice S8x8x5632 ![0, 0, 0] e slices_S8x11x5632_S8x8x5632_0_0_0)
      (overRows (flat (extractStridedSlice S1x5632 ![0, 0] w slices_S4x5632_S1x5632_0_0)))))
    (mulf (extractStridedSlice S8x8x5632 ![0, 1, 0] e slices_S8x11x5632_S8x8x5632_0_1_0)
      (overRows (flat (extractStridedSlice S1x5632 ![1, 0] w slices_S4x5632_S1x5632_1_0)))))
    (mulf (extractStridedSlice S8x8x5632 ![0, 2, 0] e slices_S8x11x5632_S8x8x5632_0_2_0)
      (overRows (flat (extractStridedSlice S1x5632 ![2, 0] w slices_S4x5632_S1x5632_2_0)))))
    (mulf (extractStridedSlice S8x8x5632 ![0, 3, 0] e slices_S8x11x5632_S8x8x5632_0_3_0)
      (overRows (flat (extractStridedSlice S1x5632 ![3, 0] w slices_S4x5632_S1x5632_3_0))))

/-- A gate's argument from the convolution `u`, the gate's weights and bias. -/
def gateT (u : FVec Ideal S8x8x5632 .f32) (w : FVec Ideal S1x22x256x256 .f32) (b : FVec Ideal S1x5632 .f32) : FVec Ideal S8x8x5632 .f32 :=
  addf (shapeCast S8x8x5632 (transpose S8x8x22x256 [2, 3, 0, 1]
      (Host.dotGeneral (F := Ideal) (φ₁ := .f32) (φ₂ := .f32) dot_S22x256x256_S8x8x22x256_S22x256x8x8_1_3_2_01_0_2 none
        (shapeCast S22x256x256 w shapeCasts_S1x22x256x256_S22x256x256) (shapeCast S8x8x22x256 u shapeCasts_S8x8x5632_S8x8x22x256))
      transposes_S22x256x8x8_S8x8x22x256_2_3_0_1) shapeCasts_S8x8x22x256_S8x8x5632) (overRows (flat b))

/-- The logarithm of the decay, from −8 times the gate and the softplus. -/
def logT (r : FVec Ideal S8x8x5632 .f32) (s : FVec Ideal S5632 .f32) : FVec Ideal S8x8x5632 .f32 := mulf r (overRows s)

/-- The rows by time first, and the states by batch row first. -/
def timeFirst (x : FVec Ideal S8x8x5632 .f32) : FVec Ideal S8x8x5632 .f32 := transpose S8x8x5632 [1, 0, 2] x transposes_S8x8x5632_S8x8x5632_1_0_2
def batchFirst (x : FVec Ideal S8x8x5632 .f32) : FVec Ideal S8x8x5632 .f32 := transpose S8x8x5632 [1, 0, 2] x transposes_S8x8x5632_S8x8x5632_1_0_2

/-- The rows plus the recurrent layer's output projection. -/
def recT (x : FVec Ideal S8x8x4096 .f32) (y : FVec Ideal S8x8x5632 .f32) (w : FVec Ideal S5632x4096 .f32) : FVec Ideal S8x8x4096 .f32 :=
  addf x (Host.dotGeneral (F := Ideal) (φ₂ := .f32) dot_S8x8x5632_S5632x4096_S8x8x4096_2_0_01_1_n_n none y w)

/-! ### The stretches -/

variable (V : Valuation τ sig (Elt Ideal))

set_option maxHeartbeats 4000000

theorem s0_v4 : after hostOps0 V (Proc.devRef .tc main_v4) = attT (V (Proc.devRef .tc main_arg0)) (V (Proc.devRef .tc main_arg1)) (V (Proc.devRef .tc main_arg7)) := by
  after_reads_simp
  rfl

theorem s0_v25 : after hostOps0 V (Proc.devRef .tc main_v25) = halfG (upT (normT (attT (V (Proc.devRef .tc main_arg0)) (V (Proc.devRef .tc main_arg1)) (V (Proc.devRef .tc main_arg7)))
    (scale0 (V (Proc.devRef .tc main_arg5)))) (up0 (V (Proc.devRef .tc main_arg17)))) := by
  after_reads_simp
  rfl

theorem s0_v26 : after hostOps0 V (Proc.devRef .tc main_v26) = halfU (upT (normT (attT (V (Proc.devRef .tc main_arg0)) (V (Proc.devRef .tc main_arg1)) (V (Proc.devRef .tc main_arg7)))
    (scale0 (V (Proc.devRef .tc main_arg5)))) (up0 (V (Proc.devRef .tc main_arg17)))) := by
  after_reads_simp
  rfl

theorem s0_v23 : after hostOps0 V (Proc.devRef .tc main_v23) = down0 (V (Proc.devRef .tc main_arg18)) := by
  after_reads_simp
  rfl

theorem s0_v0 : after hostOps0 V (Proc.devRef .tc main_v0) = shapeCast S8x3x5632 (V (Proc.devRef .tc main_arg2)) shapeCasts_S1x8x3x5632_S8x3x5632 := by
  after_reads_simp
  rfl

theorem s0_v1 : after hostOps0 V (Proc.devRef .tc main_v1) = shapeCast S8x5632 (V (Proc.devRef .tc main_arg3)) shapeCasts_S1x8x5632_S8x5632 := by
  after_reads_simp
  rfl

theorem s1_v27 : after hostOps0_1 V (Proc.devRef .tc main_v27) = siluT (V (Proc.devRef .tc main_v25)) := by
  after_reads_simp
  rfl

theorem s2_v30 : after hostOps0_2 V (Proc.devRef .tc main_v30)
    = downT (V (Proc.devRef .tc main_v4)) (mulf (F := Ideal) (φ := .f32) (V (Proc.devRef .tc main_v27)) (V (Proc.devRef .tc main_v26))) (V (Proc.devRef .tc main_v23)) := by
  after_reads_simp
  rfl

/-- The rows that enter the recurrent layer. -/
abbrev rowsIn : FVec Ideal S8x8x4096 .f32 :=
  downT (V (Proc.devRef .tc main_v4)) (mulf (F := Ideal) (φ := .f32) (V (Proc.devRef .tc main_v27)) (V (Proc.devRef .tc main_v26))) (V (Proc.devRef .tc main_v23))
abbrev guIn : FVec Ideal S8x8x11264 .f32 := guT (rowsIn V) (V (Proc.devRef .tc main_arg4)) (V (Proc.devRef .tc main_arg8))
abbrev extIn : FVec Ideal S8x11x5632 .f32 := extT (guIn V) (V (Proc.devRef .tc main_v0))
abbrev convIn : FVec Ideal S8x8x5632 .f32 := convT (extIn V) (V (Proc.devRef .tc main_arg9)) (V (Proc.devRef .tc main_arg10))

theorem s2_v56 : after hostOps0_2 V (Proc.devRef .tc main_v56) = branchG (guIn V) := by
  after_reads_simp
  rfl

theorem s2_v58 : after hostOps0_2 V (Proc.devRef .tc main_v58) = extIn V := by
  after_reads_simp
  rfl

theorem s2_v54 : after hostOps0_2 V (Proc.devRef .tc main_v54) = shapeCast S5632x4096 (V (Proc.devRef .tc main_arg16)) shapeCasts_S1x5632x4096_S5632x4096 := by
  after_reads_simp
  rfl

theorem s2_v88 : after hostOps0_2 V (Proc.devRef .tc main_v88) = convIn V := by
  after_reads_simp
  rfl

theorem s2_v113 : after hostOps0_2 V (Proc.devRef .tc main_v113) = sigT (gateT (convIn V) (V (Proc.devRef .tc main_arg13)) (V (Proc.devRef .tc main_arg14))) := by
  after_reads_simp
  rfl

theorem s2_v115 : after hostOps0_2 V (Proc.devRef .tc main_v115)
    = mulf (lit 0xC1000000#32) (sigT (gateT (convIn V) (V (Proc.devRef .tc main_arg11)) (V (Proc.devRef .tc main_arg12)))) := by
  after_reads_simp
  rfl

theorem s2_v116 : after hostOps0_2 V (Proc.devRef .tc main_v116) = Host.negf (F := Ideal) (φ := .f32) (flat (V (Proc.devRef .tc main_arg15))) := by
  after_reads_simp
  rfl

theorem s3_v117 : after hostOps0_3 V (Proc.devRef .tc main_v117) = softT (V (Proc.devRef .tc main_v116)) := by
  after_reads_simp
  rfl

theorem s4_a : after hostOps0_4 V (Proc.devRef .tc main_v132_0)
    = timeFirst (Host.exp (logT (V (Proc.devRef .tc main_v115)) (V (Proc.devRef .tc main_v117)))) := by
  after_reads_simp
  rfl

theorem s4_b : after hostOps0_4 V (Proc.devRef .tc main_v132_1)
    = timeFirst (inT (logT (V (Proc.devRef .tc main_v115)) (V (Proc.devRef .tc main_v117))) (V (Proc.devRef .tc main_v113)) (V (Proc.devRef .tc main_v88))) := by
  after_reads_simp
  rfl

theorem s4_h : after hostOps0_4 V (Proc.devRef .tc main_v132_3) = V (Proc.devRef .tc main_v1) := by
  after_reads_simp
  rfl

/-- The rows after the recurrent layer. -/
abbrev rowsRec : FVec Ideal S8x8x4096 .f32 :=
  recT (V (Proc.devRef .tc main_v30)) (gatedT (batchFirst (V (Proc.devRef .tc main_v132_4))) (V (Proc.devRef .tc main_v56))) (V (Proc.devRef .tc main_v54))

theorem s5_v149 : after hostOps0_5 V (Proc.devRef .tc main_v149) = extractStridedSlice S8x3x5632 ![0, 8, 0] (V (Proc.devRef .tc main_v58)) slices_S8x11x5632_S8x3x5632_0_8_0 := by
  after_reads_simp

theorem s5_v151 : after hostOps0_5 V (Proc.devRef .tc main_v151) = shapeCast S8x5632 (extractStridedSlice S8x1x5632 ![0, 7, 0] (batchFirst (V (Proc.devRef .tc main_v132_4)))
    slices_S8x8x5632_S8x1x5632_0_7_0) shapeCasts_S8x1x5632_S8x5632 := by
  after_reads_simp
  rfl

theorem s5_v152 : after hostOps0_5 V (Proc.devRef .tc main_v152) = rowsRec V := by
  after_reads_simp
  rfl

theorem s5_v173 : after hostOps0_5 V (Proc.devRef .tc main_v173)
    = halfG (upT (normT (rowsRec V) (scale1 (V (Proc.devRef .tc main_arg5)))) (up1 (V (Proc.devRef .tc main_arg17)))) := by
  after_reads_simp
  rfl

theorem s5_v174 : after hostOps0_5 V (Proc.devRef .tc main_v174)
    = halfU (upT (normT (rowsRec V) (scale1 (V (Proc.devRef .tc main_arg5)))) (up1 (V (Proc.devRef .tc main_arg17)))) := by
  after_reads_simp
  rfl

theorem s5_v171 : after hostOps0_5 V (Proc.devRef .tc main_v171) = down1 (V (Proc.devRef .tc main_arg18)) := by
  after_reads_simp
  rfl

theorem s6_v175 : after hostOps0_6 V (Proc.devRef .tc main_v175) = siluT (V (Proc.devRef .tc main_v173)) := by
  after_reads_simp
  rfl

theorem s7_v191 : after hostOps0_7 V (Proc.devRef .tc main_v191)
    = normT (downT (V (Proc.devRef .tc main_v152)) (mulf (F := Ideal) (φ := .f32) (V (Proc.devRef .tc main_v175)) (V (Proc.devRef .tc main_v174))) (V (Proc.devRef .tc main_v171)))
      (V (Proc.devRef .tc main_arg6)) := by
  after_reads_simp
  rfl

theorem s7_v192 : after hostOps0_7 V (Proc.devRef .tc main_v192) = broadcastInDim S1x8x3x5632 ![1, 2, 3] bcast_S8x3x5632_S1x8x3x5632_1_2_3 (V (Proc.devRef .tc main_v149)) := by
  after_reads_simp

theorem s7_v193 : after hostOps0_7 V (Proc.devRef .tc main_v193) = broadcastInDim S1x8x5632 ![1, 2] bcast_S8x5632_S1x8x5632_1_2 (V (Proc.devRef .tc main_v151)) := by
  after_reads_simp

end Cert.Layers.SampleRef

end
-- ==== Proof.SampleRefAt.lean ====
/-
  The terms of the samples' reference at an index: they are the layers' functions.
-/
module

public import proofs.«01_k».proof.Proof.SampleRefTerms
public import proofs.«01_k».proof.Proof.Layers

@[expose] public section

set_option maxRecDepth 16384

noncomputable section

namespace Cert.Layers.SampleRef

open Idealize.ShloMosaic Idealize.ShloMosaic.TcCoe Idealize.ShloMosaic.Tactic
open Cert.SampleReferenceIdeal Cert.SampleReferenceIdeal.Gen Cert.SampleReferenceIdeal.Value
open Cert.Dense Cert.Rglru

/-- The array holds the rows `f`. -/
def Holds {C : ℕ} (a : Vec Ideal ⟨3, ![8, 8, C]⟩ .f32) (f : Fin 8 → ℕ → Fin C → EReal) : Prop :=
  ∀ (b : Fin 8) (t : Fin 8) (k : Fin C), a (ix3 b t k) = f b t.val k

theorem ofNat_val (t : Fin 8) : (Fin.ofNat 8 t.val : Fin 8) = t := Fin.ext (Nat.mod_eq_of_lt t.isLt)

/-! ### The dense layers -/

section

theorem normT_at (x : FVec Ideal S8x8x4096 .f32) (g : FVec Ideal S4096 .f32) (b : Fin 8) (t : Fin 8) (k : Fin 4096) :
    normT x g (ix3 b t k) = rms (fun l => x (ix3 b t l)) (g (ix1 k)) k := by
  unfold normT rms
  pointwise [litRow]

theorem norm_holds {x : FVec Ideal S8x8x4096 .f32} {f : Fin 8 → ℕ → Row} (h : Holds x f) (g : FVec Ideal S4096 .f32) (g' : Row) (hg : ∀ k, g (ix1 k) = g' k) :
    Holds (normT x g) fun b t k => rms (f b t) (g' k) k := fun b t k => by
  rw [normT_at, hg]
  exact congrArg (fun r => rms r (g' k) k) (funext fun l => h b t l)

theorem attT_at (o : FVec Ideal S8x8x4096 .f32) (x : FVec Ideal S8x8x4096 .f32) (w : FVec Ideal S1x4096x4096 .f32) (b : Fin 8) (t : Fin 8) (k : Fin 4096) :
    attT o x w (ix3 b t k) = x (ix3 b t k) + dot (fun j => o (ix3 b t j)) fun j => w (ix3 0 j k) := by
  unfold attT dot
  pointwise

theorem upT_at (n : FVec Ideal S8x8x4096 .f32) (w : FVec Ideal S4096x22016 .f32) (b : Fin 8) (t : Fin 8) (j : Fin 22016) :
    upT n w (ix3 b t j) = dot (fun k => n (ix3 b t k)) fun k => w (ix2 k j) := by
  unfold upT dot
  pointwise

/-- The gated product at an index, from the up projection. -/
theorem swiglu_at (u : FVec Ideal S8x8x22016 .f32) (b : Fin 8) (t : Fin 8) (j : Fin 11008) :
    mulf (F := Ideal) (φ := .f32) (siluT (halfG u)) (halfU u) (ix3 b t j) = swiglu (u (ix3 b t (upG j))) (u (ix3 b t (upU j))) := by
  have e1 : halfG u (ix3 b t j) = u (ix3 b t (upG j)) := by
    unfold halfG
    pointwise [upG]
  have e2 : halfU u (ix3 b t j) = u (ix3 b t (upU j)) := by
    unfold halfU
    pointwise [upU]
  rw [← e1, ← e2]
  exact siluT_at (halfG u) (halfU u) (ix3 b t j)

theorem downT_at (x : FVec Ideal S8x8x4096 .f32) (h : FVec Ideal S8x8x11008 .f32) (w : FVec Ideal S11008x4096 .f32) (b : Fin 8) (t : Fin 8) (k : Fin 4096) :
    downT x h w (ix3 b t k) = x (ix3 b t k) + dot (fun j => h (ix3 b t j)) fun j => w (ix2 j k) := by
  unfold downT dot
  pointwise

theorem recT_at (x : FVec Ideal S8x8x4096 .f32) (y : FVec Ideal S8x8x5632 .f32) (w : FVec Ideal S1x5632x4096 .f32) (b : Fin 8) (t : Fin 8) (k : Fin 4096) :
    recT x y (shapeCast S5632x4096 w shapeCasts_S1x5632x4096_S5632x4096) (ix3 b t k) = x (ix3 b t k) + dot (fun j => y (ix3 b t j)) fun j => w (ix3 0 j k) := by
  unfold recT dot
  pointwise

theorem guT_at (x : FVec Ideal S8x8x4096 .f32) (g : FVec Ideal S2x4096 .f32) (w : FVec Ideal S1x4096x11264 .f32) (b : Fin 8) (t : Fin 8) (j : Fin 11264) :
    guT x g w (ix3 b t j) = dot (fun k => normT x (scale1 g) (ix3 b t k)) fun k => w (ix3 0 k j) := by
  unfold guT
  generalize normT x (scale1 g) = n
  unfold dot
  pointwise

end

section

variable (w : Weights)

theorem att_holds (o : FVec Ideal S8x8x4096 .f32) (x : FVec Ideal S8x8x4096 .f32) :
    Holds (attT o x w.wo) fun b t => attended w (seq (B := 8) (T := 8) (C := 4096) o b t) (seq (B := 8) (T := 8) x b t) := fun b t k => by
  rw [attT_at]
  unfold attended seq
  simp only [ofNat_val]

/-- A feed-forward layer, from its scale and its slices of the weights. -/
theorem ffn_holds (L : Fin 2) {x : FVec Ideal S8x8x4096 .f32} {f : Fin 8 → ℕ → Row} (h : Holds x f) (g : FVec Ideal S4096 .f32) (hg : ∀ k, g (ix1 k) = w.ffn (ix2 L k))
    (u : FVec Ideal S4096x22016 .f32) (hu : ∀ k j, u (ix2 k j) = w.up (ix3 L k j)) (d : FVec Ideal S11008x4096 .f32) (hd : ∀ k j, d (ix2 k j) = w.down (ix3 L k j)) :
    Holds (downT x (mulf (F := Ideal) (φ := .f32) (siluT (halfG (upT (normT x g) u))) (halfU (upT (normT x g) u))) d) fun b t => ffnRow w L (f b t) := fun b t k => by
  have hn := norm_holds h g (fun k => w.ffn (ix2 L k)) hg
  have e : ∀ j, upT (normT x g) u (ix3 b t j) = dot (fun l => rms (f b t.val) (w.ffn (ix2 L l)) l) fun k => w.up (ix3 L k j) := fun j => by
    rw [upT_at]
    exact congrArg₂ dot (funext fun l => hn b t l) (funext fun k => hu k j)
  rw [downT_at, h b t k]
  unfold ffnRow hiddenRow
  refine congrArg (_ + ·) (congrArg₂ dot (funext fun j => ?_) (funext fun j => hd j k))
  rw [swiglu_at, e, e]

theorem gu_holds {x : FVec Ideal S8x8x4096 .f32} {f : Fin 8 → ℕ → Row} (h : Holds x f) : Holds (guT x w.mix w.win) fun b t => branches w (f b t) := fun b t j => by
  have hn := norm_holds h (scale1 w.mix) (fun k => w.mix (ix2 1 k)) (scale1_at _)
  rw [guT_at]
  exact congrArg (fun r => dot r _) (funext fun k => hn b t k)

end

/-! ### The recurrent layer -/

theorem overRows_at (v : FVec Ideal S5632 .f32) (b : Fin 8) (t : Fin 8) (j : Fin 5632) : overRows v (ix3 b t j) = v (ix1 j) := by
  unfold overRows
  pointwise

theorem gateT_at (u : FVec Ideal S8x8x5632 .f32) (w : Vec Ideal S1x22x256x256 .f32) (bias : Vec Ideal S1x5632 .f32)
    (b : Fin 8) (t : Fin 8) (n : Fin 22) (l : Fin 256) :
    gateT u w bias (ix3 b t (col n l)) = (∑ x, u (ix3 b t (col n x)) * w (ix4 0 n x l)) + bias (ix2 0 (col n l)) := by
  rw [← flat_at bias]
  unfold gateT
  generalize flat bias = bias
  pointwise [overRows]
  have e1 : (⟨(col n l).val / 256, by omega⟩ : Fin 22) = n :=
    Fin.ext (by show (n.val * 256 + l.val) / 256 = n.val; omega)
  have e2 : (⟨(col n l).val % 256, by omega⟩ : Fin 256) = l :=
    Fin.ext (by show (n.val * 256 + l.val) % 256 = l.val; omega)
  have e3 : ∀ x : Fin 256, (⟨(col n l).val / 256 * 256 + x.val, by have := (col n l).isLt; omega⟩ : Fin 5632) = col n x := fun x =>
    Fin.ext (by show (n.val * 256 + l.val) / 256 * 256 + x.val = n.val * 256 + x.val; omega)
  refine congrArg (· + _) (Finset.sum_congr rfl fun x _ => ?_)
  rw [e1, e2, e3, mul_comm]

section

variable (w : Weights) (gu : FVec Ideal S8x8x11264 .f32) (cp : FVec Ideal S8x3x5632 .f32)

/-- The branches and the earlier inputs of batch row `b`. -/
abbrev guOf (b : Fin 8) : ℕ → Fin 11264 → EReal := seq (B := 8) (T := 8) gu b
abbrev cpOf (b : Fin 8) (k : Fin 3) (i : Fin 5632) : EReal := cp (ix3 b k i)

theorem extT_at (b : Fin 8) (k : Fin 11) (n : Fin 22) (l : Fin 256) :
    extT gu cp (ix3 b k (col n l)) = uRow (guOf gu b) (cpOf cp b) n k.val l := by
  unfold extT uRow guOf cpOf seq
  pointwise
  by_cases h : k.val < 3
  · have e : (Fin.ofNat 3 k.val : Fin 3) = ⟨k.val, h⟩ := Fin.ext (Nat.mod_eq_of_lt h)
    rw [dif_pos h, if_pos h, e]
  · have e : (Fin.ofNat 8 (k.val - 3) : Fin 8) = ⟨k.val - 3, by omega⟩ := Fin.ext (Nat.mod_eq_of_lt (by omega))
    have e' : (⟨5632 + (col n l).val, by omega⟩ : Fin 11264) = colU n l :=
      Fin.ext (by show 5632 + (n.val * 256 + l.val) = (n.val + 22) * 256 + l.val; omega)
    rw [dif_neg h, if_neg h, e, e']

theorem convT_at (b : Fin 8) (t : Fin 8) (n : Fin 22) (l : Fin 256) :
    convT (extT gu cp) w.cw w.cb (ix3 b t (col n l)) = uConv w (guOf gu b) (cpOf cp b) n t.val l := by
  unfold uConv
  have e := extT_at gu cp b
  have e0 := e ⟨t.val, by omega⟩ n l
  have e1 := e ⟨t.val + 1, by omega⟩ n l
  have e2 := e ⟨t.val + 2, by omega⟩ n l
  have e3 := e ⟨t.val + 3, by omega⟩ n l
  simp only at e0 e1 e2 e3
  rw [← e0, ← e1, ← e2, ← e3]
  generalize extT gu cp = x
  unfold convT
  pointwise [overRows, flat]
  simp only [Nat.add_comm _ t.val]

theorem gate_at (m : Vec Ideal S1x22x256x256 .f32) (bias : Vec Ideal S1x5632 .f32) (b : Fin 8) (t : Fin 8) (n : Fin 22) (l : Fin 256) :
    gateT (convT (extT gu cp) w.cw w.cb) m bias (ix3 b t (col n l)) = gate w (guOf gu b) (cpOf cp b) m bias n t.val l := by
  rw [gateT_at]
  unfold gate
  simp only [convT_at]

/-- The logarithms of the decays, from the reference's terms. -/
abbrev logs : FVec Ideal S8x8x5632 .f32 :=
  logT (mulf (lit 0xC1000000#32) (sigT (gateT (convT (extT gu cp) w.cw w.cb) w.wa w.ba))) (softT (Host.negf (F := Ideal) (φ := .f32) (flat w.lam)))

theorem logs_at (b : Fin 8) (t : Fin 8) (n : Fin 22) (l : Fin 256) :
    logs w gu cp (ix3 b t (col n l)) = logDec w (guOf gu b) (cpOf cp b) n t.val l := by
  have e1 := sigT_at (gateT (convT (extT gu cp) w.cw w.cb) w.wa w.ba) (ix3 b t (col n l))
  rw [gate_at] at e1
  have e2 := overRows_at (softT (Host.negf (flat w.lam))) b t (col n l)
  rw [softT_at, flat_at] at e2
  unfold logs logT logDec logDecay
  refine (congrArg₂ (· * ·) (congrArg₂ (· * ·) (lit_at _ (ix3 b t (col n l))) e1) e2).trans ?_
  rfl

theorem added_at (b : Fin 8) (t : Fin 8) (n : Fin 22) (l : Fin 256) :
    inT (logs w gu cp) (sigT (gateT (convT (extT gu cp) w.cw w.cb) w.wi w.bi)) (convT (extT gu cp) w.cw w.cb) (ix3 b t (col n l))
      = added w (guOf gu b) (cpOf cp b) n t.val l := by
  have e1 := sigT_at (gateT (convT (extT gu cp) w.cw w.cb) w.wi w.bi) (ix3 b t (col n l))
  rw [gate_at] at e1
  have e3 := logs_at w gu cp b t n l
  have e4 := convT_at w gu cp b t n l
  unfold added scaledIn
  rw [scale_eq (by unfold logDec; exact logDecay_nonpos _ _), ← e3, ← e4, ← e1]
  generalize logs w gu cp = p
  generalize sigT _ = q
  generalize convT _ _ _ = r
  unfold inT
  pointwise [lit]

end

end Cert.Layers.SampleRef

end
-- ==== Proof.SampleRefLoop.lean ====
/-
  The reference's loop: after `k` trips it holds the state before step `k`, and the states of all steps before it.
-/
module

public import proofs.«01_k».proof.Proof.SampleRefTerms
public import proofs.«01_k».proof.Proof.Scan
public import Idealize.ShloMosaic.Lib.DynamicIndex
public import Idealize.ShloMosaic.Lib.Pipeline.Value

@[expose] public section

set_option maxRecDepth 16384

noncomputable section

namespace Cert.Layers.SampleRef

open Idealize.ShloMosaic Idealize.ShloMosaic.TcCoe Idealize.ShloMosaic.Tactic Idealize.ShloMosaic.StableHlo
open Cert.SampleReferenceIdeal Cert.SampleReferenceIdeal.Gen Cert.SampleReferenceIdeal.Value
open Cert.Rglru

/-- The start of the slice that trip `k` takes. -/
abbrev startAt (ctr : IVec S_ 32) : Fin 3 → Int :=
  fun a => (((![ctr, constantI S_ 32 0#32, constantI S_ 32 0#32] : Fin 3 → IVec S_ 32)) a (Shape.Idx.first h_S_)).toInt

theorem startAt_eq {ctr : IVec S_ 32} {k : ℕ} (hk : k < 8) (hc : ctr = fun _ => BitVec.ofNat 32 k) (a : Fin 3) :
    startAt ctr a = ((![k, 0, 0] : Fin 3 → Nat) a : Int) := by
  have h0 : (BitVec.ofNat 32 k).toInt = (k : Int) := by
    have hn : (BitVec.ofNat 32 k).toNat = k := by rw [BitVec.toNat_ofNat]; exact Nat.mod_eq_of_lt (by omega)
    rw [BitVec.toInt_eq_toNat_of_lt (by rw [hn]; omega), hn]
  subst hc
  match a with
  | ⟨0, _⟩ => exact h0
  | ⟨1, _⟩ => rfl
  | ⟨2, _⟩ => rfl

/-- Trip `k` reads row `k`. -/
theorem read_row (X : FVec Ideal S8x8x5632 .f32) {ctr : IVec S_ 32} (k : Fin 8) (hc : ctr = fun _ => BitVec.ofNat 32 k.val)
    (b : Fin 8) (j : Fin 5632) :
    shapeCast S8x5632 (Host.dynamicSlice S1x8x5632 X (startAt ctr) sliceFits_S8x8x5632_S1x8x5632) shapeCasts_S1x8x5632_S8x5632 (ix2 b j)
      = X (ix3 k b j) := by
  rw [Host.dynamicSlice_eq_extractStridedSlice S1x8x5632 X (startAt ctr) ![k.val, 0, 0] _
    ⟨rfl, fun a => by match a with
      | ⟨0, _⟩ => show k.val + 1 ≤ 8; omega
      | ⟨1, _⟩ => show 0 + 8 ≤ 8; omega
      | ⟨2, _⟩ => show 0 + 5632 ≤ 5632; omega⟩ (startAt_eq k.isLt hc)]
  pointwise

/-- Trip `k` writes row `k` and keeps the other rows. -/
theorem write_row (X : FVec Ideal S8x8x5632 .f32) (v : FVec Ideal S8x5632 .f32) {ctr : IVec S_ 32} (k : Fin 8)
    (hc : ctr = fun _ => BitVec.ofNat 32 k.val) (r : Fin 8) (b : Fin 8) (j : Fin 5632) :
    Host.dynamicUpdateSlice X (broadcastInDim S1x8x5632 ![1, 2] bcast_S8x5632_S1x8x5632_1_2 v) (startAt ctr) updateFits_S8x8x5632_S1x8x5632 (ix3 r b j)
      = if r = k then v (ix2 b j) else X (ix3 r b j) := by
  refine (congrFun (Host.dynamicUpdateSlice_eq_updateSlice X _ (startAt ctr) updateFits_S8x8x5632_S1x8x5632 ![k.val, 0, 0]
    (fun a => by
      rw [startAt_eq k.isLt hc a]
      match a with
      | ⟨0, _⟩ => show (min (max (k.val : Int) 0) ((8 - 1 : Nat) : Int)).toNat = k.val; omega
      | ⟨1, _⟩ => rfl
      | ⟨2, _⟩ => rfl)
    ⟨rfl, fun a => by match a with
      | ⟨0, _⟩ => show k.val + 1 ≤ 8; omega
      | ⟨1, _⟩ => show 0 + 8 ≤ 8; omega
      | ⟨2, _⟩ => show 0 + 5632 ≤ 5632; omega⟩) _).trans ?_
  pointwise
  have h2 := b.isLt
  have h3 := j.isLt
  by_cases h : r = k
  · subst h
    rw [if_pos rfl]
    split_ifs with hin
    · simp
    · omega
  · rw [if_neg h]
    have hv : r.val ≠ k.val := fun e => h (Fin.ext e)
    split_ifs with hin
    · omega
    · rfl

variable (m : (ℓ : Loc nD τ sig) → ℓ.2.ty.Contents (Elt Ideal)) (c : Dev nD)

/-- What the loop holds after `k` trips. -/
abbrev at_ (k : ℕ) : Valuation τ sig (Elt Ideal) := STEP^[k] (entryContents preI m c)

/-- The decays of the steps. -/
abbrev decays : FVec Ideal S8x8x5632 .f32 := entryContents preI m c (Proc.devRef .tc main_v132_0)
/-- The inputs of the steps. -/
abbrev inputs : FVec Ideal S8x8x5632 .f32 := entryContents preI m c (Proc.devRef .tc main_v132_1)
/-- The first state. -/
abbrev first : FVec Ideal S8x5632 .f32 := entryContents preI m c (Proc.devRef .tc main_v132_3)

/-- The state before step `k`. -/
def refState (b : Fin 8) (j : Fin 5632) (k : ℕ) : EReal :=
  hseq (first m c (ix2 b j)) (fun t => decays m c (ix3 (Fin.ofNat 8 t) b j)) (fun t => inputs m c (ix3 (Fin.ofNat 8 t) b j)) k

theorem loop_inv : ∀ k, k ≤ 8 →
    at_ m c k (Proc.devRef .tc main_v132_0) = decays m c ∧ at_ m c k (Proc.devRef .tc main_v132_1) = inputs m c
    ∧ at_ m c k (Proc.devRef .tc main_v132_2) = (fun _ => BitVec.ofNat 32 k)
    ∧ (∀ b j, (at_ m c k (Proc.devRef .tc main_v132_3) : FVec Ideal S8x5632 .f32) (ix2 b j) = refState m c b j k)
    ∧ ∀ (r : Fin 8) b j, r.val < k →
        (at_ m c k (Proc.devRef .tc main_v132_4) : FVec Ideal S8x8x5632 .f32) (ix3 r b j) = refState m c b j (r.val + 1)
  | 0, _ => ⟨rfl, rfl, ctr_entry m c, fun _ _ => rfl, fun r _ _ h => absurd h (Nat.not_lt_zero _)⟩
  | k + 1, hk => by
    obtain ⟨ha, hb, hctr, hh, hs⟩ := loop_inv k (by omega)
    have e : at_ m c (k + 1) = STEP (at_ m c k) := Function.iterate_succ_apply' STEP k _
    have hnew : ∀ b j, (res_main_while0b_v197 (at_ m c k) : FVec Ideal S8x5632 .f32) (ix2 b j) = refState m c b j (k + 1) := fun b j => by
      have r0 := read_row (at_ m c k (Proc.devRef .tc main_v132_0)) ⟨k, by omega⟩ hctr b j
      have r1 := read_row (at_ m c k (Proc.devRef .tc main_v132_1)) ⟨k, by omega⟩ hctr b j
      have ek : (Fin.ofNat 8 k : Fin 8) = ⟨k, by omega⟩ := Fin.ext (Nat.mod_eq_of_lt (by omega))
      unfold res_main_while0b_v197
      refine (congrArg₂ (· + ·) (congrArg₂ (· * ·) r0 (hh b j)) r1).trans ?_
      show _ = decays m c (ix3 (Fin.ofNat 8 k) b j) * refState m c b j k + inputs m c (ix3 (Fin.ofNat 8 k) b j)
      rw [ha, hb, ek]
    refine ⟨by rw [e, STEP_main_v132_0, ha], by rw [e, STEP_main_v132_1, hb], ?_, fun b j => ?_, fun r b j hr => ?_⟩
    · rw [e, STEP_main_v132_2]
      unfold step_main_v132_2
      rw [hctr]
      funext i
      show BitVec.ofNat 32 k + 1#32 = BitVec.ofNat 32 (k + 1)
      rw [BitVec.ofNat_add]
    · rw [e, STEP_main_v132_3]
      exact hnew b j
    · rw [e, STEP_main_v132_4]
      refine (write_row (at_ m c k (Proc.devRef .tc main_v132_4)) _ ⟨k, by omega⟩ hctr r b j).trans ?_
      by_cases h : r.val = k
      · rw [if_pos (Fin.ext h), hnew, h]
      · rw [if_neg (fun e => h (congrArg Fin.val e)), hs r b j (by omega)]

end Cert.Layers.SampleRef

end
-- ==== Proof.SampleRefValue.lean ====
/-
  What the samples' reference leaves: the layers' functions of its arguments.
-/
module

public import proofs.«01_k».proof.Proof.SampleRefAt
public import proofs.«01_k».proof.Proof.SampleRefLoop

@[expose] public section

set_option maxRecDepth 16384

noncomputable section

namespace Cert.Layers.SampleRef

open Idealize.ShloMosaic Idealize.ShloMosaic.TcCoe Idealize.ShloMosaic.Tactic Idealize.ShloMosaic.StableHlo
open Cert.SampleReferenceIdeal Cert.SampleReferenceIdeal.Gen Cert.SampleReferenceIdeal.Value
open Cert.Dense Cert.Rglru

/-! ### What a stretch keeps -/

/-- The buffers the last three stretches write. -/
abbrev post5_W : List (Ref sig .tc) := [
  main_v133, main_v134, main_v135, main_cst_12, main_v136, main_v137, main_v138, main_cst_13, main_v139, main_v140, main_v141, main_cst_14, main_v142,
  main_v143, main_cst_15, main_v144, main_v145, main_v146, main_v147, main_v148, main_v149, main_v150, main_v151, main_v152, main_v153, main_v154,
  main_v155, main_cst_16, main_v156, main_v157, main_cst_17, main_v158, main_v159, main_cst_18, main_v160, main_v161, main_v162, main_v163, main_v164,
  main_v165, main_v166, main_v167, main_v168, main_v169, main_v170, main_v171, main_v172, main_v173, main_v174]
abbrev post6_W : List (Ref sig .tc) := [
  main_call5_v0, main_call5_v1, main_call5_cst, main_call5_v2, main_call5_v3, main_call5_cst_0, main_call5_v4, main_call5_v5, main_v175]
abbrev post7_W : List (Ref sig .tc) := [
  main_v176, main_v177, main_v178, main_v179, main_cst_19, main_v180, main_v181, main_cst_20, main_v182, main_v183, main_cst_21, main_v184, main_v185,
  main_v186, main_v187, main_v188, main_v189, main_v190, main_v191, main_v192, main_v193]

theorem post5_writes : (hostOps0_5 : List (HloOp τ sig (Elt Ideal))).Forall fun op => op.writes ⊆ (post5_W.map (Proc.devRef (τ := τ) .tc)).toFinset :=
  forall_writes_sub_of_map rfl
theorem post6_writes : (hostOps0_6 : List (HloOp τ sig (Elt Ideal))).Forall fun op => op.writes ⊆ (post6_W.map (Proc.devRef (τ := τ) .tc)).toFinset :=
  forall_writes_sub_of_map rfl
theorem post7_writes : (hostOps0_7 : List (HloOp τ sig (Elt Ideal))).Forall fun op => op.writes ⊆ (post7_W.map (Proc.devRef (τ := τ) .tc)).toFinset :=
  forall_writes_sub_of_map rfl

/-- The buffers the loop writes. -/
abbrev loop_W : List (Ref sig .tc) := condOps_W ++ (while0Ops0_W ++ (while0Ops0_1_W ++ (while0Ops0_2_W ++ (while0Ops0_3_W ++ while0Ops0_4_W))))
/-- The buffers the stretches before the loop write, from the second on. -/
abbrev pre_W : List (Ref sig .tc) := hostOps0_1_W ++ (hostOps0_2_W ++ (hostOps0_3_W ++ hostOps0_4_W))

variable (m : (ℓ : Loc nD τ sig) → Buf (Elt Ideal) ℓ) (c : Dev nD)

/-- The buffers before the first stretch, and after each one. -/
abbrev U0 : Valuation τ sig (Elt Ideal) := launchContents m c
abbrev U1 : Valuation τ sig (Elt Ideal) := after hostOps0 (U0 m c)
abbrev U2 : Valuation τ sig (Elt Ideal) := after hostOps0_1 (U1 m c)
abbrev U3 : Valuation τ sig (Elt Ideal) := after hostOps0_2 (U2 m c)
abbrev U4 : Valuation τ sig (Elt Ideal) := after hostOps0_3 (U3 m c)
abbrev U5 : Valuation τ sig (Elt Ideal) := after hostOps0_4 (U4 m c)
abbrev U6 : Valuation τ sig (Elt Ideal) := after condOps (atK m 8 c)
abbrev U7 : Valuation τ sig (Elt Ideal) := after hostOps0_5 (U6 m c)
abbrev U8 : Valuation τ sig (Elt Ideal) := after hostOps0_6 (U7 m c)
abbrev U9 : Valuation τ sig (Elt Ideal) := after hostOps0_7 (U8 m c)

theorem final_eq : finalContents condOps preI bodyI postI 8 m c = U9 m c := rfl

theorem keep1 (r : Ref sig .tc) (h : r ∉ hostOps0_W) : U1 m c (Proc.devRef .tc r) = m ((c.tc : Thread nD τ).loc r) :=
  after_of_writes_sub hostOps0 _ hostOps0_writes h
theorem keep2 (r : Ref sig .tc) (h : r ∉ hostOps0_1_W) : U2 m c (Proc.devRef .tc r) = U1 m c (Proc.devRef .tc r) :=
  after_of_writes_sub hostOps0_1 _ hostOps0_1_writes h
theorem keep3 (r : Ref sig .tc) (h : r ∉ hostOps0_2_W) : U3 m c (Proc.devRef .tc r) = U2 m c (Proc.devRef .tc r) :=
  after_of_writes_sub hostOps0_2 _ hostOps0_2_writes h
theorem keep4 (r : Ref sig .tc) (h : r ∉ hostOps0_3_W) : U4 m c (Proc.devRef .tc r) = U3 m c (Proc.devRef .tc r) :=
  after_of_writes_sub hostOps0_3 _ hostOps0_3_writes h
theorem keep5 (r : Ref sig .tc) (h : r ∉ hostOps0_4_W) : U5 m c (Proc.devRef .tc r) = U4 m c (Proc.devRef .tc r) :=
  after_of_writes_sub hostOps0_4 _ hostOps0_4_writes h
theorem keep7 (r : Ref sig .tc) (h : r ∉ post5_W) : U7 m c (Proc.devRef .tc r) = U6 m c (Proc.devRef .tc r) :=
  after_of_writes_sub hostOps0_5 _ post5_writes h
theorem keep8 (r : Ref sig .tc) (h : r ∉ post6_W) : U8 m c (Proc.devRef .tc r) = U7 m c (Proc.devRef .tc r) :=
  after_of_writes_sub hostOps0_6 _ post6_writes h
theorem keep9 (r : Ref sig .tc) (h : r ∉ post7_W) : U9 m c (Proc.devRef .tc r) = U8 m c (Proc.devRef .tc r) :=
  after_of_writes_sub hostOps0_7 _ post7_writes h

/-- The loop keeps a buffer that neither its condition nor its body writes. -/
theorem keep_loop (r : Ref sig .tc) (h : r ∉ loop_W) : ∀ k, atK m k c (Proc.devRef .tc r) = U5 m c (Proc.devRef .tc r)
  | 0 => rfl
  | k + 1 => by
    simp only [loop_W, List.mem_append, not_or] at h
    obtain ⟨hc, h0, h1, h2, h3, h4⟩ := h
    refine Eq.trans ?_ (keep_loop r (by simp only [loop_W, List.mem_append, not_or]; exact ⟨hc, h0, h1, h2, h3, h4⟩) k)
    exact (after_of_writes_sub while0Ops0_4 _ while0Ops0_4_writes h4).trans ((after_of_writes_sub while0Ops0_3 _ while0Ops0_3_writes h3).trans
      ((after_of_writes_sub while0Ops0_2 _ while0Ops0_2_writes h2).trans ((after_of_writes_sub while0Ops0_1 _ while0Ops0_1_writes h1).trans
        ((after_of_writes_sub while0Ops0 _ while0Ops0_writes h0).trans (after_of_writes_sub condOps _ condOps_writes hc)))))

theorem keep6 (r : Ref sig .tc) (h : r ∉ loop_W) : U6 m c (Proc.devRef .tc r) = U5 m c (Proc.devRef .tc r) :=
  (after_of_writes_sub condOps _ condOps_writes fun hc => h (List.mem_append_left _ hc)).trans (keep_loop m c r h 8)

/-- The stretches before the loop keep a buffer that none of them writes. -/
theorem keep25 (r : Ref sig .tc) (h : r ∉ pre_W) : U5 m c (Proc.devRef .tc r) = U1 m c (Proc.devRef .tc r) := by
  simp only [pre_W, List.mem_append, not_or] at h
  obtain ⟨h1, h2, h3, h4⟩ := h
  exact (keep5 m c r h4).trans ((keep4 m c r h3).trans ((keep3 m c r h2).trans (keep2 m c r h1)))

/-- A buffer that no operation writes holds at the end what it held at the start. -/
theorem keep (r : Ref sig .tc) (h : r ∉ hostOps0_W ++ (pre_W ++ loop_W)) (h' : r ∉ post5_W ++ (post6_W ++ post7_W)) :
    U6 m c (Proc.devRef .tc r) = m ((c.tc : Thread nD τ).loc r) ∧ U8 m c (Proc.devRef .tc r) = m ((c.tc : Thread nD τ).loc r)
      ∧ U9 m c (Proc.devRef .tc r) = m ((c.tc : Thread nD τ).loc r) := by
  have h1 : r ∉ hostOps0_W := fun e => h (List.mem_append_left _ e)
  have h2 : r ∉ pre_W := fun e => h (List.mem_append_right _ (List.mem_append_left _ e))
  have h3 : r ∉ loop_W := fun e => h (List.mem_append_right _ (List.mem_append_right _ e))
  simp only [List.mem_append, not_or] at h'
  obtain ⟨h5, h6, h7⟩ := h'
  have e6 := (keep6 m c r h3).trans ((keep25 m c r h2).trans (keep1 m c r h1))
  have e8 := (keep8 m c r h6).trans ((keep7 m c r h5).trans e6)
  exact ⟨e6, e8, (keep9 m c r h7).trans e8⟩

/-! ### The layers' functions of the arguments -/

/-- The weights among the arguments. -/
def wts : Weights where
  mix := m ((c.tc : Thread nD τ).loc main_arg4)
  ffn := m ((c.tc : Thread nD τ).loc main_arg5)
  last := m ((c.tc : Thread nD τ).loc main_arg6)
  wo := m ((c.tc : Thread nD τ).loc main_arg7)
  win := m ((c.tc : Thread nD τ).loc main_arg8)
  cw := m ((c.tc : Thread nD τ).loc main_arg9)
  cb := m ((c.tc : Thread nD τ).loc main_arg10)
  wa := m ((c.tc : Thread nD τ).loc main_arg11)
  ba := m ((c.tc : Thread nD τ).loc main_arg12)
  wi := m ((c.tc : Thread nD τ).loc main_arg13)
  bi := m ((c.tc : Thread nD τ).loc main_arg14)
  lam := m ((c.tc : Thread nD τ).loc main_arg15)
  wout := m ((c.tc : Thread nD τ).loc main_arg16)
  up := m ((c.tc : Thread nD τ).loc main_arg17)
  down := m ((c.tc : Thread nD τ).loc main_arg18)

/-- The attention's rows, the rows it is added to, the three earlier inputs and the first state. -/
def aO : Fin 8 → ℕ → Row := seq (B := 8) (T := 8) (m ((c.tc : Thread nD τ).loc main_arg0))
def aX : Fin 8 → ℕ → Row := seq (B := 8) (T := 8) (m ((c.tc : Thread nD τ).loc main_arg1))
def cp0 : Fin 8 → Fin 3 → Fin 5632 → EReal := fun b k i => m ((c.tc : Thread nD τ).loc main_arg2) (ix4 (n0 := 1) (n1 := 8) (n2 := 3) (n3 := 5632) 0 b k i)
def st0 : Fin 8 → Fin 5632 → EReal := fun b i => m ((c.tc : Thread nD τ).loc main_arg3) (ix3 (n0 := 1) (n1 := 8) (n2 := 5632) 0 b i)

def r1 (b : Fin 8) : ℕ → Row := rows1 (wts m c) (aO m c b) (aX m c b)
def gu (b : Fin 8) : ℕ → Fin 11264 → EReal := guRows (wts m c) (aO m c b) (aX m c b)
def r2 (b : Fin 8) : ℕ → Row := rows2 (wts m c) (aO m c b) (aX m c b) (cp0 m c b) (st0 m c b)
def rOut (b : Fin 8) : ℕ → Row := outRow (wts m c) (aO m c b) (aX m c b) (cp0 m c b) (st0 m c b)

/-! ### Before the loop -/

theorem rows_in : Holds (rowsIn (U2 m c)) (r1 m c) := by
  have e5 : U2 m c (Proc.devRef .tc main_v4) = _ := (keep2 m c main_v4 (by decide)).trans (s0_v4 (U0 m c))
  have e28 : U2 m c (Proc.devRef .tc main_v27) = _ := (s1_v27 (U1 m c)).trans (congrArg siluT (s0_v25 (U0 m c)))
  have e27 : U2 m c (Proc.devRef .tc main_v26) = _ := (keep2 m c main_v26 (by decide)).trans (s0_v26 (U0 m c))
  have e24 : U2 m c (Proc.devRef .tc main_v23) = _ := (keep2 m c main_v23 (by decide)).trans (s0_v23 (U0 m c))
  unfold rowsIn
  rw [e5, e28, e27, e24]
  exact ffn_holds (wts m c) 0 (att_holds (wts m c) _ _) _ (scale0_at _) _ (up0_at _) _ (down0_at _)

/-- The branches as the reference holds them. -/
abbrev refGu : FVec Ideal S8x8x11264 .f32 := guIn (U2 m c)

theorem refGu_eq : refGu m c = guT (rowsIn (U2 m c)) (wts m c).mix (wts m c).win :=
  congrArg₂ (guT (rowsIn (U2 m c))) ((keep2 m c main_arg4 (by decide)).trans (keep1 m c main_arg4 (by decide)))
    ((keep2 m c main_arg8 (by decide)).trans (keep1 m c main_arg8 (by decide)))

theorem refGu_holds : Holds (refGu m c) (gu m c) := by
  rw [refGu_eq]
  exact gu_holds (wts m c) (rows_in m c)

theorem guOf_eq (b : Fin 8) : ∀ t < 8, guOf (refGu m c) b t = gu m c b t := fun t ht => by
  funext j
  have e := refGu_holds m c b ⟨t, ht⟩ j
  unfold guOf seq
  rw [show (Fin.ofNat 8 t : Fin 8) = ⟨t, ht⟩ from Fin.ext (Nat.mod_eq_of_lt ht)]
  exact e

theorem given_inputs (a : Vec Ideal S1x8x3x5632 .f32) (b : Fin 8) (k : Fin 3) (i : Fin 5632) :
    shapeCast S8x3x5632 a shapeCasts_S1x8x3x5632_S8x3x5632 (ix3 b k i) = a (ix4 0 b k i) := by
  pointwise

theorem given_states (a : Vec Ideal S1x8x5632 .f32) (b : Fin 8) (i : Fin 5632) :
    shapeCast S8x5632 a shapeCasts_S1x8x5632_S8x5632 (ix2 b i) = a (ix3 0 b i) := by
  pointwise

/-- The earlier inputs and the first state as the reference holds them. -/
abbrev refCp : FVec Ideal S8x3x5632 .f32 := U2 m c (Proc.devRef .tc main_v0)

theorem refCp_eq (b : Fin 8) : cpOf (refCp m c) b = cp0 m c b := by
  have e : refCp m c = _ := (keep2 m c main_v0 (by decide)).trans (s0_v0 (U0 m c))
  funext k i
  exact (congrFun e _).trans (given_inputs _ b k i)

theorem first_at (b : Fin 8) (j : Fin 5632) : first m c (ix2 b j) = st0 m c b j := by
  have e : first m c = _ := (s4_h (U4 m c)).trans ((keep4 m c main_v1 (by decide)).trans ((keep3 m c main_v1 (by decide)).trans
    ((keep2 m c main_v1 (by decide)).trans (s0_v1 (U0 m c)))))
  exact (congrFun e _).trans (given_states _ b j)

theorem conv_eq : convIn (U2 m c) = convT (extT (refGu m c) (refCp m c)) (wts m c).cw (wts m c).cb :=
  congrArg₂ (convT (extIn (U2 m c))) ((keep2 m c main_arg9 (by decide)).trans (keep1 m c main_arg9 (by decide)))
    ((keep2 m c main_arg10 (by decide)).trans (keep1 m c main_arg10 (by decide)))

theorem v88_eq : U4 m c (Proc.devRef .tc main_v88) = convT (extT (refGu m c) (refCp m c)) (wts m c).cw (wts m c).cb :=
  (keep4 m c main_v88 (by decide)).trans ((s2_v88 (U2 m c)).trans (conv_eq m c))

theorem v113_eq : U4 m c (Proc.devRef .tc main_v113)
    = sigT (gateT (convT (extT (refGu m c) (refCp m c)) (wts m c).cw (wts m c).cb) (wts m c).wi (wts m c).bi) := by
  have e := (keep4 m c main_v113 (by decide)).trans (s2_v113 (U2 m c))
  have ew : U2 m c (Proc.devRef .tc main_arg13) = (wts m c).wi := (keep2 m c main_arg13 (by decide)).trans (keep1 m c main_arg13 (by decide))
  have eb : U2 m c (Proc.devRef .tc main_arg14) = (wts m c).bi := (keep2 m c main_arg14 (by decide)).trans (keep1 m c main_arg14 (by decide))
  rw [conv_eq, ew, eb] at e
  exact e

theorem logs_eq : logT (U4 m c (Proc.devRef .tc main_v115)) (U4 m c (Proc.devRef .tc main_v117)) = logs (wts m c) (refGu m c) (refCp m c) := by
  have e := (keep4 m c main_v115 (by decide)).trans (s2_v115 (U2 m c))
  have ew : U2 m c (Proc.devRef .tc main_arg11) = (wts m c).wa := (keep2 m c main_arg11 (by decide)).trans (keep1 m c main_arg11 (by decide))
  have eb : U2 m c (Proc.devRef .tc main_arg12) = (wts m c).ba := (keep2 m c main_arg12 (by decide)).trans (keep1 m c main_arg12 (by decide))
  have el : U2 m c (Proc.devRef .tc main_arg15) = (wts m c).lam := (keep2 m c main_arg15 (by decide)).trans (keep1 m c main_arg15 (by decide))
  have es := (s3_v117 (U3 m c)).trans (congrArg softT (s2_v116 (U2 m c)))
  rw [conv_eq, ew, eb] at e
  rw [el] at es
  exact congrArg₂ logT e es

/-- The loop's states are the layer's. -/
theorem refState_eq (b : Fin 8) (n : Fin 22) (l : Fin 256) (k : ℕ) (hk : k ≤ 8) :
    refState m c b (col n l) k = state (wts m c) (gu m c b) (cp0 m c b) (st0 m c b) n l k := by
  rw [← state_congr (wts m c) (cp0 m c b) (st0 m c b) (guOf_eq m c b) n l k hk, ← refCp_eq m c b]
  unfold refState state
  rw [first_at]
  refine hseq_congr k (fun i hi => ?_) (fun i hi => ?_)
  · have ei : (Fin.ofNat 8 i).val = i := Nat.mod_eq_of_lt (by omega)
    have e := logs_at (wts m c) (refGu m c) (refCp m c) b (Fin.ofNat 8 i) n l
    rw [ei] at e
    have ea : decays m c = _ := s4_a (U4 m c)
    rw [ea, logs_eq, ← e]
    unfold timeFirst
    pointwise
  · have ei : (Fin.ofNat 8 i).val = i := Nat.mod_eq_of_lt (by omega)
    have e := added_at (wts m c) (refGu m c) (refCp m c) b (Fin.ofNat 8 i) n l
    rw [ei] at e
    have ea : inputs m c = _ := s4_b (U4 m c)
    rw [ea, logs_eq, v88_eq, v113_eq, ← e]
    unfold timeFirst
    pointwise

/-! ### After the loop -/

theorem stacked (b : Fin 8) (t : Fin 8) (j : Fin 5632) :
    batchFirst (U6 m c (Proc.devRef .tc main_v132_4)) (ix3 b t j) = state (wts m c) (gu m c b) (cp0 m c b) (st0 m c b) (grp j) (lane j) (t.val + 1) := by
  have e : U6 m c (Proc.devRef .tc main_v132_4) = at_ m c 8 (Proc.devRef .tc main_v132_4) :=
    (cond_keeps (atK m 8 c) main_v132_4 (by decide)).trans (atK_agree m c 8 main_v132_4 (by decide))
  have h := (loop_inv m c 8 le_rfl).2.2.2.2 t b j t.isLt
  rw [e, ← refState_eq m c b _ _ _ (by omega), col_grp, ← h]
  generalize at_ m c 8 (Proc.devRef .tc main_v132_4) = X
  unfold batchFirst
  pointwise

theorem v30_eq : U6 m c (Proc.devRef .tc main_v30) = rowsIn (U2 m c) :=
  (keep6 m c main_v30 (by decide)).trans ((keep5 m c main_v30 (by decide)).trans ((keep4 m c main_v30 (by decide)).trans (s2_v30 (U2 m c))))
theorem v56_eq : U6 m c (Proc.devRef .tc main_v56) = branchG (refGu m c) :=
  (keep6 m c main_v56 (by decide)).trans ((keep5 m c main_v56 (by decide)).trans ((keep4 m c main_v56 (by decide)).trans (s2_v56 (U2 m c))))
theorem v58_eq : U6 m c (Proc.devRef .tc main_v58) = extT (refGu m c) (refCp m c) :=
  (keep6 m c main_v58 (by decide)).trans ((keep5 m c main_v58 (by decide)).trans ((keep4 m c main_v58 (by decide)).trans (s2_v58 (U2 m c))))
theorem v54_eq : U6 m c (Proc.devRef .tc main_v54) = shapeCast S5632x4096 (wts m c).wout shapeCasts_S1x5632x4096_S5632x4096 :=
  (keep6 m c main_v54 (by decide)).trans ((keep5 m c main_v54 (by decide)).trans ((keep4 m c main_v54 (by decide)).trans ((s2_v54 (U2 m c)).trans
    (congrArg (fun a => shapeCast S5632x4096 a shapeCasts_S1x5632x4096_S5632x4096) ((keep2 m c main_arg16 (by decide)).trans (keep1 m c main_arg16 (by decide)))))))

theorem gated_in (b : Fin 8) (t : Fin 8) (j : Fin 5632) :
    gatedT (batchFirst (U6 m c (Proc.devRef .tc main_v132_4))) (branchG (refGu m c)) (ix3 b t j)
      = gated (wts m c) (gu m c b) (cp0 m c b) (st0 m c b) t.val j := by
  rw [gatedT_at, stacked]
  have e : branchG (refGu m c) (ix3 b t j) = gu m c b t.val (colG (grp j) (lane j)) := by
    rw [← refGu_holds m c b t]
    generalize refGu m c = G
    unfold branchG
    pointwise
    exact congrArg (fun i => G (ix3 b t i)) (Fin.ext (by show j.val = j.val / 256 * 256 + j.val % 256; omega))
  rw [e]
  rfl

theorem rows_rec : Holds (rowsRec (U6 m c)) (r2 m c) := fun b t k => by
  unfold rowsRec
  rw [v30_eq, v56_eq, v54_eq, recT_at, rows_in m c b t k, funext (gated_in m c b t)]
  rfl

theorem out_x (b : Fin 8) (t : Fin 8) (k : Fin 4096) :
    (U9 m c (Proc.devRef .tc main_v191) : FVec Ideal S8x8x4096 .f32) (ix3 b t k) = rOut m c b t.val k := by
  have e3 := (keep m c main_arg5 (by decide) (by decide)).1
  have e15 := (keep m c main_arg17 (by decide) (by decide)).1
  have e16 := (keep m c main_arg18 (by decide) (by decide)).1
  have e4 : U8 m c (Proc.devRef .tc main_arg6) = (wts m c).last := (keep m c main_arg6 (by decide) (by decide)).2.1
  have e153 : U8 m c (Proc.devRef .tc main_v152) = _ := (keep8 m c main_v152 (by decide)).trans (s5_v152 (U6 m c))
  have e176 : U8 m c (Proc.devRef .tc main_v175) = _ := (s6_v175 (U7 m c)).trans (congrArg siluT (s5_v173 (U6 m c)))
  have e175 : U8 m c (Proc.devRef .tc main_v174) = _ := (keep8 m c main_v174 (by decide)).trans (s5_v174 (U6 m c))
  have e172 : U8 m c (Proc.devRef .tc main_v171) = _ := (keep8 m c main_v171 (by decide)).trans (s5_v171 (U6 m c))
  have e := s7_v191 (U8 m c)
  rw [e153, e176, e175, e172, e4, e3, e15, e16] at e
  refine (congrFun e _).trans ?_
  exact norm_holds (ffn_holds (wts m c) 1 (rows_rec m c) _ (scale1_at _) _ (up1_at _) _ (down1_at _)) _ _ (fun _ => rfl) b t k

theorem out_conv (b : Fin 8) (k : Fin 3) (j : Fin 5632) :
    (U9 m c (Proc.devRef .tc main_v192) : FVec Ideal S1x8x3x5632 .f32) (ix4 0 b k j) = gu m c b (5 + k.val) (colU (grp j) (lane j)) := by
  have e150 : U8 m c (Proc.devRef .tc main_v149) = _ := (keep8 m c main_v149 (by decide)).trans (s5_v149 (U6 m c))
  have e := s7_v192 (U8 m c)
  rw [e150, v58_eq] at e
  refine (congrFun e _).trans ?_
  have h := extT_at (refGu m c) (refCp m c) b ⟨8 + k.val, by omega⟩ (grp j) (lane j)
  unfold uRow at h
  rw [if_neg (by show ¬ 8 + k.val < 3; omega), show 8 + k.val - 3 = 5 + k.val by omega, guOf_eq m c b _ (by omega), col_grp] at h
  rw [← h]
  generalize extT (refGu m c) (refCp m c) = X
  pointwise

theorem out_h (b : Fin 8) (j : Fin 5632) :
    (U9 m c (Proc.devRef .tc main_v193) : FVec Ideal S1x8x5632 .f32) (ix3 0 b j) = state (wts m c) (gu m c b) (cp0 m c b) (st0 m c b) (grp j) (lane j) 8 := by
  have e152 : U8 m c (Proc.devRef .tc main_v151) = _ := (keep8 m c main_v151 (by decide)).trans (s5_v151 (U6 m c))
  have e := s7_v193 (U8 m c)
  rw [e152] at e
  refine (congrFun e _).trans ?_
  have h := stacked m c b ⟨7, by omega⟩ j
  refine Eq.trans ?_ h
  generalize batchFirst (U6 m c (Proc.devRef .tc main_v132_4)) = X
  pointwise

end Cert.Layers.SampleRef

end
-- ==== Proof.Sample.lean ====
/-
  The sample's claims: over the reals the twelve calls compute what the reference computes.
-/
module

public import proofs.«01_k».proof.Defs
public import proofs.«01_k».proof.Proof.SampleChain
public import proofs.«01_k».proof.Proof.SampleRefValue
public import Idealize.ShloMosaic.Lib.Claim

@[expose] public section

set_option maxRecDepth 16384

noncomputable section

namespace Cert.Layers

open Idealize.ShloMosaic Idealize.ShloMosaic.TcCoe Idealize.ShloMosaic.Tactic Idealize.SL.Sem

instance sample_facts : Cert.SampleIdeal.Facts := Cert.SampleIdeal.Gen.facts
instance sample_reference_facts : Cert.SampleReferenceIdeal.Facts := Cert.SampleReferenceIdeal.Gen.facts

namespace SampleRef

open Cert.SampleReferenceIdeal Cert.SampleReferenceIdeal.Gen Cert.SampleReferenceIdeal.Value

/-- The reference leaves the last stretch's arrays and keeps its arguments. -/
theorem run_kept (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v191) = U9 m c (Proc.devRef .tc main_v191)
      ∧ r.2.mem ((c.tc : Thread nD τ).loc main_v192) = U9 m c (Proc.devRef .tc main_v192)
      ∧ r.2.mem ((c.tc : Thread nD τ).loc main_v193) = U9 m c (Proc.devRef .tc main_v193)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run _ _ _).mono (fun r h c => ⟨h c main_v191 rfl, h c main_v192 rfl, h c main_v193 rfl,
    (h c main_arg0 rfl).trans (keep m c main_arg0 (by decide) (by decide)).2.2,
    (h c main_arg1 rfl).trans (keep m c main_arg1 (by decide) (by decide)).2.2,
    (h c main_arg2 rfl).trans (keep m c main_arg2 (by decide) (by decide)).2.2,
    (h c main_arg3 rfl).trans (keep m c main_arg3 (by decide) (by decide)).2.2,
    (h c main_arg4 rfl).trans (keep m c main_arg4 (by decide) (by decide)).2.2,
    (h c main_arg5 rfl).trans (keep m c main_arg5 (by decide) (by decide)).2.2,
    (h c main_arg6 rfl).trans (keep m c main_arg6 (by decide) (by decide)).2.2,
    (h c main_arg7 rfl).trans (keep m c main_arg7 (by decide) (by decide)).2.2,
    (h c main_arg8 rfl).trans (keep m c main_arg8 (by decide) (by decide)).2.2,
    (h c main_arg9 rfl).trans (keep m c main_arg9 (by decide) (by decide)).2.2,
    (h c main_arg10 rfl).trans (keep m c main_arg10 (by decide) (by decide)).2.2,
    (h c main_arg11 rfl).trans (keep m c main_arg11 (by decide) (by decide)).2.2,
    (h c main_arg12 rfl).trans (keep m c main_arg12 (by decide) (by decide)).2.2,
    (h c main_arg13 rfl).trans (keep m c main_arg13 (by decide) (by decide)).2.2,
    (h c main_arg14 rfl).trans (keep m c main_arg14 (by decide) (by decide)).2.2,
    (h c main_arg15 rfl).trans (keep m c main_arg15 (by decide) (by decide)).2.2,
    (h c main_arg16 rfl).trans (keep m c main_arg16 (by decide) (by decide)).2.2,
    (h c main_arg17 rfl).trans (keep m c main_arg17 (by decide) (by decide)).2.2,
    (h c main_arg18 rfl).trans (keep m c main_arg18 (by decide) (by decide)).2.2⟩) (run_fold m ρ)

end SampleRef

section

variable (m : (ℓ : Loc Cert.SampleIdeal.nD Cert.SampleIdeal.τ Cert.SampleIdeal.sig) → Buf (Elt Ideal) ℓ)
  (m' : (ℓ : Loc Cert.SampleReferenceIdeal.nD Cert.SampleReferenceIdeal.τ Cert.SampleReferenceIdeal.sig) → Buf (Elt Ideal) ℓ) (c : Dev Cert.SampleIdeal.nD)

namespace Sample

/-- Both programs start from the same arguments. -/
def Same : Prop :=
  m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
  ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
  ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
  ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
  ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
  ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
  ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
  ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
  ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
  ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
  ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)
  ∧ m' ((c.tc : Thread Cert.SampleReferenceIdeal.nD Cert.SampleReferenceIdeal.τ).loc Cert.SampleReferenceIdeal.main_arg11) = m ((c.tc : Thread Cert.SampleIdeal.nD Cert.SampleIdeal.τ).loc Cert.SampleIdeal.main_arg11)
  ∧ m' ((c.tc : Thread Cert.SampleReferenceIdeal.nD Cert.SampleReferenceIdeal.τ).loc Cert.SampleReferenceIdeal.main_arg12) = m ((c.tc : Thread Cert.SampleIdeal.nD Cert.SampleIdeal.τ).loc Cert.SampleIdeal.main_arg12)
  ∧ m' ((c.tc : Thread Cert.SampleReferenceIdeal.nD Cert.SampleReferenceIdeal.τ).loc Cert.SampleReferenceIdeal.main_arg13) = m ((c.tc : Thread Cert.SampleIdeal.nD Cert.SampleIdeal.τ).loc Cert.SampleIdeal.main_arg13)
  ∧ m' ((c.tc : Thread Cert.SampleReferenceIdeal.nD Cert.SampleReferenceIdeal.τ).loc Cert.SampleReferenceIdeal.main_arg14) = m ((c.tc : Thread Cert.SampleIdeal.nD Cert.SampleIdeal.τ).loc Cert.SampleIdeal.main_arg14)
  ∧ m' ((c.tc : Thread Cert.SampleReferenceIdeal.nD Cert.SampleReferenceIdeal.τ).loc Cert.SampleReferenceIdeal.main_arg15) = m ((c.tc : Thread Cert.SampleIdeal.nD Cert.SampleIdeal.τ).loc Cert.SampleIdeal.main_arg15)
  ∧ m' ((c.tc : Thread Cert.SampleReferenceIdeal.nD Cert.SampleReferenceIdeal.τ).loc Cert.SampleReferenceIdeal.main_arg16) = m ((c.tc : Thread Cert.SampleIdeal.nD Cert.SampleIdeal.τ).loc Cert.SampleIdeal.main_arg16)
  ∧ m' ((c.tc : Thread Cert.SampleReferenceIdeal.nD Cert.SampleReferenceIdeal.τ).loc Cert.SampleReferenceIdeal.main_arg17) = m ((c.tc : Thread Cert.SampleIdeal.nD Cert.SampleIdeal.τ).loc Cert.SampleIdeal.main_arg17)
  ∧ m' ((c.tc : Thread Cert.SampleReferenceIdeal.nD Cert.SampleReferenceIdeal.τ).loc Cert.SampleReferenceIdeal.main_arg18) = m ((c.tc : Thread Cert.SampleIdeal.nD Cert.SampleIdeal.τ).loc Cert.SampleIdeal.main_arg18)

variable {m m' c}

theorem wts_same (h : Same m m' c) : SampleRef.wts m' c = Sample.wts m c := by
  obtain ⟨h0, h1, h2, h3, h4, h5, h6, h7, h8, h9, h10, h11, h12, h13, h14, h15, h16, h17, h18⟩ := h
  unfold SampleRef.wts Sample.wts
  rw [h4, h5, h6, h7, h8, h9, h10, h11, h12, h13, h14, h15, h16, h17, h18]

theorem o_same (h : Same m m' c) : SampleRef.aO m' c = Sample.aO m c := by
  unfold SampleRef.aO Sample.aO
  rw [h.1]
theorem x_same (h : Same m m' c) : SampleRef.aX m' c = Sample.aX m c := by
  unfold SampleRef.aX Sample.aX
  rw [h.2.1]

theorem cp_same (h : Same m m' c) : SampleRef.cp0 m' c = Sample.cp0 m c := by
  unfold SampleRef.cp0 Sample.cp0
  rw [h.2.2.1]
theorem st_same (h : Same m m' c) : SampleRef.st0 m' c = Sample.st0 m c := by
  unfold SampleRef.st0 Sample.st0
  rw [h.2.2.2.1]

theorem gu_same (h : Same m m' c) : SampleRef.gu m' c = Sample.gu m c := by
  unfold SampleRef.gu Sample.gu
  rw [wts_same h, o_same h, x_same h]

theorem resX_same (h : Same m m' c) : SampleRef.U9 m' c (Proc.devRef .tc Cert.SampleReferenceIdeal.main_v191) = Sample.resX m c := by
  funext i
  rw [show i = ix3 (n0 := 8) (n1 := 8) (n2 := 4096) (i 0) (i 1) (i 2) by blk_ext []]
  refine (SampleRef.out_x m' c (i 0) (i 1) (i 2)).trans ?_
  unfold SampleRef.rOut
  rw [wts_same h, o_same h, x_same h, cp_same h, st_same h]
  rfl

theorem resConv_same (h : Same m m' c) : SampleRef.U9 m' c (Proc.devRef .tc Cert.SampleReferenceIdeal.main_v192) = Sample.resConv m c := by
  funext i
  rw [show i = ix4 (n0 := 1) (n1 := 8) (n2 := 3) (n3 := 5632) 0 (i 1) (i 2) (i 3) by blk_ext []]
  refine (SampleRef.out_conv m' c (i 1) (i 2) (i 3)).trans ?_
  rw [gu_same h]
  rfl

theorem resH_same (h : Same m m' c) : SampleRef.U9 m' c (Proc.devRef .tc Cert.SampleReferenceIdeal.main_v193) = Sample.resH m c := by
  funext i
  rw [show i = ix3 (n0 := 1) (n1 := 8) (n2 := 5632) 0 (i 1) (i 2) by blk_ext []]
  refine (SampleRef.out_h m' c (i 1) (i 2)).trans ?_
  rw [wts_same h, gu_same h, cp_same h, st_same h]
  rfl

end Sample

end

/-- The reference runs to its end, keeps its arguments and leaves every counter at zero. -/
theorem sample_reference_quiescent : quiescent_SampleReferenceIdeal := fun m ρ _ =>
  (θ_run _ _ _).mono (fun r h => ⟨fun c => (h c).2.2.2, sem_eq_zero_of_no_sems (by decide) r.2⟩) (SampleRef.run_kept m ρ)

section

open Cert.SampleIdeal Cert.SampleIdeal.Gen

/-- Over the reals the twelve calls compute what the reference computes. -/
theorem sample_algebraic : algebraic_SampleIdeal_SampleReferenceIdeal := by
  intro m ρ m' ρ' _ hagree
  refine ⟨fun c => Sample.resX m c, fun c => Sample.resConv m c, fun c => Sample.resH m c, ?_, ?_⟩
  · exact (θ_run _ _ _).mono (fun r h c => ⟨(h c _ (mem_uc main_v50 (by decide))).trans (Sample.last_x m ρ c),
      (h c _ (mem_uc main_v51 (by decide))).trans (Sample.last_conv m ρ c), (h c _ (mem_uc main_v52 (by decide))).trans (Sample.last_h m ρ c),
      (h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c),
      (h c _ (mem_uc main_arg9 (by decide))).trans (W21_main_arg9 m ρ c),
      (h c _ (mem_uc main_arg10 (by decide))).trans (W21_main_arg10 m ρ c),
      (h c _ (mem_uc main_arg11 (by decide))).trans (W21_main_arg11 m ρ c),
      (h c _ (mem_uc main_arg12 (by decide))).trans (W21_main_arg12 m ρ c),
      (h c _ (mem_uc main_arg13 (by decide))).trans (W21_main_arg13 m ρ c),
      (h c _ (mem_uc main_arg14 (by decide))).trans (W21_main_arg14 m ρ c),
      (h c _ (mem_uc main_arg15 (by decide))).trans (W21_main_arg15 m ρ c),
      (h c _ (mem_uc main_arg16 (by decide))).trans (W21_main_arg16 m ρ c),
      (h c _ (mem_uc main_arg17 (by decide))).trans (W21_main_arg17 m ρ c),
      (h c _ (mem_uc main_arg18 (by decide))).trans (W21_main_arg18 m ρ c)⟩)
      (Sample.run_last m ρ)
  · exact (θ_run _ _ _).mono (fun r h c => ⟨(h c).1.trans (Sample.resX_same (hagree c)), (h c).2.1.trans (Sample.resConv_same (hagree c)),
      (h c).2.2.1.trans (Sample.resH_same (hagree c)), (h c).2.2.2⟩) (SampleRef.run_kept m' ρ')

end

end Cert.Layers

end
-- ==== Proof.QkvValue.lean ====
/-
  What the norm's and the three projections' calls of the attention layer leave in their arrays, for both batches.
-/
module

public import proofs.«01_k».proof.Proof.Gen.QkvIdeal.Frame
public import proofs.«01_k».proof.Proof.Dense
public import Idealize.ShloMosaic.Lib.Claim

@[expose] public section

set_option maxRecDepth 16384

noncomputable section

namespace Cert.Dense.Qkv

open Idealize.ShloMosaic Idealize.ShloMosaic.TcCoe Idealize.ShloMosaic.Tactic

/-- Column `j` of the queries', the keys' and the values' third of the projection. -/
def col3 (o : Fin 3) (j : Fin 4096) : Fin 12288 := ⟨4096 * o.val + j.val, by omega⟩

/-- Entry `d` of head `h`, among a row's columns. -/
def headCol (h : Fin 32) (d : Fin 128) : Fin 4096 := ⟨128 * h.val + d.val, by omega⟩

/-- Column `j` of the queries, the keys or the values at step `t` of sequence `b`. -/
def entry {B T : ℕ} (x : Vec Ideal ⟨3, ![B, T, 4096]⟩ .f32) (g : Vec Ideal ⟨2, ![2, 4096]⟩ .f32) (w : Vec Ideal ⟨3, ![1, 4096, 12288]⟩ .f32)
    (o : Fin 3) (b : Fin B) (t : Fin T) (j : Fin 4096) : EReal :=
  dot (fun k => rms (fun l => x (ix3 b t l)) (g (ix2 0 k)) k) fun k => w (ix3 0 k (col3 o j))

/-- The queries of a batch. -/
def queries {B T : ℕ} (x : Vec Ideal ⟨3, ![B, T, 4096]⟩ .f32) (g : Vec Ideal ⟨2, ![2, 4096]⟩ .f32) (w : Vec Ideal ⟨3, ![1, 4096, 12288]⟩ .f32) :
    Vec Ideal ⟨3, ![B, T, 4096]⟩ .f32 :=
  fun i => entry x g w 0 (i 0) (i 1) (i 2)

/-- The keys or the values of a batch, by heads. -/
def heads {B T : ℕ} (o : Fin 3) (x : Vec Ideal ⟨3, ![B, T, 4096]⟩ .f32) (g : Vec Ideal ⟨2, ![2, 4096]⟩ .f32) (w : Vec Ideal ⟨3, ![1, 4096, 12288]⟩ .f32) :
    Vec Ideal ⟨5, ![1, B, T, 32, 128]⟩ .f32 :=
  fun i => entry x g w o (i 1) (i 2) (headCol (i 3) (i 4))

/-- The rows projected by one third of the weights. -/
def projected {R : ℕ} (o : Fin 3) (n : Vec Ideal ⟨2, ![R, 4096]⟩ .bf16) (w : Vec Ideal ⟨3, ![1, 4096, 12288]⟩ .bf16) : Vec Ideal ⟨2, ![R, 4096]⟩ .f32 :=
  fun i => dot (fun k => n (ix2 (i 0) k)) fun k => w (ix3 0 k (col3 o (i 1)))

/-- A block of projected rows, from the blocks of the rows and of the weights it reads. -/
theorem projected_block {R T : ℕ} (o : Fin 3) (n : Vec Ideal ⟨2, ![R, 4096]⟩ .bf16) (w : Vec Ideal ⟨3, ![1, 4096, 12288]⟩ .bf16)
    {nb : Vec Ideal ⟨2, ![T, 4096]⟩ .bf16} {wb : Vec Ideal ⟨3, ![1, 4096, 1024]⟩ .bf16} {out : Vec Ideal ⟨2, ![T, 1024]⟩ .f32}
    (hout : ∀ i j, out (ix2 i j) = dot (fun k => nb (ix2 i k)) fun k => wb (ix3 0 k j))
    (y : Shape.Idx ⟨2, ![T, 1024]⟩) (e : Shape.Idx ⟨2, ![R, 4096]⟩) (h0 : ∀ k, nb (ix2 (y 0) k) = n (ix2 (e 0) k))
    (h1 : ∀ k, wb (ix3 0 k (y 1)) = w (ix3 0 k (col3 o (e 1)))) : out y = projected o n w e :=
  product_block n (fun j k => w (ix3 0 k (col3 o j))) hout y e h0 h1

open Cert.QkvIdeal Cert.QkvIdeal.Gen

theorem out0_2_apply (x : Vec Ideal S512x4096 .f32) (g : Vec Ideal S1x4096 .f32) (i : Fin 512) (k : Fin 4096) :
    out0_2 x g (ix2 i k) = rms (fun l => x (ix2 i l)) (g (ix2 0 k)) k := by
  unfold out0_2
  rw [View.canon_unit_zero (S := S512x4096) off2]
  simp only [View.ld_unit_zero (S := S512x4096) off2, View.ld_unit_zero (S := S1x4096) off2]
  pointwise [k0_pay1, rms]

theorem out1_2_apply (x : Vec Ideal S64x4096 .f32) (g : Vec Ideal S1x4096 .f32) (i : Fin 64) (k : Fin 4096) :
    out1_2 x g (ix2 i k) = rms (fun l => x (ix2 i l)) (g (ix2 0 k)) k := by
  unfold out1_2
  rw [View.canon_unit_zero (S := S64x4096) off2]
  simp only [View.ld_unit_zero (S := S64x4096) off2, View.ld_unit_zero (S := S1x4096) off2]
  pointwise [k1_pay1, rms]

/-- The block of a projection, for a block of the prompt's rows; the three calls have the same body. -/
theorem out2_2_apply (n : Vec Ideal S1024x4096 .bf16) (w : Vec Ideal S1x4096x1024 .bf16) (i : Fin 1024) (j : Fin 1024) :
    out2_2 n w (ix2 i j) = dot (fun k => n (ix2 i k)) fun k => w (ix3 0 k j) := by
  unfold out2_2
  rw [View.canon_unit_zero (S := S1024x1024) off2]
  simp only [View.ld_unit_zero (S := S1024x4096) off2, View.ld_unit_zero (S := S1x4096x1024) off3]
  pointwise [k2_pay1, dot]

/-- The same for the samples' rows. -/
theorem out5_2_apply (n : Vec Ideal S64x4096 .bf16) (w : Vec Ideal S1x4096x1024 .bf16) (i : Fin 64) (j : Fin 1024) :
    out5_2 n w (ix2 i j) = dot (fun k => n (ix2 i k)) fun k => w (ix3 0 k j) := by
  unfold out5_2
  rw [View.canon_unit_zero (S := S64x1024) off2]
  simp only [View.ld_unit_zero (S := S64x4096) off2, View.ld_unit_zero (S := S1x4096x1024) off3]
  pointwise [k5_pay1, dot]

theorem out3_2_eq : out3_2 (F := Ideal) = out2_2 := rfl
theorem out4_2_eq : out4_2 (F := Ideal) = out2_2 := rfl
theorem out6_2_eq : out6_2 (F := Ideal) = out5_2 := rfl
theorem out7_2_eq : out7_2 (F := Ideal) = out5_2 := rfl

theorem at0 : ∀ t : Fin grid0.N, win0_0.index t = ![(grid0.coords t 0).val, 0] ∧ win0_1.index t = ![0, 0]
    ∧ win0_2.index t = ![(grid0.coords t 0).val, 0] := by decide +kernel
theorem at1 : ∀ t : Fin grid1.N, win1_0.index t = ![(grid1.coords t 0).val, 0] ∧ win1_1.index t = ![0, 0]
    ∧ win1_2.index t = ![(grid1.coords t 0).val, 0] := by decide +kernel
theorem at2 : ∀ t : Fin grid2.N, win2_0.index t = ![(grid2.coords t 0).val, 0] ∧ win2_1.index t = ![0, 0, (grid2.coords t 1).val]
    ∧ win2_2.index t = ![(grid2.coords t 0).val, (grid2.coords t 1).val] := by decide +kernel
theorem at3 : ∀ t : Fin grid3.N, win3_0.index t = ![(grid3.coords t 0).val, 0] ∧ win3_1.index t = ![0, 0, (grid3.coords t 1).val + 4]
    ∧ win3_2.index t = ![(grid3.coords t 0).val, (grid3.coords t 1).val] := by decide +kernel
theorem at4 : ∀ t : Fin grid4.N, win4_0.index t = ![(grid4.coords t 0).val, 0] ∧ win4_1.index t = ![0, 0, (grid4.coords t 1).val + 8]
    ∧ win4_2.index t = ![(grid4.coords t 0).val, (grid4.coords t 1).val] := by decide +kernel
theorem at5 : ∀ t : Fin grid5.N, win5_0.index t = ![(grid5.coords t 0).val, 0] ∧ win5_1.index t = ![0, 0, (grid5.coords t 1).val]
    ∧ win5_2.index t = ![(grid5.coords t 0).val, (grid5.coords t 1).val] := by decide +kernel
theorem at6 : ∀ t : Fin grid6.N, win6_0.index t = ![(grid6.coords t 0).val, 0] ∧ win6_1.index t = ![0, 0, (grid6.coords t 1).val + 4]
    ∧ win6_2.index t = ![(grid6.coords t 0).val, (grid6.coords t 1).val] := by decide +kernel
theorem at7 : ∀ t : Fin grid7.N, win7_0.index t = ![(grid7.coords t 0).val, 0] ∧ win7_1.index t = ![0, 0, (grid7.coords t 1).val + 8]
    ∧ win7_2.index t = ![(grid7.coords t 0).val, (grid7.coords t 1).val] := by decide +kernel

variable (V : (c : Dev nD) → (b : Ref sig .tc) → Buf (Elt Ideal) ((c : Thread nD τ).loc b)) (c : Dev nD)

theorem normed0_eq : (dat0 V c).arrAt 2 cfg0.N = normed (R := 8192) (V c main_v1) (V c main_v5) := by
  refine (dat0 V c).arrAt_eq_of_covers 2 _ (by decide +kernel) fun t hf y => ?_
  blk_simp
  rw [after0_2]
  exact normed_block _ _ (out0_2_apply _ _) y _ (fun l => by blk_ext [iblk0, at0 t]) (by blk_ext [iblk0, at0 t]) (Fin.ext (by blk_ext [at0 t]))

theorem normed1_eq : (dat1 V c).arrAt 2 cfg1.N = normed (R := 64) (V c main_v2) (V c main_v9) := by
  refine (dat1 V c).arrAt_eq_of_covers 2 _ (by decide +kernel) fun t hf y => ?_
  blk_simp
  rw [after1_2]
  exact normed_block _ _ (out1_2_apply _ _) y _ (fun l => by blk_ext [iblk1, at1 t]) (by blk_ext [iblk1, at1 t]) (Fin.ext (by blk_ext [at1 t]))

theorem projected2_eq : (dat2 V c).arrAt 2 cfg2.N = projected (R := 8192) 0 (V c main_v6) (V c main_v0) := by
  refine (dat2 V c).arrAt_eq_of_covers 2 _ (by decide +kernel) fun t hf y => ?_
  blk_simp
  rw [after2_2]
  exact projected_block _ _ _ (out2_2_apply _ _) y _ (fun k => by blk_ext [iblk2, at2 t]) fun k => by unfold col3; blk_ext [iblk2, at2 t]

theorem projected3_eq : (dat3 V c).arrAt 2 cfg3.N = projected (R := 8192) 1 (V c main_v6) (V c main_v0) := by
  refine (dat3 V c).arrAt_eq_of_covers 2 _ (by decide +kernel) fun t hf y => ?_
  blk_simp
  rw [after3_2, out3_2_eq]
  exact projected_block _ _ _ (out2_2_apply _ _) y _ (fun k => by blk_ext [iblk3, at3 t]) fun k => by unfold col3; blk_ext [iblk3, at3 t]

theorem projected4_eq : (dat4 V c).arrAt 2 cfg4.N = projected (R := 8192) 2 (V c main_v6) (V c main_v0) := by
  refine (dat4 V c).arrAt_eq_of_covers 2 _ (by decide +kernel) fun t hf y => ?_
  blk_simp
  rw [after4_2, out4_2_eq]
  exact projected_block _ _ _ (out2_2_apply _ _) y _ (fun k => by blk_ext [iblk4, at4 t]) fun k => by unfold col3; blk_ext [iblk4, at4 t]

theorem projected5_eq : (dat5 V c).arrAt 2 cfg5.N = projected (R := 64) 0 (V c main_v10) (V c main_v0) := by
  refine (dat5 V c).arrAt_eq_of_covers 2 _ (by decide +kernel) fun t hf y => ?_
  blk_simp
  rw [after5_2]
  exact projected_block _ _ _ (out5_2_apply _ _) y _ (fun k => by blk_ext [iblk5, at5 t]) fun k => by unfold col3; blk_ext [iblk5, at5 t]

theorem projected6_eq : (dat6 V c).arrAt 2 cfg6.N = projected (R := 64) 1 (V c main_v10) (V c main_v0) := by
  refine (dat6 V c).arrAt_eq_of_covers 2 _ (by decide +kernel) fun t hf y => ?_
  blk_simp
  rw [after6_2, out6_2_eq]
  exact projected_block _ _ _ (out5_2_apply _ _) y _ (fun k => by blk_ext [iblk6, at6 t]) fun k => by unfold col3; blk_ext [iblk6, at6 t]

theorem projected7_eq : (dat7 V c).arrAt 2 cfg7.N = projected (R := 64) 2 (V c main_v10) (V c main_v0) := by
  refine (dat7 V c).arrAt_eq_of_covers 2 _ (by decide +kernel) fun t hf y => ?_
  blk_simp
  rw [after7_2, out7_2_eq]
  exact projected_block _ _ _ (out5_2_apply _ _) y _ (fun k => by blk_ext [iblk7, at7 t]) fun k => by unfold col3; blk_ext [iblk7, at7 t]

end Cert.Dense.Qkv

end
-- ==== Proof.QkvReference.lean ====
/-
  The attention layer's norm and projections, as the reference writes them.
-/
module

public import proofs.«01_k».proof.Defs
public import proofs.«01_k».proof.Proof.Gen.QkvReferenceIdeal.Run
public import proofs.«01_k».proof.Proof.QkvValue
public import Idealize.ShloMosaic.Lib.Claim

@[expose] public section

set_option maxRecDepth 16384

noncomputable section

namespace Cert.Dense.Qkv

open Idealize.ShloMosaic Idealize.ShloMosaic.TcCoe Idealize.ShloMosaic.Tactic Idealize.SL.Sem

open Cert.QkvReferenceIdeal Cert.QkvReferenceIdeal.Gen

instance : Cert.QkvReferenceIdeal.Facts := Cert.QkvReferenceIdeal.Gen.facts

/-- The prompt's product at an entry. -/
theorem dot_prompt (n : FVec Ideal S4x2048x4096 .f32) (w : FVec Ideal S1x4096x12288 .f32) (b : Fin 4) (t : Fin 2048) (j : Fin 12288) :
    Host.dotGeneral (F := Ideal) (φ₂ := .f32) dot_S4x2048x4096_S4096x12288_S4x2048x12288_2_0_01_1_n_n none n
      (shapeCast _ w shapeCasts_S1x4096x12288_S4096x12288) (ix3 b t j) = dot (fun k => n (ix3 b t k)) fun k => w (ix3 0 k j) := by
  pointwise [dot]

/-- The samples' product at an entry. -/
theorem dot_sample (n : FVec Ideal S8x8x4096 .f32) (w : FVec Ideal S1x4096x12288 .f32) (b : Fin 8) (t : Fin 8) (j : Fin 12288) :
    Host.dotGeneral (F := Ideal) (φ₂ := .f32) dot_S8x8x4096_S4096x12288_S8x8x12288_2_0_01_1_n_n none n
      (shapeCast _ w shapeCasts_S1x4096x12288_S4096x12288) (ix3 b t j) = dot (fun k => n (ix3 b t k)) fun k => w (ix3 0 k j) := by
  pointwise [dot]

/-- The prompt's normed rows, as the reference writes them. -/
abbrev rows_prompt (x : FVec Ideal S4x2048x4096 .f32) (g : FVec Ideal S2x4096 .f32) : FVec Ideal S4x2048x4096 .f32 :=
  mulf (mulf x (broadcastInDim S4x2048x4096 ![0, 1, 2] bcast_S4x2048x1_S4x2048x4096_0_1_2 (Host.rsqrt (addf (Host.divf (broadcastInDim
    S4x2048x1 ![0, 1] bcast_S4x2048_S4x2048x1_0_1 (Host.reduceAdd (mulf x x) (constant S_ .f32 0x00000000#32)
    reducesTo_S4x2048x4096_S4x2048_d2 h_S_)) (broadcastInDim S4x2048x1 ![] bcast_S_S4x2048x1 (constant S_ .f32 0x45800000#32)))
    (broadcastInDim S4x2048x1 ![] bcast_S_S4x2048x1 (constant S_ .f32 0x358637BD#32)))))) (broadcastInDim S4x2048x4096 ![0, 1, 2]
    bcast_S1x1x4096_S4x2048x4096_0_1_2 (broadcastInDim S1x1x4096 ![2] bcast_S4096_S1x1x4096_2 (shapeCast S4096 (extractStridedSlice S1x4096
    ![0, 0] g slices_S2x4096_S1x4096_0_0) shapeCasts_S1x4096_S4096)))

/-- The prompt's projection, as the reference writes it. -/
abbrev all_prompt (x : FVec Ideal S4x2048x4096 .f32) (g : FVec Ideal S2x4096 .f32) (w : FVec Ideal S1x4096x12288 .f32) : FVec Ideal S4x2048x12288 .f32 :=
  Host.dotGeneral (F := Ideal) (φ₂ := .f32) dot_S4x2048x4096_S4096x12288_S4x2048x12288_2_0_01_1_n_n none (rows_prompt x g)
    (shapeCast _ w shapeCasts_S1x4096x12288_S4096x12288)

theorem all_prompt_apply (x : FVec Ideal S4x2048x4096 .f32) (g : FVec Ideal S2x4096 .f32) (w : FVec Ideal S1x4096x12288 .f32) (o : Fin 3)
    (b : Fin 4) (t : Fin 2048) (j : Fin 4096) : all_prompt x g w (ix3 b t (col3 o j)) = entry x g w o b t j := by
  refine (dot_prompt _ w b t _).trans ?_
  unfold entry dot
  refine Finset.sum_congr rfl fun k _ => congrArg (· * _) ?_
  pointwise [rms]

theorem heads_prompt_apply (y : FVec Ideal S4x2048x12288 .f32) (o : Fin 3) (hs : S4x2048x3x32x128.Slices ![0, 0, o.val, 0, 0] S4x2048x1x32x128)
    (b : Fin 4) (t : Fin 2048) (h : Fin 32) (d : Fin 128) :
    broadcastInDim S1x4x2048x32x128 ![1, 2, 3, 4] bcast_S4x2048x32x128_S1x4x2048x32x128_1_2_3_4
      (shapeCast S4x2048x32x128 (extractStridedSlice S4x2048x1x32x128 ![0, 0, o.val, 0, 0] (shapeCast _ y shapeCasts_S4x2048x12288_S4x2048x3x32x128) hs)
        shapeCasts_S4x2048x1x32x128_S4x2048x32x128) (ix5 0 b t h d) = y (ix3 b t (col3 o (headCol h d))) := by
  pointwise
  exact congrArg (fun k => y (ix3 b t k)) (Fin.ext (by dsimp only [col3, headCol]; omega))

theorem queries_prompt_apply (y : FVec Ideal S4x2048x12288 .f32) (b : Fin 4) (t : Fin 2048) (j : Fin 4096) :
    shapeCast S4x2048x4096 (shapeCast S4x2048x32x128 (extractStridedSlice S4x2048x1x32x128 ![0, 0, 0, 0, 0]
      (shapeCast _ y shapeCasts_S4x2048x12288_S4x2048x3x32x128) slices_S4x2048x3x32x128_S4x2048x1x32x128_0_0_0_0_0)
        shapeCasts_S4x2048x1x32x128_S4x2048x32x128) shapeCasts_S4x2048x32x128_S4x2048x4096 (ix3 b t j) = y (ix3 b t (col3 0 j)) := by
  pointwise
  exact congrArg (fun k => y (ix3 b t k)) (Fin.ext (by dsimp only [col3]; omega))

/-- The samples' normed rows, as the reference writes them. -/
abbrev rows_sample (x : FVec Ideal S8x8x4096 .f32) (g : FVec Ideal S2x4096 .f32) : FVec Ideal S8x8x4096 .f32 :=
  mulf (mulf x (broadcastInDim S8x8x4096 ![0, 1, 2] bcast_S8x8x1_S8x8x4096_0_1_2 (Host.rsqrt (addf (Host.divf (broadcastInDim S8x8x1 ![0, 1]
    bcast_S8x8_S8x8x1_0_1 (Host.reduceAdd (mulf x x) (constant S_ .f32 0x00000000#32) reducesTo_S8x8x4096_S8x8_d2 h_S_)) (broadcastInDim
    S8x8x1 ![] bcast_S_S8x8x1 (constant S_ .f32 0x45800000#32))) (broadcastInDim S8x8x1 ![] bcast_S_S8x8x1 (constant S_ .f32
    0x358637BD#32)))))) (broadcastInDim S8x8x4096 ![0, 1, 2] bcast_S1x1x4096_S8x8x4096_0_1_2 (broadcastInDim S1x1x4096 ![2]
    bcast_S4096_S1x1x4096_2 (shapeCast S4096 (extractStridedSlice S1x4096 ![0, 0] g slices_S2x4096_S1x4096_0_0) shapeCasts_S1x4096_S4096)))

/-- The samples' projection, as the reference writes it. -/
abbrev all_sample (x : FVec Ideal S8x8x4096 .f32) (g : FVec Ideal S2x4096 .f32) (w : FVec Ideal S1x4096x12288 .f32) : FVec Ideal S8x8x12288 .f32 :=
  Host.dotGeneral (F := Ideal) (φ₂ := .f32) dot_S8x8x4096_S4096x12288_S8x8x12288_2_0_01_1_n_n none (rows_sample x g)
    (shapeCast _ w shapeCasts_S1x4096x12288_S4096x12288)

theorem all_sample_apply (x : FVec Ideal S8x8x4096 .f32) (g : FVec Ideal S2x4096 .f32) (w : FVec Ideal S1x4096x12288 .f32) (o : Fin 3)
    (b : Fin 8) (t : Fin 8) (j : Fin 4096) : all_sample x g w (ix3 b t (col3 o j)) = entry x g w o b t j := by
  refine (dot_sample _ w b t _).trans ?_
  unfold entry dot
  refine Finset.sum_congr rfl fun k _ => congrArg (· * _) ?_
  pointwise [rms]

theorem heads_sample_apply (y : FVec Ideal S8x8x12288 .f32) (o : Fin 3) (hs : S8x8x3x32x128.Slices ![0, 0, o.val, 0, 0] S8x8x1x32x128)
    (b : Fin 8) (t : Fin 8) (h : Fin 32) (d : Fin 128) :
    broadcastInDim S1x8x8x32x128 ![1, 2, 3, 4] bcast_S8x8x32x128_S1x8x8x32x128_1_2_3_4
      (shapeCast S8x8x32x128 (extractStridedSlice S8x8x1x32x128 ![0, 0, o.val, 0, 0] (shapeCast _ y shapeCasts_S8x8x12288_S8x8x3x32x128) hs)
        shapeCasts_S8x8x1x32x128_S8x8x32x128) (ix5 0 b t h d) = y (ix3 b t (col3 o (headCol h d))) := by
  pointwise
  exact congrArg (fun k => y (ix3 b t k)) (Fin.ext (by dsimp only [col3, headCol]; omega))

theorem queries_sample_apply (y : FVec Ideal S8x8x12288 .f32) (b : Fin 8) (t : Fin 8) (j : Fin 4096) :
    shapeCast S8x8x4096 (shapeCast S8x8x32x128 (extractStridedSlice S8x8x1x32x128 ![0, 0, 0, 0, 0]
      (shapeCast _ y shapeCasts_S8x8x12288_S8x8x3x32x128) slices_S8x8x3x32x128_S8x8x1x32x128_0_0_0_0_0)
        shapeCasts_S8x8x1x32x128_S8x8x32x128) shapeCasts_S8x8x32x128_S8x8x4096 (ix3 b t j) = y (ix3 b t (col3 0 j)) := by
  pointwise
  exact congrArg (fun k => y (ix3 b t k)) (Fin.ext (by dsimp only [col3]; omega))

theorem idx3 {a b c : ℕ} (y : Shape.Idx ⟨3, ![a, b, c]⟩) : y = ix3 (n0 := a) (n1 := b) (n2 := c) (y 0) (y 1) (y 2) := by
  funext d
  match d with
  | ⟨0, _⟩ => rfl
  | ⟨1, _⟩ => rfl
  | ⟨2, _⟩ => rfl

theorem idx5 {a b c d : ℕ} (y : Shape.Idx ⟨5, ![1, a, b, c, d]⟩) :
    y = ix5 (n0 := 1) (n1 := a) (n2 := b) (n3 := c) (n4 := d) 0 (y 1) (y 2) (y 3) (y 4) := by
  funext e
  match e with
  | ⟨0, _⟩ => exact Subsingleton.elim (α := Fin 1) _ _
  | ⟨1, _⟩ => rfl
  | ⟨2, _⟩ => rfl
  | ⟨3, _⟩ => rfl
  | ⟨4, _⟩ => rfl

/-- An array is the batch's queries if its entries are. -/
theorem eq_queries {B T : ℕ} {x : Vec Ideal ⟨3, ![B, T, 4096]⟩ .f32} {g : Vec Ideal ⟨2, ![2, 4096]⟩ .f32} {w : Vec Ideal ⟨3, ![1, 4096, 12288]⟩ .f32}
    {y : Vec Ideal ⟨3, ![B, T, 4096]⟩ .f32} (hy : ∀ b t j, y (ix3 b t j) = entry x g w 0 b t j) : y = queries x g w :=
  funext fun i => (congrArg y (idx3 i)).trans (hy (i 0) (i 1) (i 2))

/-- An array is the batch's keys or values if its entries are. -/
theorem eq_heads {B T : ℕ} {o : Fin 3} {x : Vec Ideal ⟨3, ![B, T, 4096]⟩ .f32} {g : Vec Ideal ⟨2, ![2, 4096]⟩ .f32} {w : Vec Ideal ⟨3, ![1, 4096, 12288]⟩ .f32}
    {y : Vec Ideal ⟨5, ![1, B, T, 32, 128]⟩ .f32} (hy : ∀ b t h d, y (ix5 0 b t h d) = entry x g w o b t (headCol h d)) : y = heads o x g w :=
  funext fun i => (congrArg y (idx5 i)).trans (hy (i 1) (i 2) (i 3) (i 4))

/-- The reference leaves the queries, the keys and the values of both batches. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = queries (m ((c.tc : Thread nD τ).loc main_arg0)) (m ((c.tc : Thread nD τ).loc main_arg2)) (m ((c.tc : Thread nD τ).loc main_arg3))
      ∧ r.2.mem ((c.tc : Thread nD τ).loc main_v23) = heads 1 (m ((c.tc : Thread nD τ).loc main_arg0)) (m ((c.tc : Thread nD τ).loc main_arg2)) (m ((c.tc : Thread nD τ).loc main_arg3))
      ∧ r.2.mem ((c.tc : Thread nD τ).loc main_v26) = heads 2 (m ((c.tc : Thread nD τ).loc main_arg0)) (m ((c.tc : Thread nD τ).loc main_arg2)) (m ((c.tc : Thread nD τ).loc main_arg3))
      ∧ r.2.mem ((c.tc : Thread nD τ).loc main_v47) = queries (m ((c.tc : Thread nD τ).loc main_arg1)) (m ((c.tc : Thread nD τ).loc main_arg2)) (m ((c.tc : Thread nD τ).loc main_arg3))
      ∧ r.2.mem ((c.tc : Thread nD τ).loc main_v50) = heads 1 (m ((c.tc : Thread nD τ).loc main_arg1)) (m ((c.tc : Thread nD τ).loc main_arg2)) (m ((c.tc : Thread nD τ).loc main_arg3))
      ∧ r.2.mem ((c.tc : Thread nD τ).loc main_v53) = heads 2 (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Cert.QkvReferenceIdeal.Value.run m ρ)
  obtain ⟨h1, h2, h3, h4, h5, h6, h7⟩ := h c
  exact ⟨h1.trans (eq_queries fun b t j => (queries_prompt_apply _ b t j).trans (all_prompt_apply _ _ _ 0 b t j)),
    h2.trans (eq_heads fun b t h d => (heads_prompt_apply _ 1 _ b t h d).trans (all_prompt_apply _ _ _ 1 b t _)),
    h3.trans (eq_heads fun b t h d => (heads_prompt_apply _ 2 _ b t h d).trans (all_prompt_apply _ _ _ 2 b t _)),
    h4.trans (eq_queries fun b t j => (queries_sample_apply _ b t j).trans (all_sample_apply _ _ _ 0 b t j)),
    h5.trans (eq_heads fun b t h d => (heads_sample_apply _ 1 _ b t h d).trans (all_sample_apply _ _ _ 1 b t _)),
    h6.trans (eq_heads fun b t h d => (heads_sample_apply _ 2 _ b t h d).trans (all_sample_apply _ _ _ 2 b t _)), h7⟩

/-- The reference runs to its end, keeps its arguments and leaves every counter at zero. -/
theorem reference_quiescent : quiescent_QkvReferenceIdeal := fun m ρ _ =>
  (θ_run _ _ _).mono (fun r h => ⟨fun c => (h c).2.2.2.2.2.2, sem_eq_zero_of_no_sems (by decide) r.2⟩) (Cert.QkvReferenceIdeal.Value.run m ρ)

end Cert.Dense.Qkv

end
-- ==== Proof.Qkv.lean ====
/-
  The attention layer's norm and projections, for both batches.
-/
module

public import proofs.«01_k».proof.Defs
public import proofs.«01_k».proof.Proof.Gen.QkvIdeal.Frame
public import proofs.«01_k».proof.Proof.QkvValue
public import proofs.«01_k».proof.Proof.QkvReference
public import proofs.«01_k».proof.Proof.Launched
public import Idealize.ShloMosaic.Lib.Claim

@[expose] public section

set_option maxRecDepth 16384

noncomputable section

namespace Cert.Dense.Qkv

open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode

section

open Cert.QkvIdeal Cert.QkvIdeal.Gen

instance : Cert.QkvIdeal.Facts := Cert.QkvIdeal.Gen.facts

set_option backward.isDefEq.respectTransparency.types false in
/-- The eight calls, run in order, leave every array at the last boundary's contents. -/
theorem run_last (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      ∀ b ∈ Pipeline.ucRefs τ sig, r.2.mem (c, b) = W11 m ρ c b :=
  run_to pcfgs adm (pdats m ρ) cellOf_inj defs₀ 𝒱₀ m ρ main (segs m ρ) (fun c => (main_run m ρ c).symm)
    (by simp only [segs, Pipeline.Seg.pipes_host, Pipeline.Seg.pipes_region, Pipeline.Seg.pipes_nil]; decide) (W11 m ρ)
    ⟨fun _ => .rfl, fun _ => .rfl, fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hh, Hp, HO⟩
        isplitl [Hh Hp]
        · isplitl [Hh] <;> iassumption
        · iexact HO⟩

/-- The row of step `t` of sequence `b`, among the prompt's rows. -/
def row_prompt (b : Fin 4) (t : Fin 2048) : Fin 8192 := ⟨2048 * b.val + t.val, by omega⟩

theorem rows_prompt_apply (x : Vec Ideal S4x2048x4096 .f32) (b : Fin 4) (t : Fin 2048) (l : Fin 4096) :
    shapeCast S8192x4096 x shapeCasts_S4x2048x4096_S8192x4096 (ix2 (row_prompt b t) l) = x (ix3 b t l) := by
  unfold row_prompt
  pointwise
  blk_ext []

theorem out_queries_prompt (p : Vec Ideal S8192x4096 .f32) (b : Fin 4) (t : Fin 2048) (j : Fin 4096) :
    shapeCast S4x2048x4096 p shapeCasts_S8192x4096_S4x2048x4096 (ix3 b t j) = p (ix2 (row_prompt b t) j) := by
  unfold row_prompt
  pointwise
  blk_ext []

theorem out_heads_prompt (p : Vec Ideal S8192x4096 .f32) (b : Fin 4) (t : Fin 2048) (h : Fin 32) (d : Fin 128) :
    broadcastInDim S1x4x2048x32x128 ![1, 2, 3, 4] bcast_S4x2048x32x128_S1x4x2048x32x128_1_2_3_4 (shapeCast S4x2048x32x128
      (shapeCast S4x2048x4096 p shapeCasts_S8192x4096_S4x2048x4096) shapeCasts_S4x2048x4096_S4x2048x32x128) (ix5 0 b t h d) = p (ix2 (row_prompt b t) (headCol h d)) := by
  unfold row_prompt headCol
  pointwise
  blk_ext []

/-- The row of step `t` of sequence `b`, among the samples' rows. -/
def row_sample (b : Fin 8) (t : Fin 8) : Fin 64 := ⟨8 * b.val + t.val, by omega⟩

theorem rows_sample_apply (x : Vec Ideal S8x8x4096 .f32) (b : Fin 8) (t : Fin 8) (l : Fin 4096) :
    shapeCast S64x4096 x shapeCasts_S8x8x4096_S64x4096 (ix2 (row_sample b t) l) = x (ix3 b t l) := by
  unfold row_sample
  pointwise
  blk_ext []

theorem out_queries_sample (p : Vec Ideal S64x4096 .f32) (b : Fin 8) (t : Fin 8) (j : Fin 4096) :
    shapeCast S8x8x4096 p shapeCasts_S64x4096_S8x8x4096 (ix3 b t j) = p (ix2 (row_sample b t) j) := by
  unfold row_sample
  pointwise
  blk_ext []

theorem out_heads_sample (p : Vec Ideal S64x4096 .f32) (b : Fin 8) (t : Fin 8) (h : Fin 32) (d : Fin 128) :
    broadcastInDim S1x8x8x32x128 ![1, 2, 3, 4] bcast_S8x8x32x128_S1x8x8x32x128_1_2_3_4 (shapeCast S8x8x32x128
      (shapeCast S8x8x4096 p shapeCasts_S64x4096_S8x8x4096) shapeCasts_S8x8x4096_S8x8x32x128) (ix5 0 b t h d) = p (ix2 (row_sample b t) (headCol h d)) := by
  unfold row_sample headCol
  pointwise
  blk_ext []

variable (m : (ℓ : Loc nD τ sig) → Buf (Elt Ideal) ℓ) (ρ : Dev nD → PrngReg) (c : Dev nD)

theorem entry_w : (V1 m ρ c main_v0 : Vec Ideal S1x4096x12288 .bf16) = (m ((c : Thread nD τ).loc main_arg3) : Vec Ideal S1x4096x12288 .f32) := by
  have e : (V1 m ρ c main_v0 : Vec Ideal S1x4096x12288 .bf16) = truncf (F := Ideal) .bf16 (m ((c : Thread nD τ).loc main_arg3)) bitsLt_bf16_f32 := by
    simp only [V1, W1, hostOps0]
    after_results_simp <;> rfl
  rw [e]
  rfl

theorem entry_prompt (b : Fin 4) (t : Fin 2048) (l : Fin 4096) : (V1 m ρ c main_v1 : Vec Ideal S8192x4096 .f32) (ix2 (row_prompt b t) l)
    = m ((c : Thread nD τ).loc main_arg0) (ix3 (n0 := 4) (n1 := 2048) b t l) := by
  refine Eq.trans (congrFun ?_ _) (rows_prompt_apply _ b t l)
  simp only [V1, W1, hostOps0]
  after_results_simp <;> rfl

theorem entry_sample (b : Fin 8) (t : Fin 8) (l : Fin 4096) : (V1 m ρ c main_v2 : Vec Ideal S64x4096 .f32) (ix2 (row_sample b t) l)
    = m ((c : Thread nD τ).loc main_arg1) (ix3 (n0 := 8) (n1 := 8) b t l) := by
  refine Eq.trans (congrFun ?_ _) (rows_sample_apply _ b t l)
  simp only [V1, W1, hostOps0]
  after_results_simp <;> rfl

/-- The norm's scales, as the program lays them out. -/
theorem scale_row (g : Vec Ideal S2x4096 .f32) (k : Fin 4096) : shapeCast S1x4096 (shapeCast S4096 (extractStridedSlice S1x4096 ![0, 0]
    g slices_S2x4096_S1x4096_0_0) shapeCasts_S1x4096_S4096) shapeCasts_S4096_S1x4096 (ix2 0 k) = g (ix2 0 k) := by
  pointwise
  blk_ext []

theorem scale_prompt (k : Fin 4096) : (V1 m ρ c main_v5 : Vec Ideal S1x4096 .f32) (ix2 0 k) = m ((c : Thread nD τ).loc main_arg2) (ix2 (n0 := 2) 0 k) := by
  refine Eq.trans (congrFun ?_ _) (scale_row _ k)
  simp only [V1, W1, hostOps0]
  after_results_simp <;> rfl

theorem scale_sample (k : Fin 4096) : (V3 m ρ c main_v9 : Vec Ideal S1x4096 .f32) (ix2 0 k) = m ((c : Thread nD τ).loc main_arg2) (ix2 (n0 := 2) 0 k) := by
  refine Eq.trans (congrFun ?_ _) ((scale_row (W2 m ρ c (Proc.devRef .tc main_arg2)) k).trans (congrFun (W2_args m ρ c main_arg2 (by simp)) _))
  simp only [V3, W3, hostOps1]
  after_results_simp <;> rfl

/-- The projection of the normed rows of a batch. -/
theorem projected_apply {B T R : ℕ} {x : Vec Ideal ⟨3, ![B, T, 4096]⟩ .f32} {g : Vec Ideal ⟨2, ![2, 4096]⟩ .f32} {w : Vec Ideal ⟨3, ![1, 4096, 12288]⟩ .f32}
    {r : Fin B → Fin T → Fin R} {xr : Vec Ideal ⟨2, ![R, 4096]⟩ .f32} {gr : Vec Ideal ⟨2, ![1, 4096]⟩ .f32}
    (hx : ∀ b t l, xr (ix2 (r b t) l) = x (ix3 b t l)) (hg : ∀ k, gr (ix2 0 k) = g (ix2 0 k)) (o : Fin 3) (b : Fin B) (t : Fin T) (j : Fin 4096) :
    projected o (normed xr gr) w (ix2 (r b t) j) = entry x g w o b t j := by
  show dot (fun k => rms (fun l => xr (ix2 (r b t) l)) (gr (ix2 0 k)) k) _ = _
  simp only [hx, hg]
  rfl

/-- The weights stay as they were cast. -/
theorem kept_w : (V4 m ρ c main_v0 : Vec Ideal S1x4096x12288 .bf16) = (m ((c : Thread nD τ).loc main_arg3) : Vec Ideal S1x4096x12288 .f32) :=
  (W4_of m ρ c main_v0 (by decide)).trans ((W3_of m ρ c main_v0 (by decide)).trans ((W2_of m ρ c main_v0 (by decide)).trans (entry_w m ρ c)))

/-- The prompt's normed rows, as the projections find them. -/
theorem kept_prompt : V4 m ρ c main_v6 = normed (R := 8192) (V1 m ρ c main_v1) (V1 m ρ c main_v5) :=
  (W4_of m ρ c main_v6 (by decide)).trans ((W3_of m ρ c main_v6 (by decide)).trans ((W2_arr m ρ c 2).trans (normed0_eq (V1 m ρ) c)))

/-- The samples' normed rows, as the projections find them. -/
theorem kept_sample : V4 m ρ c main_v10 = normed (R := 64) (V1 m ρ c main_v2) (V3 m ρ c main_v9) :=
  (W4_arr m ρ c 2).trans ((normed1_eq (V3 m ρ) c).trans (congrArg (fun x => normed (R := 64) x (V3 m ρ c main_v9))
    ((W3_of m ρ c main_v2 (by decide)).trans (W2_of m ρ c main_v2 (by decide)))))

theorem last2 (b : Fin 4) (t : Fin 2048) (j : Fin 4096) : (W10 m ρ c (Proc.devRef .tc main_v11) : Vec Ideal S8192x4096 .f32) (ix2 (row_prompt b t) j)
    = entry (B := 4) (T := 2048) (m ((c : Thread nD τ).loc main_arg0)) (m ((c : Thread nD τ).loc main_arg2)) (m ((c : Thread nD τ).loc main_arg3)) 0 b t j := by
  have hn : V4 m ρ c main_v6 = _ := kept_prompt m ρ c
  have hw : V4 m ρ c main_v0 = _ := kept_w m ρ c
  have h : W10 m ρ c (Proc.devRef .tc main_v11) = _ := ((W10_of m ρ c main_v11 (by decide)).trans ((W9_of m ρ c main_v11 (by decide)).trans ((W8_of m ρ c main_v11 (by decide)).trans ((W7_of m ρ c main_v11 (by decide)).trans ((W6_of m ρ c main_v11 (by decide)).trans (W5_arr m ρ c 2)))))).trans (projected2_eq (V4 m ρ) c)
  rw [hn, hw] at h
  exact (congrFun h _).trans (projected_apply (r := row_prompt) (entry_prompt m ρ c) (scale_prompt m ρ c) 0 b t j)

theorem last3 (b : Fin 4) (t : Fin 2048) (j : Fin 4096) : (W10 m ρ c (Proc.devRef .tc main_v12) : Vec Ideal S8192x4096 .f32) (ix2 (row_prompt b t) j)
    = entry (B := 4) (T := 2048) (m ((c : Thread nD τ).loc main_arg0)) (m ((c : Thread nD τ).loc main_arg2)) (m ((c : Thread nD τ).loc main_arg3)) 1 b t j := by
  have hn : V5 m ρ c main_v6 = _ := (W5_of m ρ c main_v6 (by decide)).trans (kept_prompt m ρ c)
  have hw : V5 m ρ c main_v0 = _ := (W5_of m ρ c main_v0 (by decide)).trans (kept_w m ρ c)
  have h : W10 m ρ c (Proc.devRef .tc main_v12) = _ := ((W10_of m ρ c main_v12 (by decide)).trans ((W9_of m ρ c main_v12 (by decide)).trans ((W8_of m ρ c main_v12 (by decide)).trans ((W7_of m ρ c main_v12 (by decide)).trans (W6_arr m ρ c 2))))).trans (projected3_eq (V5 m ρ) c)
  rw [hn, hw] at h
  exact (congrFun h _).trans (projected_apply (r := row_prompt) (entry_prompt m ρ c) (scale_prompt m ρ c) 1 b t j)

theorem last4 (b : Fin 4) (t : Fin 2048) (j : Fin 4096) : (W10 m ρ c (Proc.devRef .tc main_v13) : Vec Ideal S8192x4096 .f32) (ix2 (row_prompt b t) j)
    = entry (B := 4) (T := 2048) (m ((c : Thread nD τ).loc main_arg0)) (m ((c : Thread nD τ).loc main_arg2)) (m ((c : Thread nD τ).loc main_arg3)) 2 b t j := by
  have hn : V6 m ρ c main_v6 = _ := (W6_of m ρ c main_v6 (by decide)).trans ((W5_of m ρ c main_v6 (by decide)).trans (kept_prompt m ρ c))
  have hw : V6 m ρ c main_v0 = _ := (W6_of m ρ c main_v0 (by decide)).trans ((W5_of m ρ c main_v0 (by decide)).trans (kept_w m ρ c))
  have h : W10 m ρ c (Proc.devRef .tc main_v13) = _ := ((W10_of m ρ c main_v13 (by decide)).trans ((W9_of m ρ c main_v13 (by decide)).trans ((W8_of m ρ c main_v13 (by decide)).trans (W7_arr m ρ c 2)))).trans (projected4_eq (V6 m ρ) c)
  rw [hn, hw] at h
  exact (congrFun h _).trans (projected_apply (r := row_prompt) (entry_prompt m ρ c) (scale_prompt m ρ c) 2 b t j)

theorem last5 (b : Fin 8) (t : Fin 8) (j : Fin 4096) : (W10 m ρ c (Proc.devRef .tc main_v14) : Vec Ideal S64x4096 .f32) (ix2 (row_sample b t) j)
    = entry (B := 8) (T := 8) (m ((c : Thread nD τ).loc main_arg1)) (m ((c : Thread nD τ).loc main_arg2)) (m ((c : Thread nD τ).loc main_arg3)) 0 b t j := by
  have hn : V7 m ρ c main_v10 = _ := (W7_of m ρ c main_v10 (by decide)).trans ((W6_of m ρ c main_v10 (by decide)).trans ((W5_of m ρ c main_v10 (by decide)).trans (kept_sample m ρ c)))
  have hw : V7 m ρ c main_v0 = _ := (W7_of m ρ c main_v0 (by decide)).trans ((W6_of m ρ c main_v0 (by decide)).trans ((W5_of m ρ c main_v0 (by decide)).trans (kept_w m ρ c)))
  have h : W10 m ρ c (Proc.devRef .tc main_v14) = _ := ((W10_of m ρ c main_v14 (by decide)).trans ((W9_of m ρ c main_v14 (by decide)).trans (W8_arr m ρ c 2))).trans (projected5_eq (V7 m ρ) c)
  rw [hn, hw] at h
  exact (congrFun h _).trans (projected_apply (r := row_sample) (entry_sample m ρ c) (scale_sample m ρ c) 0 b t j)

theorem last6 (b : Fin 8) (t : Fin 8) (j : Fin 4096) : (W10 m ρ c (Proc.devRef .tc main_v15) : Vec Ideal S64x4096 .f32) (ix2 (row_sample b t) j)
    = entry (B := 8) (T := 8) (m ((c : Thread nD τ).loc main_arg1)) (m ((c : Thread nD τ).loc main_arg2)) (m ((c : Thread nD τ).loc main_arg3)) 1 b t j := by
  have hn : V8 m ρ c main_v10 = _ := (W8_of m ρ c main_v10 (by decide)).trans ((W7_of m ρ c main_v10 (by decide)).trans ((W6_of m ρ c main_v10 (by decide)).trans ((W5_of m ρ c main_v10 (by decide)).trans (kept_sample m ρ c))))
  have hw : V8 m ρ c main_v0 = _ := (W8_of m ρ c main_v0 (by decide)).trans ((W7_of m ρ c main_v0 (by decide)).trans ((W6_of m ρ c main_v0 (by decide)).trans ((W5_of m ρ c main_v0 (by decide)).trans (kept_w m ρ c))))
  have h : W10 m ρ c (Proc.devRef .tc main_v15) = _ := ((W10_of m ρ c main_v15 (by decide)).trans (W9_arr m ρ c 2)).trans (projected6_eq (V8 m ρ) c)
  rw [hn, hw] at h
  exact (congrFun h _).trans (projected_apply (r := row_sample) (entry_sample m ρ c) (scale_sample m ρ c) 1 b t j)

theorem last7 (b : Fin 8) (t : Fin 8) (j : Fin 4096) : (W10 m ρ c (Proc.devRef .tc main_v16) : Vec Ideal S64x4096 .f32) (ix2 (row_sample b t) j)
    = entry (B := 8) (T := 8) (m ((c : Thread nD τ).loc main_arg1)) (m ((c : Thread nD τ).loc main_arg2)) (m ((c : Thread nD τ).loc main_arg3)) 2 b t j := by
  have hn : V9 m ρ c main_v10 = _ := (W9_of m ρ c main_v10 (by decide)).trans ((W8_of m ρ c main_v10 (by decide)).trans ((W7_of m ρ c main_v10 (by decide)).trans ((W6_of m ρ c main_v10 (by decide)).trans ((W5_of m ρ c main_v10 (by decide)).trans (kept_sample m ρ c)))))
  have hw : V9 m ρ c main_v0 = _ := (W9_of m ρ c main_v0 (by decide)).trans ((W8_of m ρ c main_v0 (by decide)).trans ((W7_of m ρ c main_v0 (by decide)).trans ((W6_of m ρ c main_v0 (by decide)).trans ((W5_of m ρ c main_v0 (by decide)).trans (kept_w m ρ c)))))
  have h : W10 m ρ c (Proc.devRef .tc main_v16) = _ := (W10_arr m ρ c 2).trans (projected7_eq (V9 m ρ) c)
  rw [hn, hw] at h
  exact (congrFun h _).trans (projected_apply (r := row_sample) (entry_sample m ρ c) (scale_sample m ρ c) 2 b t j)

theorem result1 : W11 m ρ c (Proc.devRef .tc main_v17)
    = queries (B := 4) (T := 2048) (m ((c : Thread nD τ).loc main_arg0)) (m ((c : Thread nD τ).loc main_arg2)) (m ((c : Thread nD τ).loc main_arg3)) := by
  refine Eq.trans ?_ (eq_queries fun b t j => (out_queries_prompt _ b t j).trans (last2 m ρ c b t j))
  simp only [W11, hostOps8]
  after_results_simp <;> rfl

theorem result2 : W11 m ρ c (Proc.devRef .tc main_v24)
    = heads (B := 4) (T := 2048) 1 (m ((c : Thread nD τ).loc main_arg0)) (m ((c : Thread nD τ).loc main_arg2)) (m ((c : Thread nD τ).loc main_arg3)) := by
  refine Eq.trans ?_ (eq_heads fun b t h d => (out_heads_prompt _ b t h d).trans (last3 m ρ c b t _))
  simp only [W11, hostOps8]
  after_results_simp <;> rfl

theorem result3 : W11 m ρ c (Proc.devRef .tc main_v26)
    = heads (B := 4) (T := 2048) 2 (m ((c : Thread nD τ).loc main_arg0)) (m ((c : Thread nD τ).loc main_arg2)) (m ((c : Thread nD τ).loc main_arg3)) := by
  refine Eq.trans ?_ (eq_heads fun b t h d => (out_heads_prompt _ b t h d).trans (last4 m ρ c b t _))
  simp only [W11, hostOps8]
  after_results_simp <;> rfl

theorem result4 : W11 m ρ c (Proc.devRef .tc main_v20)
    = queries (B := 8) (T := 8) (m ((c : Thread nD τ).loc main_arg1)) (m ((c : Thread nD τ).loc main_arg2)) (m ((c : Thread nD τ).loc main_arg3)) := by
  refine Eq.trans ?_ (eq_queries fun b t j => (out_queries_sample _ b t j).trans (last5 m ρ c b t j))
  simp only [W11, hostOps8]
  after_results_simp <;> rfl

theorem result5 : W11 m ρ c (Proc.devRef .tc main_v28)
    = heads (B := 8) (T := 8) 1 (m ((c : Thread nD τ).loc main_arg1)) (m ((c : Thread nD τ).loc main_arg2)) (m ((c : Thread nD τ).loc main_arg3)) := by
  refine Eq.trans ?_ (eq_heads fun b t h d => (out_heads_sample _ b t h d).trans (last6 m ρ c b t _))
  simp only [W11, hostOps8]
  after_results_simp <;> rfl

theorem result6 : W11 m ρ c (Proc.devRef .tc main_v30)
    = heads (B := 8) (T := 8) 2 (m ((c : Thread nD τ).loc main_arg1)) (m ((c : Thread nD τ).loc main_arg2)) (m ((c : Thread nD τ).loc main_arg3)) := by
  refine Eq.trans ?_ (eq_heads fun b t h d => (out_heads_sample _ b t h d).trans (last7 m ρ c b t _))
  simp only [W11, hostOps8]
  after_results_simp <;> rfl

end

section

open Cert.QkvIdeal Cert.QkvIdeal.Gen

/-- Over the reals the eight calls compute what the reference computes. -/
theorem qkv_algebraic : algebraic_QkvIdeal_QkvReferenceIdeal := by
  intro m ρ m' ρ' _ hagree
  refine ⟨fun c => queries (m ((c.tc : Thread nD τ).loc main_arg0)) (m ((c.tc : Thread nD τ).loc main_arg2)) (m ((c.tc : Thread nD τ).loc main_arg3)),
    fun c => heads 1 (m ((c.tc : Thread nD τ).loc main_arg0)) (m ((c.tc : Thread nD τ).loc main_arg2)) (m ((c.tc : Thread nD τ).loc main_arg3)),
    fun c => heads 2 (m ((c.tc : Thread nD τ).loc main_arg0)) (m ((c.tc : Thread nD τ).loc main_arg2)) (m ((c.tc : Thread nD τ).loc main_arg3)),
    fun c => queries (m ((c.tc : Thread nD τ).loc main_arg1)) (m ((c.tc : Thread nD τ).loc main_arg2)) (m ((c.tc : Thread nD τ).loc main_arg3)),
    fun c => heads 1 (m ((c.tc : Thread nD τ).loc main_arg1)) (m ((c.tc : Thread nD τ).loc main_arg2)) (m ((c.tc : Thread nD τ).loc main_arg3)),
    fun c => heads 2 (m ((c.tc : Thread nD τ).loc main_arg1)) (m ((c.tc : Thread nD τ).loc main_arg2)) (m ((c.tc : Thread nD τ).loc main_arg3)), ?_, ?_⟩
  · exact (θ_run _ _ _).mono (fun r h c => ⟨(h c _ (mem_uc main_v17 (by decide))).trans (result1 m ρ c),
      (h c _ (mem_uc main_v24 (by decide))).trans (result2 m ρ c),
      (h c _ (mem_uc main_v26 (by decide))).trans (result3 m ρ c),
      (h c _ (mem_uc main_v20 (by decide))).trans (result4 m ρ c),
      (h c _ (mem_uc main_v28 (by decide))).trans (result5 m ρ c),
      (h c _ (mem_uc main_v30 (by decide))).trans (result6 m ρ c),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c)⟩) (run_last m ρ)
  · refine (θ_run _ _ _).mono (fun r h c => ?_) (ref_run m' ρ')
    obtain ⟨h0, h1, h2, h3⟩ := hagree c
    obtain ⟨r1, r2, r3, r4, r5, r6, hargs⟩ := h c
    rw [h0, h2, h3] at r1 r2 r3
    rw [h1, h2, h3] at r4 r5 r6
    exact ⟨r1, r2, r3, r4, r5, r6, hargs⟩

end

end Cert.Dense.Qkv

end
-- ==== Proof.lean ====
module

public import proofs.«01_k».proof.Defs
public import proofs.«01_k».proof.Proof.Prompt
public import proofs.«01_k».proof.Proof.Sample
public import proofs.«01_k».proof.Proof.Qkv
public import proofs.«01_k».proof.Proof.Gen.QkvReferenceIdeal.Run
public import proofs.«01_k».proof.Proof.Gen.Qkv.Frame
public import proofs.«01_k».proof.Proof.Gen.QkvIdeal.Frame
public import proofs.«01_k».proof.Proof.Gen.Prompt.Frame
public import proofs.«01_k».proof.Proof.Gen.PromptIdeal.Frame
public import proofs.«01_k».proof.Proof.Gen.PromptReferenceIdeal.Run
public import proofs.«01_k».proof.Proof.Gen.Sample.Frame
public import proofs.«01_k».proof.Proof.Gen.SampleIdeal.Frame
public import proofs.«01_k».proof.Proof.Gen.SampleReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Prompt.Gen.facts, Cert.PromptIdeal.Gen.facts, Cert.PromptReferenceIdeal.Gen.facts,
   Cert.Sample.Gen.facts, Cert.SampleIdeal.Gen.facts, Cert.SampleReferenceIdeal.Gen.facts,
   Cert.Qkv.Gen.facts, Cert.QkvIdeal.Gen.facts, Cert.QkvReferenceIdeal.Gen.facts,
   fun m ρ _ => Cert.Prompt.Gen.frame m ρ, fun m ρ _ => Cert.PromptIdeal.Gen.frame m ρ,
   Cert.Layers.prompt_reference_quiescent,
   fun m ρ _ => Cert.Sample.Gen.frame m ρ, fun m ρ _ => Cert.SampleIdeal.Gen.frame m ρ,
   Cert.Layers.sample_reference_quiescent,
   fun m ρ _ => Cert.Qkv.Gen.frame m ρ, fun m ρ _ => Cert.QkvIdeal.Gen.frame m ρ,
   Cert.Dense.Qkv.reference_quiescent,
   trivial, Cert.Layers.prompt_algebraic,
   trivial, Cert.Layers.sample_algebraic,
   trivial, Cert.Dense.Qkv.qkv_algebraic⟩

end Cert.Proof

end
